-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Gp (m : (ℓ : Loc Cert.Gp.nD Cert.Gp.τ Cert.Gp.sig) → Buf (Elt Bits) ℓ) : Prop :=
  True

def Pre_GpIdeal (m : (ℓ : Loc Cert.GpIdeal.nD Cert.GpIdeal.τ Cert.GpIdeal.sig) → Buf (Elt Ideal) ℓ) : Prop :=
  True

def Pre_GpRefIdeal (m : (ℓ : Loc Cert.GpRefIdeal.nD Cert.GpRefIdeal.τ Cert.GpRefIdeal.sig) → Buf (Elt Ideal) ℓ) : Prop :=
  True

def Pre_Vt (m : (ℓ : Loc Cert.Vt.nD Cert.Vt.τ Cert.Vt.sig) → Buf (Elt Bits) ℓ) : Prop :=
  True

def Pre_VtIdeal (m : (ℓ : Loc Cert.VtIdeal.nD Cert.VtIdeal.τ Cert.VtIdeal.sig) → Buf (Elt Ideal) ℓ) : Prop :=
  True

def Pre_VtRefIdeal (m : (ℓ : Loc Cert.VtRefIdeal.nD Cert.VtRefIdeal.τ Cert.VtRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2))
      ∧ r.2.sem = fun _ => 0)

def quiescent_Gp [hGp : Cert.Gp.Facts] : Prop :=
  ∀ (m : (ℓ : Loc Cert.Gp.nD Cert.Gp.τ Cert.Gp.sig) → Buf (Elt Bits) ℓ) (g : Dev Cert.Gp.nD → PrngReg), Pre_Gp m →
    θ_run (Cert.Gp.defs (F := Bits)) (onTc (τ := Cert.Gp.τ) (Cert.Gp.main (F := Bits))) ⟨m, fun _ => 0, g⟩ (fun r => (∀ c : Dev Cert.Gp.nD,
      r.2.mem ((c.tc : Thread Cert.Gp.nD Cert.Gp.τ).loc Cert.Gp.main_arg0) = m ((c.tc : Thread Cert.Gp.nD Cert.Gp.τ).loc Cert.Gp.main_arg0)
      ∧ r.2.mem ((c.tc : Thread Cert.Gp.nD Cert.Gp.τ).loc Cert.Gp.main_arg1) = m ((c.tc : Thread Cert.Gp.nD Cert.Gp.τ).loc Cert.Gp.main_arg1)
      ∧ r.2.mem ((c.tc : Thread Cert.Gp.nD Cert.Gp.τ).loc Cert.Gp.main_arg2) = m ((c.tc : Thread Cert.Gp.nD Cert.Gp.τ).loc Cert.Gp.main_arg2))
      ∧ r.2.sem = fun _ => 0)

def quiescent_GpIdeal [hGpIdeal : Cert.GpIdeal.Facts] : Prop :=
  ∀ (m : (ℓ : Loc Cert.GpIdeal.nD Cert.GpIdeal.τ Cert.GpIdeal.sig) → Buf (Elt Ideal) ℓ) (g : Dev Cert.GpIdeal.nD → PrngReg), Pre_GpIdeal m →
    θ_run (Cert.GpIdeal.defs (F := Ideal)) (onTc (τ := Cert.GpIdeal.τ) (Cert.GpIdeal.main (F := Ideal))) ⟨m, fun _ => 0, g⟩ (fun r => (∀ c : Dev Cert.GpIdeal.nD,
      r.2.mem ((c.tc : Thread Cert.GpIdeal.nD Cert.GpIdeal.τ).loc Cert.GpIdeal.main_arg0) = m ((c.tc : Thread Cert.GpIdeal.nD Cert.GpIdeal.τ).loc Cert.GpIdeal.main_arg0)
      ∧ r.2.mem ((c.tc : Thread Cert.GpIdeal.nD Cert.GpIdeal.τ).loc Cert.GpIdeal.main_arg1) = m ((c.tc : Thread Cert.GpIdeal.nD Cert.GpIdeal.τ).loc Cert.GpIdeal.main_arg1)
      ∧ r.2.mem ((c.tc : Thread Cert.GpIdeal.nD Cert.GpIdeal.τ).loc Cert.GpIdeal.main_arg2) = m ((c.tc : Thread Cert.GpIdeal.nD Cert.GpIdeal.τ).loc Cert.GpIdeal.main_arg2))
      ∧ r.2.sem = fun _ => 0)

def quiescent_GpRefIdeal [hGpRefIdeal : Cert.GpRefIdeal.Facts] : Prop :=
  ∀ (m : (ℓ : Loc Cert.GpRefIdeal.nD Cert.GpRefIdeal.τ Cert.GpRefIdeal.sig) → Buf (Elt Ideal) ℓ) (g : Dev Cert.GpRefIdeal.nD → PrngReg), Pre_GpRefIdeal m →
    θ_run (Cert.GpRefIdeal.defs (F := Ideal)) (onTc (τ := Cert.GpRefIdeal.τ) (Cert.GpRefIdeal.main (F := Ideal))) ⟨m, fun _ => 0, g⟩ (fun r => (∀ c : Dev Cert.GpRefIdeal.nD,
      r.2.mem ((c.tc : Thread Cert.GpRefIdeal.nD Cert.GpRefIdeal.τ).loc Cert.GpRefIdeal.main_arg0) = m ((c.tc : Thread Cert.GpRefIdeal.nD Cert.GpRefIdeal.τ).loc Cert.GpRefIdeal.main_arg0)
      ∧ r.2.mem ((c.tc : Thread Cert.GpRefIdeal.nD Cert.GpRefIdeal.τ).loc Cert.GpRefIdeal.main_arg1) = m ((c.tc : Thread Cert.GpRefIdeal.nD Cert.GpRefIdeal.τ).loc Cert.GpRefIdeal.main_arg1)
      ∧ r.2.mem ((c.tc : Thread Cert.GpRefIdeal.nD Cert.GpRefIdeal.τ).loc Cert.GpRefIdeal.main_arg2) = m ((c.tc : Thread Cert.GpRefIdeal.nD Cert.GpRefIdeal.τ).loc Cert.GpRefIdeal.main_arg2))
      ∧ r.2.sem = fun _ => 0)

def quiescent_Vt [hVt : Cert.Vt.Facts] : Prop :=
  ∀ (m : (ℓ : Loc Cert.Vt.nD Cert.Vt.τ Cert.Vt.sig) → Buf (Elt Bits) ℓ) (g : Dev Cert.Vt.nD → PrngReg), Pre_Vt m →
    θ_run (Cert.Vt.defs (F := Bits)) (onTc (τ := Cert.Vt.τ) (Cert.Vt.main (F := Bits))) ⟨m, fun _ => 0, g⟩ (fun r => (∀ c : Dev Cert.Vt.nD,
      r.2.mem ((c.tc : Thread Cert.Vt.nD Cert.Vt.τ).loc Cert.Vt.main_arg0) = m ((c.tc : Thread Cert.Vt.nD Cert.Vt.τ).loc Cert.Vt.main_arg0)
      ∧ r.2.mem ((c.tc : Thread Cert.Vt.nD Cert.Vt.τ).loc Cert.Vt.main_arg1) = m ((c.tc : Thread Cert.Vt.nD Cert.Vt.τ).loc Cert.Vt.main_arg1))
      ∧ r.2.sem = fun _ => 0)

def quiescent_VtIdeal [hVtIdeal : Cert.VtIdeal.Facts] : Prop :=
  ∀ (m : (ℓ : Loc Cert.VtIdeal.nD Cert.VtIdeal.τ Cert.VtIdeal.sig) → Buf (Elt Ideal) ℓ) (g : Dev Cert.VtIdeal.nD → PrngReg), Pre_VtIdeal m →
    θ_run (Cert.VtIdeal.defs (F := Ideal)) (onTc (τ := Cert.VtIdeal.τ) (Cert.VtIdeal.main (F := Ideal))) ⟨m, fun _ => 0, g⟩ (fun r => (∀ c : Dev Cert.VtIdeal.nD,
      r.2.mem ((c.tc : Thread Cert.VtIdeal.nD Cert.VtIdeal.τ).loc Cert.VtIdeal.main_arg0) = m ((c.tc : Thread Cert.VtIdeal.nD Cert.VtIdeal.τ).loc Cert.VtIdeal.main_arg0)
      ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ r.2.sem = fun _ => 0)

def quiescent_VtRefIdeal [hVtRefIdeal : Cert.VtRefIdeal.Facts] : Prop :=
  ∀ (m : (ℓ : Loc Cert.VtRefIdeal.nD Cert.VtRefIdeal.τ Cert.VtRefIdeal.sig) → Buf (Elt Ideal) ℓ) (g : Dev Cert.VtRefIdeal.nD → PrngReg), Pre_VtRefIdeal m →
    θ_run (Cert.VtRefIdeal.defs (F := Ideal)) (onTc (τ := Cert.VtRefIdeal.τ) (Cert.VtRefIdeal.main (F := Ideal))) ⟨m, fun _ => 0, g⟩ (fun r => (∀ c : Dev Cert.VtRefIdeal.nD,
      r.2.mem ((c.tc : Thread Cert.VtRefIdeal.nD Cert.VtRefIdeal.τ).loc Cert.VtRefIdeal.main_arg0) = m ((c.tc : Thread Cert.VtRefIdeal.nD Cert.VtRefIdeal.τ).loc Cert.VtRefIdeal.main_arg0)
      ∧ r.2.mem ((c.tc : Thread Cert.VtRefIdeal.nD Cert.VtRefIdeal.τ).loc Cert.VtRefIdeal.main_arg1) = m ((c.tc : Thread Cert.VtRefIdeal.nD Cert.VtRefIdeal.τ).loc Cert.VtRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v33) = v0 c
          ∧ r.2.mem ((c.tc : Thread Cert.MlpRefIdeal.nD Cert.MlpRefIdeal.τ).loc Cert.MlpRefIdeal.main_v34) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v27) = v0 c
          ∧ r.2.mem ((c.tc : Thread Cert.OutRefIdeal.nD Cert.OutRefIdeal.τ).loc Cert.OutRefIdeal.main_v28) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)) →
    ∃ (v0 : (c : Dev Cert.QkIdeal.nD) → Buf (Elt Ideal) ((c.tc : Thread Cert.QkIdeal.nD Cert.QkIdeal.τ).loc Cert.QkIdeal.main_v0)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v0) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v7) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2))

def preserves_Gp_GpIdeal : Prop :=
  True

def algebraic_GpIdeal_GpRefIdeal [hGpIdeal : Cert.GpIdeal.Facts] [hGpRefIdeal : Cert.GpRefIdeal.Facts] : Prop :=
  ∀ (m : (ℓ : Loc Cert.GpIdeal.nD Cert.GpIdeal.τ Cert.GpIdeal.sig) → Buf (Elt Ideal) ℓ) (g : Dev Cert.GpIdeal.nD → PrngReg)
    (m' : (ℓ : Loc Cert.GpRefIdeal.nD Cert.GpRefIdeal.τ Cert.GpRefIdeal.sig) → Buf (Elt Ideal) ℓ) (g' : Dev Cert.GpRefIdeal.nD → PrngReg), Pre_GpIdeal m →
    (∀ c : Dev Cert.GpIdeal.nD,
      m' ((c.tc : Thread Cert.GpRefIdeal.nD Cert.GpRefIdeal.τ).loc Cert.GpRefIdeal.main_arg0) = m ((c.tc : Thread Cert.GpIdeal.nD Cert.GpIdeal.τ).loc Cert.GpIdeal.main_arg0)
      ∧ m' ((c.tc : Thread Cert.GpRefIdeal.nD Cert.GpRefIdeal.τ).loc Cert.GpRefIdeal.main_arg1) = m ((c.tc : Thread Cert.GpIdeal.nD Cert.GpIdeal.τ).loc Cert.GpIdeal.main_arg1)
      ∧ m' ((c.tc : Thread Cert.GpRefIdeal.nD Cert.GpRefIdeal.τ).loc Cert.GpRefIdeal.main_arg2) = m ((c.tc : Thread Cert.GpIdeal.nD Cert.GpIdeal.τ).loc Cert.GpIdeal.main_arg2)) →
    ∃ (v0 : (c : Dev Cert.GpIdeal.nD) → Buf (Elt Ideal) ((c.tc : Thread Cert.GpIdeal.nD Cert.GpIdeal.τ).loc Cert.GpIdeal.main_v0)),
      θ_run (Cert.GpIdeal.defs (F := Ideal)) (onTc (τ := Cert.GpIdeal.τ) (Cert.GpIdeal.main (F := Ideal))) ⟨m, fun _ => 0, g⟩ (fun r => ∀ c : Dev Cert.GpIdeal.nD,
          r.2.mem ((c.tc : Thread Cert.GpIdeal.nD Cert.GpIdeal.τ).loc Cert.GpIdeal.main_v0) = v0 c
          ∧ r.2.mem ((c.tc : Thread Cert.GpIdeal.nD Cert.GpIdeal.τ).loc Cert.GpIdeal.main_arg0) = m ((c.tc : Thread Cert.GpIdeal.nD Cert.GpIdeal.τ).loc Cert.GpIdeal.main_arg0)
          ∧ r.2.mem ((c.tc : Thread Cert.GpIdeal.nD Cert.GpIdeal.τ).loc Cert.GpIdeal.main_arg1) = m ((c.tc : Thread Cert.GpIdeal.nD Cert.GpIdeal.τ).loc Cert.GpIdeal.main_arg1)
          ∧ r.2.mem ((c.tc : Thread Cert.GpIdeal.nD Cert.GpIdeal.τ).loc Cert.GpIdeal.main_arg2) = m ((c.tc : Thread Cert.GpIdeal.nD Cert.GpIdeal.τ).loc Cert.GpIdeal.main_arg2))
      ∧ θ_run (Cert.GpRefIdeal.defs (F := Ideal)) (onTc (τ := Cert.GpRefIdeal.τ) (Cert.GpRefIdeal.main (F := Ideal))) ⟨m', fun _ => 0, g'⟩ (fun r => ∀ c : Dev Cert.GpRefIdeal.nD,
          r.2.mem ((c.tc : Thread Cert.GpRefIdeal.nD Cert.GpRefIdeal.τ).loc Cert.GpRefIdeal.main_v8) = v0 c
          ∧ r.2.mem ((c.tc : Thread Cert.GpRefIdeal.nD Cert.GpRefIdeal.τ).loc Cert.GpRefIdeal.main_arg0) = m' ((c.tc : Thread Cert.GpRefIdeal.nD Cert.GpRefIdeal.τ).loc Cert.GpRefIdeal.main_arg0)
          ∧ r.2.mem ((c.tc : Thread Cert.GpRefIdeal.nD Cert.GpRefIdeal.τ).loc Cert.GpRefIdeal.main_arg1) = m' ((c.tc : Thread Cert.GpRefIdeal.nD Cert.GpRefIdeal.τ).loc Cert.GpRefIdeal.main_arg1)
          ∧ r.2.mem ((c.tc : Thread Cert.GpRefIdeal.nD Cert.GpRefIdeal.τ).loc Cert.GpRefIdeal.main_arg2) = m' ((c.tc : Thread Cert.GpRefIdeal.nD Cert.GpRefIdeal.τ).loc Cert.GpRefIdeal.main_arg2))

def preserves_Vt_VtIdeal : Prop :=
  True

def algebraic_VtIdeal_VtRefIdeal [hVtIdeal : Cert.VtIdeal.Facts] [hVtRefIdeal : Cert.VtRefIdeal.Facts] : Prop :=
  ∀ (m : (ℓ : Loc Cert.VtIdeal.nD Cert.VtIdeal.τ Cert.VtIdeal.sig) → Buf (Elt Ideal) ℓ) (g : Dev Cert.VtIdeal.nD → PrngReg)
    (m' : (ℓ : Loc Cert.VtRefIdeal.nD Cert.VtRefIdeal.τ Cert.VtRefIdeal.sig) → Buf (Elt Ideal) ℓ) (g' : Dev Cert.VtRefIdeal.nD → PrngReg), Pre_VtIdeal m →
    (∀ c : Dev Cert.VtIdeal.nD,
      m' ((c.tc : Thread Cert.VtRefIdeal.nD Cert.VtRefIdeal.τ).loc Cert.VtRefIdeal.main_arg0) = m ((c.tc : Thread Cert.VtIdeal.nD Cert.VtIdeal.τ).loc Cert.VtIdeal.main_arg0)
      ∧ m' ((c.tc : Thread Cert.VtRefIdeal.nD Cert.VtRefIdeal.τ).loc Cert.VtRefIdeal.main_arg1) = m ((c.tc : Thread Cert.VtIdeal.nD Cert.VtIdeal.τ).loc Cert.VtIdeal.main_arg1)) →
    ∃ (v0 : (c : Dev Cert.VtIdeal.nD) → Buf (Elt Ideal) ((c.tc : Thread Cert.VtIdeal.nD Cert.VtIdeal.τ).loc Cert.VtIdeal.main_v0)),
      θ_run (Cert.VtIdeal.defs (F := Ideal)) (onTc (τ := Cert.VtIdeal.τ) (Cert.VtIdeal.main (F := Ideal))) ⟨m, fun _ => 0, g⟩ (fun r => ∀ c : Dev Cert.VtIdeal.nD,
          r.2.mem ((c.tc : Thread Cert.VtIdeal.nD Cert.VtIdeal.τ).loc Cert.VtIdeal.main_v0) = v0 c
          ∧ r.2.mem ((c.tc : Thread Cert.VtIdeal.nD Cert.VtIdeal.τ).loc Cert.VtIdeal.main_arg0) = m ((c.tc : Thread Cert.VtIdeal.nD Cert.VtIdeal.τ).loc Cert.VtIdeal.main_arg0)
          ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ θ_run (Cert.VtRefIdeal.defs (F := Ideal)) (onTc (τ := Cert.VtRefIdeal.τ) (Cert.VtRefIdeal.main (F := Ideal))) ⟨m', fun _ => 0, g'⟩ (fun r => ∀ c : Dev Cert.VtRefIdeal.nD,
          r.2.mem ((c.tc : Thread Cert.VtRefIdeal.nD Cert.VtRefIdeal.τ).loc Cert.VtRefIdeal.main_v6) = v0 c
          ∧ r.2.mem ((c.tc : Thread Cert.VtRefIdeal.nD Cert.VtRefIdeal.τ).loc Cert.VtRefIdeal.main_arg0) = m' ((c.tc : Thread Cert.VtRefIdeal.nD Cert.VtRefIdeal.τ).loc Cert.VtRefIdeal.main_arg0)
          ∧ r.2.mem ((c.tc : Thread Cert.VtRefIdeal.nD Cert.VtRefIdeal.τ).loc Cert.VtRefIdeal.main_arg1) = m' ((c.tc : Thread Cert.VtRefIdeal.nD Cert.VtRefIdeal.τ).loc Cert.VtRefIdeal.main_arg1))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v70) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hOut : Cert.Out.Facts) (hOutIdeal : Cert.OutIdeal.Facts) (hOutRefIdeal : Cert.OutRefIdeal.Facts) (hQk : Cert.Qk.Facts) (hQkIdeal : Cert.QkIdeal.Facts) (hQkRefIdeal : Cert.QkRefIdeal.Facts) (hGp : Cert.Gp.Facts) (hGpIdeal : Cert.GpIdeal.Facts) (hGpRefIdeal : Cert.GpRefIdeal.Facts) (hVt : Cert.Vt.Facts) (hVtIdeal : Cert.VtIdeal.Facts) (hVtRefIdeal : Cert.VtRefIdeal.Facts) (hAttn : Cert.Attn.Facts) (hAttnIdeal : Cert.AttnIdeal.Facts) (hAttnRefIdeal : Cert.AttnRefIdeal.Facts) (hPre_finite_attn : Cert.Pre_finite_attn.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpRefIdeal (hMlpRefIdeal := hMlpRefIdeal)
    ∧ quiescent_Out (hOut := hOut)
    ∧ quiescent_OutIdeal (hOutIdeal := hOutIdeal)
    ∧ quiescent_OutRefIdeal (hOutRefIdeal := hOutRefIdeal)
    ∧ quiescent_Qk (hQk := hQk)
    ∧ quiescent_QkIdeal (hQkIdeal := hQkIdeal)
    ∧ quiescent_QkRefIdeal (hQkRefIdeal := hQkRefIdeal)
    ∧ quiescent_Gp (hGp := hGp)
    ∧ quiescent_GpIdeal (hGpIdeal := hGpIdeal)
    ∧ quiescent_GpRefIdeal (hGpRefIdeal := hGpRefIdeal)
    ∧ quiescent_Vt (hVt := hVt)
    ∧ quiescent_VtIdeal (hVtIdeal := hVtIdeal)
    ∧ quiescent_VtRefIdeal (hVtRefIdeal := hVtRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpRefIdeal (hMlpIdeal := hMlpIdeal) (hMlpRefIdeal := hMlpRefIdeal)
    ∧ preserves_Out_OutIdeal
    ∧ algebraic_OutIdeal_OutRefIdeal (hOutIdeal := hOutIdeal) (hOutRefIdeal := hOutRefIdeal)
    ∧ preserves_Qk_QkIdeal
    ∧ algebraic_QkIdeal_QkRefIdeal (hQkIdeal := hQkIdeal) (hQkRefIdeal := hQkRefIdeal)
    ∧ preserves_Gp_GpIdeal
    ∧ algebraic_GpIdeal_GpRefIdeal (hGpIdeal := hGpIdeal) (hGpRefIdeal := hGpRefIdeal)
    ∧ preserves_Vt_VtIdeal
    ∧ algebraic_VtIdeal_VtRefIdeal (hVtIdeal := hVtIdeal) (hVtRefIdeal := hVtRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
-- ==== Pre_finite_attn.lean ====
abbrev S16384x4096 : Shape := ⟨2, ![16384, 4096]⟩
abbrev S32x2048x512 : Shape := ⟨3, ![32, 2048, 512]⟩
abbrev S4x128 : Shape := ⟨2, ![4, 128]⟩
abbrev S1x256 : Shape := ⟨2, ![1, 256]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S16384x4096 .bf16) (main_arg1 : FVec F S32x2048x512 .bf16) (main_arg2 : FVec F S4x128 .f32) (main_arg3 : FVec F S1x256 .f32) : IVec S_ 1 :=
  let main_v0 : FVec F S32x2048x512 .f32 := (extf .f32 · bitsLt_bf16_f32) main_arg1
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S4x128 .f32 := Host.absf main_arg2
  let main_cst_0 : FVec F S_ .f32 := constant S_ .f32 0x7F800000#32
  let main_v6 : FVec F S4x128 .f32 := broadcastInDim S4x128 ![] bcast_S_S4x128 main_cst_0
  let main_v7 : IVec S4x128 1 := cmpf .olt main_v5 main_v6
  let main_c_1 : IVec S_ 1 := constantI S_ 1 1#1
  let main_v8 : IVec S_ 1 := (fun x v => Host.reduce IntOp.andi x v reducesTo_S4x128_S_d0_1 h_S_) main_v7 main_c_1
  let main_v9 : IVec S_ 1 := andi main_v4 main_v8
  main_v9
-- ==== Kernel.lean ====
abbrev S16384x6144 : Shape := ⟨2, ![16384, 6144]⟩
abbrev S16384x128 : Shape := ⟨2, ![16384, 128]⟩
abbrev S128x1024 : Shape := ⟨2, ![128, 1024]⟩
abbrev S1x1024 : Shape := ⟨2, ![1, 1024]⟩
abbrev S1x512 : Shape := ⟨2, ![1, 512]⟩
abbrev S16384x2048 : Shape := ⟨2, ![16384, 2048]⟩
abbrev S512x1024 : Shape := ⟨2, ![512, 1024]⟩
abbrev S512x2048 : Shape := ⟨2, ![512, 2048]⟩
abbrev S512x128 : Shape := ⟨2, ![512, 128]⟩
abbrev S4x512x256 : Shape := ⟨3, ![4, 512, 256]⟩
abbrev S64x64 : Shape := ⟨2, ![64, 64]⟩
abbrev S64x256 : Shape := ⟨2, ![64, 256]⟩
abbrev S1x256 : Shape := ⟨2, ![1, 256]⟩
abbrev S64x512 : Shape := ⟨2, ![64, 512]⟩
abbrev S1x512x256 : Shape := ⟨3, ![1, 512, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 17
  | .smem => 0
  | _ => 0

abbrev bufTy : (tb : Table) → Fin (tcTables nBuf tb) → BufTy
  | .hbm, ⟨0, _⟩ => ⟨S16384x6144, .bf16⟩
  | .hbm, ⟨1, _⟩ => ⟨S16384x128, .bf16⟩
  | .hbm, ⟨2, _⟩ => ⟨S128x1024, .bf16⟩
  | .hbm, ⟨3, _⟩ => ⟨S1x1024, .f32⟩
  | .hbm, ⟨4, _⟩ => ⟨S1x512, .f32⟩
  | .hbm, ⟨5, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x128, .bf16⟩
  | .local _ .vmem, ⟨9, _⟩ => ⟨S512x128, .bf16⟩
  | .local _ .vmem, ⟨10, _⟩ => ⟨S128x1024, .bf16⟩
  | .local _ .vmem, ⟨11, _⟩ => ⟨S1x1024, .f32⟩
  | .local _ .vmem, ⟨12, _⟩ => ⟨S1x512, .f32⟩
  | .local _ .vmem, ⟨13, _⟩ => ⟨S512x2048, .bf16⟩
  | .local _ .vmem, ⟨14, _⟩ => ⟨S512x2048, .bf16⟩
  | .local _ .vmem, ⟨15, _⟩ => ⟨S4x512x256, .f32⟩
  | .local _ .vmem, ⟨16, _⟩ => ⟨S512x2048, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x6144 : Shape := ⟨2, ![16384, 6144]⟩
abbrev S16384x128 : Shape := ⟨2, ![16384, 128]⟩
abbrev S128x1024 : Shape := ⟨2, ![128, 1024]⟩
abbrev S1x1024 : Shape := ⟨2, ![1, 1024]⟩
abbrev S1x512 : Shape := ⟨2, ![1, 512]⟩
abbrev S16384x1024 : Shape := ⟨2, ![16384, 1024]⟩
abbrev S_ : Shape := ⟨0, ![]⟩
abbrev S4x64x64x4x256 : Shape := ⟨5, ![4, 64, 64, 4, 256]⟩
abbrev S64x4x4x64x256 : Shape := ⟨5, ![64, 4, 4, 64, 256]⟩
abbrev S16384x2048 : Shape := ⟨2, ![16384, 2048]⟩
abbrev S4x64x64x4x512 : Shape := ⟨5, ![4, 64, 64, 4, 512]⟩
abbrev S64x4x4x64x512 : Shape := ⟨5, ![64, 4, 4, 64, 512]⟩
abbrev S64x4x4x1x256 : Shape := ⟨5, ![64, 4, 4, 1, 256]⟩
abbrev S64x64 : Shape := ⟨2, ![64, 64]⟩
abbrev S64x4x4x64x64 : Shape := ⟨5, ![64, 4, 4, 64, 64]⟩
abbrev S4x4x256x512 : Shape := ⟨4, ![4, 4, 256, 512]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S1x4x4x1x256 : Shape := ⟨5, ![1, 4, 4, 1, 256]⟩
abbrev S4x4x1x256 : Shape := ⟨4, ![4, 4, 1, 256]⟩
abbrev S4x4x256 : Shape := ⟨3, ![4, 4, 256]⟩
abbrev S4x4x256x1 : Shape := ⟨4, ![4, 4, 256, 1]⟩
abbrev S16384x4x512 : Shape := ⟨3, ![16384, 4, 512]⟩
abbrev S512 : Shape := ⟨1, ![512]⟩
abbrev S16384x4 : Shape := ⟨2, ![16384, 4]⟩
abbrev S16384x4x1 : Shape := ⟨3, ![16384, 4, 1]⟩
abbrev S1x1x512 : Shape := ⟨3, ![1, 1, 512]⟩

abbrev nBuf : Space → Nat
  | .hbm => 169
  | .vmem => 0
  | .smem => 0
  | _ => 0

abbrev hbmTy0_0 (i : Nat) : BufTy := match i % 128 with
  | 0 => ⟨S16384x6144, .bf16⟩
  | 1 => ⟨S16384x128, .bf16⟩
  | 2 => ⟨S128x1024, .bf16⟩
  | 3 => ⟨S1x1024, .f32⟩
  | 4 => ⟨S1x512, .f32⟩
  | 5 => ⟨S16384x128, .f32⟩
  | 6 => ⟨S128x1024, .f32⟩
  | 7 => ⟨S16384x1024, .f32⟩
  | 8 => ⟨S16384x1024, .f32⟩
  | 9 => ⟨S16384x1024, .f32⟩
  | 10 => ⟨S16384x1024, .f32⟩
  | 11 => ⟨S_, .f32⟩
  | 12 => ⟨S16384x1024, .f32⟩
  | 13 => ⟨S16384x1024, .f32⟩
  | 14 => ⟨S16384x1024, .f32⟩
  | 15 => ⟨S16384x1024, .f32⟩
  | 16 => ⟨S16384x1024, .i1⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .bf16⟩
  | 30 => ⟨S16384x1024, .f32⟩
  | 31 => ⟨S4x64x64x4x256, .f32⟩
  | 32 => ⟨S64x4x4x64x256, .f32⟩
  | 33 => ⟨S16384x1024, .bf16⟩
  | 34 => ⟨S16384x1024, .f32⟩
  | 35 => ⟨S4x64x64x4x256, .f32⟩
  | 36 => ⟨S64x4x4x64x256, .f32⟩
  | 37 => ⟨S16384x2048, .bf16⟩
  | 38 => ⟨S16384x2048, .f32⟩
  | 39 => ⟨S4x64x64x4x512, .f32⟩
  | 40 => ⟨S64x4x4x64x512, .f32⟩
  | 41 => ⟨S4x64x64x4x256, .f32⟩
  | 42 => ⟨S64x4x4x64x256, .f32⟩
  | 43 => ⟨S_, .f32⟩
  | 44 => ⟨S_, .f32⟩
  | 45 => ⟨S64x4x4x64x256, .f32⟩
  | 46 => ⟨S64x4x4x1x256, .f32⟩
  | 47 => ⟨S64x4x4x64x256, .f32⟩
  | 48 => ⟨S64x4x4x64x256, .f32⟩
  | 49 => ⟨S64x4x4x64x256, .f32⟩
  | 50 => ⟨S64x4x4x64x256, .f32⟩
  | 51 => ⟨S64x4x4x64x256, .f32⟩
  | 52 => ⟨S64x4x4x64x256, .f32⟩
  | 53 => ⟨S64x4x4x64x256, .f32⟩
  | 54 => ⟨S64x4x4x64x256, .f32⟩
  | 55 => ⟨S64x4x4x64x256, .f32⟩
  | 56 => ⟨S_, .i1⟩
  | 57 => ⟨S64x64, .i1⟩
  | 58 => ⟨S64x64, .i32⟩
  | 59 => ⟨S_, .i32⟩
  | 60 => ⟨S64x64, .i32⟩
  | 61 => ⟨S64x64, .i32⟩
  | 62 => ⟨S64x64, .i32⟩
  | 63 => ⟨S64x64, .i1⟩
  | 64 => ⟨S_, .i1⟩
  | 65 => ⟨S64x64, .i1⟩
  | 66 => ⟨S64x64, .i1⟩
  | 67 => ⟨S64x4x4x64x64, .f32⟩
  | 68 => ⟨S_, .f32⟩
  | 69 => ⟨S_, .f32⟩
  | 70 => ⟨S64x4x4x64x64, .i1⟩
  | 71 => ⟨S64x4x4x64x64, .f32⟩
  | 72 => ⟨S64x4x4x64x64, .f32⟩
  | 73 => ⟨S64x4x4x64x512, .f32⟩
  | 74 => ⟨S_, .f32⟩
  | 75 => ⟨S4x4x256x512, .f32⟩
  | 76 => ⟨S_, .f32⟩
  | 77 => ⟨S64x4x4x64x512, .f32⟩
  | 78 => ⟨S_, .i32⟩
  | 79 => ⟨S64x4x4x64x256, .f32⟩
  | 80 => ⟨S64x4x4x64x256, .f32⟩
  | 81 => ⟨S64x4x4x64x512, .f32⟩
  | 82 => ⟨S64x4x4x1x256, .f32⟩
  | 83 => ⟨S64x4x4x64x512, .f32⟩
  | 84 => ⟨S_, .i32⟩
  | 85 => ⟨S4x4x256x512, .f32⟩
  | 86 => ⟨S64x4x4x64x512, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x4x4x64x256, .f32⟩
  | 94 => ⟨S4x4x64x256, .f32⟩
  | 95 => ⟨S_, .i32⟩
  | 96 => ⟨S_, .i32⟩
  | 97 => ⟨S_, .i32⟩
  | 98 => ⟨S_, .i32⟩
  | 99 => ⟨S1x4x4x64x256, .f32⟩
  | 100 => ⟨S4x4x64x256, .f32⟩
  | 101 => ⟨S_, .i32⟩
  | 102 => ⟨S_, .i32⟩
  | 103 => ⟨S_, .i32⟩
  | 104 => ⟨S_, .i32⟩
  | 105 => ⟨S1x4x4x64x512, .f32⟩
  | 106 => ⟨S4x4x64x512, .f32⟩
  | 107 => ⟨S_, .i32⟩
  | 108 => ⟨S_, .i32⟩
  | 109 => ⟨S_, .i32⟩
  | 110 => ⟨S_, .i32⟩
  | 111 => ⟨S1x4x4x1x256, .f32⟩
  | 112 => ⟨S4x4x1x256, .f32⟩
  | 113 => ⟨S_, .i32⟩
  | 114 => ⟨S_, .i32⟩
  | 115 => ⟨S_, .i32⟩
  | 116 => ⟨S_, .i32⟩
  | 117 => ⟨S1x4x4x64x512, .f32⟩
  | 118 => ⟨S4x4x64x512, .f32⟩
  | 119 => ⟨S4x4x64x512, .f32⟩
  | 120 => ⟨S4x4x64x512, .f32⟩
  | 121 => ⟨S4x4x1x256, .f32⟩
  | 122 => ⟨S4x4x256, .f32⟩
  | 123 => ⟨S4x4x256x1, .f32⟩
  | 124 => ⟨S4x4x256x512, .f32⟩
  | 125 => ⟨S4x4x256x512, .f32⟩
  | 126 => ⟨S4x4x256x512, .f32⟩
  | 127 => ⟨S4x4x256x512, .f32⟩
  | _ => ⟨S16384x6144, .bf16⟩

abbrev hbmTy0_1 (i : Nat) : BufTy := match i % 128 with
  | 0 => ⟨S1x4x4x64x512, .f32⟩
  | 1 => ⟨S_, .i32⟩
  | 2 => ⟨S_, .i32⟩
  | 3 => ⟨S_, .i32⟩
  | 4 => ⟨S_, .i32⟩
  | 5 => ⟨S64x4x4x64x512, .f32⟩
  | 6 => ⟨S_, .i32⟩
  | 7 => ⟨S_, .i32⟩
  | 8 => ⟨S4x64x64x4x512, .f32⟩
  | 9 => ⟨S16384x4x512, .f32⟩
  | 10 => ⟨S16384x2048, .bf16⟩
  | 11 => ⟨S16384x2048, .f32⟩
  | 12 => ⟨S512, .f32⟩
  | 13 => ⟨S16384x4x512, .f32⟩
  | 14 => ⟨S_, .f32⟩
  | 15 => ⟨S16384x4, .f32⟩
  | 16 => ⟨S16384x4x1, .f32⟩
  | 17 => ⟨S_, .f32⟩
  | 18 => ⟨S16384x4x1, .f32⟩
  | 19 => ⟨S16384x4x1, .f32⟩
  | 20 => ⟨S_, .f32⟩
  | 21 => ⟨S16384x4x1, .f32⟩
  | 22 => ⟨S16384x4x1, .f32⟩
  | 23 => ⟨S16384x4x1, .f32⟩
  | 24 => ⟨S16384x4x512, .f32⟩
  | 25 => ⟨S16384x4x512, .f32⟩
  | 26 => ⟨S1x1x512, .f32⟩
  | 27 => ⟨S16384x4x512, .f32⟩
  | 28 => ⟨S16384x4x512, .f32⟩
  | 29 => ⟨S16384x2048, .f32⟩
  | 30 => ⟨S16384x2048, .f32⟩
  | 31 => ⟨S16384x2048, .f32⟩
  | 32 => ⟨S_, .f32⟩
  | 33 => ⟨S16384x2048, .f32⟩
  | 34 => ⟨S16384x2048, .f32⟩
  | 35 => ⟨S_, .f32⟩
  | 36 => ⟨S16384x2048, .f32⟩
  | 37 => ⟨S16384x2048, .f32⟩
  | 38 => ⟨S16384x2048, .f32⟩
  | 39 => ⟨S16384x2048, .f32⟩
  | 40 => ⟨S16384x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_call0_cst : Ref sig .tc := ⟨.hbm, 43, rfl⟩
abbrev main_call1_call0_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_v33 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_0 : Ref sig .tc := ⟨.hbm, 64, rfl⟩
abbrev main_call2_v5 : Ref sig .tc := ⟨.hbm, 65, rfl⟩
abbrev main_v34 : Ref sig .tc := ⟨.hbm, 66, rfl⟩
abbrev main_v35 : Ref sig .tc := ⟨.hbm, 67, rfl⟩
abbrev main_cst_0 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v36 : Ref sig .tc := ⟨.hbm, 72, rfl⟩
abbrev main_v37 : Ref sig .tc := ⟨.hbm, 73, rfl⟩
abbrev main_cst_1 : Ref sig .tc := ⟨.hbm, 74, rfl⟩
abbrev main_v38 : Ref sig .tc := ⟨.hbm, 75, rfl⟩
abbrev main_cst_2 : Ref sig .tc := ⟨.hbm, 76, rfl⟩
abbrev main_v39 : Ref sig .tc := ⟨.hbm, 77, rfl⟩
abbrev main_c_3 : Ref sig .tc := ⟨.hbm, 78, rfl⟩
abbrev main_v40_0 : Ref sig .tc := ⟨.hbm, 79, rfl⟩
abbrev main_v40_1 : Ref sig .tc := ⟨.hbm, 80, rfl⟩
abbrev main_v40_2 : Ref sig .tc := ⟨.hbm, 81, rfl⟩
abbrev main_v40_3 : Ref sig .tc := ⟨.hbm, 82, rfl⟩
abbrev main_v40_4 : Ref sig .tc := ⟨.hbm, 83, rfl⟩
abbrev main_v40_5 : Ref sig .tc := ⟨.hbm, 84, rfl⟩
abbrev main_v40_6 : Ref sig .tc := ⟨.hbm, 85, rfl⟩
abbrev main_v40_7 : Ref sig .tc := ⟨.hbm, 86, rfl⟩
abbrev main_while0c_c_14 : Ref sig .tc := ⟨.hbm, 87, rfl⟩
abbrev main_while0c_v63 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v63 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_call5_v0 : Ref sig .tc := ⟨.hbm, 99, rfl⟩
abbrev main_while0b_v64 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_c_1 : Ref sig .tc := ⟨.hbm, 103, rfl⟩
abbrev main_while0b_call6_c_2 : Ref sig .tc := ⟨.hbm, 104, rfl⟩
abbrev main_while0b_call6_v0 : Ref sig .tc := ⟨.hbm, 105, rfl⟩
abbrev main_while0b_v65 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_c_2 : Ref sig .tc := ⟨.hbm, 110, rfl⟩
abbrev main_while0b_call7_v0 : Ref sig .tc := ⟨.hbm, 111, rfl⟩
abbrev main_while0b_v66 : Ref sig .tc := ⟨.hbm, 112, rfl⟩
abbrev main_while0b_call8_c : Ref sig .tc := ⟨.hbm, 113, rfl⟩
abbrev main_while0b_call8_c_0 : Ref sig .tc := ⟨.hbm, 114, rfl⟩
abbrev main_while0b_call8_c_1 : Ref sig .tc := ⟨.hbm, 115, rfl⟩
abbrev main_while0b_call8_c_2 : Ref sig .tc := ⟨.hbm, 116, rfl⟩
abbrev main_while0b_call8_v0 : Ref sig .tc := ⟨.hbm, 117, rfl⟩
abbrev main_while0b_v67 : Ref sig .tc := ⟨.hbm, 118, rfl⟩
abbrev main_while0b_v68 : Ref sig .tc := ⟨.hbm, 119, rfl⟩
abbrev main_while0b_v69 : Ref sig .tc := ⟨.hbm, 120, rfl⟩
abbrev main_while0b_v70 : Ref sig .tc := ⟨.hbm, 121, rfl⟩
abbrev main_while0b_v71 : Ref sig .tc := ⟨.hbm, 122, rfl⟩
abbrev main_while0b_v72 : Ref sig .tc := ⟨.hbm, 123, rfl⟩
abbrev main_while0b_v73 : Ref sig .tc := ⟨.hbm, 124, rfl⟩
abbrev main_while0b_v74 : Ref sig .tc := ⟨.hbm, 125, rfl⟩
abbrev main_while0b_v75 : Ref sig .tc := ⟨.hbm, 126, rfl⟩
abbrev main_while0b_v76 : Ref sig .tc := ⟨.hbm, 127, rfl⟩
abbrev main_while0b_call9_v0 : Ref sig .tc := ⟨.hbm, 128, rfl⟩
abbrev main_while0b_call9_c : Ref sig .tc := ⟨.hbm, 129, rfl⟩
abbrev main_while0b_call9_c_0 : Ref sig .tc := ⟨.hbm, 130, rfl⟩
abbrev main_while0b_call9_c_1 : Ref sig .tc := ⟨.hbm, 131, rfl⟩
abbrev main_while0b_call9_c_2 : Ref sig .tc := ⟨.hbm, 132, rfl⟩
abbrev main_while0b_v77 : Ref sig .tc := ⟨.hbm, 133, rfl⟩
abbrev main_while0b_c_14 : Ref sig .tc := ⟨.hbm, 134, rfl⟩
abbrev main_while0b_v78 : Ref sig .tc := ⟨.hbm, 135, rfl⟩
abbrev main_v41 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_cst_4 : Ref sig .tc := ⟨.hbm, 142, rfl⟩
abbrev main_v47 : Ref sig .tc := ⟨.hbm, 143, rfl⟩
abbrev main_v48 : Ref sig .tc := ⟨.hbm, 144, rfl⟩
abbrev main_cst_5 : Ref sig .tc := ⟨.hbm, 145, rfl⟩
abbrev main_v49 : Ref sig .tc := ⟨.hbm, 146, rfl⟩
abbrev main_v50 : Ref sig .tc := ⟨.hbm, 147, rfl⟩
abbrev main_cst_6 : Ref sig .tc := ⟨.hbm, 148, rfl⟩
abbrev main_v51 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_call10_v0 : Ref sig .tc := ⟨.hbm, 158, rfl⟩
abbrev main_call10_v1 : Ref sig .tc := ⟨.hbm, 159, rfl⟩
abbrev main_call10_cst : Ref sig .tc := ⟨.hbm, 160, rfl⟩
abbrev main_call10_v2 : Ref sig .tc := ⟨.hbm, 161, rfl⟩
abbrev main_call10_v3 : Ref sig .tc := ⟨.hbm, 162, rfl⟩
abbrev main_call10_cst_0 : Ref sig .tc := ⟨.hbm, 163, rfl⟩
abbrev main_call10_v4 : Ref sig .tc := ⟨.hbm, 164, rfl⟩
abbrev main_call10_v5 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩

abbrev nD : Nat := 1
abbrev τ : Topo := Topo.v7x

variable {F : FTy → Type} [FloatOps F]

abbrev main_while0_count : Scf.Loop 32 := ⟨0#32, 64#32, 1#32⟩
-- ==== Mlp.lean ====
abbrev S16384x2048 : Shape := ⟨2, ![16384, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S4x2048x8192, .bf16⟩
  | .hbm, ⟨2, _⟩ => ⟨S4x8192x2048, .bf16⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S16384x2048 : Shape := ⟨2, ![16384, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1x2048x8192 : Shape := ⟨3, ![1, 2048, 8192]⟩
abbrev S2048x8192 : Shape := ⟨2, ![2048, 8192]⟩
abbrev S16384x8192 : Shape := ⟨2, ![16384, 8192]⟩
abbrev S_ : Shape := ⟨0, ![]⟩
abbrev S1x8192x2048 : Shape := ⟨3, ![1, 8192, 2048]⟩
abbrev S8192x2048 : Shape := ⟨2, ![8192, 2048]⟩
abbrev S16384 : Shape := ⟨1, ![16384]⟩
abbrev S16384x1 : Shape := ⟨2, ![16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x8192, .bf16⟩
  | .hbm, ⟨2, _⟩ => ⟨S4x8192x2048, .bf16⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S1x2048x8192, .bf16⟩
  | .hbm, ⟨8, _⟩ => ⟨S2048x8192, .bf16⟩
  | .hbm, ⟨9, _⟩ => ⟨S2048x8192, .f32⟩
  | .hbm, ⟨10, _⟩ => ⟨S16384x8192, .f32⟩
  | .hbm, ⟨11, _⟩ => ⟨S_, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S1x8192x2048, .bf16⟩
  | .hbm, ⟨16, _⟩ => ⟨S8192x2048, .bf16⟩
  | .hbm, ⟨17, _⟩ => ⟨S8192x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Out.lean ====
abbrev S16384x2048 : Shape := ⟨2, ![16384, 2048]⟩
abbrev S2x2048x2048 : Shape := ⟨3, ![2, 2048, 2048]⟩
abbrev S1x2048 : Shape := ⟨2, ![1, 2048]⟩
abbrev S512x2048 : Shape := ⟨2, ![512, 2048]⟩
abbrev S1x2048x2048 : Shape := ⟨3, ![1, 2048, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .bf16⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16384x2048 : Shape := ⟨2, ![16384, 2048]⟩
abbrev S2x2048x2048 : Shape := ⟨3, ![2, 2048, 2048]⟩
abbrev S1x2048 : Shape := ⟨2, ![1, 2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .bf16⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S1x2048x2048, .bf16⟩
  | .hbm, ⟨7, _⟩ => ⟨S2048x2048, .bf16⟩
  | .hbm, ⟨8, _⟩ => ⟨S2048x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Qk.lean ====
abbrev S16384x2048 : Shape := ⟨2, ![16384, 2048]⟩
abbrev S2x2048x6144 : Shape := ⟨3, ![2, 2048, 6144]⟩
abbrev S1x6144 : Shape := ⟨2, ![1, 6144]⟩
abbrev S16384x4096 : Shape := ⟨2, ![16384, 4096]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2x2048x6144, .f32⟩
  | .hbm, ⟨2, _⟩ => ⟨S1x6144, .f32⟩
  | .hbm, ⟨3, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkRefIdeal.lean ====
abbrev S16384x2048 : Shape := ⟨2, ![16384, 2048]⟩
abbrev S2x2048x6144 : Shape := ⟨3, ![2, 2048, 6144]⟩
abbrev S1x6144 : Shape := ⟨2, ![1, 6144]⟩
abbrev S1x2048x6144 : Shape := ⟨3, ![1, 2048, 6144]⟩
abbrev S2048x6144 : Shape := ⟨2, ![2048, 6144]⟩
abbrev S16384x6144 : Shape := ⟨2, ![16384, 6144]⟩
abbrev S16384x4096 : Shape := ⟨2, ![16384, 4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x6144, .f32⟩
  | .hbm, ⟨2, _⟩ => ⟨S1x6144, .f32⟩
  | .hbm, ⟨3, _⟩ => ⟨S1x2048x6144, .f32⟩
  | .hbm, ⟨4, _⟩ => ⟨S2048x6144, .f32⟩
  | .hbm, ⟨5, _⟩ => ⟨S16384x6144, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gp.lean ====
abbrev S16384x2048 : Shape := ⟨2, ![16384, 2048]⟩
abbrev S2x6160x2048 : Shape := ⟨3, ![2, 6160, 2048]⟩
abbrev S1x6144 : Shape := ⟨2, ![1, 6144]⟩
abbrev S16384x6144 : Shape := ⟨2, ![16384, 6144]⟩
abbrev S1024x2048 : Shape := ⟨2, ![1024, 2048]⟩
abbrev S1x1024x2048 : Shape := ⟨3, ![1, 1024, 2048]⟩
abbrev S1x1024 : Shape := ⟨2, ![1, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2x6160x2048, .f32⟩
  | .hbm, ⟨2, _⟩ => ⟨S1x6144, .f32⟩
  | .hbm, ⟨3, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GpRefIdeal.lean ====
abbrev S16384x2048 : Shape := ⟨2, ![16384, 2048]⟩
abbrev S2x6160x2048 : Shape := ⟨3, ![2, 6160, 2048]⟩
abbrev S1x6144 : Shape := ⟨2, ![1, 6144]⟩
abbrev S2x2048x6160 : Shape := ⟨3, ![2, 2048, 6160]⟩
abbrev S1x2048x6160 : Shape := ⟨3, ![1, 2048, 6160]⟩
abbrev S2048x6160 : Shape := ⟨2, ![2048, 6160]⟩
abbrev S16384x6160 : Shape := ⟨2, ![16384, 6160]⟩
abbrev S16384x6144 : Shape := ⟨2, ![16384, 6144]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x6160x2048, .f32⟩
  | .hbm, ⟨2, _⟩ => ⟨S1x6144, .f32⟩
  | .hbm, ⟨3, _⟩ => ⟨S2x2048x6160, .f32⟩
  | .hbm, ⟨4, _⟩ => ⟨S1x2048x6160, .f32⟩
  | .hbm, ⟨5, _⟩ => ⟨S2048x6160, .f32⟩
  | .hbm, ⟨6, _⟩ => ⟨S16384x2048, .f32⟩
  | .hbm, ⟨7, _⟩ => ⟨S16384x6160, .f32⟩
  | .hbm, ⟨8, _⟩ => ⟨S16384x6144, .f32⟩
  | .hbm, ⟨9, _⟩ => ⟨S16384x6144, .f32⟩
  | .hbm, ⟨10, _⟩ => ⟨S16384x6144, .f32⟩
  | .hbm, ⟨11, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Vt.lean ====
abbrev S2x2048x6144 : Shape := ⟨3, ![2, 2048, 6144]⟩
abbrev S16384x2048 : Shape := ⟨2, ![16384, 2048]⟩
abbrev S32x2048x512 : Shape := ⟨3, ![32, 2048, 512]⟩
abbrev S1x2048x2048 : Shape := ⟨3, ![1, 2048, 2048]⟩
abbrev S512x2048 : Shape := ⟨2, ![512, 2048]⟩
abbrev S1x2048x512 : Shape := ⟨3, ![1, 2048, 512]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x6144, .f32⟩
  | .hbm, ⟨1, _⟩ => ⟨S16384x2048, .f32⟩
  | .hbm, ⟨2, _⟩ => ⟨S32x2048x512, .bf16⟩
  | .local _ .vmem, ⟨0, _⟩ => ⟨S1x2048x2048, .f32⟩
  | .local _ .vmem, ⟨1, _⟩ => ⟨S512x2048, .f32⟩
  | .local _ .vmem, ⟨2, _⟩ => ⟨S512x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S2048x2048, .bf16⟩
  | _, _ => ⟨S2x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== VtRefIdeal.lean ====
abbrev S2x2048x6144 : Shape := ⟨3, ![2, 2048, 6144]⟩
abbrev S16384x2048 : Shape := ⟨2, ![16384, 2048]⟩
abbrev S1x2048x6144 : Shape := ⟨3, ![1, 2048, 6144]⟩
abbrev S2048x6144 : Shape := ⟨2, ![2048, 6144]⟩
abbrev S16384x6144 : Shape := ⟨2, ![16384, 6144]⟩
abbrev S32x512x2048 : Shape := ⟨3, ![32, 512, 2048]⟩
abbrev S32x2048x512 : Shape := ⟨3, ![32, 2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x6144, .f32⟩
  | .hbm, ⟨1, _⟩ => ⟨S16384x2048, .f32⟩
  | .hbm, ⟨2, _⟩ => ⟨S1x2048x6144, .f32⟩
  | .hbm, ⟨3, _⟩ => ⟨S2048x6144, .f32⟩
  | .hbm, ⟨4, _⟩ => ⟨S16384x6144, .f32⟩
  | .hbm, ⟨5, _⟩ => ⟨S16384x2048, .f32⟩
  | .hbm, ⟨6, _⟩ => ⟨S32x512x2048, .f32⟩
  | .hbm, ⟨7, _⟩ => ⟨S32x2048x512, .f32⟩
  | .hbm, ⟨8, _⟩ => ⟨S32x2048x512, .bf16⟩
  | _, _ => ⟨S2x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Attn.lean ====
abbrev S16384x4096 : Shape := ⟨2, ![16384, 4096]⟩
abbrev S32x2048x512 : Shape := ⟨3, ![32, 2048, 512]⟩
abbrev S4x128 : Shape := ⟨2, ![4, 128]⟩
abbrev S1x256 : Shape := ⟨2, ![1, 256]⟩
abbrev S16384x2048 : Shape := ⟨2, ![16384, 2048]⟩
abbrev S512x512 : Shape := ⟨2, ![512, 512]⟩
abbrev S4096x512 : Shape := ⟨2, ![4096, 512]⟩
abbrev S8x512x512 : Shape := ⟨3, ![8, 512, 512]⟩
abbrev S512x640 : Shape := ⟨2, ![512, 640]⟩
abbrev S272x512 : Shape := ⟨2, ![272, 512]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S1x1 : Shape := ⟨2, ![1, 1]⟩
abbrev S16x512 : Shape := ⟨2, ![16, 512]⟩
abbrev S1x512 : Shape := ⟨2, ![1, 512]⟩
abbrev S512x128 : Shape := ⟨2, ![512, 128]⟩
abbrev S512 : Shape := ⟨1, ![512]⟩
abbrev S1x256x512 : Shape := ⟨3, ![1, 256, 512]⟩
abbrev S256x512 : Shape := ⟨2, ![256, 512]⟩
abbrev S512x256 : Shape := ⟨2, ![512, 256]⟩

abbrev nBuf : Space → Nat
  | .hbm => 5
  | .vmem => 22
  | .smem => 0
  | _ => 0

abbrev bufTy : (tb : Table) → Fin (tcTables nBuf tb) → BufTy
  | .hbm, ⟨0, _⟩ => ⟨S16384x4096, .bf16⟩
  | .hbm, ⟨1, _⟩ => ⟨S32x2048x512, .bf16⟩
  | .hbm, ⟨2, _⟩ => ⟨S4x128, .f32⟩
  | .hbm, ⟨3, _⟩ => ⟨S1x256, .f32⟩
  | .hbm, ⟨4, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S8x512x512, .bf16⟩
  | .local _ .vmem, ⟨5, _⟩ => ⟨S8x512x512, .bf16⟩
  | .local _ .vmem, ⟨6, _⟩ => ⟨S4x128, .f32⟩
  | .local _ .vmem, ⟨7, _⟩ => ⟨S1x256, .f32⟩
  | .local _ .vmem, ⟨8, _⟩ => ⟨S512x512, .bf16⟩
  | .local _ .vmem, ⟨9, _⟩ => ⟨S512x512, .bf16⟩
  | .local _ .vmem, ⟨10, _⟩ => ⟨S512x640, .f32⟩
  | .local _ .vmem, ⟨11, _⟩ => ⟨S512x640, .f32⟩
  | .local _ .vmem, ⟨12, _⟩ => ⟨S512x640, .bf16⟩
  | .local _ .vmem, ⟨13, _⟩ => ⟨S512x640, .bf16⟩
  | .local _ .vmem, ⟨14, _⟩ => ⟨S272x512, .f32⟩
  | .local _ .vmem, ⟨15, _⟩ => ⟨S272x512, .f32⟩
  | .local _ .vmem, ⟨16, _⟩ => ⟨S512x640, .f32⟩
  | .local _ .vmem, ⟨17, _⟩ => ⟨S512x640, .f32⟩
  | .local _ .vmem, ⟨18, _⟩ => ⟨S512x640, .bf16⟩
  | .local _ .vmem, ⟨19, _⟩ => ⟨S512x640, .bf16⟩
  | .local _ .vmem, ⟨20, _⟩ => ⟨S272x512, .f32⟩
  | .local _ .vmem, ⟨21, _⟩ => ⟨S272x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

def k0_mult1 : BitVec 32 :=
  let c0_i32_25 : BitVec 32 := 0#32
  c0_i32_25
def k0_mult2 : BitVec 32 :=
  let c0_i32_41 : BitVec 32 := 0#32
  c0_i32_41
@[reducible] def k0_t1_loop (i : grid0.Coords) : Scf.Loop 32 :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_50 : BitVec 32 := 1#32
  ⟨c0_i32_48, v120, c1_i32_50⟩
def k0_mult3 (i : grid0.Coords) (k0_t1 : Fin (k0_t1_loop i).trips) : BitVec 32 :=
  let c0_i32_48 : BitVec 32 := 0#32
  let c1_i32_50 : BitVec 32 := 1#32
  let arg21 : BitVec 32 := Scf.iv c0_i32_48 c1_i32_50 k0_t1
  let c512_i32_177 : BitVec 32 := 512#32
  let v341 : BitVec 32 := Scalar.muli arg21 c512_i32_177
  v341
def k0_off1 (i : grid0.Coords) (k0_t1 : Fin (k0_t1_loop i).trips) : Fin 2 → Nat :=
  let c0_i32_48 : BitVec 32 := 0#32
  let c1_i32_50 : BitVec 32 := 1#32
  let arg21 : BitVec 32 := Scf.iv c0_i32_48 c1_i32_50 k0_t1
  let c512_i32_177 : BitVec 32 := 512#32
  let v341 : BitVec 32 := Scalar.muli arg21 c512_i32_177
  let v342 : BitVec 32 := v341
  let v343 : Index := Scalar.indexCast v342
  let c128_178 : Index := 128#32
  ![v343.toNat, 128]
def k0_mult4 (i : grid0.Coords) (k0_t1 : Fin (k0_t1_loop i).trips) : BitVec 32 :=
  let c0_i32_48 : BitVec 32 := 0#32
  let c1_i32_50 : BitVec 32 := 1#32
  let arg21 : BitVec 32 := Scf.iv c0_i32_48 c1_i32_50 k0_t1
  let c512_i32_184 : BitVec 32 := 512#32
  let v350 : BitVec 32 := Scalar.muli arg21 c512_i32_184
  v350
def k0_off2 (i : grid0.Coords) (k0_t1 : Fin (k0_t1_loop i).trips) : Fin 2 → Nat :=
  let c0_i32_48 : BitVec 32 := 0#32
  let c1_i32_50 : BitVec 32 := 1#32
  let arg21 : BitVec 32 := Scf.iv c0_i32_48 c1_i32_50 k0_t1
  let c512_i32_184 : BitVec 32 := 512#32
  let v350 : BitVec 32 := Scalar.muli arg21 c512_i32_184
  let v351 : BitVec 32 := v350
  let v352 : Index := Scalar.indexCast v351
  let c384_185 : Index := 384#32
  ![v352.toNat, 384]
def k0_off3 (i : grid0.Coords) (k0_t1 : Fin (k0_t1_loop i).trips) : Fin 3 → Nat :=
  let c0_i32_48 : BitVec 32 := 0#32
  let c1_i32_50 : BitVec 32 := 1#32
  let arg21 : BitVec 32 := Scf.iv c0_i32_48 c1_i32_50 k0_t1
  let c1_i32_201 : BitVec 32 := 1#32
  let v385 : BitVec 32 := Scalar.subi arg21 c1_i32_201
  let c0_i32_202 : BitVec 32 := 0#32
  let v386 : BitVec 32 := Scalar.maxsi v385 c0_i32_202
  let v387 : Index := Scalar.indexCast v386
  let c0_203 : Index := 0#32
  let c0_204 : Index := 0#32
  ![v387.toNat, 0, 0]
def k0_off4 (i : grid0.Coords) (k0_t1 : Fin (k0_t1_loop i).trips) : Fin 3 → Nat :=
  let c0_i32_48 : BitVec 32 := 0#32
  let c1_i32_50 : BitVec 32 := 1#32
  let arg21 : BitVec 32 := Scf.iv c0_i32_48 c1_i32_50 k0_t1
  let c1_i32_212 : BitVec 32 := 1#32
  let v400 : BitVec 32 := Scalar.subi arg21 c1_i32_212
  let c0_i32_213 : BitVec 32 := 0#32
  let v401 : BitVec 32 := Scalar.maxsi v400 c0_i32_213
  let v402 : Index := Scalar.indexCast v401
  let c256_214 : Index := 256#32
  let c0_215 : Index := 0#32
  ![v402.toNat, 256, 0]
def k0_mult5 (i : grid0.Coords) (k0_t1 : Fin (k0_t1_loop i).trips) : BitVec 32 :=
  let c0_i32_48 : BitVec 32 := 0#32
  let c1_i32_50 : BitVec 32 := 1#32
  let arg21 : BitVec 32 := Scf.iv c0_i32_48 c1_i32_50 k0_t1
  let c1_i32_223 : BitVec 32 := 1#32
  let v415 : BitVec 32 := Scalar.addi arg21 c1_i32_223
  let c512_i32_224 : BitVec 32 := 512#32
  let v416 : BitVec 32 := Scalar.muli v415 c512_i32_224
  v416
def k0_off5 (i : grid0.Coords) (k0_t1 : Fin (k0_t1_loop i).trips) : Fin 2 → Nat :=
  let c0_i32_48 : BitVec 32 := 0#32
  let c1_i32_50 : BitVec 32 := 1#32
  let arg21 : BitVec 32 := Scf.iv c0_i32_48 c1_i32_50 k0_t1
  let c1_i32_223 : BitVec 32 := 1#32
  let v415 : BitVec 32 := Scalar.addi arg21 c1_i32_223
  let c512_i32_224 : BitVec 32 := 512#32
  let v416 : BitVec 32 := Scalar.muli v415 c512_i32_224
  let v417 : BitVec 32 := v416
  let v418 : Index := Scalar.indexCast v417
  let c0_225 : Index := 0#32
  ![v418.toNat, 0]
def k0_mult6 (i : grid0.Coords) (k0_t1 : Fin (k0_t1_loop i).trips) : BitVec 32 :=
  let c0_i32_48 : BitVec 32 := 0#32
  let c1_i32_50 : BitVec 32 := 1#32
  let arg21 : BitVec 32 := Scf.iv c0_i32_48 c1_i32_50 k0_t1
  let c1_i32_231 : BitVec 32 := 1#32
  let v425 : BitVec 32 := Scalar.addi arg21 c1_i32_231
  let c512_i32_232 : BitVec 32 := 512#32
  let v426 : BitVec 32 := Scalar.muli v425 c512_i32_232
  v426
def k0_off6 (i : grid0.Coords) (k0_t1 : Fin (k0_t1_loop i).trips) : Fin 2 → Nat :=
  let c0_i32_48 : BitVec 32 := 0#32
  let c1_i32_50 : BitVec 32 := 1#32
  let arg21 : BitVec 32 := Scf.iv c0_i32_48 c1_i32_50 k0_t1
  let c1_i32_231 : BitVec 32 := 1#32
  let v425 : BitVec 32 := Scalar.addi arg21 c1_i32_231
  let c512_i32_232 : BitVec 32 := 512#32
  let v426 : BitVec 32 := Scalar.muli v425 c512_i32_232
  let v427 : BitVec 32 := v426
  let v428 : Index := Scalar.indexCast v427
  let c256_233 : Index := 256#32
  ![v428.toNat, 256]
def k0_off7 (i : grid0.Coords) (k0_t1 : Fin (k0_t1_loop i).trips) : Fin 3 → Nat :=
  let c0_i32_48 : BitVec 32 := 0#32
  let c1_i32_50 : BitVec 32 := 1#32
  let arg21 : BitVec 32 := Scf.iv c0_i32_48 c1_i32_50 k0_t1
  let v461 : Index := Scalar.indexCast arg21
  let c0_249 : Index := 0#32
  let c0_250 : Index := 0#32
  ![v461.toNat, 0, 0]
def k0_off8 (i : grid0.Coords) (k0_t1 : Fin (k0_t1_loop i).trips) : Fin 3 → Nat :=
  let c0_i32_48 : BitVec 32 := 0#32
  let c1_i32_50 : BitVec 32 := 1#32
  let arg21 : BitVec 32 := Scf.iv c0_i32_48 c1_i32_50 k0_t1
  let v474 : Index := Scalar.indexCast arg21
  let c256_258 : Index := 256#32
  let c0_259 : Index := 0#32
  ![v474.toNat, 256, 0]
@[reducible] def k0_t2_loop (i : grid0.Coords) : Scf.Loop 32 :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let v117 : BitVec 32 := Scalar.addi c0_i32_48 v116
  let c1_i32_51 : BitVec 32 := 1#32
  ⟨v120, v117, c1_i32_51⟩
def k0_mult7 (i : grid0.Coords) (k0_t2 : Fin (k0_t2_loop i).trips) : BitVec 32 :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c512_i32_177 : BitVec 32 := 512#32
  let v341 : BitVec 32 := Scalar.muli arg21 c512_i32_177
  v341
def k0_off9 (i : grid0.Coords) (k0_t2 : Fin (k0_t2_loop i).trips) : Fin 2 → Nat :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c512_i32_177 : BitVec 32 := 512#32
  let v341 : BitVec 32 := Scalar.muli arg21 c512_i32_177
  let v342 : BitVec 32 := v341
  let v343 : Index := Scalar.indexCast v342
  let c128_178 : Index := 128#32
  ![v343.toNat, 128]
def k0_mult8 (i : grid0.Coords) (k0_t2 : Fin (k0_t2_loop i).trips) : BitVec 32 :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c512_i32_184 : BitVec 32 := 512#32
  let v350 : BitVec 32 := Scalar.muli arg21 c512_i32_184
  v350
def k0_off10 (i : grid0.Coords) (k0_t2 : Fin (k0_t2_loop i).trips) : Fin 2 → Nat :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c512_i32_184 : BitVec 32 := 512#32
  let v350 : BitVec 32 := Scalar.muli arg21 c512_i32_184
  let v351 : BitVec 32 := v350
  let v352 : Index := Scalar.indexCast v351
  let c384_185 : Index := 384#32
  ![v352.toNat, 384]
def k0_off11 (i : grid0.Coords) (k0_t2 : Fin (k0_t2_loop i).trips) : Fin 3 → Nat :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c1_i32_201 : BitVec 32 := 1#32
  let v385 : BitVec 32 := Scalar.subi arg21 c1_i32_201
  let c0_i32_202 : BitVec 32 := 0#32
  let v386 : BitVec 32 := Scalar.maxsi v385 c0_i32_202
  let v387 : Index := Scalar.indexCast v386
  let c0_203 : Index := 0#32
  let c0_204 : Index := 0#32
  ![v387.toNat, 0, 0]
def k0_off12 (i : grid0.Coords) (k0_t2 : Fin (k0_t2_loop i).trips) : Fin 3 → Nat :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c1_i32_212 : BitVec 32 := 1#32
  let v400 : BitVec 32 := Scalar.subi arg21 c1_i32_212
  let c0_i32_213 : BitVec 32 := 0#32
  let v401 : BitVec 32 := Scalar.maxsi v400 c0_i32_213
  let v402 : Index := Scalar.indexCast v401
  let c256_214 : Index := 256#32
  let c0_215 : Index := 0#32
  ![v402.toNat, 256, 0]
def k0_mult9 (i : grid0.Coords) (k0_t2 : Fin (k0_t2_loop i).trips) : BitVec 32 :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c1_i32_223 : BitVec 32 := 1#32
  let v415 : BitVec 32 := Scalar.addi arg21 c1_i32_223
  let c512_i32_224 : BitVec 32 := 512#32
  let v416 : BitVec 32 := Scalar.muli v415 c512_i32_224
  v416
def k0_off13 (i : grid0.Coords) (k0_t2 : Fin (k0_t2_loop i).trips) : Fin 2 → Nat :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c1_i32_223 : BitVec 32 := 1#32
  let v415 : BitVec 32 := Scalar.addi arg21 c1_i32_223
  let c512_i32_224 : BitVec 32 := 512#32
  let v416 : BitVec 32 := Scalar.muli v415 c512_i32_224
  let v417 : BitVec 32 := v416
  let v418 : Index := Scalar.indexCast v417
  let c0_225 : Index := 0#32
  ![v418.toNat, 0]
def k0_mult10 (i : grid0.Coords) (k0_t2 : Fin (k0_t2_loop i).trips) : BitVec 32 :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c1_i32_231 : BitVec 32 := 1#32
  let v425 : BitVec 32 := Scalar.addi arg21 c1_i32_231
  let c512_i32_232 : BitVec 32 := 512#32
  let v426 : BitVec 32 := Scalar.muli v425 c512_i32_232
  v426
def k0_off14 (i : grid0.Coords) (k0_t2 : Fin (k0_t2_loop i).trips) : Fin 2 → Nat :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let c1_i32_231 : BitVec 32 := 1#32
  let v425 : BitVec 32 := Scalar.addi arg21 c1_i32_231
  let c512_i32_232 : BitVec 32 := 512#32
  let v426 : BitVec 32 := Scalar.muli v425 c512_i32_232
  let v427 : BitVec 32 := v426
  let v428 : Index := Scalar.indexCast v427
  let c256_233 : Index := 256#32
  ![v428.toNat, 256]
def k0_off15 (i : grid0.Coords) (k0_t2 : Fin (k0_t2_loop i).trips) : Fin 3 → Nat :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let v461 : Index := Scalar.indexCast arg21
  let c0_249 : Index := 0#32
  let c0_250 : Index := 0#32
  ![v461.toNat, 0, 0]
def k0_off16 (i : grid0.Coords) (k0_t2 : Fin (k0_t2_loop i).trips) : Fin 3 → Nat :=
  let c0_i32_48 : BitVec 32 := 0#32
  let arg2 : BitVec 32 := BitVec.ofNat 32 (i 2).val
  let v116 : BitVec 32 := Scalar.subi arg2 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg21 : BitVec 32 := Scf.iv v120 c1_i32_51 k0_t2
  let v474 : Index := Scalar.indexCast arg21
  let c256_258 : Index := 256#32
  let c0_259 : Index := 0#32
  ![v474.toNat, 256, 0]
def k0_mult11 (i : grid0.Coords) : BitVec 32 :=
  let arg2 : BitVec 32 := BitVec.ofNat 32 (i 2).val
  let c512_i32 : BitVec 32 := 512#32
  let v123 : BitVec 32 := Scalar.muli arg2 c512_i32
  v123
def k0_off17 (i : grid0.Coords) : Fin 2 → Nat :=
  let arg2 : BitVec 32 := BitVec.ofNat 32 (i 2).val
  let c512_i32 : BitVec 32 := 512#32
  let v123 : BitVec 32 := Scalar.muli arg2 c512_i32
  let v124 : BitVec 32 := v123
  let v125 : Index := Scalar.indexCast v124
  let c128 : Index := 128#32
  ![v125.toNat, 128]
def k0_mult12 (i : grid0.Coords) : BitVec 32 :=
  let arg2 : BitVec 32 := BitVec.ofNat 32 (i 2).val
  let c512_i32_57 : BitVec 32 := 512#32
  let v132 : BitVec 32 := Scalar.muli arg2 c512_i32_57
  v132
def k0_off18 (i : grid0.Coords) : Fin 2 → Nat :=
  let arg2 : BitVec 32 := BitVec.ofNat 32 (i 2).val
  let c512_i32_57 : BitVec 32 := 512#32
  let v132 : BitVec 32 := Scalar.muli arg2 c512_i32_57
  let v133 : BitVec 32 := v132
  let v134 : Index := Scalar.indexCast v133
  let c384 : Index := 384#32
  ![v134.toNat, 384]
def k0_off19 (i : grid0.Coords) : Fin 3 → Nat :=
  let arg2 : BitVec 32 := BitVec.ofNat 32 (i 2).val
  let c1_i32_75 : BitVec 32 := 1#32
  let v171 : BitVec 32 := Scalar.subi arg2 c1_i32_75
  let c0_i32_76 : BitVec 32 := 0#32
  let v172 : BitVec 32 := Scalar.maxsi v171 c0_i32_76
  let v173 : Index := Scalar.indexCast v172
  let c0_77 : Index := 0#32
  let c0_78 : Index := 0#32
  ![v173.toNat, 0, 0]
def k0_off20 (i : grid0.Coords) : Fin 3 → Nat :=
  let arg2 : BitVec 32 := BitVec.ofNat 32 (i 2).val
  let c1_i32_86 : BitVec 32 := 1#32
  let v186 : BitVec 32 := Scalar.subi arg2 c1_i32_86
  let c0_i32_87 : BitVec 32 := 0#32
  let v187 : BitVec 32 := Scalar.maxsi v186 c0_i32_87
  let v188 : Index := Scalar.indexCast v187
  let c256_88 : Index := 256#32
  let c0_89 : Index := 0#32
  ![v188.toNat, 256, 0]
def k0_off21 (i : grid0.Coords) : Fin 3 → Nat :=
  let arg2 : BitVec 32 := BitVec.ofNat 32 (i 2).val
  let v231 : Index := Scalar.indexCast arg2
  let c0_109 : Index := 0#32
  let c0_110 : Index := 0#32
  ![v231.toNat, 0, 0]
def k0_off22 (i : grid0.Coords) : Fin 3 → Nat :=
  let arg2 : BitVec 32 := BitVec.ofNat 32 (i 2).val
  let v244 : Index := Scalar.indexCast arg2
  let c256_118 : Index := 256#32
  let c0_119 : Index := 0#32
  ![v244.toNat, 256, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S16384x4096 : Shape := ⟨2, ![16384, 4096]⟩
abbrev S32x2048x512 : Shape := ⟨3, ![32, 2048, 512]⟩
abbrev S4x128 : Shape := ⟨2, ![4, 128]⟩
abbrev S1x256 : Shape := ⟨2, ![1, 256]⟩
abbrev S16384x2048 : Shape := ⟨2, ![16384, 2048]⟩
abbrev S4x4096x8x2x128 : Shape := ⟨5, ![4, 4096, 8, 2, 128]⟩
abbrev S4x8x8x256x512 : Shape := ⟨5, ![4, 8, 8, 256, 512]⟩
abbrev S4x8x512x8x256 : Shape := ⟨5, ![4, 8, 512, 8, 256]⟩
abbrev S4x4096x8x256 : Shape := ⟨4, ![4, 4096, 8, 256]⟩
abbrev S1x128 : Shape := ⟨2, ![1, 128]⟩
abbrev S128 : Shape := ⟨1, ![128]⟩
abbrev S_ : Shape := ⟨0, ![]⟩
abbrev S4096 : Shape := ⟨1, ![4096]⟩
abbrev S4x8x2x4096x4096 : Shape := ⟨5, ![4, 8, 2, 4096, 4096]⟩
abbrev S1x4096 : Shape := ⟨2, ![1, 4096]⟩
abbrev S4096x1 : Shape := ⟨2, ![4096, 1]⟩
abbrev S4096x4096 : Shape := ⟨2, ![4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x256x4096 : Shape := ⟨4, ![4, 8, 256, 4096]⟩
abbrev S4x4096x8 : Shape := ⟨3, ![4, 4096, 8]⟩
abbrev S4x4096x8x1 : Shape := ⟨4, ![4, 4096, 8, 1]⟩
abbrev S256 : Shape := ⟨1, ![256]⟩
abbrev S1x1x1x256 : Shape := ⟨4, ![1, 1, 1, 256]⟩

abbrev nBuf : Space → Nat
  | .hbm => 90
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S32x2048x512, .bf16⟩
  | .hbm, ⟨2, _⟩ => ⟨S4x128, .f32⟩
  | .hbm, ⟨3, _⟩ => ⟨S1x256, .f32⟩
  | .hbm, ⟨4, _⟩ => ⟨S16384x2048, .bf16⟩
  | .hbm, ⟨5, _⟩ => ⟨S4x4096x8x2x128, .bf16⟩
  | .hbm, ⟨6, _⟩ => ⟨S16384x2048, .bf16⟩
  | .hbm, ⟨7, _⟩ => ⟨S4x4096x8x2x128, .bf16⟩
  | .hbm, ⟨8, _⟩ => ⟨S4x8x8x256x512, .bf16⟩
  | .hbm, ⟨9, _⟩ => ⟨S4x8x512x8x256, .bf16⟩
  | .hbm, ⟨10, _⟩ => ⟨S4x4096x8x256, .bf16⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4x8x2x4096x4096, .f32⟩
  | .hbm, ⟨35, _⟩ => ⟨S1x4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S_, .f32⟩
  | .hbm, ⟨41, _⟩ => ⟨S_, .f32⟩
  | .hbm, ⟨42, _⟩ => ⟨S4x8x2x4096x4096, .i1⟩
  | .hbm, ⟨43, _⟩ => ⟨S4x8x2x4096x4096, .f32⟩
  | .hbm, ⟨44, _⟩ => ⟨S4x8x2x4096x4096, .f32⟩
  | .hbm, ⟨45, _⟩ => ⟨S_, .f32⟩
  | .hbm, ⟨46, _⟩ => ⟨S4x8x2x4096x4096, .f32⟩
  | .hbm, ⟨47, _⟩ => ⟨S_, .f32⟩
  | .hbm, ⟨48, _⟩ => ⟨S4x8x2x4096, .f32⟩
  | .hbm, ⟨49, _⟩ => ⟨S4x8x2x4096x1, .f32⟩
  | .hbm, ⟨50, _⟩ => ⟨S4x8x2x4096x4096, .f32⟩
  | .hbm, ⟨51, _⟩ => ⟨S4x8x2x4096x4096, .f32⟩
  | .hbm, ⟨52, _⟩ => ⟨S4x8x2x4096x4096, .f32⟩
  | .hbm, ⟨53, _⟩ => ⟨S_, .f32⟩
  | .hbm, ⟨54, _⟩ => ⟨S4x8x2x4096, .f32⟩
  | .hbm, ⟨55, _⟩ => ⟨S4x8x2x4096x1, .f32⟩
  | .hbm, ⟨56, _⟩ => ⟨S4x8x2x4096x4096, .f32⟩
  | .hbm, ⟨57, _⟩ => ⟨S4x8x2x4096x4096, .f32⟩
  | .hbm, ⟨58, _⟩ => ⟨S4x8x1x4096x4096, .f32⟩
  | .hbm, ⟨59, _⟩ => ⟨S4x8x4096x4096, .f32⟩
  | .hbm, ⟨60, _⟩ => ⟨S4x8x1x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .bf16⟩
  | .hbm, ⟨66, _⟩ => ⟨S4x8x256x4096, .f32⟩
  | .hbm, ⟨67, _⟩ => ⟨S4x4096x8x256, .f32⟩
  | .hbm, ⟨68, _⟩ => ⟨S4x4096x8x256, .f32⟩
  | .hbm, ⟨69, _⟩ => ⟨S_, .f32⟩
  | .hbm, ⟨70, _⟩ => ⟨S4x4096x8, .f32⟩
  | .hbm, ⟨71, _⟩ => ⟨S4x4096x8x1, .f32⟩
  | .hbm, ⟨72, _⟩ => ⟨S_, .f32⟩
  | .hbm, ⟨73, _⟩ => ⟨S4x4096x8x1, .f32⟩
  | .hbm, ⟨74, _⟩ => ⟨S4x4096x8x1, .f32⟩
  | .hbm, ⟨75, _⟩ => ⟨S_, .f32⟩
  | .hbm, ⟨76, _⟩ => ⟨S4x4096x8x1, .f32⟩
  | .hbm, ⟨77, _⟩ => ⟨S4x4096x8x1, .f32⟩
  | .hbm, ⟨78, _⟩ => ⟨S4x4096x8x1, .f32⟩
  | .hbm, ⟨79, _⟩ => ⟨S4x4096x8x256, .f32⟩
  | .hbm, ⟨80, _⟩ => ⟨S4x4096x8x256, .f32⟩
  | .hbm, ⟨81, _⟩ => ⟨S256, .f32⟩
  | .hbm, ⟨82, _⟩ => ⟨S1x1x1x256, .f32⟩
  | .hbm, ⟨83, _⟩ => ⟨S4x4096x8x256, .f32⟩
  | .hbm, ⟨84, _⟩ => ⟨S4x4096x8x256, .f32⟩
  | .hbm, ⟨85, _⟩ => ⟨S_, .f32⟩
  | .hbm, ⟨86, _⟩ => ⟨S4x4096x8x256, .f32⟩
  | .hbm, ⟨87, _⟩ => ⟨S4x4096x8x256, .f32⟩
  | .hbm, ⟨88, _⟩ => ⟨S16384x2048, .f32⟩
  | .hbm, ⟨89, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Proof.Diff.IdealState.lean ====
/- The differential attention kernel at one point of its grid, as a function: what one trip of its loop over the key blocks
   makes of the running maxima, the factors, the scores, the weights and the sums, and the states the loop passes through. -/
module

public import proofs.«01_k».proof.Proof.Gen.AttnIdeal.Frame
public import proofs.«01_k».proof.Proof.Gen.AttnIdeal.Loops
public import Idealize.ShloMosaic.Lib.WholeRead
public import Idealize.ShloMosaic.Lib.LoopRemainder
public import Idealize.ShloMosaic.Lib.VecWindow
public import Idealize.ShloMosaic.Lib.Claim

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The columns of a widened score or weight buffer that the kernel uses. -/
abbrev R640 : Rect S512x640 := Rect.unit (s := S512x640) ![0, 0] S512x512.size inb_S512x640_S512x512_0_0
/-- A sum buffer whole. -/
abbrev R272 : Rect S272x512 := Rect.unit (s := S272x512) ![0, 0] S272x512.size inb_S272x512_S272x512_0_0
/-- What a load of the box `B` reads of the contents `x`. -/
def ld {s : Shape} {e : EltTy} (x : Vec F s e) (B : LoadRect s) : B.shape.Idx → Elt F e := fun y => x (B.idx y)

/-- A load of a whole memref held at contents that read `x`. -/
theorem readAt_ld {s : Shape} {e : EltTy} {sg : RefSig} {κ : Kind} {sp : Space} {mr : Memref sg κ sp s e} (h : mr.IsWhole)
    (x : Vec F s e) (B : LoadRect s) : View.readAt (Elt F) mr.view B (h.unread x) = ld x B :=
  funext fun y => h.readAt_unread x B y

/-- What the loop over the key blocks carries, for the two heads of a point: of each head the running maxima of its two maps
    and the second map's pending factor, the first map's scores of the next block, the second map's weights of the last
    block, and the two maps' sums of weighted values and of weights. -/
structure St (F : FTy → Type) where
  m0 : FVec F S1x512 .f32
  m1 : FVec F S1x512 .f32
  c1 : FVec F S1x512 .f32
  n0 : FVec F S1x512 .f32
  n1 : FVec F S1x512 .f32
  d1 : FVec F S1x512 .f32
  s9 : FVec F S512x512 .f32
  p12 : FVec F S512x512 .bf16
  a13 : FVec F S272x512 .f32
  a14 : FVec F S272x512 .f32
  s15 : FVec F S512x512 .f32
  p18 : FVec F S512x512 .bf16
  a19 : FVec F S272x512 .f32
  a20 : FVec F S272x512 .f32

/-- The six rows a trip hands the next one. -/
abbrev St.acc (s : St F) : FVec F S1x512 .f32 × FVec F S1x512 .f32 × FVec F S1x512 .f32 × FVec F S1x512 .f32 × FVec F S1x512 .f32 × FVec F S1x512 .f32 := (s.m0, s.m1, s.c1, s.n0, s.n1, s.d1)

/-- One trip, over the key, query and value blocks it loads and over how each buffer is read back (`ρ·`). -/
def trip (ρ9 ρ10 : FVec F S512x512 .f32 → FVec F S512x512 .f32) (ρ11 ρ12 : FVec F S512x512 .bf16 → FVec F S512x512 .bf16) (ρ13 ρ14 : FVec F S272x512 .f32 → FVec F S272x512 .f32)
    (ρ15 ρ16 : FVec F S512x512 .f32 → FVec F S512x512 .f32) (ρ17 ρ18 : FVec F S512x512 .bf16 → FVec F S512x512 .bf16) (ρ19 ρ20 : FVec F S272x512 .f32 → FVec F S272x512 .f32)
    (v73 : FVec F S16x512 .bf16) (kA1 qA1 kB1 qB1 : Vec F S512x128 .bf16) (vAp vBp : Vec F S1x256x512 .bf16)
    (kA0 qA0 kB0 qB0 : Vec F S512x128 .bf16) (vA vB : Vec F S1x256x512 .bf16) (s : St F) : St F where
  m0 := k0_pay4 s.m0 (ρ9 s.s9)
  m1 := k0_pay17 s.m1 (ρ10 (k0_pay2 kA1 qA1))
  c1 := k0_pay20 s.m1 (k0_pay17 s.m1 (ρ10 (k0_pay2 kA1 qA1)))
  n0 := k0_pay8 s.n0 (k0_pay7 (ρ15 s.s15))
  n1 := k0_pay21 s.n1 (ρ16 (k0_pay3 kB1 qB1))
  d1 := k0_pay23 s.n1 (ρ16 (k0_pay3 kB1 qB1))
  s9 := k0_pay15 kA0 qA0
  s15 := k0_pay16 kB0 qB0
  p12 := k0_pay19 (k0_pay18 s.m1 (ρ10 (k0_pay2 kA1 qA1)))
  p18 := k0_pay22 s.n1 (ρ16 (k0_pay3 kB1 qB1))
  a13 := k0_pay24 v73 (k0_pay6 s.m0 (ρ9 s.s9)) vA (ρ13 s.a13) (ρ11 (k0_pay5 s.m0 (ρ9 s.s9)))
  a14 := k0_pay11 v73 s.c1 vAp (ρ14 s.a14) (ρ12 s.p12)
  a19 := k0_pay69 (k0_pay25 v73 vB) (k0_pay26 (k0_pay10 s.n0 (k0_pay7 (ρ15 s.s15))) (ρ19 s.a19))
    (ρ17 (k0_pay9 s.n0 (ρ15 s.s15) (k0_pay7 (ρ15 s.s15))))
  a20 := k0_pay14 (k0_pay12 s.d1 (ρ20 s.a20)) (k0_pay13 v73 vBp (ρ18 s.p18))

/-- Trip `k` at point `i`, over the blocks of queries `x3`, keys `x4` and values `x5`. -/
def next (i : grid0.Coords) (v73 : FVec F S16x512 .bf16) (x3 : Vec F S512x512 .bf16) (x4 : Vec F S4096x512 .bf16) (x5 : Vec F S8x512x512 .bf16)
    (k : Fin (k0_t1_loop i).trips) (s : St F) : St F :=
  trip id id id id id id id id id id id id v73
    (ld x4 (Rect.unit (s := S4096x512) (k0_off1 i k) S512x128.size (k0_off1_inb i k)).toLoadRect)
    (ld x3 (Rect.unit (s := S512x512) ![0, 128] S512x128.size inb_S512x512_S512x128_0_128).toLoadRect)
    (ld x4 (Rect.unit (s := S4096x512) (k0_off2 i k) S512x128.size (k0_off2_inb i k)).toLoadRect)
    (ld x3 (Rect.unit (s := S512x512) ![0, 384] S512x128.size inb_S512x512_S512x128_0_384).toLoadRect)
    (ld x5 (Rect.unit (s := S8x512x512) (k0_off3 i k) S1x256x512.size (k0_off3_inb i k)).toLoadRect)
    (ld x5 (Rect.unit (s := S8x512x512) (k0_off4 i k) S1x256x512.size (k0_off4_inb i k)).toLoadRect)
    (ld x4 (Rect.unit (s := S4096x512) (k0_off5 i k) S512x128.size (k0_off5_inb i k)).toLoadRect)
    (ld x3 (Rect.unit (s := S512x512) ![0, 0] S512x128.size inb_S512x512_S512x128_0_0).toLoadRect)
    (ld x4 (Rect.unit (s := S4096x512) (k0_off6 i k) S512x128.size (k0_off6_inb i k)).toLoadRect)
    (ld x3 (Rect.unit (s := S512x512) ![0, 256] S512x128.size inb_S512x512_S512x128_0_256).toLoadRect)
    (ld x5 (Rect.unit (s := S8x512x512) (k0_off7 i k) S1x256x512.size (k0_off7_inb i k)).toLoadRect)
    (ld x5 (Rect.unit (s := S8x512x512) (k0_off8 i k) S1x256x512.size (k0_off8_inb i k)).toLoadRect) s

/-- The state before trip `k`, from the state `s0` before the loop. -/
def states (i : grid0.Coords) (v73 : FVec F S16x512 .bf16) (x3 : Vec F S512x512 .bf16) (x4 : Vec F S4096x512 .bf16) (x5 : Vec F S8x512x512 .bf16)
    (s0 : St F) : ℕ → St F
  | 0 => s0
  | k + 1 => if h : k < (k0_t1_loop i).trips then next i v73 x3 x4 x5 ⟨k, h⟩ (states i v73 x3 x4 x5 s0 k) else states i v73 x3 x4 x5 s0 k

theorem states_succ (i : grid0.Coords) (v73 : FVec F S16x512 .bf16) (x3 : Vec F S512x512 .bf16) (x4 : Vec F S4096x512 .bf16) (x5 : Vec F S8x512x512 .bf16)
    (s0 : St F) (k : Fin (k0_t1_loop i).trips) :
    states i v73 x3 x4 x5 s0 (k.val + 1) = next i v73 x3 x4 x5 k (states i v73 x3 x4 x5 s0 k.val) := by
  rw [states, dif_pos k.isLt]

/-- The state before the loop: no maximum yet, no weight, no sum, the first map's scores of the first key block. -/
def start (x3 : Vec F S512x512 .bf16) (x4 : Vec F S4096x512 .bf16) : St F where
  m0 := k0_pay58
  m1 := k0_pay58
  c1 := k0_pay68 (Scalar.ofBits .f32 0x3F800000#32)
  n0 := k0_pay58
  n1 := k0_pay58
  d1 := k0_pay68 (Scalar.ofBits .f32 0x3F800000#32)
  s9 := k0_pay63 (ld x4 (Rect.unit (s := S4096x512) ![0, 0] S512x128.size inb_S4096x512_S512x128_0_0).toLoadRect)
    (ld x3 (Rect.unit (s := S512x512) ![0, 0] S512x128.size inb_S512x512_S512x128_0_0).toLoadRect)
  p12 := k0_pay62 k0_pay61
  a13 := k0_pay59
  a14 := k0_pay60
  s15 := k0_pay67 (ld x4 (Rect.unit (s := S4096x512) ![0, 256] S512x128.size inb_S4096x512_S512x128_0_256).toLoadRect)
    (ld x3 (Rect.unit (s := S512x512) ![0, 256] S512x128.size inb_S512x512_S512x128_0_256).toLoadRect)
  p18 := k0_pay66
  a19 := k0_pay64
  a20 := k0_pay65

end Cert.AttnIdeal.Gen
end
-- ==== Proof.Diff.IdealStep.lean ====
/- The differential attention kernel at one point of its grid: one trip of its loop keeps the invariant that the buffers
   hold the state after the trips so far. -/
module

public import proofs.«01_k».proof.Proof.Diff.IdealState

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- One trip with the loads through the memrefs, and each read-back of a buffer through the memref it was stored by. -/
def nextRaw (i : grid0.Coords) (arg3 : Memref sig .tc .vmem S512x512 .bf16) (harg3 : arg3.IsWhole) (arg4 : Memref sig .tc .vmem S4096x512 .bf16) (harg4 : arg4.IsWhole) (arg5 : Memref sig .tc .vmem S8x512x512 .bf16) (harg5 : arg5.IsWhole) (arg6 : Memref sig .tc .vmem S4x128 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S512x640 .f32) (harg9 : arg9.IsWhole) (arg10 : Memref sig .tc .vmem S512x640 .f32) (harg10 : arg10.IsWhole) (arg11 : Memref sig .tc .vmem S512x640 .bf16) (harg11 : arg11.IsWhole) (arg12 : Memref sig .tc .vmem S512x640 .bf16) (harg12 : arg12.IsWhole) (arg13 : Memref sig .tc .vmem S272x512 .f32) (harg13 : arg13.IsWhole) (arg14 : Memref sig .tc .vmem S272x512 .f32) (harg14 : arg14.IsWhole) (arg15 : Memref sig .tc .vmem S512x640 .f32) (harg15 : arg15.IsWhole) (arg16 : Memref sig .tc .vmem S512x640 .f32) (harg16 : arg16.IsWhole) (arg17 : Memref sig .tc .vmem S512x640 .bf16) (harg17 : arg17.IsWhole) (arg18 : Memref sig .tc .vmem S512x640 .bf16) (harg18 : arg18.IsWhole) (arg19 : Memref sig .tc .vmem S272x512 .f32) (harg19 : arg19.IsWhole) (arg20 : Memref sig .tc .vmem S272x512 .f32) (harg20 : arg20.IsWhole) (v73 : FVec F S16x512 .bf16) (x3 : Vec F S512x512 .bf16) (x4 : Vec F S4096x512 .bf16) (x5 : Vec F S8x512x512 .bf16)
    (k : Fin (k0_t1_loop i).trips) (s : St F) : St F :=
  trip (fun w : FVec F S512x512 .f32 => View.readCov (Val := Elt F) arg9.view [⟨R640, w⟩] R640.toLoadRect)
    (fun w : FVec F S512x512 .f32 => View.readCov (Val := Elt F) arg10.view [⟨R640, w⟩] R640.toLoadRect)
    (fun w : FVec F S512x512 .bf16 => View.readCov (Val := Elt F) arg11.view [⟨R640, w⟩] R640.toLoadRect)
    (fun w : FVec F S512x512 .bf16 => View.readCov (Val := Elt F) arg12.view [⟨R640, w⟩] R640.toLoadRect)
    (fun w : FVec F S272x512 .f32 => View.readCov (Val := Elt F) arg13.view [⟨R272, w⟩] R272.toLoadRect)
    (fun w : FVec F S272x512 .f32 => View.readCov (Val := Elt F) arg14.view [⟨R272, w⟩] R272.toLoadRect)
    (fun w : FVec F S512x512 .f32 => View.readCov (Val := Elt F) arg15.view [⟨R640, w⟩] R640.toLoadRect)
    (fun w : FVec F S512x512 .f32 => View.readCov (Val := Elt F) arg16.view [⟨R640, w⟩] R640.toLoadRect)
    (fun w : FVec F S512x512 .bf16 => View.readCov (Val := Elt F) arg17.view [⟨R640, w⟩] R640.toLoadRect)
    (fun w : FVec F S512x512 .bf16 => View.readCov (Val := Elt F) arg18.view [⟨R640, w⟩] R640.toLoadRect)
    (fun w : FVec F S272x512 .f32 => View.readCov (Val := Elt F) arg19.view [⟨R272, w⟩] R272.toLoadRect)
    (fun w : FVec F S272x512 .f32 => View.readCov (Val := Elt F) arg20.view [⟨R272, w⟩] R272.toLoadRect) v73
    (View.readAt (Elt F) arg4.view (Rect.unit (s := S4096x512) (k0_off1 i k) S512x128.size (k0_off1_inb i k)).toLoadRect (harg4.unread x4))
    (View.readAt (Elt F) arg3.view (Rect.unit (s := S512x512) ![0, 128] S512x128.size inb_S512x512_S512x128_0_128).toLoadRect (harg3.unread x3))
    (View.readAt (Elt F) arg4.view (Rect.unit (s := S4096x512) (k0_off2 i k) S512x128.size (k0_off2_inb i k)).toLoadRect (harg4.unread x4))
    (View.readAt (Elt F) arg3.view (Rect.unit (s := S512x512) ![0, 384] S512x128.size inb_S512x512_S512x128_0_384).toLoadRect (harg3.unread x3))
    (View.readAt (Elt F) arg5.view (Rect.unit (s := S8x512x512) (k0_off3 i k) S1x256x512.size (k0_off3_inb i k)).toLoadRect (harg5.unread x5))
    (View.readAt (Elt F) arg5.view (Rect.unit (s := S8x512x512) (k0_off4 i k) S1x256x512.size (k0_off4_inb i k)).toLoadRect (harg5.unread x5))
    (View.readAt (Elt F) arg4.view (Rect.unit (s := S4096x512) (k0_off5 i k) S512x128.size (k0_off5_inb i k)).toLoadRect (harg4.unread x4))
    (View.readAt (Elt F) arg3.view (Rect.unit (s := S512x512) ![0, 0] S512x128.size inb_S512x512_S512x128_0_0).toLoadRect (harg3.unread x3))
    (View.readAt (Elt F) arg4.view (Rect.unit (s := S4096x512) (k0_off6 i k) S512x128.size (k0_off6_inb i k)).toLoadRect (harg4.unread x4))
    (View.readAt (Elt F) arg3.view (Rect.unit (s := S512x512) ![0, 256] S512x128.size inb_S512x512_S512x128_0_256).toLoadRect (harg3.unread x3))
    (View.readAt (Elt F) arg5.view (Rect.unit (s := S8x512x512) (k0_off7 i k) S1x256x512.size (k0_off7_inb i k)).toLoadRect (harg5.unread x5))
    (View.readAt (Elt F) arg5.view (Rect.unit (s := S8x512x512) (k0_off8 i k) S1x256x512.size (k0_off8_inb i k)).toLoadRect (harg5.unread x5)) s

/-- A buffer's store read back by a load of the same box is what was stored. -/
theorem readBack {sg : RefSig} {κ : Kind} {sp : Space} {s : Shape} {e : EltTy} (v : View sg κ sp s e) (R : Rect s) :
    (fun w : R.shape.Idx → Elt F e => View.readCov (Val := Elt F) v [⟨R, w⟩] R.toLoadRect) = id :=
  funext fun w => View.readCov_cons_toLoadRect v R w []

/-- Through any memrefs one trip makes the same of a state. -/
theorem nextRaw_eq (i : grid0.Coords) (arg3 : Memref sig .tc .vmem S512x512 .bf16) (harg3 : arg3.IsWhole) (arg4 : Memref sig .tc .vmem S4096x512 .bf16) (harg4 : arg4.IsWhole) (arg5 : Memref sig .tc .vmem S8x512x512 .bf16) (harg5 : arg5.IsWhole) (arg6 : Memref sig .tc .vmem S4x128 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S512x640 .f32) (harg9 : arg9.IsWhole) (arg10 : Memref sig .tc .vmem S512x640 .f32) (harg10 : arg10.IsWhole) (arg11 : Memref sig .tc .vmem S512x640 .bf16) (harg11 : arg11.IsWhole) (arg12 : Memref sig .tc .vmem S512x640 .bf16) (harg12 : arg12.IsWhole) (arg13 : Memref sig .tc .vmem S272x512 .f32) (harg13 : arg13.IsWhole) (arg14 : Memref sig .tc .vmem S272x512 .f32) (harg14 : arg14.IsWhole) (arg15 : Memref sig .tc .vmem S512x640 .f32) (harg15 : arg15.IsWhole) (arg16 : Memref sig .tc .vmem S512x640 .f32) (harg16 : arg16.IsWhole) (arg17 : Memref sig .tc .vmem S512x640 .bf16) (harg17 : arg17.IsWhole) (arg18 : Memref sig .tc .vmem S512x640 .bf16) (harg18 : arg18.IsWhole) (arg19 : Memref sig .tc .vmem S272x512 .f32) (harg19 : arg19.IsWhole) (arg20 : Memref sig .tc .vmem S272x512 .f32) (harg20 : arg20.IsWhole) (v73 : FVec F S16x512 .bf16) (x3 : Vec F S512x512 .bf16) (x4 : Vec F S4096x512 .bf16) (x5 : Vec F S8x512x512 .bf16)
    (k : Fin (k0_t1_loop i).trips) (s : St F) : nextRaw i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v73 x3 x4 x5 k s = next i v73 x3 x4 x5 k s := by
  unfold nextRaw next
  have h9 : (fun w : FVec F S512x512 .f32 => View.readCov (Val := Elt F) arg9.view [⟨R640, w⟩] R640.toLoadRect) = id := readBack arg9.view R640
  have h10 : (fun w : FVec F S512x512 .f32 => View.readCov (Val := Elt F) arg10.view [⟨R640, w⟩] R640.toLoadRect) = id := readBack arg10.view R640
  have h11 : (fun w : FVec F S512x512 .bf16 => View.readCov (Val := Elt F) arg11.view [⟨R640, w⟩] R640.toLoadRect) = id := readBack arg11.view R640
  have h12 : (fun w : FVec F S512x512 .bf16 => View.readCov (Val := Elt F) arg12.view [⟨R640, w⟩] R640.toLoadRect) = id := readBack arg12.view R640
  have h13 : (fun w : FVec F S272x512 .f32 => View.readCov (Val := Elt F) arg13.view [⟨R272, w⟩] R272.toLoadRect) = id := readBack arg13.view R272
  have h14 : (fun w : FVec F S272x512 .f32 => View.readCov (Val := Elt F) arg14.view [⟨R272, w⟩] R272.toLoadRect) = id := readBack arg14.view R272
  have h15 : (fun w : FVec F S512x512 .f32 => View.readCov (Val := Elt F) arg15.view [⟨R640, w⟩] R640.toLoadRect) = id := readBack arg15.view R640
  have h16 : (fun w : FVec F S512x512 .f32 => View.readCov (Val := Elt F) arg16.view [⟨R640, w⟩] R640.toLoadRect) = id := readBack arg16.view R640
  have h17 : (fun w : FVec F S512x512 .bf16 => View.readCov (Val := Elt F) arg17.view [⟨R640, w⟩] R640.toLoadRect) = id := readBack arg17.view R640
  have h18 : (fun w : FVec F S512x512 .bf16 => View.readCov (Val := Elt F) arg18.view [⟨R640, w⟩] R640.toLoadRect) = id := readBack arg18.view R640
  have h19 : (fun w : FVec F S272x512 .f32 => View.readCov (Val := Elt F) arg19.view [⟨R272, w⟩] R272.toLoadRect) = id := readBack arg19.view R272
  have h20 : (fun w : FVec F S272x512 .f32 => View.readCov (Val := Elt F) arg20.view [⟨R272, w⟩] R272.toLoadRect) = id := readBack arg20.view R272
  rw [h9, h10, h11, h12, h13, h14, h15, h16, h17, h18, h19, h20]
  simp only [readAt_ld]

/-- Before trip `k`: the input blocks held, each buffer the trips carry at the state's component, the rest at anything. -/
def inv (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S8x512x512 .bf16) (harg5 : arg5.IsWhole) (arg6 : Memref sig .tc .vmem S4x128 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S512x640 .f32) (harg9 : arg9.IsWhole) (arg10 : Memref sig .tc .vmem S512x640 .f32) (harg10 : arg10.IsWhole) (arg11 : Memref sig .tc .vmem S512x640 .bf16) (harg11 : arg11.IsWhole) (arg12 : Memref sig .tc .vmem S512x640 .bf16) (harg12 : arg12.IsWhole) (arg13 : Memref sig .tc .vmem S272x512 .f32) (harg13 : arg13.IsWhole) (arg14 : Memref sig .tc .vmem S272x512 .f32) (harg14 : arg14.IsWhole) (arg15 : Memref sig .tc .vmem S512x640 .f32) (harg15 : arg15.IsWhole) (arg16 : Memref sig .tc .vmem S512x640 .f32) (harg16 : arg16.IsWhole) (arg17 : Memref sig .tc .vmem S512x640 .bf16) (harg17 : arg17.IsWhole) (arg18 : Memref sig .tc .vmem S512x640 .bf16) (harg18 : arg18.IsWhole) (arg19 : Memref sig .tc .vmem S272x512 .f32) (harg19 : arg19.IsWhole) (arg20 : Memref sig .tc .vmem S272x512 .f32) (harg20 : arg20.IsWhole) (v73 : FVec F S16x512 .bf16) (x3 : Vec F S512x512 .bf16) (x4 : Vec F S4096x512 .bf16) (x5 : Vec F S8x512x512 .bf16) (s0 : St F)
    (k : ℕ) (acc : FVec F S1x512 .f32 × FVec F S1x512 .f32 × FVec F S1x512 .f32 × FVec F S1x512 .f32 × FVec F S1x512 .f32 × FVec F S1x512 .f32) : sProp 𝕄 :=
  iprop((arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (∃ f, (arg9.view.loc (c : Thread nD τ) ↦[arg9.view.set]{fullShare} (arg9.view.writes (Elt F) f [⟨R640, (states i v73 x3 x4 x5 s0 k).s9⟩]))) ∗ (∃ f, (arg10.view.loc (c : Thread nD τ) ↦[arg10.view.set]{fullShare} (f))) ∗ (∃ f, (arg11.view.loc (c : Thread nD τ) ↦[arg11.view.set]{fullShare} (f))) ∗ (∃ f, (arg12.view.loc (c : Thread nD τ) ↦[arg12.view.set]{fullShare} (arg12.view.writes (Elt F) f [⟨R640, (states i v73 x3 x4 x5 s0 k).p12⟩]))) ∗ (∃ f, (arg13.view.loc (c : Thread nD τ) ↦[arg13.view.set]{fullShare} (arg13.view.writes (Elt F) f [⟨R272, (states i v73 x3 x4 x5 s0 k).a13⟩]))) ∗ (∃ f, (arg14.view.loc (c : Thread nD τ) ↦[arg14.view.set]{fullShare} (arg14.view.writes (Elt F) f [⟨R272, (states i v73 x3 x4 x5 s0 k).a14⟩]))) ∗ (∃ f, (arg15.view.loc (c : Thread nD τ) ↦[arg15.view.set]{fullShare} (arg15.view.writes (Elt F) f [⟨R640, (states i v73 x3 x4 x5 s0 k).s15⟩]))) ∗ (∃ f, (arg16.view.loc (c : Thread nD τ) ↦[arg16.view.set]{fullShare} (f))) ∗ (∃ f, (arg17.view.loc (c : Thread nD τ) ↦[arg17.view.set]{fullShare} (f))) ∗ (∃ f, (arg18.view.loc (c : Thread nD τ) ↦[arg18.view.set]{fullShare} (arg18.view.writes (Elt F) f [⟨R640, (states i v73 x3 x4 x5 s0 k).p18⟩]))) ∗ (∃ f, (arg19.view.loc (c : Thread nD τ) ↦[arg19.view.set]{fullShare} (arg19.view.writes (Elt F) f [⟨R272, (states i v73 x3 x4 x5 s0 k).a19⟩]))) ∗ (∃ f, (arg20.view.loc (c : Thread nD τ) ↦[arg20.view.set]{fullShare} (arg20.view.writes (Elt F) f [⟨R272, (states i v73 x3 x4 x5 s0 k).a20⟩]))) ∗ ⌜acc = (states i v73 x3 x4 x5 s0 k).acc⌝)

set_option maxHeartbeats 4000000 in
/-- One trip keeps the invariant. -/
theorem step (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S8x512x512 .bf16) (harg5 : arg5.IsWhole) (arg6 : Memref sig .tc .vmem S4x128 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S512x640 .f32) (harg9 : arg9.IsWhole) (arg10 : Memref sig .tc .vmem S512x640 .f32) (harg10 : arg10.IsWhole) (arg11 : Memref sig .tc .vmem S512x640 .bf16) (harg11 : arg11.IsWhole) (arg12 : Memref sig .tc .vmem S512x640 .bf16) (harg12 : arg12.IsWhole) (arg13 : Memref sig .tc .vmem S272x512 .f32) (harg13 : arg13.IsWhole) (arg14 : Memref sig .tc .vmem S272x512 .f32) (harg14 : arg14.IsWhole) (arg15 : Memref sig .tc .vmem S512x640 .f32) (harg15 : arg15.IsWhole) (arg16 : Memref sig .tc .vmem S512x640 .f32) (harg16 : arg16.IsWhole) (arg17 : Memref sig .tc .vmem S512x640 .bf16) (harg17 : arg17.IsWhole) (arg18 : Memref sig .tc .vmem S512x640 .bf16) (harg18 : arg18.IsWhole) (arg19 : Memref sig .tc .vmem S272x512 .f32) (harg19 : arg19.IsWhole) (arg20 : Memref sig .tc .vmem S272x512 .f32) (harg20 : arg20.IsWhole) (v73 : FVec F S16x512 .bf16) (x3 : Vec F S512x512 .bf16) (x4 : Vec F S4096x512 .bf16) (x5 : Vec F S8x512x512 .bf16) (s0 : St F)
    (arg2 : BitVec 32) (v72 : IVec S512x512 1) (v74 : FVec F S1x512 .f32) (cst_47 : F .f32)
    (k : Fin (k0_t1_loop i).trips) (acc : FVec F S1x512 .f32 × FVec F S1x512 .f32 × FVec F S1x512 .f32 × FVec F S1x512 .f32 × FVec F S1x512 .f32 × FVec F S1x512 .f32) :
    inv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v73 x3 x4 x5 s0 k.val acc ⊢ wp Idealize.ShloMosaic.frame (wpE (defs₀ (F := F)) Variants.none (c : Thread nD τ) none) Set.univ
      (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v72 v73 v74 cst_47 k acc) (inv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v73 x3 x4 x5 s0 (k.val + 1)) := by
  unfold inv
  rw [states_succ i v73 x3 x4 x5 s0 k, ← nextRaw_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v73 x3 x4 x5 k (states i v73 x3 x4 x5 s0 k.val)]
  generalize states i v73 x3 x4 x5 s0 k.val = s
  unfold k0_t1_body
  iintro ⟨H3, H4, H5, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, %hacc⟩
  subst hacc
  simp only [k0_part1_eq_skeleton, k0_part2_eq_skeleton, k0_part3_eq_skeleton, k0_part4_eq_skeleton]
  sl_exec
  sl_step
  isplitl [H3]; · iexact H3
  isplitl [H4]; · iexact H4
  isplitl [H5]; · iexact H5
  isplitl [H9]; · iexists (arg9.view.writes (Elt F) f9 [⟨R640, s.s9⟩]); iexact H9
  isplitl [H10]; · iexists _; iexact H10
  isplitl [H11]; · iexists _; iexact H11
  isplitl [H12]; · iexists (arg12.view.writes (Elt F) f12 [⟨R640, s.p12⟩]); iexact H12
  isplitl [H13]; · iexists (arg13.view.writes (Elt F) f13 [⟨R272, s.a13⟩]); iexact H13
  isplitl [H14]; · iexists (arg14.view.writes (Elt F) f14 [⟨R272, s.a14⟩]); iexact H14
  isplitl [H15]; · iexists (arg15.view.writes (Elt F) f15 [⟨R640, s.s15⟩]); iexact H15
  isplitl [H16]; · iexists _; iexact H16
  isplitl [H17]; · iexists _; iexact H17
  isplitl [H18]; · iexists (arg18.view.writes (Elt F) f18 [⟨R640, s.p18⟩]); iexact H18
  isplitl [H19]; · iexists (arg19.view.writes (Elt F) f19 [⟨R272, s.a19⟩]); iexact H19
  isplitl [H20]; · iexists (arg20.view.writes (Elt F) f20 [⟨R272, s.a20⟩]); iexact H20
  ipureintro; rfl

/-- The loop's invariant, kept by every trip. -/
@[instance_reducible] def loopInv (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S8x512x512 .bf16) (harg5 : arg5.IsWhole) (arg6 : Memref sig .tc .vmem S4x128 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S512x640 .f32) (harg9 : arg9.IsWhole) (arg10 : Memref sig .tc .vmem S512x640 .f32) (harg10 : arg10.IsWhole) (arg11 : Memref sig .tc .vmem S512x640 .bf16) (harg11 : arg11.IsWhole) (arg12 : Memref sig .tc .vmem S512x640 .bf16) (harg12 : arg12.IsWhole) (arg13 : Memref sig .tc .vmem S272x512 .f32) (harg13 : arg13.IsWhole) (arg14 : Memref sig .tc .vmem S272x512 .f32) (harg14 : arg14.IsWhole) (arg15 : Memref sig .tc .vmem S512x640 .f32) (harg15 : arg15.IsWhole) (arg16 : Memref sig .tc .vmem S512x640 .f32) (harg16 : arg16.IsWhole) (arg17 : Memref sig .tc .vmem S512x640 .bf16) (harg17 : arg17.IsWhole) (arg18 : Memref sig .tc .vmem S512x640 .bf16) (harg18 : arg18.IsWhole) (arg19 : Memref sig .tc .vmem S272x512 .f32) (harg19 : arg19.IsWhole) (arg20 : Memref sig .tc .vmem S272x512 .f32) (harg20 : arg20.IsWhole) (v73 : FVec F S16x512 .bf16) (x3 : Vec F S512x512 .bf16) (x4 : Vec F S4096x512 .bf16) (x5 : Vec F S8x512x512 .bf16) (s0 : St F)
    (arg2 : BitVec 32) (v72 : IVec S512x512 1) (v74 : FVec F S1x512 .f32) (cst_47 : F .f32) (init : FVec F S1x512 .f32 × FVec F S1x512 .f32 × FVec F S1x512 .f32 × FVec F S1x512 .f32 × FVec F S1x512 .f32 × FVec F S1x512 .f32) :
    LoopInvTy_k0_t1 Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v72 v73 v74 cst_47 init :=
  ⟨inv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v73 x3 x4 x5 s0, step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v73 x3 x4 x5 s0 arg2 v72 v74 cst_47⟩

/-- The carried row of factors before the loop: ones. -/
abbrev one0 : F .f32 := Scalar.ofBits .f32 0x3F800000#32

/-- The state before the loop with the loads through the memrefs. -/
def startRaw (arg3 : Memref sig .tc .vmem S512x512 .bf16) (harg3 : arg3.IsWhole) (arg4 : Memref sig .tc .vmem S4096x512 .bf16) (harg4 : arg4.IsWhole) (arg5 : Memref sig .tc .vmem S8x512x512 .bf16) (harg5 : arg5.IsWhole) (arg6 : Memref sig .tc .vmem S4x128 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S512x640 .f32) (harg9 : arg9.IsWhole) (arg10 : Memref sig .tc .vmem S512x640 .f32) (harg10 : arg10.IsWhole) (arg11 : Memref sig .tc .vmem S512x640 .bf16) (harg11 : arg11.IsWhole) (arg12 : Memref sig .tc .vmem S512x640 .bf16) (harg12 : arg12.IsWhole) (arg13 : Memref sig .tc .vmem S272x512 .f32) (harg13 : arg13.IsWhole) (arg14 : Memref sig .tc .vmem S272x512 .f32) (harg14 : arg14.IsWhole) (arg15 : Memref sig .tc .vmem S512x640 .f32) (harg15 : arg15.IsWhole) (arg16 : Memref sig .tc .vmem S512x640 .f32) (harg16 : arg16.IsWhole) (arg17 : Memref sig .tc .vmem S512x640 .bf16) (harg17 : arg17.IsWhole) (arg18 : Memref sig .tc .vmem S512x640 .bf16) (harg18 : arg18.IsWhole) (arg19 : Memref sig .tc .vmem S272x512 .f32) (harg19 : arg19.IsWhole) (arg20 : Memref sig .tc .vmem S272x512 .f32) (harg20 : arg20.IsWhole) (x3 : Vec F S512x512 .bf16) (x4 : Vec F S4096x512 .bf16) : St F :=
  { start x3 x4 with
    s9 := k0_pay63 (View.readAt (Elt F) arg4.view (Rect.unit (s := S4096x512) ![0, 0] S512x128.size inb_S4096x512_S512x128_0_0).toLoadRect (harg4.unread x4))
      (View.readAt (Elt F) arg3.view (Rect.unit (s := S512x512) ![0, 0] S512x128.size inb_S512x512_S512x128_0_0).toLoadRect (harg3.unread x3))
    s15 := k0_pay67 (View.readAt (Elt F) arg4.view (Rect.unit (s := S4096x512) ![0, 256] S512x128.size inb_S4096x512_S512x128_0_256).toLoadRect (harg4.unread x4))
      (View.readAt (Elt F) arg3.view (Rect.unit (s := S512x512) ![0, 256] S512x128.size inb_S512x512_S512x128_0_256).toLoadRect (harg3.unread x3)) }

end Cert.AttnIdeal.Gen
end
-- ==== Proof.Diff.IdealRun.lean ====
/- The differential attention kernel at one point of its grid runs: from its input blocks and any scratch, the body ends with its
   output block written. -/
module

public import proofs.«01_k».proof.Proof.Diff.IdealStep

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at one point: from the input blocks, and the output block and the scratch at anything, it ends with the inputs as
    they were and the pieces `L8` written to the output block. -/
noncomputable def kernelRun0 (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S8x512x512 .bf16) (harg5 : arg5.IsWhole) (arg6 : Memref sig .tc .vmem S4x128 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S512x640 .f32) (harg9 : arg9.IsWhole) (arg10 : Memref sig .tc .vmem S512x640 .f32) (harg10 : arg10.IsWhole) (arg11 : Memref sig .tc .vmem S512x640 .bf16) (harg11 : arg11.IsWhole) (arg12 : Memref sig .tc .vmem S512x640 .bf16) (harg12 : arg12.IsWhole) (arg13 : Memref sig .tc .vmem S272x512 .f32) (harg13 : arg13.IsWhole) (arg14 : Memref sig .tc .vmem S272x512 .f32) (harg14 : arg14.IsWhole) (arg15 : Memref sig .tc .vmem S512x640 .f32) (harg15 : arg15.IsWhole) (arg16 : Memref sig .tc .vmem S512x640 .f32) (harg16 : arg16.IsWhole) (arg17 : Memref sig .tc .vmem S512x640 .bf16) (harg17 : arg17.IsWhole) (arg18 : Memref sig .tc .vmem S512x640 .bf16) (harg18 : arg18.IsWhole) (arg19 : Memref sig .tc .vmem S272x512 .f32) (harg19 : arg19.IsWhole) (arg20 : Memref sig .tc .vmem S272x512 .f32) (harg20 : arg20.IsWhole)
    (x3 : Vec F S512x512 .bf16) (x4 : Vec F S4096x512 .bf16) (x5 : Vec F S8x512x512 .bf16) (x6 : Vec F S4x128 .f32) (x7 : Vec F S1x256 .f32) :
    { L8 : List (View.Piece (Elt F) S512x512 .bf16) //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, (arg8.view.loc (c : Thread nD τ) ↦[arg8.view.set]{fullShare} (arg8.view.writes (Elt F) f L8))) ∗ (∃ f, (arg9.view.loc (c : Thread nD τ) ↦[arg9.view.set]{fullShare} (f))) ∗ (∃ f, (arg10.view.loc (c : Thread nD τ) ↦[arg10.view.set]{fullShare} (f))) ∗ (∃ f, (arg11.view.loc (c : Thread nD τ) ↦[arg11.view.set]{fullShare} (f))) ∗ (∃ f, (arg12.view.loc (c : Thread nD τ) ↦[arg12.view.set]{fullShare} (f))) ∗ (∃ f, (arg13.view.loc (c : Thread nD τ) ↦[arg13.view.set]{fullShare} (f))) ∗ (∃ f, (arg14.view.loc (c : Thread nD τ) ↦[arg14.view.set]{fullShare} (f))) ∗ (∃ f, (arg15.view.loc (c : Thread nD τ) ↦[arg15.view.set]{fullShare} (f))) ∗ (∃ f, (arg16.view.loc (c : Thread nD τ) ↦[arg16.view.set]{fullShare} (f))) ∗ (∃ f, (arg17.view.loc (c : Thread nD τ) ↦[arg17.view.set]{fullShare} (f))) ∗ (∃ f, (arg18.view.loc (c : Thread nD τ) ↦[arg18.view.set]{fullShare} (f))) ∗ (∃ f, (arg19.view.loc (c : Thread nD τ) ↦[arg19.view.set]{fullShare} (f))) ∗ (∃ f, (arg20.view.loc (c : Thread nD τ) ↦[arg20.view.set]{fullShare} (f)))) -∗ K ⟨⟩))
          ⊢ wp Idealize.ShloMosaic.frame (wpE (defs₀ (F := F)) Variants.none c none) Set.univ (cc0_diff_attn_0 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun K => ?run⟩
  case run =>
    simp only [cc0_diff_attn_0_eq_skeleton]; unfold cc0_diff_attn_0_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf3; obtain rfl := harg4.eq_unread hf4; obtain rfl := harg5.eq_unread hf5; obtain rfl := harg6.eq_unread hf6; obtain rfl := harg7.eq_unread hf7
    let L := loopInv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay57 x3 x4 x5 (startRaw arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x3 x4) (BitVec.ofNat 32 (i 2).val) (k0_pay56 k0_pay53 k0_pay54 k0_pay55) k0_pay58 one0 (k0_pay58, k0_pay58, k0_pay68 one0, k0_pay58, k0_pay58, k0_pay68 one0)
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.AttnIdeal.Gen
end
-- ==== Proof.Diff.IdealFrame.lean ====
/- The differential attention program runs on every device: it ends, its input arrays as they were and its output array the blocks
   its grid points leave. -/
module

public import proofs.«01_k».proof.Proof.Diff.IdealRun

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging memref at a point, and it is whole. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
/-- Window 1's staging memref at a point, and it is whole. -/
abbrev ms0_1 (t : Fin cfg0.N) : Memref sig .tc .vmem S4096x512 .bf16 := win0_1.stage (cfg0.slots t 1)
abbrev hs0_1 (t : Fin cfg0.N) : (ms0_1 t).IsWhole := hstage0_1 ((cfg0.slots t 1).cast nbuf0_1)
/-- Window 2's staging memref at a point, and it is whole. -/
abbrev ms0_2 (t : Fin cfg0.N) : Memref sig .tc .vmem S8x512x512 .bf16 := win0_2.stage (cfg0.slots t 2)
abbrev hs0_2 (t : Fin cfg0.N) : (ms0_2 t).IsWhole := hstage0_2 ((cfg0.slots t 2).cast nbuf0_2)
/-- Window 3's staging memref at a point, and it is whole. -/
abbrev ms0_3 (t : Fin cfg0.N) : Memref sig .tc .vmem S4x128 .f32 := win0_3.stage (cfg0.slots t 3)
abbrev hs0_3 (t : Fin cfg0.N) : (ms0_3 t).IsWhole := hstage0_3 ((cfg0.slots t 3).cast nbuf0_3)
/-- Window 4's staging memref at a point, and it is whole. -/
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
/-- Window 5's staging memref at a point, and it is whole. -/
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
/-- Scratch buffer 0 as a memref. -/
abbrev scM0_0 : Memref sig .tc .vmem S512x640 .f32 := Memref.whole cc0_scratch0
abbrev hscM0_0 : scM0_0.IsWhole := Memref.isWhole_whole cc0_scratch0
/-- Scratch buffer 1 as a memref. -/
abbrev scM0_1 : Memref sig .tc .vmem S512x640 .f32 := Memref.whole cc0_scratch1
abbrev hscM0_1 : scM0_1.IsWhole := Memref.isWhole_whole cc0_scratch1
/-- Scratch buffer 2 as a memref. -/
abbrev scM0_2 : Memref sig .tc .vmem S512x640 .bf16 := Memref.whole cc0_scratch2
abbrev hscM0_2 : scM0_2.IsWhole := Memref.isWhole_whole cc0_scratch2
/-- Scratch buffer 3 as a memref. -/
abbrev scM0_3 : Memref sig .tc .vmem S512x640 .bf16 := Memref.whole cc0_scratch3
abbrev hscM0_3 : scM0_3.IsWhole := Memref.isWhole_whole cc0_scratch3
/-- Scratch buffer 4 as a memref. -/
abbrev scM0_4 : Memref sig .tc .vmem S272x512 .f32 := Memref.whole cc0_scratch4
abbrev hscM0_4 : scM0_4.IsWhole := Memref.isWhole_whole cc0_scratch4
/-- Scratch buffer 5 as a memref. -/
abbrev scM0_5 : Memref sig .tc .vmem S272x512 .f32 := Memref.whole cc0_scratch5
abbrev hscM0_5 : scM0_5.IsWhole := Memref.isWhole_whole cc0_scratch5
/-- Scratch buffer 6 as a memref. -/
abbrev scM0_6 : Memref sig .tc .vmem S512x640 .f32 := Memref.whole cc0_scratch6
abbrev hscM0_6 : scM0_6.IsWhole := Memref.isWhole_whole cc0_scratch6
/-- Scratch buffer 7 as a memref. -/
abbrev scM0_7 : Memref sig .tc .vmem S512x640 .f32 := Memref.whole cc0_scratch7
abbrev hscM0_7 : scM0_7.IsWhole := Memref.isWhole_whole cc0_scratch7
/-- Scratch buffer 8 as a memref. -/
abbrev scM0_8 : Memref sig .tc .vmem S512x640 .bf16 := Memref.whole cc0_scratch8
abbrev hscM0_8 : scM0_8.IsWhole := Memref.isWhole_whole cc0_scratch8
/-- Scratch buffer 9 as a memref. -/
abbrev scM0_9 : Memref sig .tc .vmem S512x640 .bf16 := Memref.whole cc0_scratch9
abbrev hscM0_9 : scM0_9.IsWhole := Memref.isWhole_whole cc0_scratch9
/-- Scratch buffer 10 as a memref. -/
abbrev scM0_10 : Memref sig .tc .vmem S272x512 .f32 := Memref.whole cc0_scratch10
abbrev hscM0_10 : scM0_10.IsWhole := Memref.isWhole_whole cc0_scratch10
/-- Scratch buffer 11 as a memref. -/
abbrev scM0_11 : Memref sig .tc .vmem S272x512 .f32 := Memref.whole cc0_scratch11
abbrev hscM0_11 : scM0_11.IsWhole := Memref.isWhole_whole cc0_scratch11

/-- What the region keeps between points, with the scratch buffers as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

/-- The pieces the body writes to its output block at point `t`. -/
def pieces0 (c : Dev nD) (t : Fin cfg0.N) : List (View.Piece (Elt F) S512x512 .bf16) :=
  (kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hscM0_0 scM0_1 hscM0_1 scM0_2 hscM0_2 scM0_3 hscM0_3 scM0_4 hscM0_4 scM0_5 hscM0_5 scM0_6 hscM0_6 scM0_7 hscM0_7 scM0_8 hscM0_8 scM0_9 hscM0_9 scM0_10 hscM0_10 scM0_11 hscM0_11 (iblk m c 0 t) (iblk m c 1 t) (iblk m c 2 t) (iblk m c 3 t) (iblk m c 4 t)).1

/-- They cover it. -/
theorem cover0 (c : Dev nD) (t : Fin cfg0.N) (y : S512x512.Idx) : ∃ pc ∈ pieces0 m c t, y ∈ pc.1.set :=
  View.cover_of_tiledL (pieces0 m c t) S512x256.size (by unfold pieces0; sl_kernel_rfl) y

/-- The output block after point `t`. -/
def outAt0 (c : Dev nD) (t : Fin cfg0.N) : Vec F S512x512 .bf16 := View.canon (pieces0 m c t)

/-- The proof data: each input window's block stays, the output window's is what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt0 m c t
  Φ _ := Pipeline.ΦA spec0 c
  q w := Pipeline.shareOf spec0 w
  owed _ := 0

/-- The proof data's arrays are the ones the region finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = outAt0 m c t := by dsimp only [dats]
/-- What the body finds in window 0. -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d
/-- What the body finds in window 3. -/
theorem before0_3 (c : Dev nD) (t : Fin cfg0.N) (d) : (dats m 0 c).before 3 t d = iblk m c 3 t :=
  before0_3_of m (dats m 0 c) (A_eq m c 3) (after0_3 m c) t d
/-- What the body finds in window 4. -/
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body's triple at point `t`. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.castSucc = Pipeline.ΦA spec0 c from rfl, show (dats m 0 c).Φ t.succ = Pipeline.ΦA spec0 c from rfl, PhiA0_eq]
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩⟩
  iapply ((kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hscM0_0 scM0_1 hscM0_1 scM0_2 hscM0_2 scM0_3 hscM0_3 scM0_4 hscM0_4 scM0_5 hscM0_5 scM0_6 hscM0_6 scM0_7 hscM0_7 scM0_8 hscM0_8 scM0_9 hscM0_9 scM0_10 hscM0_10 scM0_11 hscM0_11 (iblk m c 0 t) (iblk m c 1 t) (iblk m c 2 t) (iblk m c 3 t) (iblk m c 4 t)).2 _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, ⟨%e5, H5⟩, ⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩, ⟨%g9, HS9⟩, ⟨%g10, HS10⟩, ⟨%g11, HS11⟩⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      iexists _; unfold owns; iexists _; isplitr
      swap; · iexact HS11
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (cover0 m c t)

/-- The body's row of the table is the body at the point's staging memrefs. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program ends with every array of its pipeline at what the proof data say and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The argument arrays end unchanged and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.AttnIdeal.Gen
end
-- ==== Proof.Diff.Offs.lean ====
/- The differential attention kernel's loop and loads at a point of its grid: how often the loop runs, and from where in its blocks
   of keys and values a trip and the diagonal block load. -/
module

public import proofs.«01_k».proof.Proof.Diff.IdealState

@[expose] public section

set_option maxRecDepth 16384

namespace Cert.AttnEq

open Idealize.ShloMosaic Idealize.ShloMosaic.TcCoe
open Cert.AttnIdeal Cert.AttnIdeal.Gen

theorem trips_eq : ∀ t : Fin grid0.N, (k0_t1_loop (grid0.coords t)).trips = ((grid0.coords t) 2).val := by decide +kernel

theorem o1 : ∀ (t : Fin grid0.N) (k : Fin (k0_t1_loop (grid0.coords t)).trips), k0_off1 (grid0.coords t) k = ![k.val * 512, 128] := by decide +kernel
theorem o2 : ∀ (t : Fin grid0.N) (k : Fin (k0_t1_loop (grid0.coords t)).trips), k0_off2 (grid0.coords t) k = ![k.val * 512, 384] := by decide +kernel
theorem o3 : ∀ (t : Fin grid0.N) (k : Fin (k0_t1_loop (grid0.coords t)).trips), k0_off3 (grid0.coords t) k = ![k.val - 1, 0, 0] := by decide +kernel
theorem o4 : ∀ (t : Fin grid0.N) (k : Fin (k0_t1_loop (grid0.coords t)).trips), k0_off4 (grid0.coords t) k = ![k.val - 1, 256, 0] := by decide +kernel
theorem o5 : ∀ (t : Fin grid0.N) (k : Fin (k0_t1_loop (grid0.coords t)).trips), k0_off5 (grid0.coords t) k = ![(k.val + 1) * 512, 0] := by decide +kernel
theorem o6 : ∀ (t : Fin grid0.N) (k : Fin (k0_t1_loop (grid0.coords t)).trips), k0_off6 (grid0.coords t) k = ![(k.val + 1) * 512, 256] := by decide +kernel
theorem o7 : ∀ (t : Fin grid0.N) (k : Fin (k0_t1_loop (grid0.coords t)).trips), k0_off7 (grid0.coords t) k = ![k.val, 0, 0] := by decide +kernel
theorem o8 : ∀ (t : Fin grid0.N) (k : Fin (k0_t1_loop (grid0.coords t)).trips), k0_off8 (grid0.coords t) k = ![k.val, 256, 0] := by decide +kernel
theorem o17 : ∀ t : Fin grid0.N, k0_off17 (grid0.coords t) = ![((grid0.coords t) 2).val * 512, 128] := by decide +kernel
theorem o18 : ∀ t : Fin grid0.N, k0_off18 (grid0.coords t) = ![((grid0.coords t) 2).val * 512, 384] := by decide +kernel
theorem o19 : ∀ t : Fin grid0.N, k0_off19 (grid0.coords t) = ![((grid0.coords t) 2).val - 1, 0, 0] := by decide +kernel
theorem o20 : ∀ t : Fin grid0.N, k0_off20 (grid0.coords t) = ![((grid0.coords t) 2).val - 1, 256, 0] := by decide +kernel
theorem o21 : ∀ t : Fin grid0.N, k0_off21 (grid0.coords t) = ![((grid0.coords t) 2).val, 0, 0] := by decide +kernel
theorem o22 : ∀ t : Fin grid0.N, k0_off22 (grid0.coords t) = ![((grid0.coords t) 2).val, 256, 0] := by decide +kernel

end Cert.AttnEq
-- ==== Proof.Diff.Online.lean ====
/- The running softmax over the extended reals: a sum of weighted values that is rescaled as the running maximum grows is the
   sum weighted against the last maximum. -/
module

public import Idealize.ShloMosaic.Lib.Pointwise

@[expose] public section

noncomputable section

namespace Cert.AttnEq

open Idealize.ShloMosaic

/-- Two to a number that is not plus infinity is a nonnegative real. -/
theorem exp2_toReal {x : EReal} (h : x ≠ ⊤) : ((Ideal.exp2 x).toReal : EReal) = Ideal.exp2 x := by
  induction x with
  | bot => simp
  | coe r => rw [Ideal.exp2_coe, EReal.toReal_coe]
  | top => exact absurd rfl h

/-- Two to a number is not negative. -/
theorem exp2_toReal_nonneg (x : EReal) : 0 ≤ (Ideal.exp2 x).toReal := by
  induction x with
  | bot => simp
  | coe r => rw [Ideal.exp2_coe, EReal.toReal_coe]; exact Real.rpow_nonneg (by norm_num) _
  | top => simp

/-- The difference to an upper bound is not plus infinity. -/
theorem sub_ne_top {s m : EReal} (hs : s ≤ m) (ht : m ≠ ⊤) : s - m ≠ ⊤ := by
  induction m with
  | bot => rw [le_bot_iff.mp hs, EReal.bot_sub]; exact bot_ne_top
  | coe r =>
    induction s with
    | bot => rw [EReal.bot_sub]; exact bot_ne_top
    | coe q => rw [← EReal.coe_sub]; exact EReal.coe_ne_top _
    | top => exact absurd (top_le_iff.mp hs) ht
  | top => exact absurd rfl ht

/-- Rescaling a weight against a larger maximum. -/
theorem exp2_mul {s m m' : EReal} (hs : s ≤ m) (hm : m ≤ m') (ht : m' ≠ ⊤) :
    Ideal.exp2 (m - m') * Ideal.exp2 (s - m) = Ideal.exp2 (s - m') := by
  induction m with
  | bot => rw [le_bot_iff.mp hs, EReal.bot_sub]; simp
  | top => exact absurd (top_le_iff.mp hm) ht
  | coe m =>
    induction m' with
    | bot => exact absurd (le_bot_iff.mp hm) (EReal.coe_ne_bot _)
    | top => exact absurd rfl ht
    | coe m' =>
      induction s with
      | bot => rw [EReal.bot_sub, EReal.bot_sub]; simp
      | top => exact absurd (top_le_iff.mp hs) (EReal.coe_ne_top _)
      | coe s =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (s - m) = (2 : ℝ) ^ (s - m')
        rw [← Real.rpow_add (by norm_num)]; congr 1; ring

/-- The maximum of the scores of the first `n` blocks. -/
def rowMax (σ : ℕ → Fin 512 → EReal) : ℕ → EReal
  | 0 => ⊥
  | n + 1 => max (rowMax σ n) (Finset.univ.sup (σ n))

/-- The sum of weighted values of the first `n` blocks, rescaled block by block. -/
def full (σ v : ℕ → Fin 512 → EReal) : ℕ → EReal
  | 0 => 0
  | n + 1 => Ideal.exp2 (rowMax σ n - rowMax σ (n + 1)) * full σ v n
      + ∑ k : Fin 512, v n k * Ideal.exp2 (σ n k - rowMax σ (n + 1))

theorem rowMax_le_succ (σ : ℕ → Fin 512 → EReal) (n : ℕ) : rowMax σ n ≤ rowMax σ (n + 1) := le_max_left _ _

/-- A score is at most the maximum of the blocks up to its own. -/
theorem le_rowMax (σ : ℕ → Fin 512 → EReal) {j : ℕ} (k : Fin 512) : ∀ {n : ℕ}, j < n → σ j k ≤ rowMax σ n
  | n + 1, h => by
    rcases Nat.lt_succ_iff_lt_or_eq.mp h with h | rfl
    · exact (le_rowMax σ k h).trans (rowMax_le_succ σ n)
    · exact (Finset.le_sup (f := σ j) (Finset.mem_univ k)).trans (le_max_right _ _)

theorem rowMax_ne_top {σ : ℕ → Fin 512 → EReal} (hσ : ∀ j k, σ j k ≠ ⊤) : ∀ n, rowMax σ n ≠ ⊤
  | 0 => bot_ne_top
  | n + 1 => by
    have h : Finset.univ.sup (σ n) < ⊤ := (Finset.sup_lt_iff bot_lt_top).mpr fun k _ => lt_top_iff_ne_top.mpr (hσ n k)
    exact (max_lt (lt_top_iff_ne_top.mpr (rowMax_ne_top hσ n)) h).ne

/-- The rescaled sum is the sum weighted against the last maximum. -/
theorem full_eq {σ v : ℕ → Fin 512 → EReal} (hσ : ∀ j k, σ j k ≠ ⊤) (hv : ∀ j k, ((v j k).toReal : EReal) = v j k) : ∀ n,
    full σ v n = ((∑ j ∈ Finset.range n, ∑ k : Fin 512, (v j k).toReal * (Ideal.exp2 (σ j k - rowMax σ n)).toReal : ℝ) : EReal)
  | 0 => by simp [full]
  | n + 1 => by
    have ht := rowMax_ne_top hσ
    rw [full, full_eq hσ hv n, Finset.sum_range_succ, EReal.coe_add]
    congr 1
    · rw [← exp2_toReal (sub_ne_top (rowMax_le_succ σ n) (ht _)), ← EReal.coe_mul, Finset.mul_sum]
      congr 1
      refine Finset.sum_congr rfl fun j hj => ?_
      rw [Finset.mul_sum]
      refine Finset.sum_congr rfl fun k _ => ?_
      rw [← exp2_mul (le_rowMax σ k (Finset.mem_range.mp hj)) (rowMax_le_succ σ n) (ht _), EReal.toReal_mul]
      ring
    · have : ∀ k : Fin 512, v n k * Ideal.exp2 (σ n k - rowMax σ (n + 1))
          = (((v n k).toReal * (Ideal.exp2 (σ n k - rowMax σ (n + 1))).toReal : ℝ) : EReal) := fun k => by
        rw [EReal.coe_mul, hv, exp2_toReal (sub_ne_top (le_rowMax σ k (Nat.lt_succ_self n)) (ht _))]
      simp only [this]
      exact (map_sum (⟨⟨((↑) : ℝ → EReal), EReal.coe_zero⟩, EReal.coe_add⟩ : ℝ →+ EReal) _ _).symm

/-- A row of 4096 numbers as eight blocks of 512. -/
def blk (τ : Fin 4096 → EReal) (j : ℕ) (k : Fin 512) : EReal := if h : j * 512 + k.val < 4096 then τ ⟨j * 512 + k.val, h⟩ else ⊥

/-- The maximum of the first blocks is the row's, where the rest is minus infinity. -/
theorem rowMax_eq_sup (τ : Fin 4096 → EReal) (n : ℕ) (hz : ∀ K : Fin 4096, n * 512 ≤ K.val → τ K = ⊥) :
    rowMax (blk τ) n = Finset.univ.sup τ := by
  apply le_antisymm
  · have : ∀ n, rowMax (blk τ) n ≤ Finset.univ.sup τ := fun n => by
      induction n with
      | zero => exact bot_le
      | succ n ih =>
        refine max_le ih (Finset.sup_le fun k _ => ?_)
        unfold blk; split
        · exact Finset.le_sup (Finset.mem_univ _)
        · exact bot_le
    exact this n
  · refine Finset.sup_le fun K _ => ?_
    by_cases h : n * 512 ≤ K.val
    · rw [hz K h]; exact bot_le
    · have e : τ K = blk τ (K.val / 512) ⟨K.val % 512, Nat.mod_lt _ (by norm_num)⟩ := by
        have : K.val / 512 * 512 + K.val % 512 = K.val := by omega
        unfold blk; rw [dif_pos (by simp only [this]; exact K.isLt)]; congr 1; exact Fin.ext this.symm
      rw [e]; exact le_rowMax _ _ (by omega)

/-- The rescaled sum over the first blocks is the row's sum, weighted against the row's maximum. -/
theorem full_blk {τ : Fin 4096 → EReal} {v : Fin 4096 → ℝ} {w : ℕ → Fin 512 → EReal} {n : ℕ} (hn : n ≤ 8) (hτ : ∀ K, τ K ≠ ⊤)
    (hz : ∀ K : Fin 4096, n * 512 ≤ K.val → τ K = ⊥)
    (hw : ∀ j (k : Fin 512) (h : j * 512 + k.val < 4096), w j k = (v ⟨j * 512 + k.val, h⟩ : EReal))
    (hw' : ∀ j (k : Fin 512), ((w j k).toReal : EReal) = w j k) :
    full (blk τ) w n = ((∑ K : Fin 4096, v K * (Ideal.exp2 (τ K - Finset.univ.sup τ)).toReal : ℝ) : EReal) := by
  have hb : ∀ j k, blk τ j k ≠ ⊤ := fun j k => by unfold blk; split; exacts [hτ _, bot_ne_top]
  rw [full_eq hb hw' n, rowMax_eq_sup τ n hz]
  congr 1
  let f : ℕ → Fin 512 → ℝ := fun j k => (w j k).toReal * (Ideal.exp2 (blk τ j k - Finset.univ.sup τ)).toReal
  have h1 : ∑ j ∈ Finset.range n, ∑ k, f j k = ∑ j ∈ Finset.range 8, ∑ k, f j k := by
    refine Finset.sum_subset (Finset.range_subset_range.mpr hn) fun j hj hj' => Finset.sum_eq_zero fun k _ => ?_
    have h8 := Finset.mem_range.mp hj
    have hn' : n ≤ j := by simpa using hj'
    have : blk τ j k = ⊥ := by
      have h : j * 512 + k.val < 4096 := by omega
      unfold blk; rw [dif_pos h]; exact hz _ (by show n * 512 ≤ j * 512 + k.val; nlinarith)
    simp only [f, this, EReal.bot_sub]; simp
  show ∑ j ∈ Finset.range n, ∑ k, f j k = _
  rw [h1, Finset.sum_range, ← Fintype.sum_prod_type (f := fun p : Fin 8 × Fin 512 => f p.1.val p.2)]
  refine Fintype.sum_equiv (finProdFinEquiv (m := 8) (n := 512)) _ _ fun p => ?_
  have hp : p.1.val * 512 + p.2.val < 4096 := by omega
  have e : (finProdFinEquiv p : Fin (8 * 512)) = (⟨p.1.val * 512 + p.2.val, hp⟩ : Fin 4096) := Fin.ext (by
    show p.2.val + 512 * p.1.val = _; ring)
  show f p.1.val p.2 = v (finProdFinEquiv p : Fin (8*512)) * (Ideal.exp2 (τ (finProdFinEquiv p : Fin (8*512)) - _)).toReal
  rw [e]
  simp only [f, hw _ _ hp, EReal.toReal_coe]; unfold blk; rw [dif_pos hp]

/-- The weights of a row sum to a positive number, where some score is a number. -/
theorem sum_pos {τ : Fin 4096 → EReal} (hτ : ∀ K, τ K ≠ ⊤) {K₀ : Fin 4096} (h : τ K₀ ≠ ⊥) :
    0 < ∑ K : Fin 4096, (Ideal.exp2 (τ K - Finset.univ.sup τ)).toReal := by
  obtain ⟨K, -, hK⟩ := Finset.exists_mem_eq_sup Finset.univ ⟨K₀, Finset.mem_univ _⟩ τ
  refine Finset.sum_pos' (fun K _ => exp2_toReal_nonneg _) ⟨K, Finset.mem_univ _, ?_⟩
  have hb : τ K ≠ ⊥ := fun hb => h (le_bot_iff.mp (hb ▸ hK ▸ Finset.le_sup (Finset.mem_univ K₀)))
  rw [hK]
  obtain ⟨r, hr⟩ : ∃ r : ℝ, τ K = r := ⟨(τ K).toReal, (EReal.coe_toReal (hτ K) hb).symm⟩
  rw [hr, ← EReal.coe_sub, Ideal.exp2_coe, EReal.toReal_coe]
  exact Real.rpow_pos_of_pos (by norm_num) _

/-- A real quotient. -/
theorem div_real (x : ℝ) {y : ℝ} (h : y ≠ 0) : Ideal.div (x : EReal) (y : EReal) = ((x / y : ℝ) : EReal) := by
  rw [Ideal.div_coe h, ← EReal.coe_mul]; congr 1; field_simp

/-- A sum of reals in the extended reals. -/
theorem coe_sum {n : ℕ} (f : Fin n → ℝ) : ((∑ k, f k : ℝ) : EReal) = ∑ k, (f k : EReal) :=
  map_sum (⟨⟨((↑) : ℝ → EReal), EReal.coe_zero⟩, EReal.coe_add⟩ : ℝ →+ EReal) _ _

/-- The difference of two weighted sums over their weights' sums is the sum weighted by the difference of the two shares. -/
theorem diff_eq {e₀ e₁ v : Fin 4096 → ℝ} {l : ℝ} (h₀ : 0 < ∑ K, e₀ K) (h₁ : 0 < ∑ K, e₁ K) :
    Ideal.div ((∑ K, v K * e₀ K : ℝ) : EReal) ((∑ K, 1 * e₀ K : ℝ) : EReal)
        - (l : EReal) * Ideal.div ((∑ K, v K * e₁ K : ℝ) : EReal) ((∑ K, 1 * e₁ K : ℝ) : EReal)
      = ∑ K : Fin 4096, (v K : EReal) * (Ideal.div (e₀ K : EReal) (∑ K, (e₀ K : EReal)) - (l : EReal) * Ideal.div (e₁ K : EReal) (∑ K, (e₁ K : EReal))) := by
  simp only [one_mul, ← coe_sum]
  simp only [div_real _ h₀.ne', div_real _ h₁.ne', ← EReal.coe_mul, ← EReal.coe_sub, ← coe_sum]
  congr 1
  simp only [mul_sub, Finset.sum_sub_distrib, Finset.sum_div, Finset.mul_sum]
  congr 1 <;> refine Finset.sum_congr rfl fun K _ => ?_ <;> ring

end Cert.AttnEq
end
-- ==== Proof.Diff.Ref.lean ====
/- The reference of the differential attention over the extended reals, stage by stage, index by index. -/
module

public import proofs.«01_k».proof.Defs
public import proofs.«01_k».proof.Proof.Gen.AttnRefIdeal.Run
public import Idealize.ShloMosaic.Lib.Pointwise

@[expose] public section

set_option maxRecDepth 16384

noncomputable section

namespace Cert.AttnEq

open Idealize.ShloMosaic Idealize.ShloMosaic.TcCoe Idealize.SL.Sem

section reference
open Cert.AttnRefIdeal Cert.AttnRefIdeal.Gen

/-- Which keys a query sees: those of its own group of 64 and of the groups before. -/
def refMask : IVec S4096x4096 1 :=
  (cmpi .sle (broadcastInDim S4096x4096 ![0, 1] bcast_S1x4096_S4096x4096_0_1 (broadcastInDim S1x4096 ![1] bcast_S4096_S1x4096_1 (Host.divsi (iotaInDim S4096 32 0) (broadcastInDim S4096 ![] bcast_S_S4096 (constantI S_ 32 64#32))))) (broadcastInDim S4096x4096 ![0, 1] bcast_S4096x1_S4096x4096_0_1 (broadcastInDim S4096x1 ![0] bcast_S4096_S4096x1_0 (Host.divsi (iotaInDim S4096 32 0) (broadcastInDim S4096 ![] bcast_S_S4096 (constantI S_ 32 64#32))))))

/-- The masked scores. -/
def refScore (qk : FVec Ideal S16384x4096 .bf16) : FVec Ideal S4x8x2x4096x4096 .f32 :=
  (select (broadcastInDim S4x8x2x4096x4096 ![3, 4] bcast_S4096x4096_S4x8x2x4096x4096_3_4 refMask) (Host.dotGeneral dot_S4x4096x8x2x128_S4x4096x8x2x128_S4x8x2x4096x4096_4_4_1_1_023_023 none (shapeCast _ (extractStridedSlice S16384x2048 ![0, 0] qk slices_S16384x4096_S16384x2048_0_0) shapeCasts_S16384x2048_S4x4096x8x2x128) (shapeCast _ (extractStridedSlice S16384x2048 ![0, 2048] qk slices_S16384x4096_S16384x2048_0_2048) shapeCasts_S16384x2048_S4x4096x8x2x128)) (broadcastInDim S4x8x2x4096x4096 ![] bcast_S_S4x8x2x4096x4096 (id (constant S_ .f32 0xFF800000#32))))

/-- The weights before normalization: powers of two of the scores less their row's maximum. -/
def refExp (s : FVec Ideal S4x8x2x4096x4096 .f32) : FVec Ideal S4x8x2x4096x4096 .f32 :=
  (Host.powf (broadcastInDim S4x8x2x4096x4096 ![] bcast_S_S4x8x2x4096x4096 (constant S_ .f32 0x40000000#32)) (subf s (broadcastInDim S4x8x2x4096x4096 ![0, 1, 2, 3, 4] bcast_S4x8x2x4096x1_S4x8x2x4096x4096_0_1_2_3_4 (broadcastInDim S4x8x2x4096x1 ![0, 1, 2, 3] bcast_S4x8x2x4096_S4x8x2x4096x1_0_1_2_3 (Host.reduce FloatOps.maximumf s (constant S_ .f32 0xFF800000#32) reducesTo_S4x8x2x4096x4096_S4x8x2x4096_d4 h_S_)))))

/-- The weights over their row's sum. -/
def refProb (e : FVec Ideal S4x8x2x4096x4096 .f32) : FVec Ideal S4x8x2x4096x4096 .f32 :=
  (Host.divf e (broadcastInDim S4x8x2x4096x4096 ![0, 1, 2, 3, 4] bcast_S4x8x2x4096x1_S4x8x2x4096x4096_0_1_2_3_4 (broadcastInDim S4x8x2x4096x1 ![0, 1, 2, 3] bcast_S4x8x2x4096_S4x8x2x4096x1_0_1_2_3 (Host.reduceAdd e (constant S_ .f32 0x00000000#32) reducesTo_S4x8x2x4096x4096_S4x8x2x4096_d4 h_S_))))

/-- The factor of the second map. -/
def refLam (lam : FVec Ideal S4x128 .f32) : FVec Ideal S_ .f32 :=
  (addf (subf (Host.exp (Host.reduceAdd (mulf (shapeCast _ (extractStridedSlice S1x128 ![0, 0] lam slices_S4x128_S1x128_0_0) shapeCasts_S1x128_S128) (shapeCast _ (extractStridedSlice S1x128 ![1, 0] lam slices_S4x128_S1x128_1_0) shapeCasts_S1x128_S128)) (constant S_ .f32 0x00000000#32) reducesTo_S128_S_d0 h_S_)) (Host.exp (Host.reduceAdd (mulf (shapeCast _ (extractStridedSlice S1x128 ![2, 0] lam slices_S4x128_S1x128_2_0) shapeCasts_S1x128_S128) (shapeCast _ (extractStridedSlice S1x128 ![3, 0] lam slices_S4x128_S1x128_3_0) shapeCasts_S1x128_S128)) (constant S_ .f32 0x00000000#32) reducesTo_S128_S_d0 h_S_))) (constant S_ .f32 0x3E4CCCCD#32))

/-- The difference of the two maps. -/
def refWeight (p : FVec Ideal S4x8x2x4096x4096 .f32) (l : FVec Ideal S_ .f32) : FVec Ideal S4x8x4096x4096 .bf16 :=
  (truncf .bf16 (subf (shapeCast _ (extractStridedSlice S4x8x1x4096x4096 ![0, 0, 0, 0, 0] p slices_S4x8x2x4096x4096_S4x8x1x4096x4096_0_0_0_0_0) shapeCasts_S4x8x1x4096x4096_S4x8x4096x4096) (mulf (broadcastInDim S4x8x4096x4096 ![] bcast_S_S4x8x4096x4096 l) (shapeCast _ (extractStridedSlice S4x8x1x4096x4096 ![0, 0, 1, 0, 0] p slices_S4x8x2x4096x4096_S4x8x1x4096x4096_0_0_1_0_0) shapeCasts_S4x8x1x4096x4096_S4x8x4096x4096))) bitsLt_bf16_f32)

/-- The weighted values. -/
def refOut (vt : FVec Ideal S32x2048x512 .bf16) (w : FVec Ideal S4x8x4096x4096 .bf16) : FVec Ideal S4x4096x8x256 .f32 :=
  (transpose S4x4096x8x256 [0, 3, 1, 2] (Host.dotGeneral dot_S4x4096x8x256_S4x8x4096x4096_S4x8x256x4096_1_3_3_2_02_01 none (shapeCast _ (transpose S4x8x512x8x256 [0, 1, 4, 2, 3] (shapeCast _ vt shapeCasts_S32x2048x512_S4x8x8x256x512) transposes_S4x8x8x256x512_S4x8x512x8x256_0_1_4_2_3) shapeCasts_S4x8x512x8x256_S4x4096x8x256) w) transposes_S4x8x256x4096_S4x4096x8x256_0_3_1_2)

/-- The normalized result. -/
def refNorm (o : FVec Ideal S4x4096x8x256 .f32) (sub : FVec Ideal S1x256 .f32) : FVec Ideal S16384x2048 .bf16 :=
  truncf .bf16 (shapeCast _ (mulf (mulf (mulf o (broadcastInDim S4x4096x8x256 ![0, 1, 2, 3] bcast_S4x4096x8x1_S4x4096x8x256_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x256_S4x4096x8_d3 h_S_)) (broadcastInDim S4x4096x8x1 ![] bcast_S_S4x4096x8x1 (constant S_ .f32 0x43800000#32))) (broadcastInDim S4x4096x8x1 ![] bcast_S_S4x4096x8x1 (constant S_ .f32 0x358637BD#32)))))) (broadcastInDim S4x4096x8x256 ![0, 1, 2, 3] bcast_S1x1x1x256_S4x4096x8x256_0_1_2_3 (broadcastInDim S1x1x1x256 ![3] bcast_S256_S1x1x1x256_3 (shapeCast _ sub shapeCasts_S1x256_S256)))) (broadcastInDim S4x4096x8x256 ![] bcast_S_S4x4096x8x256 (constant S_ .f32 0x3F4CCCCD#32))) shapeCasts_S4x4096x8x256_S16384x2048) bitsLt_bf16_f32

/-- The reference's term. -/
def refTerm (qk : FVec Ideal S16384x4096 .bf16) (vt : FVec Ideal S32x2048x512 .bf16) (lam : FVec Ideal S4x128 .f32) (sub : FVec Ideal S1x256 .f32) :
    FVec Ideal S16384x2048 .bf16 :=
  refNorm (refOut vt (refWeight (refProb (refExp (refScore qk))) (refLam lam))) sub

/-- What the reference's run leaves is that term. -/
theorem res_eq (m : (ℓ : Loc nD τ sig) → Buf (Elt Ideal) ℓ) (c : Dev nD) :
    Cert.AttnRefIdeal.Value.res_main_v70 m c = refTerm (m ((c.tc : Thread nD τ).loc main_arg0)) (m ((c.tc : Thread nD τ).loc main_arg1))
      (m ((c.tc : Thread nD τ).loc main_arg2)) (m ((c.tc : Thread nD τ).loc main_arg3)) := rfl

theorem refScore_apply (qk : FVec Ideal S16384x4096 .bf16) (b : Fin 4) (h : Fin 8) (f : Fin 2) (Q K : Fin 4096) :
    refScore qk (ix5 b h f Q K)
      = Scalar.select (refMask (ix2 Q K)) (∑ d : Fin 128,
          qk (ix2 ⟨b.val * 4096 + Q.val, by omega⟩ ⟨h.val * 256 + f.val * 128 + d.val, by omega⟩)
            * qk (ix2 ⟨b.val * 4096 + K.val, by omega⟩ ⟨2048 + (h.val * 256 + f.val * 128 + d.val), by omega⟩))
          (Ideal.ofBits .f32 0xFF800000#32) := by
  pointwise [refScore]
  rfl

theorem refExp_apply (s : FVec Ideal S4x8x2x4096x4096 .f32) (b : Fin 4) (h : Fin 8) (f : Fin 2) (Q K : Fin 4096) :
    refExp s (ix5 b h f Q K) = Ideal.pow (Ideal.ofBits .f32 0x40000000#32)
      (s (ix5 b h f Q K) - Finset.univ.fold max (Ideal.ofBits .f32 0xFF800000#32) fun k : Fin 4096 => s (ix5 b h f Q k)) := by
  pointwise [refExp]

theorem refProb_apply (s : FVec Ideal S4x8x2x4096x4096 .f32) (b : Fin 4) (h : Fin 8) (f : Fin 2) (Q K : Fin 4096) :
    refProb s (ix5 b h f Q K) = Ideal.div (s (ix5 b h f Q K)) (∑ k : Fin 4096, s (ix5 b h f Q k)) := by
  pointwise [refProb]

theorem refLam_apply (x : FVec Ideal S4x128 .f32) :
    refLam x ix0 = Ideal.exp (∑ k : Fin 128, x (ix2 0 k) * x (ix2 1 k)) - Ideal.exp (∑ k : Fin 128, x (ix2 2 k) * x (ix2 3 k)) + Ideal.ofBits .f32 0x3E4CCCCD#32 := by
  pointwise [refLam]

theorem refWeight_apply (p : FVec Ideal S4x8x2x4096x4096 .f32) (l : FVec Ideal S_ .f32) (b : Fin 4) (h : Fin 8) (Q K : Fin 4096) :
    refWeight p l (ix4 b h Q K) = p (ix5 b h 0 Q K) - l ix0 * p (ix5 b h 1 Q K) := by
  pointwise [refWeight]

theorem refOut_apply (vt : FVec Ideal S32x2048x512 .bf16) (w : FVec Ideal S4x8x4096x4096 .bf16) (b : Fin 4) (Q : Fin 4096) (h : Fin 8) (e : Fin 256) :
    refOut vt w (ix4 b Q h e) = ∑ K : Fin 4096, vt (ix3 ⟨b.val * 8 + K.val / 512, by omega⟩ ⟨h.val * 256 + e.val, by omega⟩ ⟨K.val % 512, by omega⟩)
      * w (ix4 b h Q K) := by
  pointwise [refOut]

theorem refNorm_apply (o : FVec Ideal S4x4096x8x256 .f32) (sub : FVec Ideal S1x256 .f32) (R : Fin 16384) (C : Fin 2048) :
    refNorm o sub (ix2 R C)
      = o (ix4 ⟨R.val / 4096, by omega⟩ ⟨R.val % 4096, by omega⟩ ⟨C.val / 256, by omega⟩ ⟨C.val % 256, by omega⟩)
          * Ideal.rsqrt (Ideal.div (∑ j : Fin 256, o (ix4 ⟨R.val / 4096, by omega⟩ ⟨R.val % 4096, by omega⟩ ⟨C.val / 256, by omega⟩ j)
              * o (ix4 ⟨R.val / 4096, by omega⟩ ⟨R.val % 4096, by omega⟩ ⟨C.val / 256, by omega⟩ j)) (Ideal.ofBits .f32 0x43800000#32) + Ideal.ofBits .f32 0x358637BD#32)
          * sub (ix2 0 ⟨C.val % 256, by omega⟩) * Ideal.ofBits .f32 0x3F4CCCCD#32 := by
  pointwise [refNorm]

end reference

end Cert.AttnEq
end
-- ==== Proof.Diff.Final.lean ====
/- The differential attention kernel at one point of its grid: the two halves of the block it writes, as functions of the input
   blocks, over the state its loop ends with. -/
module

public import proofs.«01_k».proof.Proof.Diff.IdealRun
public import Idealize.ShloMosaic.Lib.Pipeline.Value

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI

variable {F : FTy → Type} [FloatOps F]

theorem off00 : (![0, 0] : Fin 2 → Nat) = fun _ => 0 := funext fun a => by fin_cases a <;> rfl

/-- A load of a sum buffer stored whole last reads what was stored. -/
theorem readCov_sums {sg : RefSig} {κ : Kind} {sp : Space} (v : View sg κ sp S272x512 .f32)
    (inb : ∀ a, (![0, 0] : Fin 2 → Nat) a + (![272, 512] : Fin 2 → Nat) a ≤ S272x512.size a) (w : S272x512.Idx → Elt F .f32)
    (L : List (View.Piece (Elt F) S272x512 .f32)) (B : LoadRect S272x512) :
    View.readCov (Val := Elt F) v ((⟨Rect.unit (s := S272x512) ![0, 0] ![272, 512] inb, w⟩ : View.Piece (Elt F) S272x512 .f32) :: L) B = ld w B := by
  rw [View.readCov_eq_canon']
  funext j
  exact congrFun (View.canon_cons_unit_zero (S := S272x512) off00 inb w L) _

/-- Which keys of the diagonal block a query may see. -/
abbrev mask0 : IVec S512x512 1 := k0_pay56 k0_pay53 k0_pay54 k0_pay55

/-- The state a point's loop ends with. -/
def last (i : grid0.Coords) (x3 : Vec F S512x512 .bf16) (x4 : Vec F S4096x512 .bf16) (x5 : Vec F S8x512x512 .bf16) : St F :=
  states i k0_pay57 x3 x4 x5 (start x3 x4) (Scf.trips (k0_t1_loop i).lb (k0_t1_loop i).ub (k0_t1_loop i).st)

/-- The second maps' scores of the diagonal block, and the value blocks of the diagonal and the one before. -/
abbrev kA (i : grid0.Coords) (x3 : Vec F S512x512 .bf16) (x4 : Vec F S4096x512 .bf16) : FVec F S512x512 .f32 :=
  k0_pay71 (ld x4 (Rect.unit (s := S4096x512) (k0_off17 i) S512x128.size (k0_off17_inb i)).toLoadRect)
    (ld x3 (Rect.unit (s := S512x512) ![0, 128] S512x128.size inb_S512x512_S512x128_0_128).toLoadRect)
abbrev kB (i : grid0.Coords) (x3 : Vec F S512x512 .bf16) (x4 : Vec F S4096x512 .bf16) : FVec F S512x512 .f32 :=
  k0_pay72 (ld x4 (Rect.unit (s := S4096x512) (k0_off18 i) S512x128.size (k0_off18_inb i)).toLoadRect)
    (ld x3 (Rect.unit (s := S512x512) ![0, 384] S512x128.size inb_S512x512_S512x128_0_384).toLoadRect)
abbrev wA (i : grid0.Coords) (x5 : Vec F S8x512x512 .bf16) : Vec F S1x256x512 .bf16 :=
  ld x5 (Rect.unit (s := S8x512x512) (k0_off19 i) S1x256x512.size (k0_off19_inb i)).toLoadRect
abbrev wB (i : grid0.Coords) (x5 : Vec F S8x512x512 .bf16) : Vec F S1x256x512 .bf16 :=
  ld x5 (Rect.unit (s := S8x512x512) (k0_off20 i) S1x256x512.size (k0_off20_inb i)).toLoadRect
abbrev vA (i : grid0.Coords) (x5 : Vec F S8x512x512 .bf16) : Vec F S1x256x512 .bf16 :=
  ld x5 (Rect.unit (s := S8x512x512) (k0_off21 i) S1x256x512.size (k0_off21_inb i)).toLoadRect
abbrev vB (i : grid0.Coords) (x5 : Vec F S8x512x512 .bf16) : Vec F S1x256x512 .bf16 :=
  ld x5 (Rect.unit (s := S8x512x512) (k0_off22 i) S1x256x512.size (k0_off22_inb i)).toLoadRect

/-- The sums after the diagonal block: of each head, of its first and of its second map. -/
def sumA0 (s : St F) (v : Vec F S1x256x512 .bf16) : FVec F S272x512 .f32 :=
  k0_pay93 k0_pay57 (k0_pay77 s.m0 (k0_pay74 mask0 s.m0 s.s9)) v s.a13 (k0_pay76 (k0_pay75 mask0 s.m0 s.s9))
def sumB0 (s : St F) (v : Vec F S1x256x512 .bf16) : FVec F S272x512 .f32 :=
  k0_pay94 k0_pay57 (k0_pay81 mask0 s.n0 s.s15) v s.a19 (k0_pay80 mask0 s.n0 s.s15)
def sumA1 (s : St F) (k : FVec F S512x512 .f32) (w v : Vec F S1x256x512 .bf16) : FVec F S272x512 .f32 :=
  k0_pay96 (k0_pay87 mask0 s.m1 k) (k0_pay95 k0_pay57 v) (k0_pay82 k0_pay57 s.c1 w s.a14 s.p12) (k0_pay86 mask0 s.m1 k)
def sumB1 (s : St F) (k : FVec F S512x512 .f32) (w v : Vec F S1x256x512 .bf16) : FVec F S272x512 .f32 :=
  k0_pay97 k0_pay57 (k0_pay92 s.n1 (k0_pay89 mask0 s.n1 k)) v (k0_pay83 k0_pay57 s.d1 w s.a20 s.p18) (k0_pay91 (k0_pay90 mask0 s.n1 k))

/-- The sums of weighted values and the sums of weights among a buffer's rows. -/
abbrev top (a : FVec F S272x512 .f32) : Vec F S256x512 .f32 := ld a (Rect.unit (s := S272x512) ![0, 0] S256x512.size inb_S272x512_S256x512_0_0).toLoadRect
abbrev bot (a : FVec F S272x512 .f32) : Vec F S1x512 .f32 := ld a (Rect.unit (s := S272x512) ![256, 0] S1x512.size inb_S272x512_S1x512_256_0).toLoadRect

/-- The first head's half of the block. -/
def headA (a b : FVec F S272x512 .f32) (x6 : Vec F S4x128 .f32) (x7 : Vec F S1x256 .f32) : FVec F S512x256 .bf16 :=
  k0_pay100 (k0_pay98 (k0_pay52 x6) (top a) (bot a) (top b) (bot b)) (k0_pay99 (k0_pay52 x6) (top a) (bot a) (top b) (bot b)) x7
/-- The second head's half. -/
def headB (a b : FVec F S272x512 .f32) (x6 : Vec F S4x128 .f32) (x7 : Vec F S1x256 .f32) : FVec F S512x256 .bf16 :=
  k0_pay1 (k0_pay101 (k0_pay52 x6) (top a) (bot a) (top b) (bot b)) x7

/-- The two halves a point writes. -/
def outA (i : grid0.Coords) (x3 : Vec F S512x512 .bf16) (x4 : Vec F S4096x512 .bf16) (x5 : Vec F S8x512x512 .bf16) (x6 : Vec F S4x128 .f32) (x7 : Vec F S1x256 .f32) :
    FVec F S512x256 .bf16 :=
  headA (sumA0 (last i x3 x4 x5) (vA i x5)) (sumA1 (last i x3 x4 x5) (kA i x3 x4) (wA i x5) (vA i x5)) x6 x7
def outB (i : grid0.Coords) (x3 : Vec F S512x512 .bf16) (x4 : Vec F S4096x512 .bf16) (x5 : Vec F S8x512x512 .bf16) (x6 : Vec F S4x128 .f32) (x7 : Vec F S1x256 .f32) :
    FVec F S512x256 .bf16 :=
  headB (sumB0 (last i x3 x4 x5) (vB i x5)) (sumB1 (last i x3 x4 x5) (kB i x3 x4) (wB i x5) (vB i x5)) x6 x7

set_option maxHeartbeats 4000000 in
/-- What a point writes are the two halves, side by side. -/
theorem kernelRun0_eq  (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S8x512x512 .bf16) (harg5 : arg5.IsWhole) (arg6 : Memref sig .tc .vmem S4x128 .f32) (harg6 : arg6.IsWhole) (arg7 : Memref sig .tc .vmem S1x256 .f32) (harg7 : arg7.IsWhole) (arg8 : Memref sig .tc .vmem S512x512 .bf16) (harg8 : arg8.IsWhole) (arg9 : Memref sig .tc .vmem S512x640 .f32) (harg9 : arg9.IsWhole) (arg10 : Memref sig .tc .vmem S512x640 .f32) (harg10 : arg10.IsWhole) (arg11 : Memref sig .tc .vmem S512x640 .bf16) (harg11 : arg11.IsWhole) (arg12 : Memref sig .tc .vmem S512x640 .bf16) (harg12 : arg12.IsWhole) (arg13 : Memref sig .tc .vmem S272x512 .f32) (harg13 : arg13.IsWhole) (arg14 : Memref sig .tc .vmem S272x512 .f32) (harg14 : arg14.IsWhole) (arg15 : Memref sig .tc .vmem S512x640 .f32) (harg15 : arg15.IsWhole) (arg16 : Memref sig .tc .vmem S512x640 .f32) (harg16 : arg16.IsWhole) (arg17 : Memref sig .tc .vmem S512x640 .bf16) (harg17 : arg17.IsWhole) (arg18 : Memref sig .tc .vmem S512x640 .bf16) (harg18 : arg18.IsWhole) (arg19 : Memref sig .tc .vmem S272x512 .f32) (harg19 : arg19.IsWhole) (arg20 : Memref sig .tc .vmem S272x512 .f32) (harg20 : arg20.IsWhole)
    (x3 : Vec F S512x512 .bf16) (x4 : Vec F S4096x512 .bf16) (x5 : Vec F S8x512x512 .bf16) (x6 : Vec F S4x128 .f32) (x7 : Vec F S1x256 .f32) :
    (kernelRun0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x3 x4 x5 x6 x7).1
      = [⟨Rect.unit (s := S512x512) ![0, 256] S512x256.size inb_S512x512_S512x256_0_256, outB i x3 x4 x5 x6 x7⟩,
         ⟨Rect.unit (s := S512x512) ![0, 0] S512x256.size inb_S512x512_S512x256_0_0, outA i x3 x4 x5 x6 x7⟩] := by
  unfold kernelRun0
  dsimp only
  sl_unfold_words
  have hS : startRaw arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x3 x4 = start x3 x4 := by
    unfold startRaw; simp only [readAt_ld]; rfl
  simp only [hS]
  have hL : states i k0_pay57 x3 x4 x5 (start x3 x4) (Scf.trips (k0_t1_loop i).lb (k0_t1_loop i).ub (k0_t1_loop i).st) = last i x3 x4 x5 := rfl
  simp only [hL]
  unfold outA outB
  generalize last i x3 x4 x5 = s
  have h6 : ld x6 (Rect.unit (s := S4x128) ![0, 0] S4x128.size inb_S4x128_S4x128_0_0).toLoadRect = x6 := View.ld_unit_zero off00 _ x6
  have h7 : ld x7 (Rect.unit (s := S1x256) ![0, 0] S1x256.size inb_S1x256_S1x256_0_0).toLoadRect = x7 := View.ld_unit_zero off00 _ x7
  simp only [R640, R272, View.readCov_cons_toLoadRect, readAt_ld, readCov_sums, h6, h7]
  rfl

end Cert.AttnIdeal.Gen
end
-- ==== Proof.Diff.Pays.lean ====
/- The differential attention kernel's vector terms over the extended reals, index by index. -/
module

public import proofs.«01_k».proof.Proof.Diff.Final
public import Idealize.ShloMosaic.Lib.Pointwise

@[expose] public section

set_option maxRecDepth 16384

noncomputable section

namespace Cert.AttnEq

open Idealize.ShloMosaic Idealize.ShloMosaic.TcCoe Idealize.SL.Sem
open Cert.AttnIdeal Cert.AttnIdeal.Gen

theorem ninf : (FloatOps.ofBits .f32 0xFF800000#32 : Ideal .f32) = (⊥ : EReal) := by
  show Ideal.ofBits .f32 0xFF800000#32 = ⊥
  simp [Ideal.ofBits, Ideal.ieee]

theorem fold_max {n : ℕ} (f : Fin n → EReal) : Finset.univ.fold max (⊥ : EReal) f = Finset.univ.sup f := rfl

/-- The scores of a block of keys: rows of keys times rows of queries. -/
theorem score_apply (k q : Vec Ideal S512x128 .bf16) (a b : Fin 512) :
    k0_pay2 k q (ix2 a b) = ∑ d : Fin 128, k (ix2 a d) * q (ix2 b d) := by
  pointwise [k0_pay2]

theorem max_apply (m : FVec Ideal S1x512 .f32) (s : Vec Ideal S512x512 .f32) (r : Fin 512) :
    k0_pay4 m s (ix2 0 r) = max (m (ix2 0 r)) (Finset.univ.sup fun a : Fin 512 => s (ix2 a r)) := by
  rw [← fold_max, ← ninf]
  pointwise [k0_pay4]

theorem weight_apply (m : FVec Ideal S1x512 .f32) (s : Vec Ideal S512x512 .f32) (a r : Fin 512) :
    k0_pay5 m s (ix2 a r) = Ideal.exp2 (s (ix2 a r) - k0_pay4 m s (ix2 0 r)) := by
  pointwise [k0_pay5]
  rfl

theorem factor_apply (m : FVec Ideal S1x512 .f32) (s : Vec Ideal S512x512 .f32) (r : Fin 512) :
    k0_pay6 m s (ix2 0 r) = Ideal.exp2 (m (ix2 0 r) - k0_pay4 m s (ix2 0 r)) := by
  pointwise [k0_pay6]
  rfl

/-- The value block with rows of ones below it. -/
abbrev vext (v : Vec Ideal S1x256x512 .bf16) (e : Fin 272) (k : Fin 512) : EReal :=
  if h : e.val < 256 then v (ix3 0 ⟨e.val, h⟩ k) else 1

theorem ext_apply (v : Vec Ideal S1x256x512 .bf16) (e : Fin 272) (k : Fin 512) :
    k0_pay25 k0_pay57 v (ix2 e k) = vext v e k := by
  pointwise [k0_pay25, k0_pay57]

theorem acc_apply (c : FVec Ideal S1x512 .f32) (v : Vec Ideal S1x256x512 .bf16) (a : Vec Ideal S272x512 .f32) (p : Vec Ideal S512x512 .bf16)
    (e : Fin 272) (r : Fin 512) :
    k0_pay24 k0_pay57 c v a p (ix2 e r) = c (ix2 0 r) * a (ix2 e r) + ∑ k : Fin 512, vext v e k * p (ix2 k r) := by
  have h : k0_pay24 k0_pay57 c v a p (ix2 e r) = c (ix2 0 r) * a (ix2 e r) + ∑ k : Fin 512, k0_pay25 k0_pay57 v (ix2 e k) * p (ix2 k r) := by
    pointwise [k0_pay24, k0_pay25, k0_pay57]
  rw [h]; simp only [ext_apply]

theorem masked_apply (M : IVec S512x512 1) (s : Vec Ideal S512x512 .f32) (a r : Fin 512) :
    k0_pay73 M s (ix2 a r) = if M (ix2 a r) = 1#1 then s (ix2 a r) else ⊥ := by
  rw [← ninf]
  pointwise [k0_pay73]
  rfl

theorem lam_apply (x : Vec Ideal S4x128 .f32) :
    k0_pay52 x (ix2 0 0) = Ideal.exp (∑ k : Fin 128, x (ix2 0 k) * x (ix2 1 k)) - Ideal.exp (∑ k : Fin 128, x (ix2 2 k) * x (ix2 3 k)) + Ideal.ofBits .f32 0x3E4CCCCD#32 := by
  pointwise [k0_pay52]
  simp only [Fin.sum_univ_one, Finset.univ_unique, Finset.sum_singleton]

theorem diff_apply (l : FVec Ideal S1x1 .f32) (a0 : Vec Ideal S256x512 .f32) (s0 : Vec Ideal S1x512 .f32) (a1 : Vec Ideal S256x512 .f32) (s1 : Vec Ideal S1x512 .f32)
    (e : Fin 256) (r : Fin 512) :
    k0_pay98 l a0 s0 a1 s1 (ix2 e r)
      = Ideal.div (a0 (ix2 e r)) (s0 (ix2 0 r)) - l (ix2 0 0) * Ideal.div (a1 (ix2 e r)) (s1 (ix2 0 r)) := by
  pointwise [k0_pay98]

theorem out_apply (o p : FVec Ideal S256x512 .f32) (x : Vec Ideal S1x256 .f32) (r : Fin 512) (e : Fin 256) :
    k0_pay100 o p x (ix2 r e)
      = o (ix2 e r) * Ideal.rsqrt (Ideal.div (∑ j : Fin 256, p (ix2 j r)) (Ideal.ofBits .f32 0x43800000#32) + Ideal.ofBits .f32 0x358637BD#32)
          * x (ix2 0 e) * Ideal.ofBits .f32 0x3F4CCCCD#32 := by
  pointwise [k0_pay100]

end Cert.AttnEq
end
-- ==== Proof.Diff.Mask.lean ====
/- Which keys a query sees, in the kernel's diagonal block and in the reference. -/
module

public import proofs.«01_k».proof.Proof.Diff.Ref
public import proofs.«01_k».proof.Proof.Diff.Pays

@[expose] public section

set_option maxRecDepth 16384

noncomputable section

namespace Cert.AttnEq

open Idealize.ShloMosaic Idealize.ShloMosaic.TcCoe Idealize.SL.Sem

/-- A key's number over 64, as the reference computes it. -/
theorem host_chunk : ∀ K : Fin 4096, IntOp.divsi ArithUnit.host (BitVec.ofNat 32 K.val) 64#32 = BitVec.ofNat 32 (K.val / 64) := by
  decide +kernel

/-- Comparing two chunk numbers as 32-bit words compares the numbers. -/
theorem sle_chunk : ∀ a b : Fin 64, IntOp.cmpi CmpIPredicate.sle (BitVec.ofNat 32 a.val) (BitVec.ofNat 32 b.val)
    = BitVec.ofBool (decide (a.val ≤ b.val)) := by
  decide +kernel

/-- In the reference a query sees the keys of its own chunk of 64 and of the chunks before. -/
theorem refMask_apply (Q K : Fin 4096) : refMask (ix2 Q K) = BitVec.ofBool (decide (K.val / 64 ≤ Q.val / 64)) := by
  pointwise [refMask]
  rw [host_chunk, host_chunk]
  exact sle_chunk ⟨K.val / 64, by omega⟩ ⟨Q.val / 64, by omega⟩

/-- A row's number over 64, rounded down, as the kernel computes it. -/
def floor64 (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

/-- On the rows of a block the kernel's quotient is the quotient. -/
theorem floor64_row : ∀ a : Fin 512, floor64 (BitVec.ofNat 32 a.val) = BitVec.ofNat 32 (a.val / 64) := by
  decide +kernel

/-- In the kernel's diagonal block a query sees the keys of its own chunk of 64 and of the chunks before. -/
theorem mask0_apply (a r : Fin 512) : Cert.AttnIdeal.Gen.mask0 (ix2 a r) = BitVec.ofBool (decide (a.val / 64 ≤ r.val / 64)) := by
  pointwise [Cert.AttnIdeal.Gen.mask0, Cert.AttnIdeal.Gen.k0_pay56, Cert.AttnIdeal.Gen.k0_pay53, Cert.AttnIdeal.Gen.k0_pay54, Cert.AttnIdeal.Gen.k0_pay55]
  show IntOp.cmpi CmpIPredicate.sle (floor64 (BitVec.ofNat 32 a.val)) (floor64 (BitVec.ofNat 32 r.val)) = _
  rw [floor64_row, floor64_row]
  exact sle_chunk ⟨a.val / 64, by omega⟩ ⟨r.val / 64, by omega⟩

end Cert.AttnEq
end
-- ==== Proof.Diff.Point.lean ====
/- The differential attention kernel's loop over the extended reals: before each trip the state holds the running maxima and the
   rescaled sums of the key blocks seen so far, and the diagonal block completes them. -/
module

public import proofs.«01_k».proof.Proof.Diff.Offs
public import proofs.«01_k».proof.Proof.Diff.Online
public import proofs.«01_k».proof.Proof.Diff.Mask

@[expose] public section

set_option maxRecDepth 16384

noncomputable section

namespace Cert.AttnEq

open Idealize.ShloMosaic Idealize.ShloMosaic.TcCoe Idealize.SL.Sem
open Cert.AttnIdeal Cert.AttnIdeal.Gen

/-! ## The running sums on numbers -/

theorem rowMax_congr {σ σ' : ℕ → Fin 512 → EReal} : ∀ n, (∀ j, j < n → σ j = σ' j) → rowMax σ n = rowMax σ' n
  | 0, _ => rfl
  | n + 1, h => by rw [rowMax, rowMax, rowMax_congr n fun j hj => h j (by omega), h n (by omega)]

theorem full_congr {σ σ' v : ℕ → Fin 512 → EReal} : ∀ n, (∀ j, j < n → σ j = σ' j) → full σ v n = full σ' v n
  | 0, _ => rfl
  | n + 1, h => by
    rw [full, full, full_congr n fun j hj => h j (by omega), rowMax_congr n fun j hj => h j (by omega), rowMax_congr (n + 1) h, h n (by omega)]

/-! ## One block -/

variable {σ v : ℕ → Fin 512 → EReal} {n : ℕ} {r : Fin 512} {e : Fin 272}

/-- A block's scores raise the running maximum. -/
theorem max_step {m : FVec Ideal S1x512 .f32} {s : Vec Ideal S512x512 .f32} (hm : m (ix2 0 r) = rowMax σ n) (hs : ∀ a, s (ix2 a r) = σ n a) :
    k0_pay4 m s (ix2 0 r) = rowMax σ (n + 1) := by
  rw [max_apply, hm, rowMax]; simp only [hs]

/-- A block's weighted values are added to the rescaled sum. -/
theorem sum_step {m : FVec Ideal S1x512 .f32} {s : Vec Ideal S512x512 .f32} {w : Vec Ideal S1x256x512 .bf16} {a : Vec Ideal S272x512 .f32}
    (hm : m (ix2 0 r) = rowMax σ n) (hs : ∀ a, s (ix2 a r) = σ n a) (hw : ∀ k, vext w e k = v n k) (ha : a (ix2 e r) = full σ v n) :
    k0_pay6 m s (ix2 0 r) * a (ix2 e r) + ∑ k : Fin 512, v n k * k0_pay5 m s (ix2 k r) = full σ v (n + 1) := by
  rw [factor_apply, max_step hm hs, hm, ha, full]
  simp only [weight_apply, max_step hm hs, hs]

/-! ## One head's part of the state -/

/-- What a head's part of the state holds after `n` key blocks: with `σ` the first map's and `σ'` the second map's scores of the
    queries, and `v` the values with ones below them, by block and key. -/
structure Inv (σ σ' : Fin 512 → ℕ → Fin 512 → EReal) (v : Fin 272 → ℕ → Fin 512 → EReal) (n : ℕ) (m0 m1 c1 : FVec Ideal S1x512 .f32)
    (s9 : Vec Ideal S512x512 .f32) (p12 : Vec Ideal S512x512 .bf16) (a13 a14 : Vec Ideal S272x512 .f32) : Prop where
  max0 : ∀ r, m0 (ix2 0 r) = rowMax (σ r) n
  max1 : ∀ r, m1 (ix2 0 r) = rowMax (σ' r) n
  scores : ∀ a r, s9 (ix2 a r) = σ r n a
  sum0 : ∀ e r, a13 (ix2 e r) = full (σ r) (v e) n
  sum1 : ∀ e r, c1 (ix2 0 r) * a14 (ix2 e r) + ∑ a : Fin 512, v e (n - 1) a * p12 (ix2 a r) = full (σ' r) (v e) n

/-- One trip. -/
theorem Inv.next {σ σ' : Fin 512 → ℕ → Fin 512 → EReal} {v : Fin 272 → ℕ → Fin 512 → EReal} {n : ℕ} {m0 m1 c1 : FVec Ideal S1x512 .f32}
    {s9 : Vec Ideal S512x512 .f32} {p12 : Vec Ideal S512x512 .bf16} {a13 a14 : Vec Ideal S272x512 .f32}
    (H : Inv σ σ' v n m0 m1 c1 s9 p12 a13 a14) {k1 q1 k0 q0 : Vec Ideal S512x128 .bf16} {wp w : Vec Ideal S1x256x512 .bf16}
    (h1 : ∀ a r, k0_pay2 k1 q1 (ix2 a r) = σ' r n a) (h0 : ∀ a r, k0_pay2 k0 q0 (ix2 a r) = σ r (n + 1) a)
    (hw : ∀ e a, vext w e a = v e n a) (hp : ∀ e a, vext wp e a = v e (n - 1) a) :
    Inv σ σ' v (n + 1) (k0_pay4 m0 s9) (k0_pay4 m1 (k0_pay2 k1 q1)) (k0_pay6 m1 (k0_pay2 k1 q1)) (k0_pay2 k0 q0) (k0_pay5 m1 (k0_pay2 k1 q1))
      (k0_pay24 k0_pay57 (k0_pay6 m0 s9) w a13 (k0_pay5 m0 s9)) (k0_pay24 k0_pay57 c1 wp a14 p12) where
  max0 r := max_step (H.max0 r) fun a => H.scores a r
  max1 r := max_step (H.max1 r) fun a => h1 a r
  scores a r := h0 a r
  sum0 e r := by
    rw [acc_apply]; simp only [hw]
    exact sum_step (H.max0 r) (fun a => H.scores a r) (hw e) (H.sum0 e r)
  sum1 e r := by
    refine sum_step (H.max1 r) (fun a => h1 a r) (hw e) ?_
    rw [acc_apply]; simp only [hp]
    exact H.sum1 e r

/-- The diagonal block: the sums of both maps, the scores masked. -/
theorem Inv.final {σ σ' τ τ' : Fin 512 → ℕ → Fin 512 → EReal} {v : Fin 272 → ℕ → Fin 512 → EReal} {n : ℕ} {m0 m1 c1 : FVec Ideal S1x512 .f32}
    {s9 : Vec Ideal S512x512 .f32} {p12 : Vec Ideal S512x512 .bf16} {a13 a14 : Vec Ideal S272x512 .f32}
    (H : Inv σ σ' v n m0 m1 c1 s9 p12 a13 a14) {k1 : Vec Ideal S512x512 .f32} {wp w : Vec Ideal S1x256x512 .bf16} {M : IVec S512x512 1}
    (h1 : ∀ a r, k1 (ix2 a r) = σ' r n a)
    (hw : ∀ e a, vext w e a = v e n a) (hp : ∀ e a, vext wp e a = v e (n - 1) a)
    (ht : ∀ r j, j < n → τ r j = σ r j) (ht' : ∀ r j, j < n → τ' r j = σ' r j)
    (hM : ∀ r a, τ r n a = if M (ix2 a r) = 1#1 then σ r n a else ⊥) (hM' : ∀ r a, τ' r n a = if M (ix2 a r) = 1#1 then σ' r n a else ⊥) :
    (∀ e r, k0_pay24 k0_pay57 (k0_pay6 m0 (k0_pay73 M s9)) w a13 (k0_pay5 m0 (k0_pay73 M s9)) (ix2 e r) = full (τ r) (v e) (n + 1)) ∧
    (∀ e r, k0_pay24 k0_pay57 (k0_pay6 m1 (k0_pay73 M k1)) w (k0_pay24 k0_pay57 c1 wp a14 p12) (k0_pay5 m1 (k0_pay73 M k1)) (ix2 e r)
      = full (τ' r) (v e) (n + 1)) := by
  constructor <;> intro e r <;> rw [acc_apply] <;> simp only [hw]
  · refine sum_step (n := n) (σ := τ r) (v := v e) (by rw [H.max0, rowMax_congr n (ht r)]) (fun a => ?_) (hw e) (by rw [H.sum0, full_congr n (ht r)])
    rw [masked_apply, hM, H.scores]
  · refine sum_step (n := n) (σ := τ' r) (v := v e) (by rw [H.max1, rowMax_congr n (ht' r)]) (fun a => ?_) (hw e) ?_
    · rw [masked_apply, hM', h1]
    · rw [acc_apply, full_congr n (ht' r)]; simp only [hp]
      exact H.sum1 e r

/-! ## The blocks a point loads -/

/-- The scores of a point's queries against all keys, for one of the four maps of its two heads. -/
def tau (x3 : Vec Ideal S512x512 .bf16) (x4 : Vec Ideal S4096x512 .bf16) (o : Fin 4) (r : Fin 512) (K : Fin 4096) : EReal :=
  ∑ d : Fin 128, x4 (ix2 K ⟨o.val * 128 + d.val, by omega⟩) * x3 (ix2 r ⟨o.val * 128 + d.val, by omega⟩)

/-- The values of a point's head, with ones below them. -/
def vals (x5 : Vec Ideal S8x512x512 .bf16) (h : Fin 2) (e : Fin 272) (j : ℕ) (k : Fin 512) : EReal :=
  if he : e.val < 256 then (if hj : j < 8 then x5 (ix3 ⟨j, hj⟩ ⟨h.val * 256 + e.val, by omega⟩ k) else 0) else 1

theorem ld4_apply (x4 : Vec Ideal S4096x512 .bf16) {off : Fin 2 → ℕ} (inb) {j : ℕ} {o : Fin 4} (ho : off = ![j * 512, o.val * 128]) (hj : j < 8)
    (a : Fin 512) (d : Fin 128) :
    ld x4 (Rect.unit (s := S4096x512) off S512x128.size inb).toLoadRect (ix2 a d) = x4 (ix2 ⟨j * 512 + a.val, by omega⟩ ⟨o.val * 128 + d.val, by omega⟩) := by
  subst ho
  show x4 _ = x4 _
  congr 1
  funext i
  refine Fin.ext ?_
  fin_cases i <;> simp [ix2, LoadRect.idx, Rect.unit]

theorem ld3_apply (x3 : Vec Ideal S512x512 .bf16) {off : Fin 2 → ℕ} (inb) {o : Fin 4} (ho : off = ![0, o.val * 128]) (a : Fin 512) (d : Fin 128) :
    ld x3 (Rect.unit (s := S512x512) off S512x128.size inb).toLoadRect (ix2 a d) = x3 (ix2 a ⟨o.val * 128 + d.val, by omega⟩) := by
  subst ho
  show x3 _ = x3 _
  congr 1
  funext i
  refine Fin.ext ?_
  fin_cases i <;> simp [ix2, LoadRect.idx, Rect.unit]

theorem ld5_apply (x5 : Vec Ideal S8x512x512 .bf16) {off : Fin 3 → ℕ} (inb) {j : ℕ} {h : Fin 2} (ho : off = ![j, h.val * 256, 0]) (hj : j < 8)
    (e : Fin 256) (k : Fin 512) :
    ld x5 (Rect.unit (s := S8x512x512) off S1x256x512.size inb).toLoadRect (ix3 0 e k) = x5 (ix3 ⟨j, hj⟩ ⟨h.val * 256 + e.val, by omega⟩ k) := by
  subst ho
  show x5 _ = x5 _
  congr 1
  funext i
  refine Fin.ext ?_
  fin_cases i <;> simp [ix3, LoadRect.idx, Rect.unit]

/-- The scores of a loaded block of keys. -/
theorem score_ld (x3 : Vec Ideal S512x512 .bf16) (x4 : Vec Ideal S4096x512 .bf16) {off off' : Fin 2 → ℕ} (inb inb') {j : ℕ} (o : Fin 4)
    (ho : off = ![j * 512, o.val * 128]) (ho' : off' = ![0, o.val * 128]) (hj : j < 8) (a r : Fin 512) :
    k0_pay2 (ld x4 (Rect.unit (s := S4096x512) off S512x128.size inb).toLoadRect) (ld x3 (Rect.unit (s := S512x512) off' S512x128.size inb').toLoadRect) (ix2 a r)
      = blk (tau x3 x4 o r) j a := by
  rw [score_apply]
  simp only [ld4_apply x4 inb ho hj, ld3_apply x3 inb' ho']
  unfold blk; rw [dif_pos (by omega)]; rfl

/-- The loaded values with ones below them. -/
theorem vext_ld (x5 : Vec Ideal S8x512x512 .bf16) {off : Fin 3 → ℕ} (inb) {j : ℕ} (h : Fin 2) (ho : off = ![j, h.val * 256, 0]) (hj : j < 8)
    (e : Fin 272) (k : Fin 512) :
    vext (ld x5 (Rect.unit (s := S8x512x512) off S1x256x512.size inb).toLoadRect) e k = vals x5 h e j k := by
  unfold vext vals
  by_cases he : e.val < 256
  · rw [dif_pos he, dif_pos he, dif_pos hj, ld5_apply x5 inb ho hj]
  · rw [dif_neg he, dif_neg he]

end Cert.AttnEq
end
-- ==== Proof.Diff.Loop.lean ====
/- The differential attention kernel at one point of its grid over the extended reals: the sums its loop and its diagonal block leave,
   and the two halves of the block it writes, index by index. -/
module

public import proofs.«01_k».proof.Proof.Diff.Point

@[expose] public section

set_option maxRecDepth 16384

noncomputable section

namespace Cert.AttnEq

open Idealize.ShloMosaic Idealize.ShloMosaic.TcCoe Idealize.SL.Sem
open Cert.AttnIdeal Cert.AttnIdeal.Gen

/-- What the first head's part of a state holds, and the second's. -/
abbrev InvA (x3 : Vec Ideal S512x512 .bf16) (x4 : Vec Ideal S4096x512 .bf16) (x5 : Vec Ideal S8x512x512 .bf16) (n : ℕ) (s : St Ideal) : Prop :=
  Inv (fun r => blk (tau x3 x4 0 r)) (fun r => blk (tau x3 x4 1 r)) (vals x5 0) n s.m0 s.m1 s.c1 s.s9 s.p12 s.a13 s.a14
abbrev InvB (x3 : Vec Ideal S512x512 .bf16) (x4 : Vec Ideal S4096x512 .bf16) (x5 : Vec Ideal S8x512x512 .bf16) (n : ℕ) (s : St Ideal) : Prop :=
  Inv (fun r => blk (tau x3 x4 2 r)) (fun r => blk (tau x3 x4 3 r)) (vals x5 1) n s.n0 s.n1 s.d1 s.s15 s.p18 s.a19 s.a20

theorem pay58_apply (r : Fin 512) : (k0_pay58 : FVec Ideal S1x512 .f32) (ix2 0 r) = (⊥ : EReal) := by
  rw [← ninf]; pointwise [k0_pay58]
theorem pay59_apply (e : Fin 272) (r : Fin 512) : (k0_pay59 : FVec Ideal S272x512 .f32) (ix2 e r) = (0 : EReal) := by
  pointwise [k0_pay59]
theorem pay61_apply (a r : Fin 512) : (k0_pay62 k0_pay61 : FVec Ideal S512x512 .bf16) (ix2 a r) = (0 : EReal) := by
  pointwise [k0_pay62, k0_pay61]

theorem startA (x3 : Vec Ideal S512x512 .bf16) (x4 : Vec Ideal S4096x512 .bf16) (x5 : Vec Ideal S8x512x512 .bf16) : InvA x3 x4 x5 0 (start x3 x4) where
  max0 r := by rw [rowMax]; exact pay58_apply r
  max1 r := by rw [rowMax]; exact pay58_apply r
  scores a r := by
    have h : (![0, 0] : Fin 2 → ℕ) = ![0 * 512, (0 : Fin 4).val * 128] := by decide
    have h' : (![0, 0] : Fin 2 → ℕ) = ![0, (0 : Fin 4).val * 128] := by decide
    exact score_ld (j := 0) x3 x4 inb_S4096x512_S512x128_0_0 inb_S512x512_S512x128_0_0 0 h h' (by norm_num) a r
  sum0 e r := by
    rw [full]; exact pay59_apply e r
  sum1 e r := by
    have h : (start x3 x4).a14 (ix2 e r) = (0 : EReal) := pay59_apply e r
    have h' : ∀ a, (start x3 x4).p12 (ix2 a r) = (0 : EReal) := fun a => pay61_apply a r
    rw [h]; simp only [h', mul_zero, Finset.sum_const_zero, add_zero, full]

theorem startB (x3 : Vec Ideal S512x512 .bf16) (x4 : Vec Ideal S4096x512 .bf16) (x5 : Vec Ideal S8x512x512 .bf16) : InvB x3 x4 x5 0 (start x3 x4) where
  max0 r := by rw [rowMax]; exact pay58_apply r
  max1 r := by rw [rowMax]; exact pay58_apply r
  scores a r := by
    have h : (![0, 256] : Fin 2 → ℕ) = ![0 * 512, (2 : Fin 4).val * 128] := by decide
    have h' : (![0, 256] : Fin 2 → ℕ) = ![0, (2 : Fin 4).val * 128] := by decide
    exact score_ld (j := 0) x3 x4 inb_S4096x512_S512x128_0_256 inb_S512x512_S512x128_0_256 2 h h' (by norm_num) a r
  sum0 e r := by
    rw [full]; exact pay59_apply e r
  sum1 e r := by
    have h : (start x3 x4).a20 (ix2 e r) = (0 : EReal) := pay59_apply e r
    have h' : ∀ a, (start x3 x4).p18 (ix2 a r) = (0 : EReal) := fun a => pay61_apply a r
    rw [h]; simp only [h', mul_zero, Finset.sum_const_zero, add_zero, full]

variable (t : Fin grid0.N) (x3 : Vec Ideal S512x512 .bf16) (x4 : Vec Ideal S4096x512 .bf16) (x5 : Vec Ideal S8x512x512 .bf16)

theorem c2_lt : ((grid0.coords t) 2).val < 8 := ((grid0.coords t) 2).isLt

theorem nextA (k : Fin (k0_t1_loop (grid0.coords t)).trips) (s : St Ideal) (H : InvA x3 x4 x5 k.val s) :
    InvA x3 x4 x5 (k.val + 1) (next (grid0.coords t) k0_pay57 x3 x4 x5 k s) := by
  have hk : k.val + 1 < 8 := by have h1 := k.isLt; have h2 := trips_eq t; have h3 := c2_lt t; omega
  exact H.next (fun a r => score_ld x3 x4 (k0_off1_inb (grid0.coords t) k) inb_S512x512_S512x128_0_128 1 (o1 t k) rfl (by omega) a r)
    (fun a r => score_ld x3 x4 (k0_off5_inb (grid0.coords t) k) inb_S512x512_S512x128_0_0 0 (o5 t k) rfl hk a r)
    (fun e a => vext_ld x5 (k0_off7_inb (grid0.coords t) k) 0 (o7 t k) (by omega) e a)
    (fun e a => vext_ld x5 (k0_off3_inb (grid0.coords t) k) 0 (o3 t k) (by omega) e a)

theorem nextB (k : Fin (k0_t1_loop (grid0.coords t)).trips) (s : St Ideal) (H : InvB x3 x4 x5 k.val s) :
    InvB x3 x4 x5 (k.val + 1) (next (grid0.coords t) k0_pay57 x3 x4 x5 k s) := by
  have hk : k.val + 1 < 8 := by have h1 := k.isLt; have h2 := trips_eq t; have h3 := c2_lt t; omega
  exact H.next (fun a r => score_ld x3 x4 (k0_off2_inb (grid0.coords t) k) inb_S512x512_S512x128_0_384 3 (o2 t k) rfl (by omega) a r)
    (fun a r => score_ld x3 x4 (k0_off6_inb (grid0.coords t) k) inb_S512x512_S512x128_0_256 2 (o6 t k) rfl hk a r)
    (fun e a => vext_ld x5 (k0_off8_inb (grid0.coords t) k) 1 (o8 t k) (by omega) e a)
    (fun e a => vext_ld x5 (k0_off4_inb (grid0.coords t) k) 1 (o4 t k) (by omega) e a)

/-- Before each trip both heads' parts hold what they should. -/
theorem inv_states : ∀ k, k ≤ (k0_t1_loop (grid0.coords t)).trips →
    InvA x3 x4 x5 k (states (grid0.coords t) k0_pay57 x3 x4 x5 (start x3 x4) k) ∧
    InvB x3 x4 x5 k (states (grid0.coords t) k0_pay57 x3 x4 x5 (start x3 x4) k)
  | 0, _ => ⟨startA x3 x4 x5, startB x3 x4 x5⟩
  | k + 1, h => by
    obtain ⟨hA, hB⟩ := inv_states k (by omega)
    rw [states_succ (grid0.coords t) k0_pay57 x3 x4 x5 (start x3 x4) ⟨k, h⟩]
    exact ⟨nextA t x3 x4 x5 ⟨k, h⟩ _ hA, nextB t x3 x4 x5 ⟨k, h⟩ _ hB⟩

theorem inv_last : InvA x3 x4 x5 ((grid0.coords t) 2).val (last (grid0.coords t) x3 x4 x5) ∧ InvB x3 x4 x5 ((grid0.coords t) 2).val (last (grid0.coords t) x3 x4 x5) := by
  have h := inv_states t x3 x4 x5 (k0_t1_loop (grid0.coords t)).trips le_rfl
  have e := trips_eq t
  unfold last
  rw [← e]; exact h

/-- A row's scores with the keys it may not see at minus infinity: query `r` of block `n` sees its own chunk of 64 and those before. -/
def seen (n : ℕ) (τ : Fin 512 → Fin 4096 → EReal) (r : Fin 512) (K : Fin 4096) : EReal :=
  if K.val / 64 ≤ (n * 512 + r.val) / 64 then τ r K else ⊥

theorem seen_before (n : ℕ) (τ : Fin 512 → Fin 4096 → EReal) (r : Fin 512) (j : ℕ) (hj : j < n) : blk (seen n τ r) j = blk (τ r) j := by
  funext a
  unfold blk seen
  split
  · rw [if_pos]; show (j * 512 + a.val) / 64 ≤ _; omega
  · rfl

theorem seen_diag (n : ℕ) (τ : Fin 512 → Fin 4096 → EReal) (r a : Fin 512) : blk (seen n τ r) n a = if mask0 (ix2 a r) = 1#1 then blk (τ r) n a else ⊥ := by
  rw [mask0_apply]
  unfold blk seen
  by_cases h : a.val / 64 ≤ r.val / 64
  · have h' : (n * 512 + a.val) / 64 ≤ (n * 512 + r.val) / 64 := by omega
    simp [h, h']
  · have h' : ¬ (n * 512 + a.val) / 64 ≤ (n * 512 + r.val) / 64 := by omega
    simp [h, h']

/-- The sums after the diagonal block. -/
theorem sumsA (e : Fin 272) (r : Fin 512) :
    sumA0 (last (grid0.coords t) x3 x4 x5) (vA (grid0.coords t) x5) (ix2 e r)
      = full (blk (seen ((grid0.coords t) 2).val (tau x3 x4 0) r)) (vals x5 0 e) (((grid0.coords t) 2).val + 1) ∧
    sumA1 (last (grid0.coords t) x3 x4 x5) (kA (grid0.coords t) x3 x4) (wA (grid0.coords t) x5) (vA (grid0.coords t) x5) (ix2 e r)
      = full (blk (seen ((grid0.coords t) 2).val (tau x3 x4 1) r)) (vals x5 0 e) (((grid0.coords t) 2).val + 1) := by
  have hc := c2_lt t
  have H := (inv_last t x3 x4 x5).1.final (k1 := kA (grid0.coords t) x3 x4) (wp := wA (grid0.coords t) x5) (w := vA (grid0.coords t) x5) (M := mask0)
    (τ := fun r => blk (seen ((grid0.coords t) 2).val (tau x3 x4 0) r)) (τ' := fun r => blk (seen ((grid0.coords t) 2).val (tau x3 x4 1) r))
    (fun a r => score_ld x3 x4 (k0_off17_inb (grid0.coords t)) inb_S512x512_S512x128_0_128 1 (o17 t) rfl hc a r)
    (fun e a => vext_ld x5 (k0_off21_inb (grid0.coords t)) 0 (o21 t) hc e a)
    (fun e a => vext_ld x5 (k0_off19_inb (grid0.coords t)) 0 (o19 t) (by omega) e a)
    (fun r j hj => seen_before _ _ r j hj) (fun r j hj => seen_before _ _ r j hj) (fun r a => seen_diag _ _ r a) (fun r a => seen_diag _ _ r a)
  exact ⟨H.1 e r, H.2 e r⟩

theorem sumsB (e : Fin 272) (r : Fin 512) :
    sumB0 (last (grid0.coords t) x3 x4 x5) (vB (grid0.coords t) x5) (ix2 e r)
      = full (blk (seen ((grid0.coords t) 2).val (tau x3 x4 2) r)) (vals x5 1 e) (((grid0.coords t) 2).val + 1) ∧
    sumB1 (last (grid0.coords t) x3 x4 x5) (kB (grid0.coords t) x3 x4) (wB (grid0.coords t) x5) (vB (grid0.coords t) x5) (ix2 e r)
      = full (blk (seen ((grid0.coords t) 2).val (tau x3 x4 3) r)) (vals x5 1 e) (((grid0.coords t) 2).val + 1) := by
  have hc := c2_lt t
  have H := (inv_last t x3 x4 x5).2.final (k1 := kB (grid0.coords t) x3 x4) (wp := wB (grid0.coords t) x5) (w := vB (grid0.coords t) x5) (M := mask0)
    (τ := fun r => blk (seen ((grid0.coords t) 2).val (tau x3 x4 2) r)) (τ' := fun r => blk (seen ((grid0.coords t) 2).val (tau x3 x4 3) r))
    (fun a r => score_ld x3 x4 (k0_off18_inb (grid0.coords t)) inb_S512x512_S512x128_0_384 3 (o18 t) rfl hc a r)
    (fun e a => vext_ld x5 (k0_off22_inb (grid0.coords t)) 1 (o22 t) hc e a)
    (fun e a => vext_ld x5 (k0_off20_inb (grid0.coords t)) 1 (o20 t) (by omega) e a)
    (fun r j hj => seen_before _ _ r j hj) (fun r j hj => seen_before _ _ r j hj) (fun r a => seen_diag _ _ r a) (fun r a => seen_diag _ _ r a)
  exact ⟨H.1 e r, H.2 e r⟩

end Cert.AttnEq
end
-- ==== Proof.Diff.Share.lean ====
/- The quotient of rescaled sums as the reference writes it: a sum of values weighted by shares. -/
module

public import proofs.«01_k».proof.Proof.Diff.Online

@[expose] public section

noncomputable section

namespace Cert.AttnEq

open Idealize.ShloMosaic

/-- A key's share of its row: two to its score less the row's maximum, over the row's sum. -/
def share (τ : Fin 4096 → EReal) (K : Fin 4096) : EReal :=
  Ideal.div (Ideal.exp2 (τ K - Finset.univ.sup τ)) (∑ k : Fin 4096, Ideal.exp2 (τ k - Finset.univ.sup τ))

/-- The values weighted by the difference of two rows' shares. -/
def head (τ τ' : Fin 4096 → EReal) (l : EReal) (V : Fin 4096 → EReal) : EReal := ∑ K : Fin 4096, V K * (share τ K - l * share τ' K)

theorem share_real {τ : Fin 4096 → EReal} (hτ : ∀ K, τ K ≠ ⊤) (K : Fin 4096) :
    share τ K = Ideal.div (((Ideal.exp2 (τ K - Finset.univ.sup τ)).toReal : ℝ) : EReal)
      (∑ k : Fin 4096, (((Ideal.exp2 (τ k - Finset.univ.sup τ)).toReal : ℝ) : EReal)) := by
  have ht : Finset.univ.sup τ ≠ ⊤ := ((Finset.sup_lt_iff bot_lt_top).mpr fun k _ => lt_top_iff_ne_top.mpr (hτ k)).ne
  have h : ∀ k, (((Ideal.exp2 (τ k - Finset.univ.sup τ)).toReal : ℝ) : EReal) = Ideal.exp2 (τ k - Finset.univ.sup τ) := fun k =>
    exp2_toReal (sub_ne_top (Finset.le_sup (Finset.mem_univ k)) ht)
  simp only [h, share]

/-- The kernel's difference of two quotients is the reference's weighted sum, where values and factor are real. -/
theorem quot_eq {τ τ' : Fin 4096 → EReal} {l : EReal} {w w1 : ℕ → Fin 512 → EReal} {V : Fin 4096 → EReal} {n : ℕ} (hn : n ≤ 8)
    (hτ : ∀ K, τ K ≠ ⊤) (hτ' : ∀ K, τ' K ≠ ⊤) {K₀ K₁ : Fin 4096} (h : τ K₀ ≠ ⊥) (h' : τ' K₁ ≠ ⊥)
    (hz : ∀ K : Fin 4096, n * 512 ≤ K.val → τ K = ⊥) (hz' : ∀ K : Fin 4096, n * 512 ≤ K.val → τ' K = ⊥)
    (hl : ∃ x : ℝ, l = x) (hV : ∀ K, ∃ x : ℝ, V K = x)
    (hw : ∀ j (k : Fin 512) (h : j * 512 + k.val < 4096), w j k = V ⟨j * 512 + k.val, h⟩)
    (hw' : ∀ j (k : Fin 512), ((w j k).toReal : EReal) = w j k) (h1 : ∀ j k, w1 j k = 1) :
    Ideal.div (full (blk τ) w n) (full (blk τ) w1 n) - l * Ideal.div (full (blk τ') w n) (full (blk τ') w1 n) = head τ τ' l V := by
  obtain ⟨l, rfl⟩ := hl
  choose v hv using hV
  have hwv : ∀ j (k : Fin 512) (h : j * 512 + k.val < 4096), w j k = (v ⟨j * 512 + k.val, h⟩ : EReal) := fun j k h => by rw [hw j k h, hv]
  have h1v : ∀ j (k : Fin 512) (h : j * 512 + k.val < 4096), w1 j k = ((1 : ℝ) : EReal) := fun j k h => by rw [h1]; rfl
  have h1' : ∀ j (k : Fin 512), ((w1 j k).toReal : EReal) = w1 j k := fun j k => by rw [h1]; simp
  rw [full_blk hn hτ hz hwv hw', full_blk (v := fun _ => 1) hn hτ hz h1v h1', full_blk hn hτ' hz' hwv hw', full_blk (v := fun _ => 1) hn hτ' hz' h1v h1',
    diff_eq (sum_pos hτ h) (sum_pos hτ' h')]
  unfold head
  simp only [share_real hτ, share_real hτ', hv]

end Cert.AttnEq
end
-- ==== Proof.Diff.Norm.lean ====
/- The quotients of rescaled sums and the sums weighted by shares, each row normalized, for scores of any size.

   A row of scores whose maximum is infinite has weights that are all zero, so its quotients and its shares are minus infinity. A
   row with an infinite entry is normalized to zero. -/
module

public import proofs.«01_k».proof.Proof.Diff.Share

@[expose] public section

noncomputable section

namespace Cert.AttnEq

open Idealize.ShloMosaic

/-- A row normalized. -/
def normed (o : Fin 256 → EReal) (g : EReal) (e : Fin 256) : EReal :=
  o e * Ideal.rsqrt (Ideal.div (∑ j : Fin 256, o j * o j) (Ideal.ofBits .f32 0x43800000#32) + Ideal.ofBits .f32 0x358637BD#32)
    * g * Ideal.ofBits .f32 0x3F4CCCCD#32

/-- A number that is one of the infinities. -/
abbrev IsInf (x : EReal) : Prop := x = ⊤ ∨ x = ⊥

theorem mul_self_nonneg' (x : EReal) : 0 ≤ x * x := by
  induction x with
  | bot => simp
  | coe r => rw [← EReal.coe_mul]; exact EReal.coe_nonneg.mpr (mul_self_nonneg r)
  | top => simp

theorem width_eq : Ideal.ofBits .f32 0x43800000#32 = ((256 : ℝ) : EReal) := by
  simp [Ideal.ofBits, Ideal.ieee]
  rw [← EReal.coe_mul]
  norm_num

theorem eps_ne_bot : Ideal.ofBits .f32 0x358637BD#32 ≠ ⊥ := by
  simp [Ideal.ofBits, Ideal.ieee]
  rw [← EReal.coe_mul]
  exact EReal.coe_ne_bot _

/-- A row with an infinite entry is normalized to zero. -/
theorem normed_inf {o : Fin 256 → EReal} {j : Fin 256} (h : IsInf (o j)) (g : EReal) (e : Fin 256) : normed o g e = 0 := by
  have hs : ∑ j : Fin 256, o j * o j = ⊤ := by
    refine top_le_iff.mp ?_
    have h1 : o j * o j = ⊤ := by rcases h with h | h <;> rw [h] <;> simp
    rw [← h1]
    exact Finset.single_le_sum (f := fun j => o j * o j) (fun i _ => mul_self_nonneg' (o i)) (Finset.mem_univ j)
  unfold normed
  rw [hs, width_eq, Ideal.div_coe (by norm_num), EReal.top_mul_coe_of_pos (by norm_num), EReal.top_add_of_ne_bot eps_ne_bot, Ideal.rsqrt_top]
  simp

/-- A row whose entries are all infinite or zero is normalized to zero. -/
theorem normed_dead {o : Fin 256 → EReal} (h : ∀ j, o j = 0 ∨ IsInf (o j)) (g : EReal) (e : Fin 256) : normed o g e = 0 := by
  rcases h e with h | h
  · unfold normed; rw [h]; simp
  · exact normed_inf h g e

/-- A sum of numbers that are infinite or zero is infinite or zero. -/
theorem sum_dead {ι : Type} (s : Finset ι) {f : ι → EReal} (h : ∀ i, f i = 0 ∨ IsInf (f i)) : ∑ i ∈ s, f i = 0 ∨ IsInf (∑ i ∈ s, f i) := by
  classical
  induction s using Finset.induction_on with
  | empty => left; simp
  | insert i s hi ih =>
    rw [Finset.sum_insert hi]
    rcases h i with h | h | h <;> rcases ih with h' | h' | h' <;> rw [h, h'] <;> simp [IsInf]

/-- A real number times an infinity is infinite or zero. -/
theorem mul_dead (x : ℝ) {y : EReal} (h : IsInf y) : (x : EReal) * y = 0 ∨ IsInf ((x : EReal) * y) := by
  rcases lt_trichotomy x 0 with hx | hx | hx
  · rcases h with h | h <;> rw [h]
    · exact .inr (.inr (EReal.coe_mul_top_of_neg hx))
    · exact .inr (.inl (EReal.coe_mul_bot_of_neg hx))
  · left; rw [hx]; simp
  · rcases h with h | h <;> rw [h]
    · exact .inr (.inl (EReal.coe_mul_top_of_pos hx))
    · exact .inr (.inr (EReal.coe_mul_bot_of_pos hx))

/-- A real number other than zero times minus infinity, taken from a real number. -/
theorem sub_dead (x : ℝ) {l : ℝ} (hl : l ≠ 0) : IsInf ((x : EReal) - (l : EReal) * ⊥) := by
  rcases lt_or_gt_of_ne hl with h | h
  · rw [EReal.coe_mul_bot_of_neg h]; right; rfl
  · rw [EReal.coe_mul_bot_of_pos h]; left; rfl

theorem div_zero_zero : Ideal.div 0 0 = ⊥ := by simp [Ideal.div]

/-- Below an infinite maximum every weight is zero. -/
theorem exp2_inf {s M : EReal} (hM : IsInf M) (hs : s ≤ M) : Ideal.exp2 (s - M) = 0 := by
  rcases hM with rfl | rfl
  · rw [EReal.sub_top]; simp
  · rw [le_bot_iff.mp hs, EReal.bot_sub]; simp

/-- The rescaled sum of blocks whose maximum is infinite is zero. -/
theorem full_inf {σ v : ℕ → Fin 512 → EReal} {n : ℕ} (h : IsInf (rowMax σ (n + 1))) : full σ v (n + 1) = 0 := by
  rw [full, exp2_inf h (rowMax_le_succ σ n)]
  simp only [exp2_inf h (le_rowMax σ _ (Nat.lt_succ_self n))]
  simp

/-- The shares of a row whose maximum is infinite. -/
theorem share_inf {τ : Fin 4096 → EReal} (h : IsInf (Finset.univ.sup τ)) (K : Fin 4096) : share τ K = ⊥ := by
  unfold share
  simp only [exp2_inf h (Finset.le_sup (f := τ) (Finset.mem_univ _))]
  rw [Finset.sum_const_zero, div_zero_zero]

/-- A row whose maximum is real has no plus infinity and a real number. -/
theorem good {τ : Fin 4096 → EReal} (h : ¬ IsInf (Finset.univ.sup τ)) : (∀ K, τ K ≠ ⊤) ∧ ∃ K, τ K ≠ ⊥ := by
  refine ⟨fun K hK => h (.inl (top_le_iff.mp (hK ▸ Finset.le_sup (Finset.mem_univ K)))), ?_⟩
  by_contra hn
  push Not at hn
  exact h (.inr ((Finset.sup_eq_bot_iff _ _).mpr fun K _ => hn K))

/-- The shares of such a row are real. -/
theorem share_good {τ : Fin 4096 → EReal} (h : ¬ IsInf (Finset.univ.sup τ)) (K : Fin 4096) : ∃ x : ℝ, share τ K = x := by
  obtain ⟨ht, K₀, hK⟩ := good h
  rw [share_real ht, ← coe_sum, div_real _ (sum_pos ht hK).ne']
  exact ⟨_, rfl⟩

section
variable {τ τ' : Fin 4096 → EReal} {l : ℝ} {w : Fin 256 → ℕ → Fin 512 → EReal} {w1 : ℕ → Fin 512 → EReal} {V : Fin 256 → Fin 4096 → EReal} {n : ℕ}
  (hn : n + 1 ≤ 8) (hz : ∀ K : Fin 4096, (n + 1) * 512 ≤ K.val → τ K = ⊥) (hz' : ∀ K : Fin 4096, (n + 1) * 512 ≤ K.val → τ' K = ⊥)
  (hV : ∀ e K, ∃ x : ℝ, V e K = x) (hw : ∀ e j (k : Fin 512) (h : j * 512 + k.val < 4096), w e j k = V e ⟨j * 512 + k.val, h⟩)
  (hw' : ∀ e j (k : Fin 512), ((w e j k).toReal : EReal) = w e j k) (h1 : ∀ j k, w1 j k = 1)

include hz in
theorem quot_inf (h : IsInf (Finset.univ.sup τ)) (v v' : ℕ → Fin 512 → EReal) : Ideal.div (full (blk τ) v (n + 1)) (full (blk τ) v' (n + 1)) = ⊥ := by
  have h' : IsInf (rowMax (blk τ) (n + 1)) := by rw [rowMax_eq_sup τ _ hz]; exact h
  rw [full_inf h', full_inf h', div_zero_zero]

include hn hz hV hw hw' h1 in
theorem quot_good (h : ¬ IsInf (Finset.univ.sup τ)) (e : Fin 256) :
    ∃ x : ℝ, Ideal.div (full (blk τ) (w e) (n + 1)) (full (blk τ) w1 (n + 1)) = x := by
  obtain ⟨ht, K₀, hK⟩ := good h
  choose v hv using hV
  have hwv : ∀ j (k : Fin 512) (h : j * 512 + k.val < 4096), w e j k = (v e ⟨j * 512 + k.val, h⟩ : EReal) := fun j k h => by rw [hw e j k h, hv]
  have h1v : ∀ j (k : Fin 512) (h : j * 512 + k.val < 4096), w1 j k = ((1 : ℝ) : EReal) := fun j k h => by rw [h1]; rfl
  have h1' : ∀ j (k : Fin 512), ((w1 j k).toReal : EReal) = w1 j k := fun j k => by rw [h1]; simp
  rw [full_blk hn ht hz hwv (hw' e), full_blk (v := fun _ => 1) hn ht hz h1v h1']
  simp only [one_mul]
  rw [div_real _ (sum_pos ht hK).ne']
  exact ⟨_, rfl⟩

include hV in
/-- A row of the reference where every weight is infinite is normalized to zero. -/
theorem head_dead (h : ∀ K, IsInf (share τ K - (l : EReal) * share τ' K)) (g : EReal) (e : Fin 256) :
    normed (fun e => head τ τ' l (V e)) g e = 0 := by
  refine normed_dead (fun j => ?_) g e
  refine sum_dead _ fun K => ?_
  obtain ⟨x, hx⟩ := hV j K
  rw [hx]
  exact mul_dead x (h K)

include hn hz hz' hV hw hw' h1 in
/-- Normalized, the kernel's differences of two quotients are the reference's weighted sums, where values and factor are real. -/
theorem normed_eq (g : EReal) (e : Fin 256) :
    normed (fun e => Ideal.div (full (blk τ) (w e) (n + 1)) (full (blk τ) w1 (n + 1))
        - (l : EReal) * Ideal.div (full (blk τ') (w e) (n + 1)) (full (blk τ') w1 (n + 1))) g e
      = normed (fun e => head τ τ' l (V e)) g e := by
  by_cases h : IsInf (Finset.univ.sup τ)
  · rw [head_dead hV (fun K => by rw [share_inf h, EReal.bot_sub]; exact .inr rfl) g e]
    refine normed_inf (j := e) ?_ g e
    rw [quot_inf hz h, EReal.bot_sub]
    exact .inr rfl
  obtain ⟨ht, K₀, hK⟩ := good h
  by_cases h' : IsInf (Finset.univ.sup τ')
  · by_cases hl : l = 0
    · subst hl
      congr 1
      funext e
      have q := quot_eq (l := ((0 : ℝ) : EReal)) hn ht ht hK hK hz hz ⟨0, rfl⟩ (hV e) (hw e) (hw' e) h1
      simp only [head, EReal.coe_zero, zero_mul] at q ⊢
      exact q
    · rw [head_dead hV (fun K => by
        obtain ⟨x, hx⟩ := share_good h K
        rw [share_inf h', hx]; exact sub_dead x hl) g e]
      refine normed_inf (j := e) ?_ g e
      obtain ⟨x, hx⟩ := quot_good hn hz hV hw hw' h1 h e
      rw [quot_inf hz' h', hx]
      exact sub_dead x hl
  · obtain ⟨ht', K₁, hK'⟩ := good h'
    congr 1
    funext e
    exact quot_eq hn ht ht' hK hK' hz hz' ⟨l, rfl⟩ (hV e) (hw e) (hw' e) h1

end

end Cert.AttnEq
end
-- ==== Proof.Diff.Ker.lean ====
/- The differential attention kernel at one point of its grid over the extended reals: the two halves of the block it writes, index by
   index, where values and the factor's vectors are real. -/
module

public import proofs.«01_k».proof.Proof.Diff.Loop
public import proofs.«01_k».proof.Proof.Diff.Norm

@[expose] public section

set_option maxRecDepth 16384

noncomputable section

namespace Cert.AttnEq

open Idealize.ShloMosaic Idealize.ShloMosaic.TcCoe Idealize.SL.Sem
open Cert.AttnIdeal Cert.AttnIdeal.Gen

/-! ## Real numbers among the extended reals -/

/-- A number that is neither infinity. -/
abbrev IsR (x : EReal) : Prop := ∃ y : ℝ, x = y

theorem IsR.ne_top {x : EReal} : IsR x → x ≠ ⊤ := fun ⟨y, h⟩ => h ▸ EReal.coe_ne_top y
theorem IsR.ne_bot {x : EReal} : IsR x → x ≠ ⊥ := fun ⟨y, h⟩ => h ▸ EReal.coe_ne_bot y
theorem IsR.toReal {x : EReal} : IsR x → ((x.toReal : ℝ) : EReal) = x := fun ⟨y, h⟩ => by rw [h, EReal.toReal_coe]
theorem IsR.mul {x y : EReal} : IsR x → IsR y → IsR (x * y) := fun ⟨a, h⟩ ⟨b, h'⟩ => ⟨a * b, by rw [h, h', EReal.coe_mul]⟩
theorem IsR.add {x y : EReal} : IsR x → IsR y → IsR (x + y) := fun ⟨a, h⟩ ⟨b, h'⟩ => ⟨a + b, by rw [h, h', EReal.coe_add]⟩
theorem IsR.sub {x y : EReal} : IsR x → IsR y → IsR (x - y) := fun ⟨a, h⟩ ⟨b, h'⟩ => ⟨a - b, by rw [h, h', EReal.coe_sub]⟩
theorem IsR.sum {n : ℕ} {f : Fin n → EReal} (h : ∀ k, IsR (f k)) : IsR (∑ k, f k) := by
  choose g hg using h
  exact ⟨∑ k, g k, by rw [coe_sum]; exact Finset.sum_congr rfl fun k _ => hg k⟩
theorem IsR.exp {x : EReal} : IsR x → IsR (Ideal.exp x) := fun ⟨a, h⟩ => ⟨Real.exp a, by rw [h, Ideal.exp_coe]⟩

theorem isR_const : IsR (Ideal.ofBits .f32 0x3E4CCCCD#32) := by
  refine ⟨(Ideal.ofBits .f32 0x3E4CCCCD#32 : EReal).toReal, ?_⟩
  simp [Ideal.ofBits, Ideal.ieee]
  rw [← EReal.coe_mul, EReal.toReal_coe]

/-- The factor is real where its vectors are. -/
theorem lam_real {x6 : Vec Ideal S4x128 .f32} (h : ∀ i, IsR (x6 i)) : IsR (k0_pay52 x6 (ix2 0 0)) := by
  rw [lam_apply]
  exact ((IsR.sum fun k => (h _).mul (h _)).exp.sub (IsR.sum fun k => (h _).mul (h _)).exp).add isR_const

/-! ## The sums read back -/

theorem top_apply (a : FVec Ideal S272x512 .f32) (e : Fin 256) (r : Fin 512) : top a (ix2 e r) = a (ix2 ⟨e.val, by omega⟩ r) := by
  show a _ = a _
  congr 1; funext i; refine Fin.ext ?_
  fin_cases i <;> simp [ix2, LoadRect.idx, Rect.unit]

theorem bot_apply (a : FVec Ideal S272x512 .f32) (r : Fin 512) : bot a (ix2 0 r) = a (ix2 256 r) := by
  show a _ = a _
  congr 1; funext i; refine Fin.ext ?_
  fin_cases i <;> simp [ix2, LoadRect.idx, Rect.unit]

/-! ## A half of the block -/

/-- The values of one row of a head, all keys. -/
def row (x5 : Vec Ideal S8x512x512 .bf16) (h : Fin 2) (e : Fin 256) (K : Fin 4096) : EReal :=
  x5 (ix3 ⟨K.val / 512, by omega⟩ ⟨h.val * 256 + e.val, by omega⟩ ⟨K.val % 512, by omega⟩)

/-- What the attention gives for one query and one value row, before normalization. -/
def att (n : ℕ) (x3 : Vec Ideal S512x512 .bf16) (x4 : Vec Ideal S4096x512 .bf16) (x5 : Vec Ideal S8x512x512 .bf16) (x6 : Vec Ideal S4x128 .f32)
    (h : Fin 2) (r : Fin 512) (e : Fin 256) : EReal :=
  head (seen n (tau x3 x4 ⟨2 * h.val, by omega⟩) r) (seen n (tau x3 x4 ⟨2 * h.val + 1, by omega⟩) r) (k0_pay52 x6 (ix2 0 0)) (row x5 h e)

theorem headA_apply (a b : FVec Ideal S272x512 .f32) (x6 : Vec Ideal S4x128 .f32) (x7 : Vec Ideal S1x256 .f32) (r : Fin 512) (e : Fin 256) :
    headA a b x6 x7 (ix2 r e) = normed (fun e => Ideal.div (a (ix2 ⟨e.val, by omega⟩ r)) (a (ix2 256 r))
        - k0_pay52 x6 (ix2 0 0) * Ideal.div (b (ix2 ⟨e.val, by omega⟩ r)) (b (ix2 256 r))) (x7 (ix2 0 e)) e := by
  unfold headA normed
  rw [out_apply, diff_apply]
  have h : ∀ j : Fin 256, k0_pay99 (k0_pay52 x6) (top a) (bot a) (top b) (bot b) (ix2 j r)
      = k0_pay98 (k0_pay52 x6) (top a) (bot a) (top b) (bot b) (ix2 j r) * k0_pay98 (k0_pay52 x6) (top a) (bot a) (top b) (bot b) (ix2 j r) := fun j => rfl
  simp only [h, diff_apply, top_apply, bot_apply]

theorem headB_eq (a b : FVec Ideal S272x512 .f32) (x6 : Vec Ideal S4x128 .f32) (x7 : Vec Ideal S1x256 .f32) : headB a b x6 x7 = headA a b x6 x7 := rfl

theorem seen_after (n : ℕ) {x3 : Vec Ideal S512x512 .bf16} {x4 : Vec Ideal S4096x512 .bf16} (o : Fin 4) (r : Fin 512) (K : Fin 4096)
    (hK : (n + 1) * 512 ≤ K.val) : seen n (tau x3 x4 o) r K = ⊥ := by
  unfold seen; rw [if_neg (by omega)]

section real
variable (t : Fin grid0.N) (x3 : Vec Ideal S512x512 .bf16) (x4 : Vec Ideal S4096x512 .bf16) {x5 : Vec Ideal S8x512x512 .bf16} {x6 : Vec Ideal S4x128 .f32}
  (h5 : ∀ i, IsR (x5 i)) (h6 : ∀ i, IsR (x6 i))
include h5 h6

/-- The quotients of a head's sums, normalized, are its attention, normalized. -/
theorem att_eq (n : ℕ) (hn : n < 8) (h : Fin 2) (r : Fin 512) (g : EReal) (e : Fin 256) :
    normed (fun e => Ideal.div (full (blk (seen n (tau x3 x4 ⟨2 * h.val, by omega⟩) r)) (vals x5 h ⟨e.val, by omega⟩) (n + 1))
        (full (blk (seen n (tau x3 x4 ⟨2 * h.val, by omega⟩) r)) (vals x5 h 256) (n + 1))
      - k0_pay52 x6 (ix2 0 0) * Ideal.div (full (blk (seen n (tau x3 x4 ⟨2 * h.val + 1, by omega⟩) r)) (vals x5 h ⟨e.val, by omega⟩) (n + 1))
        (full (blk (seen n (tau x3 x4 ⟨2 * h.val + 1, by omega⟩) r)) (vals x5 h 256) (n + 1))) g e
      = normed (att n x3 x4 x5 x6 h r) g e := by
  obtain ⟨l, hl⟩ := lam_real h6
  unfold att
  rw [hl]
  refine normed_eq (w := fun e => vals x5 h ⟨e.val, by omega⟩) (V := row x5 h) (by omega) (seen_after n _ r) (seen_after n _ r)
    (fun e K => h5 _) (fun e j k hjk => ?_) (fun e j k => ?_) (fun j k => ?_) g e
  · unfold vals row
    rw [dif_pos e.isLt, dif_pos (by omega)]
    congr 1
    have e1 : (j * 512 + k.val) / 512 = j := by omega
    have e2 : (j * 512 + k.val) % 512 = k.val := by omega
    simp only [e1, e2]
  · unfold vals
    rw [dif_pos e.isLt]
    split
    · exact (h5 _).toReal
    · simp
  · unfold vals
    rw [dif_neg (by decide)]

theorem outA_apply (x7 : Vec Ideal S1x256 .f32) (r : Fin 512) (e : Fin 256) :
    outA (grid0.coords t) x3 x4 x5 x6 x7 (ix2 r e) = normed (att ((grid0.coords t) 2).val x3 x4 x5 x6 0 r) (x7 (ix2 0 e)) e := by
  unfold outA
  rw [headA_apply]
  simp only [(sumsA t x3 x4 x5 _ r).1, (sumsA t x3 x4 x5 _ r).2]
  exact att_eq x3 x4 h5 h6 _ (c2_lt t) 0 r _ e

theorem outB_apply (x7 : Vec Ideal S1x256 .f32) (r : Fin 512) (e : Fin 256) :
    outB (grid0.coords t) x3 x4 x5 x6 x7 (ix2 r e) = normed (att ((grid0.coords t) 2).val x3 x4 x5 x6 1 r) (x7 (ix2 0 e)) e := by
  unfold outB
  rw [headB_eq, headA_apply]
  simp only [(sumsB t x3 x4 x5 _ r).1, (sumsB t x3 x4 x5 _ r).2]
  exact att_eq x3 x4 h5 h6 _ (c2_lt t) 1 r _ e

end real

end Cert.AttnEq
end
-- ==== Proof.Diff.RefHead.lean ====
/- The reference of the differential attention over the extended reals at an index of its result: a normalized row of weighted values. -/
module

public import proofs.«01_k».proof.Proof.Diff.Mask
public import proofs.«01_k».proof.Proof.Diff.Share

@[expose] public section

set_option maxRecDepth 16384

noncomputable section

namespace Cert.AttnEq

open Idealize.ShloMosaic Idealize.ShloMosaic.TcCoe Idealize.SL.Sem
open Cert.AttnRefIdeal Cert.AttnRefIdeal.Gen

theorem minus_inf : Ideal.ofBits .f32 0xFF800000#32 = ⊥ := by simp [Ideal.ofBits, Ideal.ieee]

theorem two : Ideal.ofBits .f32 0x40000000#32 = ((2 : ℝ) : EReal) := by
  simp [Ideal.ofBits, Ideal.ieee]
  rw [← EReal.coe_mul]
  norm_num

/-- A power of two. -/
theorem pow_two (x : EReal) : Ideal.pow (Ideal.ofBits .f32 0x40000000#32) x = Ideal.exp2 x := by
  rw [two]
  induction x with
  | bot => rw [Ideal.pow_coe_bot]; norm_num
  | coe r => rw [Ideal.pow_coe_coe, Ideal.exp2_coe]
  | top => rw [Ideal.pow_coe_top]; norm_num

/-- The reference's masked scores of one query. -/
def refSeen (qk : FVec Ideal S16384x4096 .bf16) (b : Fin 4) (h : Fin 8) (f : Fin 2) (Q : Fin 4096) (K : Fin 4096) : EReal :=
  if K.val / 64 ≤ Q.val / 64 then ∑ d : Fin 128, qk (ix2 ⟨b.val * 4096 + K.val, by omega⟩ ⟨2048 + (h.val * 256 + f.val * 128 + d.val), by omega⟩)
    * qk (ix2 ⟨b.val * 4096 + Q.val, by omega⟩ ⟨h.val * 256 + f.val * 128 + d.val, by omega⟩) else ⊥

theorem refScore_eq (qk : FVec Ideal S16384x4096 .bf16) (b : Fin 4) (h : Fin 8) (f : Fin 2) (Q K : Fin 4096) :
    refScore qk (ix5 b h f Q K) = refSeen qk b h f Q K := by
  rw [refScore_apply, refMask_apply, minus_inf]
  unfold refSeen
  by_cases hm : K.val / 64 ≤ Q.val / 64
  · rw [if_pos hm, decide_eq_true hm]
    simp only [Scalar.select, BitVec.ofBool_true, if_true]
    exact Finset.sum_congr rfl fun d _ => @mul_comm EReal _ _ _
  · rw [if_neg hm, decide_eq_false hm]; rfl

theorem refProb_eq (qk : FVec Ideal S16384x4096 .bf16) (b : Fin 4) (h : Fin 8) (f : Fin 2) (Q K : Fin 4096) :
    refProb (refExp (refScore qk)) (ix5 b h f Q K) = share (refSeen qk b h f Q) K := by
  have he : ∀ K, refExp (refScore qk) (ix5 b h f Q K) = Ideal.exp2 (refSeen qk b h f Q K - Finset.univ.sup (refSeen qk b h f Q)) := fun K => by
    rw [refExp_apply, pow_two, minus_inf, fold_max]
    simp only [refScore_eq]
  rw [refProb_apply]
  simp only [he]; rfl

/-- The reference's attention before normalization. -/
def refAtt (qk : FVec Ideal S16384x4096 .bf16) (vt : FVec Ideal S32x2048x512 .bf16) (lam : FVec Ideal S4x128 .f32) (b : Fin 4) (h : Fin 8) (Q : Fin 4096)
    (e : Fin 256) : EReal :=
  head (refSeen qk b h 0 Q) (refSeen qk b h 1 Q) (refLam lam ix0) fun K =>
    vt (ix3 ⟨b.val * 8 + K.val / 512, by omega⟩ ⟨h.val * 256 + e.val, by omega⟩ ⟨K.val % 512, by omega⟩)

theorem refOut_eq (qk : FVec Ideal S16384x4096 .bf16) (vt : FVec Ideal S32x2048x512 .bf16) (lam : FVec Ideal S4x128 .f32) (b : Fin 4) (h : Fin 8) (Q : Fin 4096)
    (e : Fin 256) : refOut vt (refWeight (refProb (refExp (refScore qk))) (refLam lam)) (ix4 b Q h e) = refAtt qk vt lam b h Q e := by
  rw [refOut_apply]
  simp only [refWeight_apply, refProb_eq]; rfl

end Cert.AttnEq
end
-- ==== Proof.Diff.Pre.lean ====
/- What the attention's precondition says: every number of its second and third argument is real. -/
module

public import proofs.«01_k».proof.Defs
public import Idealize.ShloMosaic.Lib.ReduceAll
public import Idealize.ShloMosaic.Lib.Pointwise

@[expose] public section

set_option maxRecDepth 16384

noncomputable section

namespace Cert.AttnEq

open Idealize.ShloMosaic Idealize.ShloMosaic.TcCoe Idealize.SL.Sem

section pre
open Cert.Pre_finite_attn
variable [hF : Cert.Pre_finite_attn.Facts]

/-- A conjunction of bits. -/
theorem and_one : ∀ x y : BitVec 1, IntOp.andi x y = 1#1 → x = 1#1 ∧ y = 1#1 := by decide

theorem inf_eq : Ideal.ofBits .f32 0x7F800000#32 = ⊤ := by simp [Ideal.ofBits, Ideal.ieee]

/-- A number whose absolute value is below plus infinity is real. -/
theorem real_of_lt {x : EReal} (h : FloatOps.cmpf (F := Ideal) (φ := .f32) .olt (FloatOps.hostAbsf (F := Ideal) (φ := .f32) x) (FloatOps.ofBits .f32 0x7F800000#32) = 1#1) :
    ∃ y : ℝ, x = y := by
  have h' : BitVec.ofBool (decide (max x (-x) < Ideal.ofBits .f32 0x7F800000#32)) = 1#1 := h
  rw [inf_eq] at h'
  have hl : max x (-x) < ⊤ := by
    by_contra hn
    rw [decide_eq_false hn] at h'; exact absurd h' (by decide)
  induction x with
  | bot => simp at hl
  | coe r => exact ⟨r, rfl⟩
  | top => simp at hl

theorem pre_real (qk : FVec Ideal S16384x4096 .bf16) (vt : FVec Ideal S32x2048x512 .bf16) (lam : FVec Ideal S4x128 .f32) (sub : FVec Ideal S1x256 .f32)
    (h : Cert.Pre_finite_attn.fn (F := Ideal) qk vt lam sub = fun _ => 1#1) :
    (∀ i, ∃ x : ℝ, vt i = x) ∧ ∀ i, ∃ x : ℝ, lam i = x := by
  have h := congrFun h ix0
  unfold Cert.Pre_finite_attn.fn at h
  dsimp only at h
  obtain ⟨h1, h2⟩ := and_one _ _ h
  exact ⟨fun i => real_of_lt (Host.reduce_andi_all _ _ _ _ _ h1 i), fun i => real_of_lt (Host.reduce_andi_all _ _ _ _ _ h2 i)⟩

end pre

/-- The side conditions the precondition's operations take. -/
theorem pre_facts : Cert.Pre_finite_attn.Facts where
  bitsLt_bf16_f32 := by decide
  h_S_ := by decide
  bcast_S_S32x2048x512 := by decide
  reducesTo_S32x2048x512_S_d0_1_2 := by decide
  bcast_S_S4x128 := by decide
  reducesTo_S4x128_S_d0_1 := by decide

end Cert.AttnEq
end
-- ==== Proof.Diff.Value.lean ====
/- The differential attention: what the kernel's run leaves in its result, index by index, equals the reference's term, where
   values and the factor's vectors are real.

   A grid point is a batch, a pair of heads and a block of 512 queries; it writes the two heads' halves of its block of the result. -/
module

public import proofs.«01_k».proof.Proof.Diff.Ker
public import proofs.«01_k».proof.Proof.Diff.RefHead
public import proofs.«01_k».proof.Proof.Diff.Pre
public import proofs.«01_k».proof.Proof.Diff.IdealFrame

@[expose] public section

set_option maxRecDepth 16384

noncomputable section

namespace Cert.AttnEq

open Idealize.ShloMosaic Idealize.ShloMosaic.TcCoe Idealize.SL.Sem

/-- The reference at an index of its result. -/
theorem refTerm_apply (qk : FVec Ideal Cert.AttnRefIdeal.S16384x4096 .bf16) (vt : FVec Ideal Cert.AttnRefIdeal.S32x2048x512 .bf16)
    (lam : FVec Ideal Cert.AttnRefIdeal.S4x128 .f32) (sub : FVec Ideal Cert.AttnRefIdeal.S1x256 .f32) (R : Fin 16384) (C : Fin 2048) :
    refTerm qk vt lam sub (ix2 R C)
      = normed (refAtt qk vt lam ⟨R.val / 4096, by omega⟩ ⟨C.val / 256, by omega⟩ ⟨R.val % 4096, by omega⟩) (sub (ix2 0 ⟨C.val % 256, by omega⟩)) ⟨C.val % 256, by omega⟩ := by
  unfold refTerm normed
  rw [refNorm_apply]
  simp only [refOut_eq]

open Cert.AttnIdeal Cert.AttnIdeal.Gen

variable (m : (ℓ : Loc nD τ sig) → Buf (Elt Ideal) ℓ)

/-- The queries and keys, the values, the factor's vectors and the gains the call reads. -/
abbrev QK (c : Dev nD) : Vec Ideal S16384x4096 .bf16 := m ((c.tc : Thread nD τ).loc main_arg0)
abbrev VT (c : Dev nD) : Vec Ideal S32x2048x512 .bf16 := m ((c.tc : Thread nD τ).loc main_arg1)
abbrev LAM (c : Dev nD) : Vec Ideal S4x128 .f32 := m ((c.tc : Thread nD τ).loc main_arg2)
abbrev SUB (c : Dev nD) : Vec Ideal S1x256 .f32 := m ((c.tc : Thread nD τ).loc main_arg3)

/-! ## The blocks a point reads -/

/-- A point's batch, pair of heads and block of queries. -/
abbrev pb (t : Fin grid0.N) : ℕ := ((grid0.coords t) 0).val
abbrev ph (t : Fin grid0.N) : ℕ := ((grid0.coords t) 1).val
abbrev pq (t : Fin grid0.N) : ℕ := ((grid0.coords t) 2).val

theorem pb_lt (t : Fin grid0.N) : pb t < 4 := ((grid0.coords t) 0).isLt
theorem ph_lt (t : Fin grid0.N) : ph t < 4 := ((grid0.coords t) 1).isLt
theorem pq_lt (t : Fin grid0.N) : pq t < 8 := ((grid0.coords t) 2).isLt

theorem idx0 : ∀ t : Fin cfg0.N, win0_0.index t (0 : Fin 2) = pb t * 8 + pq t ∧ win0_0.index t (1 : Fin 2) = ph t :=
  (by decide +kernel : ∀ t : Fin grid0.N, _)
theorem idx1 : ∀ t : Fin cfg0.N, win0_1.index t (0 : Fin 2) = pb t ∧ win0_1.index t (1 : Fin 2) = 4 + ph t :=
  (by decide +kernel : ∀ t : Fin grid0.N, _)
theorem idx2 : ∀ t : Fin cfg0.N, win0_2.index t (0 : Fin 3) = pb t ∧ win0_2.index t (1 : Fin 3) = ph t ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = pb t * 8 + pq t ∧ win0_5.index t (1 : Fin 2) = ph t :=
  (by decide +kernel : ∀ t : Fin grid0.N, _)

theorem q_blk (c : Dev nD) (t : Fin cfg0.N) (r : Fin 512) (k : Fin 512) :
    iblk m c 0 t (ix2 r k) = QK m c (ix2 ⟨(pb t * 8 + pq t) * 512 + r.val, by have := pb_lt t; have := pq_lt t; omega⟩ ⟨ph t * 512 + k.val, by have := ph_lt t; omega⟩) := by
  unfold iblk
  rw [View.read_apply]
  show QK m c _ = _
  congr 1; funext b; apply Fin.ext
  match b with
  | ⟨0, _⟩ => show win0_0.index t (0 : Fin 2) * 512 + 1 * r.val = (pb t * 8 + pq t) * 512 + r.val; rw [(idx0 t).1]; omega
  | ⟨1, _⟩ => show win0_0.index t (1 : Fin 2) * 512 + 1 * k.val = ph t * 512 + k.val; rw [(idx0 t).2]; omega

theorem k_blk (c : Dev nD) (t : Fin cfg0.N) (K : Fin 4096) (k : Fin 512) :
    iblk m c 1 t (ix2 K k) = QK m c (ix2 ⟨pb t * 4096 + K.val, by have := pb_lt t; omega⟩ ⟨(4 + ph t) * 512 + k.val, by have := ph_lt t; omega⟩) := by
  unfold iblk
  rw [View.read_apply]
  show QK m c _ = _
  congr 1; funext b; apply Fin.ext
  match b with
  | ⟨0, _⟩ => show win0_1.index t (0 : Fin 2) * 4096 + 1 * K.val = pb t * 4096 + K.val; rw [(idx1 t).1]; omega
  | ⟨1, _⟩ => show win0_1.index t (1 : Fin 2) * 512 + 1 * k.val = (4 + ph t) * 512 + k.val; rw [(idx1 t).2]; omega

theorem v_blk (c : Dev nD) (t : Fin cfg0.N) (j : Fin 8) (e k : Fin 512) :
    iblk m c 2 t (ix3 j e k) = VT m c (ix3 ⟨pb t * 8 + j.val, by have := pb_lt t; omega⟩ ⟨ph t * 512 + e.val, by have := ph_lt t; omega⟩ k) := by
  unfold iblk
  rw [View.read_apply]
  show VT m c _ = _
  congr 1; funext b; apply Fin.ext
  match b with
  | ⟨0, _⟩ => show win0_2.index t (0 : Fin 3) * 8 + 1 * j.val = pb t * 8 + j.val; rw [(idx2 t).1]; omega
  | ⟨1, _⟩ => show win0_2.index t (1 : Fin 3) * 512 + 1 * e.val = ph t * 512 + e.val; rw [(idx2 t).2.1]; omega
  | ⟨2, _⟩ => show win0_2.index t (2 : Fin 3) * 512 + 1 * k.val = k.val; rw [(idx2 t).2.2]; omega

theorem l_blk (c : Dev nD) (t : Fin cfg0.N) (a : Fin 4) (k : Fin 128) : iblk m c 3 t (ix2 a k) = LAM m c (ix2 a k) := by
  unfold iblk
  rw [View.read_apply]
  show LAM m c _ = _
  congr 1; funext b; apply Fin.ext
  match b with
  | ⟨0, _⟩ => show win0_3.index t (0 : Fin 2) * 4 + 1 * a.val = a.val; rw [(idx3 t).1]; omega
  | ⟨1, _⟩ => show win0_3.index t (1 : Fin 2) * 128 + 1 * k.val = k.val; rw [(idx3 t).2]; omega

theorem s_blk (c : Dev nD) (t : Fin cfg0.N) (a : Fin 1) (k : Fin 256) : iblk m c 4 t (ix2 a k) = SUB m c (ix2 a k) := by
  unfold iblk
  rw [View.read_apply]
  show SUB m c _ = _
  congr 1; funext b; apply Fin.ext
  match b with
  | ⟨0, _⟩ => show win0_4.index t (0 : Fin 2) * 1 + 1 * a.val = a.val; rw [(idx4 t).1]; omega
  | ⟨1, _⟩ => show win0_4.index t (1 : Fin 2) * 256 + 1 * k.val = k.val; rw [(idx4 t).2]; omega

/-! ## A point's attention is the reference's -/

theorem seen_eq (c : Dev nD) (t : Fin cfg0.N) (o : Fin 4) (r : Fin 512) (b : Fin 4) (h : Fin 8) (f : Fin 2) (Q : Fin 4096)
    (hb : b.val = pb t) (ho : h.val * 256 + f.val * 128 = ph t * 512 + o.val * 128) (hQ : Q.val = pq t * 512 + r.val) :
    seen (pq t) (tau (iblk m c 0 t) (iblk m c 1 t) o) r = refSeen (QK m c) b h f Q := by
  funext K
  unfold seen refSeen tau
  rw [← hQ]
  congr 1
  refine Finset.sum_congr rfl fun d _ => ?_
  rw [q_blk, k_blk]
  congr 2
  · congr 1 <;> apply Fin.ext <;> simp only <;> omega
  · congr 1 <;> apply Fin.ext <;> simp only <;> omega

theorem lam_eq (c : Dev nD) (t : Fin cfg0.N) : k0_pay52 (iblk m c 3 t) (ix2 0 0) = refLam (LAM m c) ix0 := by
  rw [lam_apply, refLam_apply]
  simp only [l_blk]

theorem att_blk (c : Dev nD) (t : Fin cfg0.N) (s : Fin 2) (r : Fin 512) (b : Fin 4) (h : Fin 8) (Q : Fin 4096)
    (hb : b.val = pb t) (hh : h.val = 2 * ph t + s.val) (hQ : Q.val = pq t * 512 + r.val) :
    att (pq t) (iblk m c 0 t) (iblk m c 1 t) (iblk m c 2 t) (iblk m c 3 t) s r = refAtt (QK m c) (VT m c) (LAM m c) b h Q := by
  funext e
  unfold att refAtt
  rw [seen_eq m c t ⟨2 * s.val, by omega⟩ r b h 0 Q hb (by simp only [Fin.val_zero]; omega) hQ,
    seen_eq m c t ⟨2 * s.val + 1, by omega⟩ r b h 1 Q hb (by simp only [Fin.val_one]; omega) hQ, lam_eq]
  congr 1
  funext K
  unfold row
  rw [v_blk]
  congr 1
  congr 1 <;> apply Fin.ext <;> simp only <;> omega

/-! ## What a point writes -/

theorem canon_right (wA wB : FVec Ideal S512x256 .bf16) (r : Fin 512) (C : Fin 512) (hC : 256 ≤ C.val) :
    View.canon (Val := Elt Ideal) ([⟨Rect.unit (s := S512x512) ![0, 256] S512x256.size inb_S512x512_S512x256_0_256, wB⟩,
      ⟨Rect.unit (s := S512x512) ![0, 0] S512x256.size inb_S512x512_S512x256_0_0, wA⟩] : List (View.Piece (Elt Ideal) S512x512 .bf16)) (ix2 r C)
      = wB (ix2 r ⟨C.val - 256, by omega⟩) := by
  have h : (ix2 r C : S512x512.Idx) = (Rect.unit (s := S512x512) ![0, 256] S512x256.size inb_S512x512_S512x256_0_256).emb (ix2 r ⟨C.val - 256, by omega⟩) := by
    funext a; apply Fin.ext
    match a with
    | ⟨0, _⟩ => show r.val = 0 + 1 * r.val; omega
    | ⟨1, _⟩ => show C.val = 256 + 1 * (C.val - 256); omega
  rw [h, View.canon_cons_emb]

theorem canon_left (wA wB : FVec Ideal S512x256 .bf16) (r : Fin 512) (C : Fin 512) (hC : C.val < 256) :
    View.canon (Val := Elt Ideal) ([⟨Rect.unit (s := S512x512) ![0, 256] S512x256.size inb_S512x512_S512x256_0_256, wB⟩,
      ⟨Rect.unit (s := S512x512) ![0, 0] S512x256.size inb_S512x512_S512x256_0_0, wA⟩] : List (View.Piece (Elt Ideal) S512x512 .bf16)) (ix2 r C)
      = wA (ix2 r ⟨C.val, hC⟩) := by
  rw [View.canon_cons_of_not_mem]
  · have h : (ix2 r C : S512x512.Idx) = (Rect.unit (s := S512x512) ![0, 0] S512x256.size inb_S512x512_S512x256_0_0).emb (ix2 r ⟨C.val, hC⟩) := by
      funext a; apply Fin.ext
      match a with
      | ⟨0, _⟩ => show r.val = 0 + 1 * r.val; omega
      | ⟨1, _⟩ => show C.val = 0 + 1 * C.val; omega
    rw [h, View.canon_cons_emb]
  · rw [Rect.mem_set_unit]
    intro h
    have h1 : 256 ≤ C.val := (h 1).1
    omega

section real
variable (c : Dev nD) (hv : ∀ i, IsR (VT m c i)) (hl : ∀ i, IsR (LAM m c i))
include hv hl

/-- What a point leaves in its block is the reference's term there. -/
theorem out_blk (t : Fin cfg0.N) (r C : Fin 512) (R : Fin 16384) (D : Fin 2048) (hR : R.val = (pb t * 8 + pq t) * 512 + r.val)
    (hD : D.val = ph t * 512 + C.val) :
    outAt0 m c t (ix2 r C) = refTerm (QK m c) (VT m c) (LAM m c) (SUB m c) (ix2 R D) := by
  have h5 : ∀ i, IsR (iblk m c 2 t i) := fun i => hv _
  have h6 : ∀ i, IsR (iblk m c 3 t i) := fun i => hl _
  have b1 := pb_lt t
  have b2 := pq_lt t
  have b3 := ph_lt t
  rw [refTerm_apply]
  unfold outAt0 pieces0
  rw [kernelRun0_eq]
  by_cases hC : C.val < 256
  · rw [canon_left _ _ r C hC, outA_apply t _ _ h5 h6, s_blk, att_blk m c t 0 r ⟨R.val / 4096, by omega⟩ ⟨D.val / 256, by omega⟩ ⟨R.val % 4096, by omega⟩
      (by simp only; omega) (by simp only [Fin.val_zero]; omega) (by simp only; omega)]
    have e : (⟨C.val, hC⟩ : Fin 256) = ⟨D.val % 256, by omega⟩ := Fin.ext (by simp only; omega)
    rw [e]
  · rw [canon_right _ _ r C (by omega), outB_apply t _ _ h5 h6, s_blk, att_blk m c t 1 r ⟨R.val / 4096, by omega⟩ ⟨D.val / 256, by omega⟩ ⟨R.val % 4096, by omega⟩
      (by simp only; omega) (by simp only [Fin.val_one]; omega) (by simp only; omega)]
    have e : (⟨C.val - 256, by omega⟩ : Fin 256) = ⟨D.val % 256, by omega⟩ := Fin.ext (by simp only; omega)
    rw [e]

/-- What a point writes back is its block of the reference's term. -/
theorem flushed_eq (t : Fin cfg0.N) :
    (dats m 0 c).flushed 5 t = ((cfg0.win 5).blk t).view.read (Elt Ideal) (refTerm (QK m c) (VT m c) (LAM m c) (SUB m c)) := by
  show (cfg0.win 5).cut (grid0.coords t) ((dats m 0 c).after 5 t) = _
  rw [after0_5]
  funext y
  have hy0 : (y 0).val < 512 := (y 0).isLt
  have hy1 : (y 1).val < 512 := (y 1).isLt
  have b1 := pb_lt t
  have b2 := pq_lt t
  have b3 := ph_lt t
  have hx : (cfg0.win 5).xinj (grid0.coords t) y = (ix2 ⟨(y 0).val, hy0⟩ ⟨(y 1).val, hy1⟩ : S512x512.Idx) := by
    funext a; apply Fin.ext
    match a with
    | ⟨0, _⟩ => rfl
    | ⟨1, _⟩ => rfl
  have he : ((cfg0.win 5).blk t).view.emb y
      = (ix2 ⟨(pb t * 8 + pq t) * 512 + (y 0).val, by omega⟩ ⟨ph t * 512 + (y 1).val, by omega⟩ : S16384x2048.Idx) := by
    funext a; apply Fin.ext
    match a with
    | ⟨0, _⟩ => show win0_5.index t (0 : Fin 2) * 512 + 1 * (y 0).val = (pb t * 8 + pq t) * 512 + (y 0).val; rw [(idx5 t).1]; omega
    | ⟨1, _⟩ => show win0_5.index t (1 : Fin 2) * 512 + 1 * (y 1).val = ph t * 512 + (y 1).val; rw [(idx5 t).2]; omega
  show outAt0 m c t ((cfg0.win 5).xinj (grid0.coords t) y) = refTerm (QK m c) (VT m c) (LAM m c) (SUB m c) (((cfg0.win 5).blk t).view.emb y)
  rw [hx, he]
  exact out_blk m c hv hl t _ _ _ _ rfl rfl

omit hv hl in
/-- Every block of the result is some point's. -/
theorem onto : ∀ (a : Fin 32) (b : Fin 4), ∃ t : Fin grid0.N, (cfg0.win 5).flush t = true ∧ win0_5.index t (0 : Fin 2) = a.val ∧ win0_5.index t (1 : Fin 2) = b.val := by
  decide +kernel

omit hv hl in
theorem covered (i : S16384x2048.Idx) : ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, hf, h0, h1⟩ := onto ⟨(i 0).val / 512, by omega⟩ ⟨(i 1).val / 512, by omega⟩
  refine ⟨t, hf, ?_⟩
  show i ∈ ((View.whole main_v0).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; simp only at h0; omega
  | ⟨1, _⟩ => show win0_5.index t (1 : Fin 2) * 512 ≤ (i 1).val ∧ (i 1).val < win0_5.index t (1 : Fin 2) * 512 + 512; simp only at h1; omega

/-- What the run leaves in the result array is the reference's term of the call's arguments. -/
theorem value : (dats m 0 c).arrAt 5 cfg0.N = refTerm (QK m c) (VT m c) (LAM m c) (SUB m c) :=
  (dats m 0 c).arrAt_eq_of_cover 5 _ (fun t _ => flushed_eq m c hv hl t) covered

end real

/-! ## The claims -/

/-- The reference ends with its arguments unchanged and every counter at zero. -/
theorem frame_ref : Cert.quiescent_AttnRefIdeal := fun m g _ =>
  (θ_run _ _ _).mono (fun r h => ⟨fun c => (h c).2, Idealize.ShloMosaic.sem_eq_zero_of_no_sems (by decide) r.2⟩)
    (Cert.AttnRefIdeal.Value.run m g)

/-- Over the extended reals the kernel and the reference leave the same array, from the same arguments, where values and the factor's vectors are real. -/
theorem algebraic [hF : Cert.Pre_finite_attn.Facts] : Cert.algebraic_AttnIdeal_AttnRefIdeal_pre_finite_attn := by
  intro m g m' g' hpre hargs
  have hk := θ_run_and (run_main m g) (unchanged m g)
  refine ⟨fun c => refTerm (QK m c) (VT m c) (LAM m c) (SUB m c), (θ_run _ _ _).mono (fun r h c => ?_) hk,
    (θ_run _ _ _).mono (fun r h c => ⟨?_, (h c).2⟩) (Cert.AttnRefIdeal.Value.run m' g')⟩
  · obtain ⟨h1, h2⟩ := pre_real _ _ _ _ (hpre c)
    exact ⟨((h.1 c).1 5).trans (value m c h1 h2), h.2 c⟩
  · obtain ⟨h0, h1, h2, h3⟩ := hargs c
    rw [(h c).1, res_eq, h0, h1, h2, h3]

end Cert.AttnEq
end
-- ==== Proof.Gla.Spec.lean ====
/- Gated linear attention over the extended reals, chunk by chunk: the state of a head after its first chunks, the output of
   a chunk, the normalized and gated result. Rows and columns are numbers. -/
module

public import proofs.«01_k».proof.Defs
public import Idealize.ShloMosaic.Lib.Pointwise

@[expose] public section

noncomputable section

namespace Cert.GlaEq

open Idealize.ShloMosaic Idealize.SL.Sem

/-- The entries of a matrix at numbers, zero outside it. -/
def at2 {R C : ℕ} (x : (⟨2, ![R, C]⟩ : Shape).Idx → EReal) (i j : ℕ) : EReal :=
  if h : i < R ∧ j < C then x (ix2 ⟨i, h.1⟩ ⟨j, h.2⟩) else 0

theorem at2_of {R C : ℕ} (x : (⟨2, ![R, C]⟩ : Shape).Idx → EReal) (i j : ℕ) (hi : i < R) (hj : j < C) :
    at2 x i j = x (ix2 ⟨i, hi⟩ ⟨j, hj⟩) := dif_pos ⟨hi, hj⟩

/-- The same for arrays of three dimensions. -/
def at3 {A R C : ℕ} (x : (⟨3, ![A, R, C]⟩ : Shape).Idx → EReal) (a i j : ℕ) : EReal :=
  if h : a < A ∧ i < R ∧ j < C then x (ix3 ⟨a, h.1⟩ ⟨i, h.2.1⟩ ⟨j, h.2.2⟩) else 0

theorem at3_of {A R C : ℕ} (x : (⟨3, ![A, R, C]⟩ : Shape).Idx → EReal) (a i j : ℕ) (ha : a < A) (hi : i < R) (hj : j < C) :
    at3 x a i j = x (ix3 ⟨a, ha⟩ ⟨i, hi⟩ ⟨j, hj⟩) := dif_pos ⟨ha, hi, hj⟩

section recurrence
variable (b q k v : ℕ → ℕ → EReal) (X : ℕ → ℕ → ℕ → EReal)

/-- The state of head `h` after `n` chunks of 64 rows, started from `X`: each chunk decays it by the chunk's whole decay
    and adds its keys, decayed to the chunk's end, against its values. -/
def state (h : ℕ) : ℕ → ℕ → ℕ → EReal
  | 0, e, d => X h e d
  | n + 1, e, d =>
    Ideal.exp (b (64 * n + 63) (256 * h + d)) * state h n e d
      + ∑ s : Fin 64, v (64 * n + s) (512 * h + e)
          * (k (64 * n + s) (256 * h + d) * Ideal.exp (0 - b (64 * n + s) (256 * h + d))
              * Ideal.exp (b (64 * n + 63) (256 * h + d)))

/-- The weight of row `s` of chunk `n` for the chunk's row `i`. -/
def weight (h n i s : ℕ) : EReal :=
  if s ≤ i then ∑ d : Fin 256, q (64 * n + i) (256 * h + d) * Ideal.exp (b (64 * n + i) (256 * h + d))
    * (k (64 * n + s) (256 * h + d) * Ideal.exp (0 - b (64 * n + s) (256 * h + d))) else 0

/-- Row `i` of chunk `n` of head `h` before normalization: the chunk's own rows up to `i`, and the state before the chunk. -/
def out (h n i e : ℕ) : EReal :=
  (∑ s : Fin 64, weight b q k h n i s * v (64 * n + s) (512 * h + e))
    + ∑ d : Fin 256, q (64 * n + i) (256 * h + d) * Ideal.exp (b (64 * n + i) (256 * h + d)) * state b k v X h n e d

/-- The same by the row and the column of the array. -/
def outAt (i j : ℕ) : EReal := out b q k v X (j / 512) (i / 64) (i % 64) (j % 512)

/-- Entry `(i, j)` normalized over its head's 512 columns, weighted by `g` and gated by `r`. -/
def yAt (r : ℕ → ℕ → EReal) (g : ℕ → EReal) (i j : ℕ) : EReal :=
  outAt b q k v X i j
    * Ideal.rsqrt (Ideal.div (∑ e : Fin 512, outAt b q k v X i (512 * (j / 512) + e) * outAt b q k v X i (512 * (j / 512) + e))
        (Ideal.ofBits .f32 0x44000000#32) + Ideal.ofBits .f32 0x358637BD#32)
    * g (j % 512) * (r i j * Ideal.logistic (r i j))

end recurrence

/-- The logarithm of an entry's decay: the logarithm of the logistic function of `g`, over 16. -/
def logDecay (g : EReal) : EReal :=
  Ideal.div (-(max (-g) 0 + Ideal.log1p (Ideal.exp (-(FloatOps.absf (F := Ideal) (φ := .f32) (-g))))))
    (Ideal.ofBits .f32 0x41800000#32)

/-- Half the hyperbolic tangent of half a number, plus a half, is its logistic function. -/
theorem half_tanh (r : EReal) :
    Ideal.ofBits .f32 0x3F000000#32 * Ideal.tanh (Ideal.ofBits .f32 0x3F000000#32 * r) + Ideal.ofBits .f32 0x3F000000#32
      = Ideal.logistic r := by
  have h2 : Ideal.ofBits .f32 0x3F000000#32 = ((1 / 2 : ℝ) : EReal) := by
    simp [Ideal.ofBits, Ideal.ieee, -EReal.coe_mul]; norm_num
  rw [h2]
  induction r using EReal.rec with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one]
    norm_cast; norm_num
  | coe r =>
    rw [← EReal.coe_mul, Ideal.tanh_coe, Ideal.logistic_coe]
    norm_cast
    rw [Real.tanh_eq_sinh_div_cosh, Real.sinh_eq, Real.cosh_eq]
    have e1 : Real.exp (1 / 2 * r) ≠ 0 := (Real.exp_pos _).ne'
    have e2 : Real.exp (-r) = Real.exp (-(1 / 2 * r)) * Real.exp (-(1 / 2 * r)) := by rw [← Real.exp_add]; congr 1; ring
    have e3 : Real.exp (1 / 2 * r) * Real.exp (-(1 / 2 * r)) = 1 := by rw [← Real.exp_add]; simp
    have p1 := Real.exp_pos (1 / 2 * r)
    have p2 := Real.exp_pos (-(1 / 2 * r))
    rw [e2]
    generalize Real.exp (1 / 2 * r) = u at *
    generalize Real.exp (-(1 / 2 * r)) = w at *
    field_simp
    nlinarith

end Cert.GlaEq
-- ==== Proof.Gla.Body.lean ====
/- One chunk of one head in the gated linear attention's body: the two expressions the body repeats for its 8 chunks and
   4 heads, and what they are at an index. -/
module

public import proofs.«01_k».proof.Defs
public import proofs.«01_k».proof.Proof.Gen.KernelIdeal.Value
public import proofs.«01_k».proof.Proof.Gla.Spec
public import Idealize.ShloMosaic.Lib.Pointwise
public import Idealize.ShloMosaic.Lib.Pipeline.ReadBack

@[expose] public section

set_option maxRecDepth 16384

noncomputable section

namespace Cert.GlaEq

open Idealize.ShloMosaic Idealize.ShloMosaic.TcCoe Idealize.SL.Sem
open Cert.KernelIdeal Cert.KernelIdeal.Gen Cert.KernelIdeal.Value

section expressions
variable (o : Fin 2 → Nat) (hs : S512x1024.Slices o S64x256) (b : FVec Ideal S512x1024 .f32)
  (q k : FVec Ideal S64x256 .bf16) (v : FVec Ideal S64x512 .bf16) (st : FVec Ideal S1x512x256 .f32)

/-- The chunk's decays of one head. -/
def dec : FVec Ideal S64x256 .f32 := extractStridedSlice S64x256 o b hs

/-- The decay over the whole chunk. -/
def decAll : FVec Ideal S1x256 .f32 := exp (extractStridedSlice S1x256 ![63, 0] (dec o hs b) slices_S64x256_o63_0_S1x256)

/-- The keys with the decay taken away. -/
def kInv : FVec Ideal S64x256 .f32 :=
  mulf (extf .f32 k bitsLt_bf16_f32)
    (exp (subf (broadcast S64x256 (Scalar.ofBits (F := Ideal) .f32 0x00000000#32)) (dec o hs b)))

/-- The queries with the decay. -/
def qDec : FVec Ideal S64x256 .bf16 := truncf .bf16 (mulf (extf .f32 q bitsLt_bf16_f32) (exp (dec o hs b))) bitsLt_bf16_f32

/-- The chunk's output of one head, before normalization. -/
def pieceO : FVec Ideal S64x512 .f32 :=
  shapeCast S64x512
    (addf
      (matmul dot_S64x64_S64x512_S64x512_1_0_0_1_n_n none
        (truncf .bf16
          (select (k0_pay12)
            (matmul dot_S64x256_S64x256_S64x64_1_1_0_0_n_n none (qDec o hs b q) (truncf .bf16 (kInv o hs b k) bitsLt_bf16_f32)
              (constant S64x64 .f32 0x00000000#32))
            (broadcast S64x64 (Scalar.ofBits (F := Ideal) .f32 0x00000000#32))) bitsLt_bf16_f32) v
        (constant S64x512 .f32 0x00000000#32))
      (matmul dot_S64x256_S512x256_S64x512_1_1_0_0_n_n none (qDec o hs b q)
        (truncf .bf16 (shapeCast S512x256 st shapeCasts_S1x512x256_S512x256) bitsLt_bf16_f32)
        (constant S64x512 .f32 0x00000000#32)))
    shapeCasts_S64x512_S64x512

/-- The head's state after the chunk. -/
def pieceS : FVec Ideal S1x512x256 .f32 :=
  shapeCast S1x512x256
    (addf
      (mulf (broadcastTo S512x256 (decAll o hs b) broadcasts_S1x256_S512x256)
        (shapeCast S512x256 st shapeCasts_S1x512x256_S512x256))
      (matmul dot_S64x512_S64x256_S512x256_0_0_1_1_n_n none v
        (truncf .bf16 (mulf (kInv o hs b k) (broadcastTo S64x256 (decAll o hs b) broadcasts_S1x256_S64x256)) bitsLt_bf16_f32)
        (constant S512x256 .f32 0x00000000#32)))
    shapeCasts_S512x256_S1x512x256

end expressions

theorem pieceS_apply (o : Fin 2 → Nat) (hs : S512x1024.Slices o S64x256) (b : FVec Ideal S512x1024 .f32)
    (k : FVec Ideal S64x256 .bf16) (v : FVec Ideal S64x512 .bf16) (st : FVec Ideal S1x512x256 .f32)
    (e : Fin 512) (d : Fin 256) :
    pieceS o hs b k v st (ix3 0 e d)
      = Ideal.exp (dec o hs b (ix2 63 d)) * st (ix3 0 e d)
        + ∑ s : Fin 64, v (ix2 s e) * (k (ix2 s d) * Ideal.exp (0 - dec o hs b (ix2 s d)) * Ideal.exp (dec o hs b (ix2 63 d))) := by
  pointwise [pieceS, decAll, kInv]

/-- Comparing two row numbers of a chunk as words. -/
theorem le_word : ∀ s i : Fin 64, IntOp.cmpi CmpIPredicate.sle (BitVec.ofNat 32 s.val) (BitVec.ofNat 32 i.val)
    = if s.val ≤ i.val then 1#1 else 0#1 := by decide +kernel

theorem pieceO_apply (o : Fin 2 → Nat) (hs : S512x1024.Slices o S64x256) (b : FVec Ideal S512x1024 .f32)
    (q k : FVec Ideal S64x256 .bf16) (v : FVec Ideal S64x512 .bf16) (st : FVec Ideal S1x512x256 .f32)
    (i : Fin 64) (e : Fin 512) :
    pieceO o hs b q k v st (ix2 i e)
      = (∑ s : Fin 64, (if s.val ≤ i.val then ∑ d : Fin 256, q (ix2 i d) * Ideal.exp (dec o hs b (ix2 i d))
            * (k (ix2 s d) * Ideal.exp (0 - dec o hs b (ix2 s d))) else 0) * v (ix2 s e))
        + ∑ d : Fin 256, q (ix2 i d) * Ideal.exp (dec o hs b (ix2 i d)) * st (ix3 0 e d) := by
  have key : pieceO o hs b q k v st (ix2 i e)
      = (∑ s : Fin 64, Scalar.select (IntOp.cmpi CmpIPredicate.sle (BitVec.ofNat 32 s.val) (BitVec.ofNat 32 i.val))
          ((∑ d : Fin 256, q (ix2 i d) * Ideal.exp (dec o hs b (ix2 i d))
            * (k (ix2 s d) * Ideal.exp (0 - dec o hs b (ix2 s d)))) * v (ix2 s e)) 0)
        + ∑ d : Fin 256, q (ix2 i d) * Ideal.exp (dec o hs b (ix2 i d)) * st (ix3 0 e d) := by
    pointwise [pieceO, kInv, qDec, k0_pay12]
  rw [key]
  congr 1
  refine Finset.sum_congr rfl fun s _ => ?_
  rw [le_word]
  by_cases h : s.val ≤ i.val
  · rw [if_pos h, if_pos h]; rfl
  · rw [if_neg h, if_neg h, zero_mul]; rfl

section chunk
variable (b : FVec Ideal S512x1024 .f32) (x0 x1 : FVec Ideal S512x1024 .bf16) (x2 : FVec Ideal S512x2048 .bf16)
  (X : ℕ → ℕ → ℕ → EReal)

/-- A head's state after `n` chunks, as the array the body keeps. -/
def slab (h n : ℕ) : FVec Ideal S1x512x256 .f32 := fun x => state (at2 b) (at2 x1) (at2 x2) X h n (x 1).val (x 2).val

/-- The chunk's decays at an index. -/
theorem dec_apply (o₀ o₁ : ℕ) (hs : S512x1024.Slices ![o₀, o₁] S64x256) (s : Fin 64) (d : Fin 256) :
    dec ![o₀, o₁] hs b (ix2 s d) = at2 b (o₀ + s.val) (o₁ + d.val) := by
  have h0 : o₀ + 64 ≤ 512 := hs.2 0
  have h1 : o₁ + 256 ≤ 1024 := hs.2 1
  rw [at2_of _ _ _ (by omega) (by omega)]
  unfold dec
  rw [Pointwise.extractStridedSlice_apply]
  congr 1
  funext a
  match a with
  | ⟨0, _⟩ => rfl
  | ⟨1, _⟩ => rfl

/-- The state's expression takes the state after `n` chunks to that after `n + 1`. -/
theorem step (h n : ℕ) (hs : S512x1024.Slices ![64 * n, 256 * h] S64x256) (k : FVec Ideal S64x256 .bf16)
    (v : FVec Ideal S64x512 .bf16) (st : FVec Ideal S1x512x256 .f32)
    (hk : ∀ s d, k (ix2 s d) = at2 x1 (64 * n + s.val) (256 * h + d.val))
    (hv : ∀ s e, v (ix2 s e) = at2 x2 (64 * n + s.val) (512 * h + e.val))
    (hst : st = slab b x1 x2 X h n) :
    pieceS ![64 * n, 256 * h] hs b k v st = slab b x1 x2 X h (n + 1) := by
  funext x
  obtain ⟨a, e, d, rfl⟩ : ∃ (a : Fin 1) (e : Fin 512) (d : Fin 256), x = ix3 a e d := ⟨x 0, x 1, x 2, by
    funext i; match i with | ⟨0, _⟩ => rfl | ⟨1, _⟩ => rfl | ⟨2, _⟩ => rfl⟩
  obtain rfl : a = 0 := Subsingleton.elim _ _
  rw [pieceS_apply, hst]
  simp only [dec_apply, hk, hv]
  rfl

/-- The output's expression over the state after `n` chunks is chunk `n` of the output. -/
theorem outStep (h n : ℕ) (hn : n < 8) (hh : h < 4) (hs : S512x1024.Slices ![64 * n, 256 * h] S64x256)
    (q k : FVec Ideal S64x256 .bf16) (v : FVec Ideal S64x512 .bf16) (st : FVec Ideal S1x512x256 .f32)
    (hq : ∀ s d, q (ix2 s d) = at2 x0 (64 * n + s.val) (256 * h + d.val))
    (hk : ∀ s d, k (ix2 s d) = at2 x1 (64 * n + s.val) (256 * h + d.val))
    (hv : ∀ s e, v (ix2 s e) = at2 x2 (64 * n + s.val) (512 * h + e.val))
    (hst : st = slab b x1 x2 X h n) (inb) (x : S64x512.Idx) :
    pieceO ![64 * n, 256 * h] hs b q k v st x
      = (fun y : S512x2048.Idx => outAt (at2 b) (at2 x0) (at2 x1) (at2 x2) X (y 0).val (y 1).val)
          ((Rect.unit (s := S512x2048) ![64 * n, 512 * h] S64x512.size inb).emb x) := by
  obtain ⟨i, e, rfl⟩ : ∃ (i : Fin 64) (e : Fin 512), x = ix2 i e := ⟨x 0, x 1, by
    funext i; match i with | ⟨0, _⟩ => rfl | ⟨1, _⟩ => rfl⟩
  rw [pieceO_apply, hst]
  simp only [dec_apply, hk, hv, hq]
  have e0 : ((Rect.unit (s := S512x2048) ![64 * n, 512 * h] S64x512.size inb).emb (ix2 i e) 0).val = 64 * n + i.val := by
    show 64 * n + 1 * i.val = _; omega
  have e1 : ((Rect.unit (s := S512x2048) ![64 * n, 512 * h] S64x512.size inb).emb (ix2 i e) 1).val = 512 * h + e.val := by
    show 512 * h + 1 * e.val = _; omega
  show _ = outAt _ _ _ _ X _ _
  rw [e0, e1]
  unfold outAt
  rw [show (512 * h + e.val) / 512 = h by omega, show (64 * n + i.val) / 64 = n by omega,
    show (512 * h + e.val) % 512 = e.val by omega, show (64 * n + i.val) % 64 = i.val by omega]
  rfl

end chunk

/-- A load of a block of a whole buffer reads the buffer's entries there. -/
theorem load_apply {R C r c : ℕ} (a : Memref sig .tc .vmem ⟨2, ![R, C]⟩ .bf16) (ha : a.IsWhole)
    (x : FVec Ideal ⟨2, ![R, C]⟩ .bf16) (o₀ o₁ : ℕ) (inb) (i : Fin r) (j : Fin c) :
    View.readAt (Elt Ideal) a.view (Rect.unit (s := ⟨2, ![R, C]⟩) ![o₀, o₁] (⟨2, ![r, c]⟩ : Shape).size inb).toLoadRect (ha.unread x)
        (ix2 i j)
      = at2 x (o₀ + i.val) (o₁ + j.val) := by
  have h0 : o₀ + r ≤ R := inb 0
  have h1 : o₁ + c ≤ C := inb 1
  rw [View.readAt_eq_ld, ha.read_unread, at2_of _ _ _ (by omega) (by omega)]
  show x _ = x _
  congr 1
  funext b
  apply Fin.ext
  match b with
  | ⟨0, _⟩ => show o₀ + 1 * i.val = o₀ + i.val; omega
  | ⟨1, _⟩ => show o₁ + 1 * j.val = o₁ + j.val; omega

/-- What the body reads of a head's state before its first chunk: the state the point before left, -/
theorem slab_of_array (b : FVec Ideal S512x1024 .f32) (x1 : FVec Ideal S512x1024 .bf16) (x2 : FVec Ideal S512x2048 .bf16)
    (a : Memref sig .tc .vmem S4x512x256 .f32) (ha : a.IsWhole) (xs : FVec Ideal S4x512x256 .f32) (h : ℕ) (hh : h < 4) (inb) :
    View.readAt (Elt Ideal) a.view (Rect.unit (s := S4x512x256) ![h, 0, 0] S1x512x256.size inb).toLoadRect (ha.unread xs)
      = slab b x1 x2 (fun h e d => at3 xs h e d) h 0 := by
  rw [View.readAt_eq_ld, ha.read_unread]
  funext x
  have e1 : (x 1).val < 512 := (x 1).isLt
  have e2 : (x 2).val < 256 := (x 2).isLt
  show xs _ = at3 xs h (x 1).val (x 2).val
  rw [at3_of _ _ _ _ hh e1 e2]
  congr 1
  funext i
  apply Fin.ext
  match i with
  | ⟨0, _⟩ => show h + 1 * (x 0).val = h; have : (x 0).val < 1 := (x 0).isLt; omega
  | ⟨1, _⟩ => show 0 + 1 * (x 1).val = (x 1).val; omega
  | ⟨2, _⟩ => show 0 + 1 * (x 2).val = (x 2).val; omega

/-- or zero. -/
theorem slab_of_zero (b : FVec Ideal S512x1024 .f32) (x1 : FVec Ideal S512x1024 .bf16) (x2 : FVec Ideal S512x2048 .bf16)
    (a : Memref sig .tc .vmem S4x512x256 .f32) (h : ℕ) (inb inb') :
    a.view.readCov [(⟨Rect.unit (s := S4x512x256) ![0, 0, 0] S4x512x256.size inb, k0_pay2 (F := Ideal)⟩ : View.Piece (Elt Ideal) S4x512x256 .f32)]
        (Rect.unit (s := S4x512x256) ![h, 0, 0] S1x512x256.size inb').toLoadRect
      = slab b x1 x2 (fun _ _ _ => 0) h 0 := by
  rw [View.readCov_fill _ _ _ _ _ (by decide)]
  funext x
  show k0_pay2 (F := Ideal) _ = 0
  generalize (Rect.unit (s := S4x512x256) ![h, 0, 0] S1x512x256.size inb').emb x = y
  obtain ⟨p, q, r, rfl⟩ : ∃ p q r, y = ix3 p q r := ⟨y 0, y 1, y 2, by
    funext i; match i with | ⟨0, _⟩ => rfl | ⟨1, _⟩ => rfl | ⟨2, _⟩ => rfl⟩
  pointwise [k0_pay2]

/-! ## Normalization and gate -/

/-- One head's normalized and gated rows. -/
def finPiece (o₁ : ℕ) (hs : S512x2048.Slices ![0, o₁] S512x512) (g : FVec Ideal S512x2048 .f32) (oa : FVec Ideal S512x512 .f32)
    (gn : FVec Ideal S1x512 .f32) : FVec Ideal S512x512 .bf16 :=
  truncf .bf16
    (mulf
      (mulf
        (mulf oa
          (broadcastTo S512x512
            (rsqrt
              (addf
                (divf
                  (shapeCast S512x1
                    (multiReduction .add [1] S512 (mulf oa oa) 0x00000000#32 reduces_S512x512_S512 (.inl rfl) rfl)
                    shapeCasts_S512_S512x1)
                  (broadcast S512x1 (Scalar.ofBits (F := Ideal) .f32 0x44000000#32)))
                (broadcast S512x1 (Scalar.ofBits (F := Ideal) .f32 0x358637BD#32))))
            broadcasts_S512x1_S512x512))
        (broadcastTo S512x512 gn broadcasts_S1x512_S512x512))
      (extractStridedSlice S512x512 ![0, o₁] g hs)) bitsLt_bf16_f32

theorem finPiece_apply (o₁ : ℕ) (hs : S512x2048.Slices ![0, o₁] S512x512) (g : FVec Ideal S512x2048 .f32) (oa : FVec Ideal S512x512 .f32)
    (gn : FVec Ideal S1x512 .f32) (i j : Fin 512) (hj : o₁ + j.val < 2048) :
    finPiece o₁ hs g oa gn (ix2 i j)
      = oa (ix2 i j) * Ideal.rsqrt (Ideal.div (∑ e : Fin 512, oa (ix2 i e) * oa (ix2 i e)) (Ideal.ofBits .f32 0x44000000#32)
          + Ideal.ofBits .f32 0x358637BD#32) * gn (ix2 0 j) * g (ix2 i ⟨o₁ + j.val, hj⟩) := by
  pointwise [finPiece]

/-- The gate at an index. -/
theorem gate_apply (r : FVec Ideal S512x2048 .bf16) (i : Fin 512) (j : Fin 2048) :
    k0_pay289 (F := Ideal) r (ix2 i j) = r (ix2 i j) * Ideal.logistic (r (ix2 i j)) := by
  rw [← half_tanh]
  pointwise [k0_pay289]

/-- The last stores' expression over a head's rows is that head's part of the result. -/
theorem finStep (b : FVec Ideal S512x1024 .f32) (x0 x1 : FVec Ideal S512x1024 .bf16) (x2 x3 : FVec Ideal S512x2048 .bf16)
    (x7 : FVec Ideal S1x512 .f32) (X : ℕ → ℕ → ℕ → EReal) (h : ℕ) (hh : h < 4)
    (hs : S512x2048.Slices ![0, 512 * h] S512x512) (r : FVec Ideal S512x2048 .bf16) (hr : r = x3)
    (oa : FVec Ideal S512x512 .f32) (gn : FVec Ideal S1x512 .f32) (hgn : gn = x7)
    (hoa : ∀ i j : Fin 512, oa (ix2 i j) = outAt (at2 b) (at2 x0) (at2 x1) (at2 x2) X i.val (512 * h + j.val))
    (inb) (x : S512x512.Idx) :
    finPiece (512 * h) hs (k0_pay289 (F := Ideal) r) oa gn x
      = (fun y : S512x2048.Idx => yAt (at2 b) (at2 x0) (at2 x1) (at2 x2) X (at2 x3) (at2 x7 0) (y 0).val (y 1).val)
          ((Rect.unit (s := S512x2048) ![0, 512 * h] S512x512.size inb).emb x) := by
  obtain ⟨i, j, rfl⟩ : ∃ (i : Fin 512) (j : Fin 512), x = ix2 i j := ⟨x 0, x 1, by
    funext i; match i with | ⟨0, _⟩ => rfl | ⟨1, _⟩ => rfl⟩
  have e0 : ((Rect.unit (s := S512x2048) ![0, 512 * h] S512x512.size inb).emb (ix2 i j) 0).val = i.val := by
    show 0 + 1 * i.val = _; omega
  have e1 : ((Rect.unit (s := S512x2048) ![0, 512 * h] S512x512.size inb).emb (ix2 i j) 1).val = 512 * h + j.val := by
    show 512 * h + 1 * j.val = _; omega
  show _ = yAt _ _ _ _ X _ _ _ _
  rw [e0, e1, finPiece_apply _ _ _ _ _ _ _ (by omega), gate_apply, hr, hgn]
  simp only [hoa]
  unfold yAt
  rw [show (512 * h + j.val) / 512 = h by omega, show (512 * h + j.val) % 512 = j.val by omega,
    at2_of x3 _ _ (by omega) (by omega), at2_of x7 _ _ (by omega) (by omega)]
  rfl

/-- A load of a whole buffer reads its contents. -/
theorem load_whole2 {s : Shape} {e : EltTy} (a : Memref sig .tc .vmem s e) (ha : a.IsWhole) (x : s.Idx → Elt Ideal e)
    {off : Fin s.rank → ℕ} (h : off = fun _ => 0) (inb) :
    View.readAt (Elt Ideal) a.view (Rect.unit (s := s) off s.size inb).toLoadRect (ha.unread x) = x := by
  rw [View.readAt_eq_ld, ha.read_unread, View.ld_unit_zero h]

theorem hz : (![0, 0] : Fin 2 → Nat) = fun _ => 0 := funext fun a => by fin_cases a <;> rfl

/-- A later load of a head's columns reads what the chunks' stores left. -/
theorem cols_apply (v : View sig .tc .vmem S512x2048 .f32) (L : List (View.Piece (Elt Ideal) S512x2048 .f32))
    (G : ℕ → ℕ → EReal) (hL : View.canon L = fun y : S512x2048.Idx => G (y 0).val (y 1).val) (o : ℕ) (inb) (i j : Fin 512) :
    v.readCov L (Rect.unit (s := S512x2048) ![0, o] S512x512.size inb).toLoadRect (ix2 i j) = G i.val (o + j.val) := by
  rw [View.readCov_eq_canon', hL]
  show G (0 + 1 * i.val) (o + 1 * j.val) = _
  rw [Nat.zero_add, Nat.one_mul, Nat.one_mul]

/-- Stores that are blocks of one array and cover it leave the array. -/
theorem canon_pieces {e : EltTy} (G : S512x2048.Idx → Elt Ideal e) (L : List (View.Piece (Elt Ideal) S512x2048 e))
    (hp : View.PiecesOf G L) (hc : ∀ y, ∃ p ∈ L, y ∈ p.1.set) : View.canon L = G := by
  funext y
  exact View.canon_apply_of_pieces G L (View.PiecesOf.mem (G := G) (L := L) hp) y (hc y)

/-- A list of stores whose last state of each head is the recurrence's holds the recurrence's four states. -/
theorem canon_states (v : View sig .tc .vmem S4x512x256 .f32) (L : List (View.Piece (Elt Ideal) S4x512x256 .f32))
    (b : FVec Ideal S512x1024 .f32) (x1 : FVec Ideal S512x1024 .bf16) (x2 : FVec Ideal S512x2048 .bf16)
    (X : ℕ → ℕ → ℕ → EReal)
    (h0 : v.readCov L (Rect.unit (s := S4x512x256) ![0, 0, 0] S1x512x256.size inb_S4x512x256_S1x512x256_0_0_0).toLoadRect = slab b x1 x2 X 0 8)
    (h1 : v.readCov L (Rect.unit (s := S4x512x256) ![1, 0, 0] S1x512x256.size inb_S4x512x256_S1x512x256_1_0_0).toLoadRect = slab b x1 x2 X 1 8)
    (h2 : v.readCov L (Rect.unit (s := S4x512x256) ![2, 0, 0] S1x512x256.size inb_S4x512x256_S1x512x256_2_0_0).toLoadRect = slab b x1 x2 X 2 8)
    (h3 : v.readCov L (Rect.unit (s := S4x512x256) ![3, 0, 0] S1x512x256.size inb_S4x512x256_S1x512x256_3_0_0).toLoadRect = slab b x1 x2 X 3 8)
    (p : Fin 4) (e : Fin 512) (d : Fin 256) :
    View.canon L (ix3 p e d) = state (at2 b) (at2 x1) (at2 x2) X p.val 8 e.val d.val := by
  rw [View.readCov_eq_canon'] at h0 h1 h2 h3
  have fin : ∀ (o : ℕ) (inb) (ho : o < 4), p.val = o →
      (fun j => View.canon L ((Rect.unit (s := S4x512x256) ![o, 0, 0] S1x512x256.size inb).toLoadRect.idx j))
        = slab b x1 x2 X o 8 → View.canon L (ix3 p e d) = state (at2 b) (at2 x1) (at2 x2) X p.val 8 e.val d.val := by
    intro o inb ho hp h
    have := congrFun h (ix3 0 e d)
    rw [hp]
    refine Eq.trans (congrArg (View.canon L) ?_) this
    funext i
    apply Fin.ext
    match i with
    | ⟨0, _⟩ => show p.val = o + 1 * 0; omega
    | ⟨1, _⟩ => show e.val = 0 + 1 * e.val; omega
    | ⟨2, _⟩ => show d.val = 0 + 1 * d.val; omega
  have hp := p.isLt
  rcases (by omega : p.val = 0 ∨ p.val = 1 ∨ p.val = 2 ∨ p.val = 3) with h | h | h | h
  · exact fin 0 _ (by omega) h h0
  · exact fin 1 _ (by omega) h h1
  · exact fin 2 _ (by omega) h h2
  · exact fin 3 _ (by omega) h h3

/-! ## The decays of a point's rows -/

/-- The sums over each chunk of the decays' logarithms, as the body computes them. -/
def sums (z : FVec Ideal S512x128 .bf16) (w : FVec Ideal S128x1024 .bf16) (g : FVec Ideal S1x1024 .f32) : FVec Ideal S512x1024 .f32 :=
  k0_pay11 (F := Ideal) (k0_pay8 (k0_pay3 (F := Ideal) z w g) 64#32 k0_pay4 k0_pay5 k0_pay6) (k0_pay9 64#32 k0_pay4 k0_pay5 k0_pay6)
    (k0_pay10 (k0_pay3 (F := Ideal) z w g) 64#32 k0_pay4 k0_pay5 k0_pay6)

/-- The logarithm of a decay at an index. -/
theorem log_apply (z : FVec Ideal S512x128 .bf16) (w : FVec Ideal S128x1024 .bf16) (g : FVec Ideal S1x1024 .f32)
    (i : Fin 512) (j : Fin 1024) :
    k0_pay3 (F := Ideal) z w g (ix2 i j) = logDecay (∑ x : Fin 128, z (ix2 i x) * w (ix2 x j) + g (ix2 0 j)) := by
  pointwise [k0_pay3, logDecay]
  rw [if_neg (not_not.mpr rfl)]
  simp only [zero_sub]

end Cert.GlaEq
-- ==== Proof.Gla.Sums.lean ====
/- The sums over each chunk of 64 rows, computed by six shifts and additions. -/
module

public import proofs.«01_k».proof.Defs
public import proofs.«01_k».proof.Proof.Gen.KernelIdeal.Value
public import proofs.«01_k».proof.Proof.Gla.Body
public import Idealize.ShloMosaic.Lib.Pointwise
public import Idealize.ShloMosaic.Lib.KernelVsHost

@[expose] public section

set_option maxRecDepth 16384

noncomputable section

namespace Cert.GlaEq

open Idealize.ShloMosaic Idealize.ShloMosaic.TcCoe Idealize.SL.Sem
open Cert.KernelIdeal Cert.KernelIdeal.Gen Cert.KernelIdeal.Value

/-- The sum of the last `w` rows of `i`'s chunk up to `i`, of all of them if there are fewer. -/
def lastRows (f : ℕ → EReal) (w i : ℕ) : EReal := ∑ s ∈ Finset.range (min w (i % 64 + 1)), f (i - s)

/-- Adding the row `w` before it, where the chunk has one, doubles the number of rows summed. -/
theorem lastRows_double (f : ℕ → EReal) (w i : ℕ) :
    lastRows f w i + (if w ≤ i % 64 then lastRows f w (i - w) else 0) = lastRows f (2 * w) i := by
  unfold lastRows
  by_cases h : w ≤ i % 64
  · rw [if_pos h]
    have e1 : min w (i % 64 + 1) = w := by omega
    have e2 : (i - w) % 64 = i % 64 - w := by omega
    have e3 : min (2 * w) (i % 64 + 1) = w + min w (i % 64 - w + 1) := by omega
    rw [e1, e2, e3, Finset.sum_range_add]
    congr 1
    exact Finset.sum_congr rfl fun s _ => by rw [Nat.sub_sub]
  · rw [if_neg h, add_zero]
    have e1 : min w (i % 64 + 1) = i % 64 + 1 := by omega
    have e2 : min (2 * w) (i % 64 + 1) = i % 64 + 1 := by omega
    rw [e1, e2]

/-- One row alone. -/
theorem lastRows_one (f : ℕ → EReal) (i : ℕ) : lastRows f 1 i = f i := by
  unfold lastRows
  rw [show min 1 (i % 64 + 1) = 1 by omega, Finset.sum_range_one, Nat.sub_zero]

/-- The sum of the chunk's rows up to row `i`. -/
def upTo (f : ℕ → EReal) (i : ℕ) : EReal := ∑ s ∈ Finset.range (i % 64 + 1), f (64 * (i / 64) + s)

/-- Sixty-four rows are the whole chunk. -/
theorem lastRows_all (f : ℕ → EReal) (i : ℕ) : lastRows f 64 i = upTo f i := by
  unfold lastRows upTo
  rw [show min 64 (i % 64 + 1) = i % 64 + 1 by omega, ← Finset.sum_range_reflect]
  refine Finset.sum_congr rfl fun s hs => congrArg f ?_
  have := Finset.mem_range.mp hs
  omega

/-! ## The body's terms -/

/-- The row within its chunk. -/
theorem pos_apply (i : Fin 512) (j : Fin 1024) :
    k0_pay7 64#32 k0_pay4 k0_pay5 k0_pay6 (ix2 i j) = BitVec.ofNat 32 (i.val % 64) := by
  pointwise [k0_pay7, k0_pay4, k0_pay5, k0_pay6]
  revert i
  decide +kernel

/-- A shift by `sh` rows and an addition, where the chunk has that row. -/
def shiftAdd (sh : BitVec 32) (x : FVec Ideal S512x1024 .f32) : FVec Ideal S512x1024 .f32 :=
  addf x (select (cmpi .sge (k0_pay7 64#32 k0_pay4 k0_pay5 k0_pay6) (broadcast S512x1024 sh))
    (dynamicRotate 0 sh none x rotates_S512x1024_d0) (broadcast S512x1024 (Scalar.ofBits .f32 0x00000000#32)))

/-- The body's sums are six of them. -/
theorem sums_eq (z : FVec Ideal S512x128 .bf16) (w : FVec Ideal S128x1024 .bf16) (g : FVec Ideal S1x1024 .f32) :
    sums z w g = shiftAdd 32#32 (shiftAdd 16#32 (shiftAdd 8#32 (shiftAdd 4#32 (shiftAdd 2#32 (shiftAdd 1#32
      (k0_pay3 (F := Ideal) z w g)))))) := rfl

/-- A row's place in its chunk compared with the shift. -/
theorem sge_apply : ∀ (w : Fin 33) (p : Fin 64),
    IntOp.cmpi .sge (BitVec.ofNat 32 p.val) (BitVec.ofNat 32 w.val) = if w.val ≤ p.val then 1#1 else 0#1 := by
  decide +kernel

/-- One shift at an index. -/
theorem shiftAdd_apply (w : ℕ) (hw : w ≤ 32) (x : FVec Ideal S512x1024 .f32) (f : ℕ → EReal) (j : Fin 1024) (u : ℕ)
    (hx : ∀ i : Fin 512, x (ix2 i j) = lastRows f w i.val) (hu : u = 2 * w) (i : Fin 512) :
    shiftAdd (BitVec.ofNat 32 w) x (ix2 i j) = lastRows f u i.val := by
  pointwise [shiftAdd, pos_apply]
  have hi := i.isLt
  have hs := sge_apply ⟨w, by omega⟩ ⟨i.val % 64, Nat.mod_lt _ (by omega)⟩
  dsimp only at hs
  rw [hs, hx, hu, ← lastRows_double]
  by_cases h : w ≤ i.val % 64
  · rw [if_pos h, if_pos h]
    show _ + x (ix2 _ j) = _
    rw [hx]
    congr 2
    show (i.val + 512 - w % 2 ^ 32 % 512) % 512 = i.val - w
    omega
  · rw [if_neg h, if_neg h]
    rfl

/-- The decays of the point's rows: the sums of the logarithms of the chunk's rows up to each. -/
theorem sums_apply (z : FVec Ideal S512x128 .bf16) (w : FVec Ideal S128x1024 .bf16) (g : FVec Ideal S1x1024 .f32)
    (i j : ℕ) (hi : i < 512) (hj : j < 1024) :
    at2 (sums z w g) i j
      = upTo (fun r => logDecay (∑ x : Fin 128, at2 z r x.val * at2 w x.val j + at2 g 0 j)) i := by
  have h0 : ∀ i : Fin 512, k0_pay3 (F := Ideal) z w g (ix2 i ⟨j, hj⟩)
      = lastRows (fun r => logDecay (∑ x : Fin 128, at2 z r x.val * at2 w x.val j + at2 g 0 j)) 1 i.val := by
    intro i
    rw [lastRows_one, log_apply, at2_of g 0 j (by omega) hj]
    congr 2
    exact Finset.sum_congr rfl fun x _ => by rw [at2_of z i.val x.val i.isLt x.isLt, at2_of w x.val j x.isLt hj]
  rw [at2_of _ i j hi hj, sums_eq, ← lastRows_all]
  have h1 := shiftAdd_apply 1 (by omega) _ _ ⟨j, hj⟩ 2 h0 rfl
  have h2 := shiftAdd_apply 2 (by omega) _ _ ⟨j, hj⟩ 4 h1 rfl
  have h3 := shiftAdd_apply 4 (by omega) _ _ ⟨j, hj⟩ 8 h2 rfl
  have h4 := shiftAdd_apply 8 (by omega) _ _ ⟨j, hj⟩ 16 h3 rfl
  have h5 := shiftAdd_apply 16 (by omega) _ _ ⟨j, hj⟩ 32 h4 rfl
  exact shiftAdd_apply 32 (by omega) _ _ ⟨j, hj⟩ 64 h5 rfl ⟨i, hi⟩

end Cert.GlaEq
-- ==== Proof.Gla.First.lean ====
/- The body at the first point of a batch: each of the 32 states it reads is the recurrence's, and so is every stored chunk. -/
module

public import proofs.«01_k».proof.Proof.Gla.Body

@[expose] public section

set_option maxRecDepth 16384

noncomputable section

namespace Cert.GlaEq

open Idealize.ShloMosaic Idealize.ShloMosaic.TcCoe Idealize.SL.Sem
open Cert.KernelIdeal Cert.KernelIdeal.Gen Cert.KernelIdeal.Value

variable (c : Dev nD)
  (arg3 : Memref sig .tc .vmem S512x1024 .bf16) (harg3 : arg3.IsWhole)
  (arg4 : Memref sig .tc .vmem S512x1024 .bf16) (harg4 : arg4.IsWhole)
  (arg5 : Memref sig .tc .vmem S512x2048 .bf16) (harg5 : arg5.IsWhole)
  (arg6 : Memref sig .tc .vmem S512x2048 .bf16) (harg6 : arg6.IsWhole)
  (arg7 : Memref sig .tc .vmem S512x128 .bf16) (harg7 : arg7.IsWhole)
  (arg8 : Memref sig .tc .vmem S128x1024 .bf16) (harg8 : arg8.IsWhole)
  (arg9 : Memref sig .tc .vmem S1x1024 .f32) (harg9 : arg9.IsWhole)
  (arg10 : Memref sig .tc .vmem S1x512 .f32) (harg10 : arg10.IsWhole)
  (arg12 : Memref sig .tc .vmem S4x512x256 .f32) (harg12 : arg12.IsWhole)
  (arg13 : Memref sig .tc .vmem S512x2048 .f32)
  (x0 : Vec Ideal S512x1024 .bf16) (x1 : Vec Ideal S512x1024 .bf16) (x2 : Vec Ideal S512x2048 .bf16)
  (x3 : Vec Ideal S512x2048 .bf16) (x4 : Vec Ideal S512x128 .bf16) (x5 : Vec Ideal S128x1024 .bf16)
  (x6 : Vec Ideal S1x1024 .f32) (x7 : Vec Ideal S1x512 .f32) (xs0 : Vec Ideal S4x512x256 .f32)

/-- The decays of the point's rows. -/
abbrev blA : FVec Ideal S512x1024 .f32 := kernelRun0_A.sl.r_4 (F := Ideal) c arg7 harg7 arg8 harg8 arg9 harg9 x4 x5 x6

include c arg4 harg4 arg5 harg5 arg7 harg7 arg8 harg8 arg9 harg9 arg12 x1 x2 x4 x5 x6

/-- Head 0 after 0 chunks. -/
theorem stA_0 : kernelRun0_A.sl.v108 (F := Ideal) c arg12 = slab (blA c arg7 harg7 arg8 harg8 arg9 harg9 x4 x5 x6) x1 x2 (fun _ _ _ => 0) 0 0 := by
  unfold kernelRun0_A.sl.v108 kernelRun0_A.sl.HS0_1
  exact slab_of_zero (blA c arg7 harg7 arg8 harg8 arg9 harg9 x4 x5 x6) x1 x2 arg12 0 _ _

/-- Head 1 after 0 chunks. -/
theorem stA_1 : kernelRun0_A.sl.v147 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 1 0 := by
  unfold kernelRun0_A.sl.v147 kernelRun0_A.sl.HS0_2 kernelRun0_A.sl.HS0_1
  rw [View.readCov_skip _ _ _ _ _ (by decide)]
  exact slab_of_zero (blA c arg7 harg7 arg8 harg8 arg9 harg9 x4 x5 x6) x1 x2 arg12 1 _ _

/-- Head 2 after 0 chunks. -/
theorem stA_2 : kernelRun0_A.sl.v186 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 2 0 := by
  unfold kernelRun0_A.sl.v186 kernelRun0_A.sl.HS0_3 kernelRun0_A.sl.HS0_2 kernelRun0_A.sl.HS0_1
  rw [View.readCov_skip _ _ _ _ _ (by decide)]
  rw [View.readCov_skip _ _ _ _ _ (by decide)]
  exact slab_of_zero (blA c arg7 harg7 arg8 harg8 arg9 harg9 x4 x5 x6) x1 x2 arg12 2 _ _

/-- Head 3 after 0 chunks. -/
theorem stA_3 : kernelRun0_A.sl.v225 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 3 0 := by
  unfold kernelRun0_A.sl.v225 kernelRun0_A.sl.HS0_4 kernelRun0_A.sl.HS0_3 kernelRun0_A.sl.HS0_2 kernelRun0_A.sl.HS0_1
  rw [View.readCov_skip _ _ _ _ _ (by decide)]
  rw [View.readCov_skip _ _ _ _ _ (by decide)]
  rw [View.readCov_skip _ _ _ _ _ (by decide)]
  exact slab_of_zero (blA c arg7 harg7 arg8 harg8 arg9 harg9 x4 x5 x6) x1 x2 arg12 3 _ _

/-- Head 0 after 1 chunks. -/
theorem stA_4 : kernelRun0_A.sl.v264 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 0 1 := by
  unfold kernelRun0_A.sl.v264 kernelRun0_A.sl.HS0_5 kernelRun0_A.sl.HS0_4 kernelRun0_A.sl.HS0_3 kernelRun0_A.sl.HS0_2
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 0 0 slices_S512x1024_o0_0_S64x256 (View.readAt (Elt Ideal) arg4.view (Rect.unit (s := S512x1024) ![0, 0] S64x256.size inb_S512x1024_S64x256_0_0).toLoadRect (harg4.unread x1))
    (View.readAt (Elt Ideal) arg5.view (Rect.unit (s := S512x2048) ![0, 0] S64x512.size inb_S512x2048_S64x512_0_0).toLoadRect (harg5.unread x2))
    (kernelRun0_A.sl.v108 (F := Ideal) c arg12)
    (load_apply arg4 harg4 x1 0 0 _) (load_apply arg5 harg5 x2 0 0 _)
    (stA_0 c arg4 harg4 arg5 harg5 arg7 harg7 arg8 harg8 arg9 harg9 arg12 x1 x2 x4 x5 x6)

/-- Head 1 after 1 chunks. -/
theorem stA_5 : kernelRun0_A.sl.v303 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 1 1 := by
  unfold kernelRun0_A.sl.v303 kernelRun0_A.sl.HS0_6 kernelRun0_A.sl.HS0_5 kernelRun0_A.sl.HS0_4 kernelRun0_A.sl.HS0_3
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 1 0 slices_S512x1024_o0_256_S64x256 (View.readAt (Elt Ideal) arg4.view (Rect.unit (s := S512x1024) ![0, 256] S64x256.size inb_S512x1024_S64x256_0_256).toLoadRect (harg4.unread x1))
    (View.readAt (Elt Ideal) arg5.view (Rect.unit (s := S512x2048) ![0, 512] S64x512.size inb_S512x2048_S64x512_0_512).toLoadRect (harg5.unread x2))
    (kernelRun0_A.sl.v147 (F := Ideal) c arg4 harg4 arg5 harg5 arg7 harg7 arg8 harg8 arg9 harg9 arg12 x1 x2 x4 x5 x6)
    (load_apply arg4 harg4 x1 0 256 _) (load_apply arg5 harg5 x2 0 512 _)
    (stA_1 c arg4 harg4 arg5 harg5 arg7 harg7 arg8 harg8 arg9 harg9 arg12 x1 x2 x4 x5 x6)

/-- Head 2 after 1 chunks. -/
theorem stA_6 : kernelRun0_A.sl.v342 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 2 1 := by
  unfold kernelRun0_A.sl.v342 kernelRun0_A.sl.HS0_7 kernelRun0_A.sl.HS0_6 kernelRun0_A.sl.HS0_5 kernelRun0_A.sl.HS0_4
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 2 0 slices_S512x1024_o0_512_S64x256 (View.readAt (Elt Ideal) arg4.view (Rect.unit (s := S512x1024) ![0, 512] S64x256.size inb_S512x1024_S64x256_0_512).toLoadRect (harg4.unread x1))
    (View.readAt (Elt Ideal) arg5.view (Rect.unit (s := S512x2048) ![0, 1024] S64x512.size inb_S512x2048_S64x512_0_1024).toLoadRect (harg5.unread x2))
    (kernelRun0_A.sl.v186 (F := Ideal) c arg4 harg4 arg5 harg5 arg7 harg7 arg8 harg8 arg9 harg9 arg12 x1 x2 x4 x5 x6)
    (load_apply arg4 harg4 x1 0 512 _) (load_apply arg5 harg5 x2 0 1024 _)
    (stA_2 c arg4 harg4 arg5 harg5 arg7 harg7 arg8 harg8 arg9 harg9 arg12 x1 x2 x4 x5 x6)

/-- Head 3 after 1 chunks. -/
theorem stA_7 : kernelRun0_A.sl.v381 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 3 1 := by
  unfold kernelRun0_A.sl.v381 kernelRun0_A.sl.HS0_8 kernelRun0_A.sl.HS0_7 kernelRun0_A.sl.HS0_6 kernelRun0_A.sl.HS0_5
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 3 0 slices_S512x1024_o0_768_S64x256 (View.readAt (Elt Ideal) arg4.view (Rect.unit (s := S512x1024) ![0, 768] S64x256.size inb_S512x1024_S64x256_0_768).toLoadRect (harg4.unread x1))
    (View.readAt (Elt Ideal) arg5.view (Rect.unit (s := S512x2048) ![0, 1536] S64x512.size inb_S512x2048_S64x512_0_1536).toLoadRect (harg5.unread x2))
    (kernelRun0_A.sl.v225 (F := Ideal) c arg4 harg4 arg5 harg5 arg7 harg7 arg8 harg8 arg9 harg9 arg12 x1 x2 x4 x5 x6)
    (load_apply arg4 harg4 x1 0 768 _) (load_apply arg5 harg5 x2 0 1536 _)
    (stA_3 c arg4 harg4 arg5 harg5 arg7 harg7 arg8 harg8 arg9 harg9 arg12 x1 x2 x4 x5 x6)

/-- Head 0 after 2 chunks. -/
theorem stA_8 : kernelRun0_A.sl.v420 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 0 2 := by
  unfold kernelRun0_A.sl.v420 kernelRun0_A.sl.HS0_9 kernelRun0_A.sl.HS0_8 kernelRun0_A.sl.HS0_7 kernelRun0_A.sl.HS0_6
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 0 1 slices_S512x1024_o64_0_S64x256 (View.readAt (Elt Ideal) arg4.view (Rect.unit (s := S512x1024) ![64, 0] S64x256.size inb_S512x1024_S64x256_64_0).toLoadRect (harg4.unread x1))
    (View.readAt (Elt Ideal) arg5.view (Rect.unit (s := S512x2048) ![64, 0] S64x512.size inb_S512x2048_S64x512_64_0).toLoadRect (harg5.unread x2))
    (kernelRun0_A.sl.v264 (F := Ideal) c arg4 harg4 arg5 harg5 arg7 harg7 arg8 harg8 arg9 harg9 arg12 x1 x2 x4 x5 x6)
    (load_apply arg4 harg4 x1 64 0 _) (load_apply arg5 harg5 x2 64 0 _)
    (stA_4 c arg4 harg4 arg5 harg5 arg7 harg7 arg8 harg8 arg9 harg9 arg12 x1 x2 x4 x5 x6)

/-- Head 1 after 2 chunks. -/
theorem stA_9 : kernelRun0_A.sl.v459 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 1 2 := by
  unfold kernelRun0_A.sl.v459 kernelRun0_A.sl.HS0_10 kernelRun0_A.sl.HS0_9 kernelRun0_A.sl.HS0_8 kernelRun0_A.sl.HS0_7
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 1 1 slices_S512x1024_o64_256_S64x256 (View.readAt (Elt Ideal) arg4.view (Rect.unit (s := S512x1024) ![64, 256] S64x256.size inb_S512x1024_S64x256_64_256).toLoadRect (harg4.unread x1))
    (View.readAt (Elt Ideal) arg5.view (Rect.unit (s := S512x2048) ![64, 512] S64x512.size inb_S512x2048_S64x512_64_512).toLoadRect (harg5.unread x2))
    (kernelRun0_A.sl.v303 (F := Ideal) c arg4 harg4 arg5 harg5 arg7 harg7 arg8 harg8 arg9 harg9 arg12 x1 x2 x4 x5 x6)
    (load_apply arg4 harg4 x1 64 256 _) (load_apply arg5 harg5 x2 64 512 _)
    (stA_5 c arg4 harg4 arg5 harg5 arg7 harg7 arg8 harg8 arg9 harg9 arg12 x1 x2 x4 x5 x6)

/-- Head 2 after 2 chunks. -/
theorem stA_10 : kernelRun0_A.sl.v498 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 2 2 := by
  unfold kernelRun0_A.sl.v498 kernelRun0_A.sl.HS0_11 kernelRun0_A.sl.HS0_10 kernelRun0_A.sl.HS0_9 kernelRun0_A.sl.HS0_8
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 2 1 slices_S512x1024_o64_512_S64x256 (View.readAt (Elt Ideal) arg4.view (Rect.unit (s := S512x1024) ![64, 512] S64x256.size inb_S512x1024_S64x256_64_512).toLoadRect (harg4.unread x1))
    (View.readAt (Elt Ideal) arg5.view (Rect.unit (s := S512x2048) ![64, 1024] S64x512.size inb_S512x2048_S64x512_64_1024).toLoadRect (harg5.unread x2))
    (kernelRun0_A.sl.v342 (F := Ideal) c arg4 harg4 arg5 harg5 arg7 harg7 arg8 harg8 arg9 harg9 arg12 x1 x2 x4 x5 x6)
    (load_apply arg4 harg4 x1 64 512 _) (load_apply arg5 harg5 x2 64 1024 _)
    (stA_6 c arg4 harg4 arg5 harg5 arg7 harg7 arg8 harg8 arg9 harg9 arg12 x1 x2 x4 x5 x6)

/-- Head 3 after 2 chunks. -/
theorem stA_11 : kernelRun0_A.sl.v537 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 3 2 := by
  unfold kernelRun0_A.sl.v537 kernelRun0_A.sl.HS0_12 kernelRun0_A.sl.HS0_11 kernelRun0_A.sl.HS0_10 kernelRun0_A.sl.HS0_9
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 3 1 slices_S512x1024_o64_768_S64x256 (View.readAt (Elt Ideal) arg4.view (Rect.unit (s := S512x1024) ![64, 768] S64x256.size inb_S512x1024_S64x256_64_768).toLoadRect (harg4.unread x1))
    (View.readAt (Elt Ideal) arg5.view (Rect.unit (s := S512x2048) ![64, 1536] S64x512.size inb_S512x2048_S64x512_64_1536).toLoadRect (harg5.unread x2))
    (kernelRun0_A.sl.v381 (F := Ideal) c arg4 harg4 arg5 harg5 arg7 harg7 arg8 harg8 arg9 harg9 arg12 x1 x2 x4 x5 x6)
    (load_apply arg4 harg4 x1 64 768 _) (load_apply arg5 harg5 x2 64 1536 _)
    (stA_7 c arg4 harg4 arg5 harg5 arg7 harg7 arg8 harg8 arg9 harg9 arg12 x1 x2 x4 x5 x6)

/-- Head 0 after 3 chunks. -/
theorem stA_12 : kernelRun0_A.sl.v576 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 0 3 := by
  unfold kernelRun0_A.sl.v576 kernelRun0_A.sl.HS0_13 kernelRun0_A.sl.HS0_12 kernelRun0_A.sl.HS0_11 kernelRun0_A.sl.HS0_10
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 0 2 slices_S512x1024_o128_0_S64x256 (View.readAt (Elt Ideal) arg4.view (Rect.unit (s := S512x1024) ![128, 0] S64x256.size inb_S512x1024_S64x256_128_0).toLoadRect (harg4.unread x1))
    (View.readAt (Elt Ideal) arg5.view (Rect.unit (s := S512x2048) ![128, 0] S64x512.size inb_S512x2048_S64x512_128_0).toLoadRect (harg5.unread x2))
    (kernelRun0_A.sl.v420 (F := Ideal) c arg4 harg4 arg5 harg5 arg7 harg7 arg8 harg8 arg9 harg9 arg12 x1 x2 x4 x5 x6)
    (load_apply arg4 harg4 x1 128 0 _) (load_apply arg5 harg5 x2 128 0 _)
    (stA_8 c arg4 harg4 arg5 harg5 arg7 harg7 arg8 harg8 arg9 harg9 arg12 x1 x2 x4 x5 x6)

/-- Head 1 after 3 chunks. -/
theorem stA_13 : kernelRun0_A.sl.v615 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 1 3 := by
  unfold kernelRun0_A.sl.v615 kernelRun0_A.sl.HS0_14 kernelRun0_A.sl.HS0_13 kernelRun0_A.sl.HS0_12 kernelRun0_A.sl.HS0_11
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 1 2 slices_S512x1024_o128_256_S64x256 (View.readAt (Elt Ideal) arg4.view (Rect.unit (s := S512x1024) ![128, 256] S64x256.size inb_S512x1024_S64x256_128_256).toLoadRect (harg4.unread x1))
    (View.readAt (Elt Ideal) arg5.view (Rect.unit (s := S512x2048) ![128, 512] S64x512.size inb_S512x2048_S64x512_128_512).toLoadRect (harg5.unread x2))
    (kernelRun0_A.sl.v459 (F := Ideal) c arg4 harg4 arg5 harg5 arg7 harg7 arg8 harg8 arg9 harg9 arg12 x1 x2 x4 x5 x6)
    (load_apply arg4 harg4 x1 128 256 _) (load_apply arg5 harg5 x2 128 512 _)
    (stA_9 c arg4 harg4 arg5 harg5 arg7 harg7 arg8 harg8 arg9 harg9 arg12 x1 x2 x4 x5 x6)

/-- Head 2 after 3 chunks. -/
theorem stA_14 : kernelRun0_A.sl.v654 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 2 3 := by
  unfold kernelRun0_A.sl.v654 kernelRun0_A.sl.HS0_15 kernelRun0_A.sl.HS0_14 kernelRun0_A.sl.HS0_13 kernelRun0_A.sl.HS0_12
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 2 2 slices_S512x1024_o128_512_S64x256 (View.readAt (Elt Ideal) arg4.view (Rect.unit (s := S512x1024) ![128, 512] S64x256.size inb_S512x1024_S64x256_128_512).toLoadRect (harg4.unread x1))
    (View.readAt (Elt Ideal) arg5.view (Rect.unit (s := S512x2048) ![128, 1024] S64x512.size inb_S512x2048_S64x512_128_1024).toLoadRect (harg5.unread x2))
    (kernelRun0_A.sl.v498 (F := Ideal) c arg4 harg4 arg5 harg5 arg7 harg7 arg8 harg8 arg9 harg9 arg12 x1 x2 x4 x5 x6)
    (load_apply arg4 harg4 x1 128 512 _) (load_apply arg5 harg5 x2 128 1024 _)
    (stA_10 c arg4 harg4 arg5 harg5 arg7 harg7 arg8 harg8 arg9 harg9 arg12 x1 x2 x4 x5 x6)

/-- Head 3 after 3 chunks. -/
theorem stA_15 : kernelRun0_A.sl.v693 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 3 3 := by
  unfold kernelRun0_A.sl.v693 kernelRun0_A.sl.HS0_16 kernelRun0_A.sl.HS0_15 kernelRun0_A.sl.HS0_14 kernelRun0_A.sl.HS0_13
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 3 2 slices_S512x1024_o128_768_S64x256 (View.readAt (Elt Ideal) arg4.view (Rect.unit (s := S512x1024) ![128, 768] S64x256.size inb_S512x1024_S64x256_128_768).toLoadRect (harg4.unread x1))
    (View.readAt (Elt Ideal) arg5.view (Rect.unit (s := S512x2048) ![128, 1536] S64x512.size inb_S512x2048_S64x512_128_1536).toLoadRect (harg5.unread x2))
    (kernelRun0_A.sl.v537 (F := Ideal) c arg4 harg4 arg5 harg5 arg7 harg7 arg8 harg8 arg9 harg9 arg12 x1 x2 x4 x5 x6)
    (load_apply arg4 harg4 x1 128 768 _) (load_apply arg5 harg5 x2 128 1536 _)
    (stA_11 c arg4 harg4 arg5 harg5 arg7 harg7 arg8 harg8 arg9 harg9 arg12 x1 x2 x4 x5 x6)

/-- Head 0 after 4 chunks. -/
theorem stA_16 : kernelRun0_A.sl.v732 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 0 4 := by
  unfold kernelRun0_A.sl.v732 kernelRun0_A.sl.HS0_17 kernelRun0_A.sl.HS0_16 kernelRun0_A.sl.HS0_15 kernelRun0_A.sl.HS0_14
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 0 3 slices_S512x1024_o192_0_S64x256 (View.readAt (Elt Ideal) arg4.view (Rect.unit (s := S512x1024) ![192, 0] S64x256.size inb_S512x1024_S64x256_192_0).toLoadRect (harg4.unread x1))
    (View.readAt (Elt Ideal) arg5.view (Rect.unit (s := S512x2048) ![192, 0] S64x512.size inb_S512x2048_S64x512_192_0).toLoadRect (harg5.unread x2))
    (kernelRun0_A.sl.v576 (F := Ideal) c arg4 harg4 arg5 harg5 arg7 harg7 arg8 harg8 arg9 harg9 arg12 x1 x2 x4 x5 x6)
    (load_apply arg4 harg4 x1 192 0 _) (load_apply arg5 harg5 x2 192 0 _)
    (stA_12 c arg4 harg4 arg5 harg5 arg7 harg7 arg8 harg8 arg9 harg9 arg12 x1 x2 x4 x5 x6)

/-- Head 1 after 4 chunks. -/
theorem stA_17 : kernelRun0_A.sl.v771 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 1 4 := by
  unfold kernelRun0_A.sl.v771 kernelRun0_A.sl.HS0_18 kernelRun0_A.sl.HS0_17 kernelRun0_A.sl.HS0_16 kernelRun0_A.sl.HS0_15
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 1 3 slices_S512x1024_o192_256_S64x256 (View.readAt (Elt Ideal) arg4.view (Rect.unit (s := S512x1024) ![192, 256] S64x256.size inb_S512x1024_S64x256_192_256).toLoadRect (harg4.unread x1))
    (View.readAt (Elt Ideal) arg5.view (Rect.unit (s := S512x2048) ![192, 512] S64x512.size inb_S512x2048_S64x512_192_512).toLoadRect (harg5.unread x2))
    (kernelRun0_A.sl.v615 (F := Ideal) c arg4 harg4 arg5 harg5 arg7 harg7 arg8 harg8 arg9 harg9 arg12 x1 x2 x4 x5 x6)
    (load_apply arg4 harg4 x1 192 256 _) (load_apply arg5 harg5 x2 192 512 _)
    (stA_13 c arg4 harg4 arg5 harg5 arg7 harg7 arg8 harg8 arg9 harg9 arg12 x1 x2 x4 x5 x6)

/-- Head 2 after 4 chunks. -/
theorem stA_18 : kernelRun0_A.sl.v810 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 2 4 := by
  unfold kernelRun0_A.sl.v810 kernelRun0_A.sl.HS0_19 kernelRun0_A.sl.HS0_18 kernelRun0_A.sl.HS0_17 kernelRun0_A.sl.HS0_16
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 2 3 slices_S512x1024_o192_512_S64x256 (View.readAt (Elt Ideal) arg4.view (Rect.unit (s := S512x1024) ![192, 512] S64x256.size inb_S512x1024_S64x256_192_512).toLoadRect (harg4.unread x1))
    (View.readAt (Elt Ideal) arg5.view (Rect.unit (s := S512x2048) ![192, 1024] S64x512.size inb_S512x2048_S64x512_192_1024).toLoadRect (harg5.unread x2))
    (kernelRun0_A.sl.v654 (F := Ideal) c arg4 harg4 arg5 harg5 arg7 harg7 arg8 harg8 arg9 harg9 arg12 x1 x2 x4 x5 x6)
    (load_apply arg4 harg4 x1 192 512 _) (load_apply arg5 harg5 x2 192 1024 _)
    (stA_14 c arg4 harg4 arg5 harg5 arg7 harg7 arg8 harg8 arg9 harg9 arg12 x1 x2 x4 x5 x6)

/-- Head 3 after 4 chunks. -/
theorem stA_19 : kernelRun0_A.sl.v849 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 3 4 := by
  unfold kernelRun0_A.sl.v849 kernelRun0_A.sl.HS0_20 kernelRun0_A.sl.HS0_19 kernelRun0_A.sl.HS0_18 kernelRun0_A.sl.HS0_17
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 3 3 slices_S512x1024_o192_768_S64x256 (View.readAt (Elt Ideal) arg4.view (Rect.unit (s := S512x1024) ![192, 768] S64x256.size inb_S512x1024_S64x256_192_768).toLoadRect (harg4.unread x1))
    (View.readAt (Elt Ideal) arg5.view (Rect.unit (s := S512x2048) ![192, 1536] S64x512.size inb_S512x2048_S64x512_192_1536).toLoadRect (harg5.unread x2))
    (kernelRun0_A.sl.v693 (F := Ideal) c arg4 harg4 arg5 harg5 arg7 harg7 arg8 harg8 arg9 harg9 arg12 x1 x2 x4 x5 x6)
    (load_apply arg4 harg4 x1 192 768 _) (load_apply arg5 harg5 x2 192 1536 _)
    (stA_15 c arg4 harg4 arg5 harg5 arg7 harg7 arg8 harg8 arg9 harg9 arg12 x1 x2 x4 x5 x6)

/-- Head 0 after 5 chunks. -/
theorem stA_20 : kernelRun0_A.sl.v888 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 0 5 := by
  unfold kernelRun0_A.sl.v888 kernelRun0_A.sl.HS0_21 kernelRun0_A.sl.HS0_20 kernelRun0_A.sl.HS0_19 kernelRun0_A.sl.HS0_18
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 0 4 slices_S512x1024_o256_0_S64x256 (View.readAt (Elt Ideal) arg4.view (Rect.unit (s := S512x1024) ![256, 0] S64x256.size inb_S512x1024_S64x256_256_0).toLoadRect (harg4.unread x1))
    (View.readAt (Elt Ideal) arg5.view (Rect.unit (s := S512x2048) ![256, 0] S64x512.size inb_S512x2048_S64x512_256_0).toLoadRect (harg5.unread x2))
    (kernelRun0_A.sl.v732 (F := Ideal) c arg4 harg4 arg5 harg5 arg7 harg7 arg8 harg8 arg9 harg9 arg12 x1 x2 x4 x5 x6)
    (load_apply arg4 harg4 x1 256 0 _) (load_apply arg5 harg5 x2 256 0 _)
    (stA_16 c arg4 harg4 arg5 harg5 arg7 harg7 arg8 harg8 arg9 harg9 arg12 x1 x2 x4 x5 x6)

/-- Head 1 after 5 chunks. -/
theorem stA_21 : kernelRun0_A.sl.v927 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 1 5 := by
  unfold kernelRun0_A.sl.v927 kernelRun0_A.sl.HS0_22 kernelRun0_A.sl.HS0_21 kernelRun0_A.sl.HS0_20 kernelRun0_A.sl.HS0_19
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 1 4 slices_S512x1024_o256_256_S64x256 (View.readAt (Elt Ideal) arg4.view (Rect.unit (s := S512x1024) ![256, 256] S64x256.size inb_S512x1024_S64x256_256_256).toLoadRect (harg4.unread x1))
    (View.readAt (Elt Ideal) arg5.view (Rect.unit (s := S512x2048) ![256, 512] S64x512.size inb_S512x2048_S64x512_256_512).toLoadRect (harg5.unread x2))
    (kernelRun0_A.sl.v771 (F := Ideal) c arg4 harg4 arg5 harg5 arg7 harg7 arg8 harg8 arg9 harg9 arg12 x1 x2 x4 x5 x6)
    (load_apply arg4 harg4 x1 256 256 _) (load_apply arg5 harg5 x2 256 512 _)
    (stA_17 c arg4 harg4 arg5 harg5 arg7 harg7 arg8 harg8 arg9 harg9 arg12 x1 x2 x4 x5 x6)

/-- Head 2 after 5 chunks. -/
theorem stA_22 : kernelRun0_A.sl.v966 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 2 5 := by
  unfold kernelRun0_A.sl.v966 kernelRun0_A.sl.HS0_23 kernelRun0_A.sl.HS0_22 kernelRun0_A.sl.HS0_21 kernelRun0_A.sl.HS0_20
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 2 4 slices_S512x1024_o256_512_S64x256 (View.readAt (Elt Ideal) arg4.view (Rect.unit (s := S512x1024) ![256, 512] S64x256.size inb_S512x1024_S64x256_256_512).toLoadRect (harg4.unread x1))
    (View.readAt (Elt Ideal) arg5.view (Rect.unit (s := S512x2048) ![256, 1024] S64x512.size inb_S512x2048_S64x512_256_1024).toLoadRect (harg5.unread x2))
    (kernelRun0_A.sl.v810 (F := Ideal) c arg4 harg4 arg5 harg5 arg7 harg7 arg8 harg8 arg9 harg9 arg12 x1 x2 x4 x5 x6)
    (load_apply arg4 harg4 x1 256 512 _) (load_apply arg5 harg5 x2 256 1024 _)
    (stA_18 c arg4 harg4 arg5 harg5 arg7 harg7 arg8 harg8 arg9 harg9 arg12 x1 x2 x4 x5 x6)

/-- Head 3 after 5 chunks. -/
theorem stA_23 : kernelRun0_A.sl.v1005 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 3 5 := by
  unfold kernelRun0_A.sl.v1005 kernelRun0_A.sl.HS0_24 kernelRun0_A.sl.HS0_23 kernelRun0_A.sl.HS0_22 kernelRun0_A.sl.HS0_21
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 3 4 slices_S512x1024_o256_768_S64x256 (View.readAt (Elt Ideal) arg4.view (Rect.unit (s := S512x1024) ![256, 768] S64x256.size inb_S512x1024_S64x256_256_768).toLoadRect (harg4.unread x1))
    (View.readAt (Elt Ideal) arg5.view (Rect.unit (s := S512x2048) ![256, 1536] S64x512.size inb_S512x2048_S64x512_256_1536).toLoadRect (harg5.unread x2))
    (kernelRun0_A.sl.v849 (F := Ideal) c arg4 harg4 arg5 harg5 arg7 harg7 arg8 harg8 arg9 harg9 arg12 x1 x2 x4 x5 x6)
    (load_apply arg4 harg4 x1 256 768 _) (load_apply arg5 harg5 x2 256 1536 _)
    (stA_19 c arg4 harg4 arg5 harg5 arg7 harg7 arg8 harg8 arg9 harg9 arg12 x1 x2 x4 x5 x6)

/-- Head 0 after 6 chunks. -/
theorem stA_24 : kernelRun0_A.sl.v1044 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 0 6 := by
  unfold kernelRun0_A.sl.v1044 kernelRun0_A.sl.HS0_25 kernelRun0_A.sl.HS0_24 kernelRun0_A.sl.HS0_23 kernelRun0_A.sl.HS0_22
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 0 5 slices_S512x1024_o320_0_S64x256 (View.readAt (Elt Ideal) arg4.view (Rect.unit (s := S512x1024) ![320, 0] S64x256.size inb_S512x1024_S64x256_320_0).toLoadRect (harg4.unread x1))
    (View.readAt (Elt Ideal) arg5.view (Rect.unit (s := S512x2048) ![320, 0] S64x512.size inb_S512x2048_S64x512_320_0).toLoadRect (harg5.unread x2))
    (kernelRun0_A.sl.v888 (F := Ideal) c arg4 harg4 arg5 harg5 arg7 harg7 arg8 harg8 arg9 harg9 arg12 x1 x2 x4 x5 x6)
    (load_apply arg4 harg4 x1 320 0 _) (load_apply arg5 harg5 x2 320 0 _)
    (stA_20 c arg4 harg4 arg5 harg5 arg7 harg7 arg8 harg8 arg9 harg9 arg12 x1 x2 x4 x5 x6)

/-- Head 1 after 6 chunks. -/
theorem stA_25 : kernelRun0_A.sl.v1083 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 1 6 := by
  unfold kernelRun0_A.sl.v1083 kernelRun0_A.sl.HS0_26 kernelRun0_A.sl.HS0_25 kernelRun0_A.sl.HS0_24 kernelRun0_A.sl.HS0_23
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 1 5 slices_S512x1024_o320_256_S64x256 (View.readAt (Elt Ideal) arg4.view (Rect.unit (s := S512x1024) ![320, 256] S64x256.size inb_S512x1024_S64x256_320_256).toLoadRect (harg4.unread x1))
    (View.readAt (Elt Ideal) arg5.view (Rect.unit (s := S512x2048) ![320, 512] S64x512.size inb_S512x2048_S64x512_320_512).toLoadRect (harg5.unread x2))
    (kernelRun0_A.sl.v927 (F := Ideal) c arg4 harg4 arg5 harg5 arg7 harg7 arg8 harg8 arg9 harg9 arg12 x1 x2 x4 x5 x6)
    (load_apply arg4 harg4 x1 320 256 _) (load_apply arg5 harg5 x2 320 512 _)
    (stA_21 c arg4 harg4 arg5 harg5 arg7 harg7 arg8 harg8 arg9 harg9 arg12 x1 x2 x4 x5 x6)

/-- Head 2 after 6 chunks. -/
theorem stA_26 : kernelRun0_A.sl.v1122 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 2 6 := by
  unfold kernelRun0_A.sl.v1122 kernelRun0_A.sl.HS0_27 kernelRun0_A.sl.HS0_26 kernelRun0_A.sl.HS0_25 kernelRun0_A.sl.HS0_24
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 2 5 slices_S512x1024_o320_512_S64x256 (View.readAt (Elt Ideal) arg4.view (Rect.unit (s := S512x1024) ![320, 512] S64x256.size inb_S512x1024_S64x256_320_512).toLoadRect (harg4.unread x1))
    (View.readAt (Elt Ideal) arg5.view (Rect.unit (s := S512x2048) ![320, 1024] S64x512.size inb_S512x2048_S64x512_320_1024).toLoadRect (harg5.unread x2))
    (kernelRun0_A.sl.v966 (F := Ideal) c arg4 harg4 arg5 harg5 arg7 harg7 arg8 harg8 arg9 harg9 arg12 x1 x2 x4 x5 x6)
    (load_apply arg4 harg4 x1 320 512 _) (load_apply arg5 harg5 x2 320 1024 _)
    (stA_22 c arg4 harg4 arg5 harg5 arg7 harg7 arg8 harg8 arg9 harg9 arg12 x1 x2 x4 x5 x6)

/-- Head 3 after 6 chunks. -/
theorem stA_27 : kernelRun0_A.sl.v1161 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 3 6 := by
  unfold kernelRun0_A.sl.v1161 kernelRun0_A.sl.HS0_28 kernelRun0_A.sl.HS0_27 kernelRun0_A.sl.HS0_26 kernelRun0_A.sl.HS0_25
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 3 5 slices_S512x1024_o320_768_S64x256 (View.readAt (Elt Ideal) arg4.view (Rect.unit (s := S512x1024) ![320, 768] S64x256.size inb_S512x1024_S64x256_320_768).toLoadRect (harg4.unread x1))
    (View.readAt (Elt Ideal) arg5.view (Rect.unit (s := S512x2048) ![320, 1536] S64x512.size inb_S512x2048_S64x512_320_1536).toLoadRect (harg5.unread x2))
    (kernelRun0_A.sl.v1005 (F := Ideal) c arg4 harg4 arg5 harg5 arg7 harg7 arg8 harg8 arg9 harg9 arg12 x1 x2 x4 x5 x6)
    (load_apply arg4 harg4 x1 320 768 _) (load_apply arg5 harg5 x2 320 1536 _)
    (stA_23 c arg4 harg4 arg5 harg5 arg7 harg7 arg8 harg8 arg9 harg9 arg12 x1 x2 x4 x5 x6)

/-- Head 0 after 7 chunks. -/
theorem stA_28 : kernelRun0_A.sl.v1200 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 0 7 := by
  unfold kernelRun0_A.sl.v1200 kernelRun0_A.sl.HS0_29 kernelRun0_A.sl.HS0_28 kernelRun0_A.sl.HS0_27 kernelRun0_A.sl.HS0_26
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 0 6 slices_S512x1024_o384_0_S64x256 (View.readAt (Elt Ideal) arg4.view (Rect.unit (s := S512x1024) ![384, 0] S64x256.size inb_S512x1024_S64x256_384_0).toLoadRect (harg4.unread x1))
    (View.readAt (Elt Ideal) arg5.view (Rect.unit (s := S512x2048) ![384, 0] S64x512.size inb_S512x2048_S64x512_384_0).toLoadRect (harg5.unread x2))
    (kernelRun0_A.sl.v1044 (F := Ideal) c arg4 harg4 arg5 harg5 arg7 harg7 arg8 harg8 arg9 harg9 arg12 x1 x2 x4 x5 x6)
    (load_apply arg4 harg4 x1 384 0 _) (load_apply arg5 harg5 x2 384 0 _)
    (stA_24 c arg4 harg4 arg5 harg5 arg7 harg7 arg8 harg8 arg9 harg9 arg12 x1 x2 x4 x5 x6)

/-- Head 1 after 7 chunks. -/
theorem stA_29 : kernelRun0_A.sl.v1239 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 1 7 := by
  unfold kernelRun0_A.sl.v1239 kernelRun0_A.sl.HS0_30 kernelRun0_A.sl.HS0_29 kernelRun0_A.sl.HS0_28 kernelRun0_A.sl.HS0_27
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 1 6 slices_S512x1024_o384_256_S64x256 (View.readAt (Elt Ideal) arg4.view (Rect.unit (s := S512x1024) ![384, 256] S64x256.size inb_S512x1024_S64x256_384_256).toLoadRect (harg4.unread x1))
    (View.readAt (Elt Ideal) arg5.view (Rect.unit (s := S512x2048) ![384, 512] S64x512.size inb_S512x2048_S64x512_384_512).toLoadRect (harg5.unread x2))
    (kernelRun0_A.sl.v1083 (F := Ideal) c arg4 harg4 arg5 harg5 arg7 harg7 arg8 harg8 arg9 harg9 arg12 x1 x2 x4 x5 x6)
    (load_apply arg4 harg4 x1 384 256 _) (load_apply arg5 harg5 x2 384 512 _)
    (stA_25 c arg4 harg4 arg5 harg5 arg7 harg7 arg8 harg8 arg9 harg9 arg12 x1 x2 x4 x5 x6)

/-- Head 2 after 7 chunks. -/
theorem stA_30 : kernelRun0_A.sl.v1278 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 2 7 := by
  unfold kernelRun0_A.sl.v1278 kernelRun0_A.sl.HS0_31 kernelRun0_A.sl.HS0_30 kernelRun0_A.sl.HS0_29 kernelRun0_A.sl.HS0_28
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 2 6 slices_S512x1024_o384_512_S64x256 (View.readAt (Elt Ideal) arg4.view (Rect.unit (s := S512x1024) ![384, 512] S64x256.size inb_S512x1024_S64x256_384_512).toLoadRect (harg4.unread x1))
    (View.readAt (Elt Ideal) arg5.view (Rect.unit (s := S512x2048) ![384, 1024] S64x512.size inb_S512x2048_S64x512_384_1024).toLoadRect (harg5.unread x2))
    (kernelRun0_A.sl.v1122 (F := Ideal) c arg4 harg4 arg5 harg5 arg7 harg7 arg8 harg8 arg9 harg9 arg12 x1 x2 x4 x5 x6)
    (load_apply arg4 harg4 x1 384 512 _) (load_apply arg5 harg5 x2 384 1024 _)
    (stA_26 c arg4 harg4 arg5 harg5 arg7 harg7 arg8 harg8 arg9 harg9 arg12 x1 x2 x4 x5 x6)

/-- Head 3 after 7 chunks. -/
theorem stA_31 : kernelRun0_A.sl.v1317 (F := Ideal) c arg4 harg4 arg5 harg5 arg7 harg7 arg8 harg8 arg9 harg9 arg12 x1 x2 x4 x5 x6 = slab (blA c arg7 harg7 arg8 harg8 arg9 harg9 x4 x5 x6) x1 x2 (fun _ _ _ => 0) 3 7 := by
  unfold kernelRun0_A.sl.v1317 kernelRun0_A.sl.HS0_32 kernelRun0_A.sl.HS0_31 kernelRun0_A.sl.HS0_30 kernelRun0_A.sl.HS0_29
  rw [View.readCov_skip _ _ _ _ _ (by decide), View.readCov_skip _ _ _ _ _ (by decide),
    View.readCov_skip _ _ _ _ _ (by decide), View.readCov_cons_toLoadRect]
  exact step (blA c arg7 harg7 arg8 harg8 arg9 harg9 x4 x5 x6) x1 x2 (fun _ _ _ => 0) 3 6 slices_S512x1024_o384_768_S64x256 (View.readAt (Elt Ideal) arg4.view (Rect.unit (s := S512x1024) ![384, 768] S64x256.size inb_S512x1024_S64x256_384_768).toLoadRect (harg4.unread x1))
    (View.readAt (Elt Ideal) arg5.view (Rect.unit (s := S512x2048) ![384, 1536] S64x512.size inb_S512x2048_S64x512_384_1536).toLoadRect (harg5.unread x2))
    (kernelRun0_A.sl.v1161 (F := Ideal) c arg4 harg4 arg5 harg5 arg7 harg7 arg8 harg8 arg9 harg9 arg12 x1 x2 x4 x5 x6)
    (load_apply arg4 harg4 x1 384 768 _) (load_apply arg5 harg5 x2 384 1536 _)
    (stA_27 c arg4 harg4 arg5 harg5 arg7 harg7 arg8 harg8 arg9 harg9 arg12 x1 x2 x4 x5 x6)

/-- The stores to the states, the last one first. -/
def lastA : List (View.Piece (Elt Ideal) S4x512x256 .f32) :=
  ⟨Rect.unit ![3, 0, 0] S1x512x256.size inb_S4x512x256_S1x512x256_3_0_0,
    k0_pay288 (F := Ideal) (kernelRun0_A.sl.r_160 (F := Ideal) c arg5 harg5 x2) (kernelRun0_A.sl.r_161 (F := Ideal) c arg7 harg7 arg8 harg8 arg9 harg9 x4 x5 x6) (kernelRun0_A.sl.r_163 (F := Ideal) c arg4 harg4 arg7 harg7 arg8 harg8 arg9 harg9 x1 x4 x5 x6) (kernelRun0_A.sl.v1317 (F := Ideal) c arg4 harg4 arg5 harg5 arg7 harg7 arg8 harg8 arg9 harg9 arg12 x1 x2 x4 x5 x6)⟩
  :: kernelRun0_A.sl.HS0_32 (F := Ideal) c arg4 harg4 arg5 harg5 arg7 harg7 arg8 harg8 arg9 harg9 arg12 x1 x2 x4 x5 x6

/-- The state of head 0 after the 8 chunks. -/
theorem endA_0 : arg12.view.readCov (lastA c arg4 harg4 arg5 harg5 arg7 harg7 arg8 harg8 arg9 harg9 arg12 x1 x2 x4 x5 x6) (Rect.unit (s := S4x512x256) ![0, 0, 0] S1x512x256.size inb_S4x512x256_S1x512x256_0_0_0).toLoadRect
    = slab (blA c arg7 harg7 arg8 harg8 arg9 harg9 x4 x5 x6) x1 x2 (fun _ _ _ => 0) 0 8 := by
  unfold lastA kernelRun0_A.sl.HS0_32 kernelRun0_A.sl.HS0_31 kernelRun0_A.sl.HS0_30
  rw [View.readCov_skip _ _ _ _ _ (by decide)]
  rw [View.readCov_skip _ _ _ _ _ (by decide)]
  rw [View.readCov_skip _ _ _ _ _ (by decide)]
  rw [View.readCov_cons_toLoadRect]
  exact step (blA c arg7 harg7 arg8 harg8 arg9 harg9 x4 x5 x6) x1 x2 (fun _ _ _ => 0) 0 7 slices_S512x1024_o448_0_S64x256 (View.readAt (Elt Ideal) arg4.view (Rect.unit (s := S512x1024) ![448, 0] S64x256.size inb_S512x1024_S64x256_448_0).toLoadRect (harg4.unread x1))
    (View.readAt (Elt Ideal) arg5.view (Rect.unit (s := S512x2048) ![448, 0] S64x512.size inb_S512x2048_S64x512_448_0).toLoadRect (harg5.unread x2))
    (kernelRun0_A.sl.v1200 (F := Ideal) c arg4 harg4 arg5 harg5 arg7 harg7 arg8 harg8 arg9 harg9 arg12 x1 x2 x4 x5 x6)
    (load_apply arg4 harg4 x1 448 0 _) (load_apply arg5 harg5 x2 448 0 _)
    (stA_28 c arg4 harg4 arg5 harg5 arg7 harg7 arg8 harg8 arg9 harg9 arg12 x1 x2 x4 x5 x6)

/-- The state of head 1 after the 8 chunks. -/
theorem endA_1 : arg12.view.readCov (lastA c arg4 harg4 arg5 harg5 arg7 harg7 arg8 harg8 arg9 harg9 arg12 x1 x2 x4 x5 x6) (Rect.unit (s := S4x512x256) ![1, 0, 0] S1x512x256.size inb_S4x512x256_S1x512x256_1_0_0).toLoadRect
    = slab (blA c arg7 harg7 arg8 harg8 arg9 harg9 x4 x5 x6) x1 x2 (fun _ _ _ => 0) 1 8 := by
  unfold lastA kernelRun0_A.sl.HS0_32 kernelRun0_A.sl.HS0_31
  rw [View.readCov_skip _ _ _ _ _ (by decide)]
  rw [View.readCov_skip _ _ _ _ _ (by decide)]
  rw [View.readCov_cons_toLoadRect]
  exact step (blA c arg7 harg7 arg8 harg8 arg9 harg9 x4 x5 x6) x1 x2 (fun _ _ _ => 0) 1 7 slices_S512x1024_o448_256_S64x256 (View.readAt (Elt Ideal) arg4.view (Rect.unit (s := S512x1024) ![448, 256] S64x256.size inb_S512x1024_S64x256_448_256).toLoadRect (harg4.unread x1))
    (View.readAt (Elt Ideal) arg5.view (Rect.unit (s := S512x2048) ![448, 512] S64x512.size inb_S512x2048_S64x512_448_512).toLoadRect (harg5.unread x2))
    (kernelRun0_A.sl.v1239 (F := Ideal) c arg4 harg4 arg5 harg5 arg7 harg7 arg8 harg8 arg9 harg9 arg12 x1 x2 x4 x5 x6)
    (load_apply arg4 harg4 x1 448 256 _) (load_apply arg5 harg5 x2 448 512 _)
    (stA_29 c arg4 harg4 arg5 harg5 arg7 harg7 arg8 harg8 arg9 harg9 arg12 x1 x2 x4 x5 x6)

/-- The state of head 2 after the 8 chunks. -/
theorem endA_2 : arg12.view.readCov (lastA c arg4 harg4 arg5 harg5 arg7 harg7 arg8 harg8 arg9 harg9 arg12 x1 x2 x4 x5 x6) (Rect.unit (s := S4x512x256) ![2, 0, 0] S1x512x256.size inb_S4x512x256_S1x512x256_2_0_0).toLoadRect
    = slab (blA c arg7 harg7 arg8 harg8 arg9 harg9 x4 x5 x6) x1 x2 (fun _ _ _ => 0) 2 8 := by
  unfold lastA kernelRun0_A.sl.HS0_32
  rw [View.readCov_skip _ _ _ _ _ (by decide)]
  rw [View.readCov_cons_toLoadRect]
  exact step (blA c arg7 harg7 arg8 harg8 arg9 harg9 x4 x5 x6) x1 x2 (fun _ _ _ => 0) 2 7 slices_S512x1024_o448_512_S64x256 (View.readAt (Elt Ideal) arg4.view (Rect.unit (s := S512x1024) ![448, 512] S64x256.size inb_S512x1024_S64x256_448_512).toLoadRect (harg4.unread x1))
    (View.readAt (Elt Ideal) arg5.view (Rect.unit (s := S512x2048) ![448, 1024] S64x512.size inb_S512x2048_S64x512_448_1024).toLoadRect (harg5.unread x2))
    (kernelRun0_A.sl.v1278 (F := Ideal) c arg4 harg4 arg5 harg5 arg7 harg7 arg8 harg8 arg9 harg9 arg12 x1 x2 x4 x5 x6)
    (load_apply arg4 harg4 x1 448 512 _) (load_apply arg5 harg5 x2 448 1024 _)
    (stA_30 c arg4 harg4 arg5 harg5 arg7 harg7 arg8 harg8 arg9 harg9 arg12 x1 x2 x4 x5 x6)

/-- The state of head 3 after the 8 chunks. -/
theorem endA_3 : arg12.view.readCov (lastA c arg4 harg4 arg5 harg5 arg7 harg7 arg8 harg8 arg9 harg9 arg12 x1 x2 x4 x5 x6) (Rect.unit (s := S4x512x256) ![3, 0, 0] S1x512x256.size inb_S4x512x256_S1x512x256_3_0_0).toLoadRect
    = slab (blA c arg7 harg7 arg8 harg8 arg9 harg9 x4 x5 x6) x1 x2 (fun _ _ _ => 0) 3 8 := by
  unfold lastA
  rw [View.readCov_cons_toLoadRect]
  exact step (blA c arg7 harg7 arg8 harg8 arg9 harg9 x4 x5 x6) x1 x2 (fun _ _ _ => 0) 3 7 slices_S512x1024_o448_768_S64x256 (View.readAt (Elt Ideal) arg4.view (Rect.unit (s := S512x1024) ![448, 768] S64x256.size inb_S512x1024_S64x256_448_768).toLoadRect (harg4.unread x1))
    (View.readAt (Elt Ideal) arg5.view (Rect.unit (s := S512x2048) ![448, 1536] S64x512.size inb_S512x2048_S64x512_448_1536).toLoadRect (harg5.unread x2))
    (kernelRun0_A.sl.v1317 (F := Ideal) c arg4 harg4 arg5 harg5 arg7 harg7 arg8 harg8 arg9 harg9 arg12 x1 x2 x4 x5 x6)
    (load_apply arg4 harg4 x1 448 768 _) (load_apply arg5 harg5 x2 448 1536 _)
    (stA_31 c arg4 harg4 arg5 harg5 arg7 harg7 arg8 harg8 arg9 harg9 arg12 x1 x2 x4 x5 x6)

/-- The four states the body leaves. -/
theorem statesA (p : Fin 4) (e : Fin 512) (d : Fin 256) :
    View.canon (lastA c arg4 harg4 arg5 harg5 arg7 harg7 arg8 harg8 arg9 harg9 arg12 x1 x2 x4 x5 x6) (ix3 p e d) = state (at2 (blA c arg7 harg7 arg8 harg8 arg9 harg9 x4 x5 x6)) (at2 x1) (at2 x2) (fun _ _ _ => 0) p.val 8 e.val d.val :=
  canon_states arg12.view (lastA c arg4 harg4 arg5 harg5 arg7 harg7 arg8 harg8 arg9 harg9 arg12 x1 x2 x4 x5 x6) (blA c arg7 harg7 arg8 harg8 arg9 harg9 x4 x5 x6) x1 x2 (fun _ _ _ => 0)
    (endA_0 c arg4 harg4 arg5 harg5 arg7 harg7 arg8 harg8 arg9 harg9 arg12 x1 x2 x4 x5 x6) (endA_1 c arg4 harg4 arg5 harg5 arg7 harg7 arg8 harg8 arg9 harg9 arg12 x1 x2 x4 x5 x6) (endA_2 c arg4 harg4 arg5 harg5 arg7 harg7 arg8 harg8 arg9 harg9 arg12 x1 x2 x4 x5 x6) (endA_3 c arg4 harg4 arg5 harg5 arg7 harg7 arg8 harg8 arg9 harg9 arg12 x1 x2 x4 x5 x6) p e d

include arg3 harg3 x0

/-- Chunk 7 of head 3 is stored. -/
theorem ocA_31 (x : S64x512.Idx) :
    pieceO ![448, 768] slices_S512x1024_o448_768_S64x256 (blA c arg7 harg7 arg8 harg8 arg9 harg9 x4 x5 x6) (View.readAt (Elt Ideal) arg3.view (Rect.unit (s := S512x1024) ![448, 768] S64x256.size inb_S512x1024_S64x256_448_768).toLoadRect (harg3.unread x0)) (View.readAt (Elt Ideal) arg4.view (Rect.unit (s := S512x1024) ![448, 768] S64x256.size inb_S512x1024_S64x256_448_768).toLoadRect (harg4.unread x1))
      (View.readAt (Elt Ideal) arg5.view (Rect.unit (s := S512x2048) ![448, 1536] S64x512.size inb_S512x2048_S64x512_448_1536).toLoadRect (harg5.unread x2)) (kernelRun0_A.sl.v1317 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![448, 1536] S64x512.size inb_S512x2048_S64x512_448_1536).emb x) :=
  outStep (blA c arg7 harg7 arg8 harg8 arg9 harg9 x4 x5 x6) x0 x1 x2 (fun _ _ _ => 0) 3 7 (by omega) (by omega) slices_S512x1024_o448_768_S64x256 _ _ _ _
    (load_apply arg3 harg3 x0 448 768 _) (load_apply arg4 harg4 x1 448 768 _) (load_apply arg5 harg5 x2 448 1536 _)
    (stA_31 c arg4 harg4 arg5 harg5 arg7 harg7 arg8 harg8 arg9 harg9 arg12 x1 x2 x4 x5 x6) _ x

/-- Chunk 7 of head 2 is stored. -/
theorem ocA_30 (x : S64x512.Idx) :
    pieceO ![448, 512] slices_S512x1024_o448_512_S64x256 (blA c arg7 harg7 arg8 harg8 arg9 harg9 x4 x5 x6) (View.readAt (Elt Ideal) arg3.view (Rect.unit (s := S512x1024) ![448, 512] S64x256.size inb_S512x1024_S64x256_448_512).toLoadRect (harg3.unread x0)) (View.readAt (Elt Ideal) arg4.view (Rect.unit (s := S512x1024) ![448, 512] S64x256.size inb_S512x1024_S64x256_448_512).toLoadRect (harg4.unread x1))
      (View.readAt (Elt Ideal) arg5.view (Rect.unit (s := S512x2048) ![448, 1024] S64x512.size inb_S512x2048_S64x512_448_1024).toLoadRect (harg5.unread x2)) (kernelRun0_A.sl.v1278 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![448, 1024] S64x512.size inb_S512x2048_S64x512_448_1024).emb x) :=
  outStep (blA c arg7 harg7 arg8 harg8 arg9 harg9 x4 x5 x6) x0 x1 x2 (fun _ _ _ => 0) 2 7 (by omega) (by omega) slices_S512x1024_o448_512_S64x256 _ _ _ _
    (load_apply arg3 harg3 x0 448 512 _) (load_apply arg4 harg4 x1 448 512 _) (load_apply arg5 harg5 x2 448 1024 _)
    (stA_30 c arg4 harg4 arg5 harg5 arg7 harg7 arg8 harg8 arg9 harg9 arg12 x1 x2 x4 x5 x6) _ x

/-- Chunk 7 of head 1 is stored. -/
theorem ocA_29 (x : S64x512.Idx) :
    pieceO ![448, 256] slices_S512x1024_o448_256_S64x256 (blA c arg7 harg7 arg8 harg8 arg9 harg9 x4 x5 x6) (View.readAt (Elt Ideal) arg3.view (Rect.unit (s := S512x1024) ![448, 256] S64x256.size inb_S512x1024_S64x256_448_256).toLoadRect (harg3.unread x0)) (View.readAt (Elt Ideal) arg4.view (Rect.unit (s := S512x1024) ![448, 256] S64x256.size inb_S512x1024_S64x256_448_256).toLoadRect (harg4.unread x1))
      (View.readAt (Elt Ideal) arg5.view (Rect.unit (s := S512x2048) ![448, 512] S64x512.size inb_S512x2048_S64x512_448_512).toLoadRect (harg5.unread x2)) (kernelRun0_A.sl.v1239 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![448, 512] S64x512.size inb_S512x2048_S64x512_448_512).emb x) :=
  outStep (blA c arg7 harg7 arg8 harg8 arg9 harg9 x4 x5 x6) x0 x1 x2 (fun _ _ _ => 0) 1 7 (by omega) (by omega) slices_S512x1024_o448_256_S64x256 _ _ _ _
    (load_apply arg3 harg3 x0 448 256 _) (load_apply arg4 harg4 x1 448 256 _) (load_apply arg5 harg5 x2 448 512 _)
    (stA_29 c arg4 harg4 arg5 harg5 arg7 harg7 arg8 harg8 arg9 harg9 arg12 x1 x2 x4 x5 x6) _ x

/-- Chunk 7 of head 0 is stored. -/
theorem ocA_28 (x : S64x512.Idx) :
    pieceO ![448, 0] slices_S512x1024_o448_0_S64x256 (blA c arg7 harg7 arg8 harg8 arg9 harg9 x4 x5 x6) (View.readAt (Elt Ideal) arg3.view (Rect.unit (s := S512x1024) ![448, 0] S64x256.size inb_S512x1024_S64x256_448_0).toLoadRect (harg3.unread x0)) (View.readAt (Elt Ideal) arg4.view (Rect.unit (s := S512x1024) ![448, 0] S64x256.size inb_S512x1024_S64x256_448_0).toLoadRect (harg4.unread x1))
      (View.readAt (Elt Ideal) arg5.view (Rect.unit (s := S512x2048) ![448, 0] S64x512.size inb_S512x2048_S64x512_448_0).toLoadRect (harg5.unread x2)) (kernelRun0_A.sl.v1200 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![448, 0] S64x512.size inb_S512x2048_S64x512_448_0).emb x) :=
  outStep (blA c arg7 harg7 arg8 harg8 arg9 harg9 x4 x5 x6) x0 x1 x2 (fun _ _ _ => 0) 0 7 (by omega) (by omega) slices_S512x1024_o448_0_S64x256 _ _ _ _
    (load_apply arg3 harg3 x0 448 0 _) (load_apply arg4 harg4 x1 448 0 _) (load_apply arg5 harg5 x2 448 0 _)
    (stA_28 c arg4 harg4 arg5 harg5 arg7 harg7 arg8 harg8 arg9 harg9 arg12 x1 x2 x4 x5 x6) _ x

/-- Chunk 6 of head 3 is stored. -/
theorem ocA_27 (x : S64x512.Idx) :
    pieceO ![384, 768] slices_S512x1024_o384_768_S64x256 (blA c arg7 harg7 arg8 harg8 arg9 harg9 x4 x5 x6) (View.readAt (Elt Ideal) arg3.view (Rect.unit (s := S512x1024) ![384, 768] S64x256.size inb_S512x1024_S64x256_384_768).toLoadRect (harg3.unread x0)) (View.readAt (Elt Ideal) arg4.view (Rect.unit (s := S512x1024) ![384, 768] S64x256.size inb_S512x1024_S64x256_384_768).toLoadRect (harg4.unread x1))
      (View.readAt (Elt Ideal) arg5.view (Rect.unit (s := S512x2048) ![384, 1536] S64x512.size inb_S512x2048_S64x512_384_1536).toLoadRect (harg5.unread x2)) (kernelRun0_A.sl.v1161 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![384, 1536] S64x512.size inb_S512x2048_S64x512_384_1536).emb x) :=
  outStep (blA c arg7 harg7 arg8 harg8 arg9 harg9 x4 x5 x6) x0 x1 x2 (fun _ _ _ => 0) 3 6 (by omega) (by omega) slices_S512x1024_o384_768_S64x256 _ _ _ _
    (load_apply arg3 harg3 x0 384 768 _) (load_apply arg4 harg4 x1 384 768 _) (load_apply arg5 harg5 x2 384 1536 _)
    (stA_27 c arg4 harg4 arg5 harg5 arg7 harg7 arg8 harg8 arg9 harg9 arg12 x1 x2 x4 x5 x6) _ x

/-- Chunk 6 of head 2 is stored. -/
theorem ocA_26 (x : S64x512.Idx) :
    pieceO ![384, 512] slices_S512x1024_o384_512_S64x256 (blA c arg7 harg7 arg8 harg8 arg9 harg9 x4 x5 x6) (View.readAt (Elt Ideal) arg3.view (Rect.unit (s := S512x1024) ![384, 512] S64x256.size inb_S512x1024_S64x256_384_512).toLoadRect (harg3.unread x0)) (View.readAt (Elt Ideal) arg4.view (Rect.unit (s := S512x1024) ![384, 512] S64x256.size inb_S512x1024_S64x256_384_512).toLoadRect (harg4.unread x1))
      (View.readAt (Elt Ideal) arg5.view (Rect.unit (s := S512x2048) ![384, 1024] S64x512.size inb_S512x2048_S64x512_384_1024).toLoadRect (harg5.unread x2)) (kernelRun0_A.sl.v1122 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![384, 1024] S64x512.size inb_S512x2048_S64x512_384_1024).emb x) :=
  outStep (blA c arg7 harg7 arg8 harg8 arg9 harg9 x4 x5 x6) x0 x1 x2 (fun _ _ _ => 0) 2 6 (by omega) (by omega) slices_S512x1024_o384_512_S64x256 _ _ _ _
    (load_apply arg3 harg3 x0 384 512 _) (load_apply arg4 harg4 x1 384 512 _) (load_apply arg5 harg5 x2 384 1024 _)
    (stA_26 c arg4 harg4 arg5 harg5 arg7 harg7 arg8 harg8 arg9 harg9 arg12 x1 x2 x4 x5 x6) _ x

/-- Chunk 6 of head 1 is stored. -/
theorem ocA_25 (x : S64x512.Idx) :
    pieceO ![384, 256] slices_S512x1024_o384_256_S64x256 (blA c arg7 harg7 arg8 harg8 arg9 harg9 x4 x5 x6) (View.readAt (Elt Ideal) arg3.view (Rect.unit (s := S512x1024) ![384, 256] S64x256.size inb_S512x1024_S64x256_384_256).toLoadRect (harg3.unread x0)) (View.readAt (Elt Ideal) arg4.view (Rect.unit (s := S512x1024) ![384, 256] S64x256.size inb_S512x1024_S64x256_384_256).toLoadRect (harg4.unread x1))
      (View.readAt (Elt Ideal) arg5.view (Rect.unit (s := S512x2048) ![384, 512] S64x512.size inb_S512x2048_S64x512_384_512).toLoadRect (harg5.unread x2)) (kernelRun0_A.sl.v1083 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![384, 512] S64x512.size inb_S512x2048_S64x512_384_512).emb x) :=
  outStep (blA c arg7 harg7 arg8 harg8 arg9 harg9 x4 x5 x6) x0 x1 x2 (fun _ _ _ => 0) 1 6 (by omega) (by omega) slices_S512x1024_o384_256_S64x256 _ _ _ _
    (load_apply arg3 harg3 x0 384 256 _) (load_apply arg4 harg4 x1 384 256 _) (load_apply arg5 harg5 x2 384 512 _)
    (stA_25 c arg4 harg4 arg5 harg5 arg7 harg7 arg8 harg8 arg9 harg9 arg12 x1 x2 x4 x5 x6) _ x

/-- Chunk 6 of head 0 is stored. -/
theorem ocA_24 (x : S64x512.Idx) :
    pieceO ![384, 0] slices_S512x1024_o384_0_S64x256 (blA c arg7 harg7 arg8 harg8 arg9 harg9 x4 x5 x6) (View.readAt (Elt Ideal) arg3.view (Rect.unit (s := S512x1024) ![384, 0] S64x256.size inb_S512x1024_S64x256_384_0).toLoadRect (harg3.unread x0)) (View.readAt (Elt Ideal) arg4.view (Rect.unit (s := S512x1024) ![384, 0] S64x256.size inb_S512x1024_S64x256_384_0).toLoadRect (harg4.unread x1))
      (View.readAt (Elt Ideal) arg5.view (Rect.unit (s := S512x2048) ![384, 0] S64x512.size inb_S512x2048_S64x512_384_0).toLoadRect (harg5.unread x2)) (kernelRun0_A.sl.v1044 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![384, 0] S64x512.size inb_S512x2048_S64x512_384_0).emb x) :=
  outStep (blA c arg7 harg7 arg8 harg8 arg9 harg9 x4 x5 x6) x0 x1 x2 (fun _ _ _ => 0) 0 6 (by omega) (by omega) slices_S512x1024_o384_0_S64x256 _ _ _ _
    (load_apply arg3 harg3 x0 384 0 _) (load_apply arg4 harg4 x1 384 0 _) (load_apply arg5 harg5 x2 384 0 _)
    (stA_24 c arg4 harg4 arg5 harg5 arg7 harg7 arg8 harg8 arg9 harg9 arg12 x1 x2 x4 x5 x6) _ x

/-- Chunk 5 of head 3 is stored. -/
theorem ocA_23 (x : S64x512.Idx) :
    pieceO ![320, 768] slices_S512x1024_o320_768_S64x256 (blA c arg7 harg7 arg8 harg8 arg9 harg9 x4 x5 x6) (View.readAt (Elt Ideal) arg3.view (Rect.unit (s := S512x1024) ![320, 768] S64x256.size inb_S512x1024_S64x256_320_768).toLoadRect (harg3.unread x0)) (View.readAt (Elt Ideal) arg4.view (Rect.unit (s := S512x1024) ![320, 768] S64x256.size inb_S512x1024_S64x256_320_768).toLoadRect (harg4.unread x1))
      (View.readAt (Elt Ideal) arg5.view (Rect.unit (s := S512x2048) ![320, 1536] S64x512.size inb_S512x2048_S64x512_320_1536).toLoadRect (harg5.unread x2)) (kernelRun0_A.sl.v1005 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![320, 1536] S64x512.size inb_S512x2048_S64x512_320_1536).emb x) :=
  outStep (blA c arg7 harg7 arg8 harg8 arg9 harg9 x4 x5 x6) x0 x1 x2 (fun _ _ _ => 0) 3 5 (by omega) (by omega) slices_S512x1024_o320_768_S64x256 _ _ _ _
    (load_apply arg3 harg3 x0 320 768 _) (load_apply arg4 harg4 x1 320 768 _) (load_apply arg5 harg5 x2 320 1536 _)
    (stA_23 c arg4 harg4 arg5 harg5 arg7 harg7 arg8 harg8 arg9 harg9 arg12 x1 x2 x4 x5 x6) _ x

/-- Chunk 5 of head 2 is stored. -/
theorem ocA_22 (x : S64x512.Idx) :
    pieceO ![320, 512] slices_S512x1024_o320_512_S64x256 (blA c arg7 harg7 arg8 harg8 arg9 harg9 x4 x5 x6) (View.readAt (Elt Ideal) arg3.view (Rect.unit (s := S512x1024) ![320, 512] S64x256.size inb_S512x1024_S64x256_320_512).toLoadRect (harg3.unread x0)) (View.readAt (Elt Ideal) arg4.view (Rect.unit (s := S512x1024) ![320, 512] S64x256.size inb_S512x1024_S64x256_320_512).toLoadRect (harg4.unread x1))
      (View.readAt (Elt Ideal) arg5.view (Rect.unit (s := S512x2048) ![320, 1024] S64x512.size inb_S512x2048_S64x512_320_1024).toLoadRect (harg5.unread x2)) (kernelRun0_A.sl.v966 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![320, 1024] S64x512.size inb_S512x2048_S64x512_320_1024).emb x) :=
  outStep (blA c arg7 harg7 arg8 harg8 arg9 harg9 x4 x5 x6) x0 x1 x2 (fun _ _ _ => 0) 2 5 (by omega) (by omega) slices_S512x1024_o320_512_S64x256 _ _ _ _
    (load_apply arg3 harg3 x0 320 512 _) (load_apply arg4 harg4 x1 320 512 _) (load_apply arg5 harg5 x2 320 1024 _)
    (stA_22 c arg4 harg4 arg5 harg5 arg7 harg7 arg8 harg8 arg9 harg9 arg12 x1 x2 x4 x5 x6) _ x

/-- Chunk 5 of head 1 is stored. -/
theorem ocA_21 (x : S64x512.Idx) :
    pieceO ![320, 256] slices_S512x1024_o320_256_S64x256 (blA c arg7 harg7 arg8 harg8 arg9 harg9 x4 x5 x6) (View.readAt (Elt Ideal) arg3.view (Rect.unit (s := S512x1024) ![320, 256] S64x256.size inb_S512x1024_S64x256_320_256).toLoadRect (harg3.unread x0)) (View.readAt (Elt Ideal) arg4.view (Rect.unit (s := S512x1024) ![320, 256] S64x256.size inb_S512x1024_S64x256_320_256).toLoadRect (harg4.unread x1))
      (View.readAt (Elt Ideal) arg5.view (Rect.unit (s := S512x2048) ![320, 512] S64x512.size inb_S512x2048_S64x512_320_512).toLoadRect (harg5.unread x2)) (kernelRun0_A.sl.v927 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![320, 512] S64x512.size inb_S512x2048_S64x512_320_512).emb x) :=
  outStep (blA c arg7 harg7 arg8 harg8 arg9 harg9 x4 x5 x6) x0 x1 x2 (fun _ _ _ => 0) 1 5 (by omega) (by omega) slices_S512x1024_o320_256_S64x256 _ _ _ _
    (load_apply arg3 harg3 x0 320 256 _) (load_apply arg4 harg4 x1 320 256 _) (load_apply arg5 harg5 x2 320 512 _)
    (stA_21 c arg4 harg4 arg5 harg5 arg7 harg7 arg8 harg8 arg9 harg9 arg12 x1 x2 x4 x5 x6) _ x

/-- Chunk 5 of head 0 is stored. -/
theorem ocA_20 (x : S64x512.Idx) :
    pieceO ![320, 0] slices_S512x1024_o320_0_S64x256 (blA c arg7 harg7 arg8 harg8 arg9 harg9 x4 x5 x6) (View.readAt (Elt Ideal) arg3.view (Rect.unit (s := S512x1024) ![320, 0] S64x256.size inb_S512x1024_S64x256_320_0).toLoadRect (harg3.unread x0)) (View.readAt (Elt Ideal) arg4.view (Rect.unit (s := S512x1024) ![320, 0] S64x256.size inb_S512x1024_S64x256_320_0).toLoadRect (harg4.unread x1))
      (View.readAt (Elt Ideal) arg5.view (Rect.unit (s := S512x2048) ![320, 0] S64x512.size inb_S512x2048_S64x512_320_0).toLoadRect (harg5.unread x2)) (kernelRun0_A.sl.v888 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![320, 0] S64x512.size inb_S512x2048_S64x512_320_0).emb x) :=
  outStep (blA c arg7 harg7 arg8 harg8 arg9 harg9 x4 x5 x6) x0 x1 x2 (fun _ _ _ => 0) 0 5 (by omega) (by omega) slices_S512x1024_o320_0_S64x256 _ _ _ _
    (load_apply arg3 harg3 x0 320 0 _) (load_apply arg4 harg4 x1 320 0 _) (load_apply arg5 harg5 x2 320 0 _)
    (stA_20 c arg4 harg4 arg5 harg5 arg7 harg7 arg8 harg8 arg9 harg9 arg12 x1 x2 x4 x5 x6) _ x

/-- Chunk 4 of head 3 is stored. -/
theorem ocA_19 (x : S64x512.Idx) :
    pieceO ![256, 768] slices_S512x1024_o256_768_S64x256 (blA c arg7 harg7 arg8 harg8 arg9 harg9 x4 x5 x6) (View.readAt (Elt Ideal) arg3.view (Rect.unit (s := S512x1024) ![256, 768] S64x256.size inb_S512x1024_S64x256_256_768).toLoadRect (harg3.unread x0)) (View.readAt (Elt Ideal) arg4.view (Rect.unit (s := S512x1024) ![256, 768] S64x256.size inb_S512x1024_S64x256_256_768).toLoadRect (harg4.unread x1))
      (View.readAt (Elt Ideal) arg5.view (Rect.unit (s := S512x2048) ![256, 1536] S64x512.size inb_S512x2048_S64x512_256_1536).toLoadRect (harg5.unread x2)) (kernelRun0_A.sl.v849 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![256, 1536] S64x512.size inb_S512x2048_S64x512_256_1536).emb x) :=
  outStep (blA c arg7 harg7 arg8 harg8 arg9 harg9 x4 x5 x6) x0 x1 x2 (fun _ _ _ => 0) 3 4 (by omega) (by omega) slices_S512x1024_o256_768_S64x256 _ _ _ _
    (load_apply arg3 harg3 x0 256 768 _) (load_apply arg4 harg4 x1 256 768 _) (load_apply arg5 harg5 x2 256 1536 _)
    (stA_19 c arg4 harg4 arg5 harg5 arg7 harg7 arg8 harg8 arg9 harg9 arg12 x1 x2 x4 x5 x6) _ x

/-- Chunk 4 of head 2 is stored. -/
theorem ocA_18 (x : S64x512.Idx) :
    pieceO ![256, 512] slices_S512x1024_o256_512_S64x256 (blA c arg7 harg7 arg8 harg8 arg9 harg9 x4 x5 x6) (View.readAt (Elt Ideal) arg3.view (Rect.unit (s := S512x1024) ![256, 512] S64x256.size inb_S512x1024_S64x256_256_512).toLoadRect (harg3.unread x0)) (View.readAt (Elt Ideal) arg4.view (Rect.unit (s := S512x1024) ![256, 512] S64x256.size inb_S512x1024_S64x256_256_512).toLoadRect (harg4.unread x1))
      (View.readAt (Elt Ideal) arg5.view (Rect.unit (s := S512x2048) ![256, 1024] S64x512.size inb_S512x2048_S64x512_256_1024).toLoadRect (harg5.unread x2)) (kernelRun0_A.sl.v810 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![256, 1024] S64x512.size inb_S512x2048_S64x512_256_1024).emb x) :=
  outStep (blA c arg7 harg7 arg8 harg8 arg9 harg9 x4 x5 x6) x0 x1 x2 (fun _ _ _ => 0) 2 4 (by omega) (by omega) slices_S512x1024_o256_512_S64x256 _ _ _ _
    (load_apply arg3 harg3 x0 256 512 _) (load_apply arg4 harg4 x1 256 512 _) (load_apply arg5 harg5 x2 256 1024 _)
    (stA_18 c arg4 harg4 arg5 harg5 arg7 harg7 arg8 harg8 arg9 harg9 arg12 x1 x2 x4 x5 x6) _ x

/-- Chunk 4 of head 1 is stored. -/
theorem ocA_17 (x : S64x512.Idx) :
    pieceO ![256, 256] slices_S512x1024_o256_256_S64x256 (blA c arg7 harg7 arg8 harg8 arg9 harg9 x4 x5 x6) (View.readAt (Elt Ideal) arg3.view (Rect.unit (s := S512x1024) ![256, 256] S64x256.size inb_S512x1024_S64x256_256_256).toLoadRect (harg3.unread x0)) (View.readAt (Elt Ideal) arg4.view (Rect.unit (s := S512x1024) ![256, 256] S64x256.size inb_S512x1024_S64x256_256_256).toLoadRect (harg4.unread x1))
      (View.readAt (Elt Ideal) arg5.view (Rect.unit (s := S512x2048) ![256, 512] S64x512.size inb_S512x2048_S64x512_256_512).toLoadRect (harg5.unread x2)) (kernelRun0_A.sl.v771 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![256, 512] S64x512.size inb_S512x2048_S64x512_256_512).emb x) :=
  outStep (blA c arg7 harg7 arg8 harg8 arg9 harg9 x4 x5 x6) x0 x1 x2 (fun _ _ _ => 0) 1 4 (by omega) (by omega) slices_S512x1024_o256_256_S64x256 _ _ _ _
    (load_apply arg3 harg3 x0 256 256 _) (load_apply arg4 harg4 x1 256 256 _) (load_apply arg5 harg5 x2 256 512 _)
    (stA_17 c arg4 harg4 arg5 harg5 arg7 harg7 arg8 harg8 arg9 harg9 arg12 x1 x2 x4 x5 x6) _ x

/-- Chunk 4 of head 0 is stored. -/
theorem ocA_16 (x : S64x512.Idx) :
    pieceO ![256, 0] slices_S512x1024_o256_0_S64x256 (blA c arg7 harg7 arg8 harg8 arg9 harg9 x4 x5 x6) (View.readAt (Elt Ideal) arg3.view (Rect.unit (s := S512x1024) ![256, 0] S64x256.size inb_S512x1024_S64x256_256_0).toLoadRect (harg3.unread x0)) (View.readAt (Elt Ideal) arg4.view (Rect.unit (s := S512x1024) ![256, 0] S64x256.size inb_S512x1024_S64x256_256_0).toLoadRect (harg4.unread x1))
      (View.readAt (Elt Ideal) arg5.view (Rect.unit (s := S512x2048) ![256, 0] S64x512.size inb_S512x2048_S64x512_256_0).toLoadRect (harg5.unread x2)) (kernelRun0_A.sl.v732 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![256, 0] S64x512.size inb_S512x2048_S64x512_256_0).emb x) :=
  outStep (blA c arg7 harg7 arg8 harg8 arg9 harg9 x4 x5 x6) x0 x1 x2 (fun _ _ _ => 0) 0 4 (by omega) (by omega) slices_S512x1024_o256_0_S64x256 _ _ _ _
    (load_apply arg3 harg3 x0 256 0 _) (load_apply arg4 harg4 x1 256 0 _) (load_apply arg5 harg5 x2 256 0 _)
    (stA_16 c arg4 harg4 arg5 harg5 arg7 harg7 arg8 harg8 arg9 harg9 arg12 x1 x2 x4 x5 x6) _ x

/-- Chunk 3 of head 3 is stored. -/
theorem ocA_15 (x : S64x512.Idx) :
    pieceO ![192, 768] slices_S512x1024_o192_768_S64x256 (blA c arg7 harg7 arg8 harg8 arg9 harg9 x4 x5 x6) (View.readAt (Elt Ideal) arg3.view (Rect.unit (s := S512x1024) ![192, 768] S64x256.size inb_S512x1024_S64x256_192_768).toLoadRect (harg3.unread x0)) (View.readAt (Elt Ideal) arg4.view (Rect.unit (s := S512x1024) ![192, 768] S64x256.size inb_S512x1024_S64x256_192_768).toLoadRect (harg4.unread x1))
      (View.readAt (Elt Ideal) arg5.view (Rect.unit (s := S512x2048) ![192, 1536] S64x512.size inb_S512x2048_S64x512_192_1536).toLoadRect (harg5.unread x2)) (kernelRun0_A.sl.v693 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![192, 1536] S64x512.size inb_S512x2048_S64x512_192_1536).emb x) :=
  outStep (blA c arg7 harg7 arg8 harg8 arg9 harg9 x4 x5 x6) x0 x1 x2 (fun _ _ _ => 0) 3 3 (by omega) (by omega) slices_S512x1024_o192_768_S64x256 _ _ _ _
    (load_apply arg3 harg3 x0 192 768 _) (load_apply arg4 harg4 x1 192 768 _) (load_apply arg5 harg5 x2 192 1536 _)
    (stA_15 c arg4 harg4 arg5 harg5 arg7 harg7 arg8 harg8 arg9 harg9 arg12 x1 x2 x4 x5 x6) _ x

/-- Chunk 3 of head 2 is stored. -/
theorem ocA_14 (x : S64x512.Idx) :
    pieceO ![192, 512] slices_S512x1024_o192_512_S64x256 (blA c arg7 harg7 arg8 harg8 arg9 harg9 x4 x5 x6) (View.readAt (Elt Ideal) arg3.view (Rect.unit (s := S512x1024) ![192, 512] S64x256.size inb_S512x1024_S64x256_192_512).toLoadRect (harg3.unread x0)) (View.readAt (Elt Ideal) arg4.view (Rect.unit (s := S512x1024) ![192, 512] S64x256.size inb_S512x1024_S64x256_192_512).toLoadRect (harg4.unread x1))
      (View.readAt (Elt Ideal) arg5.view (Rect.unit (s := S512x2048) ![192, 1024] S64x512.size inb_S512x2048_S64x512_192_1024).toLoadRect (harg5.unread x2)) (kernelRun0_A.sl.v654 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![192, 1024] S64x512.size inb_S512x2048_S64x512_192_1024).emb x) :=
  outStep (blA c arg7 harg7 arg8 harg8 arg9 harg9 x4 x5 x6) x0 x1 x2 (fun _ _ _ => 0) 2 3 (by omega) (by omega) slices_S512x1024_o192_512_S64x256 _ _ _ _
    (load_apply arg3 harg3 x0 192 512 _) (load_apply arg4 harg4 x1 192 512 _) (load_apply arg5 harg5 x2 192 1024 _)
    (stA_14 c arg4 harg4 arg5 harg5 arg7 harg7 arg8 harg8 arg9 harg9 arg12 x1 x2 x4 x5 x6) _ x

/-- Chunk 3 of head 1 is stored. -/
theorem ocA_13 (x : S64x512.Idx) :
    pieceO ![192, 256] slices_S512x1024_o192_256_S64x256 (blA c arg7 harg7 arg8 harg8 arg9 harg9 x4 x5 x6) (View.readAt (Elt Ideal) arg3.view (Rect.unit (s := S512x1024) ![192, 256] S64x256.size inb_S512x1024_S64x256_192_256).toLoadRect (harg3.unread x0)) (View.readAt (Elt Ideal) arg4.view (Rect.unit (s := S512x1024) ![192, 256] S64x256.size inb_S512x1024_S64x256_192_256).toLoadRect (harg4.unread x1))
      (View.readAt (Elt Ideal) arg5.view (Rect.unit (s := S512x2048) ![192, 512] S64x512.size inb_S512x2048_S64x512_192_512).toLoadRect (harg5.unread x2)) (kernelRun0_A.sl.v615 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![192, 512] S64x512.size inb_S512x2048_S64x512_192_512).emb x) :=
  outStep (blA c arg7 harg7 arg8 harg8 arg9 harg9 x4 x5 x6) x0 x1 x2 (fun _ _ _ => 0) 1 3 (by omega) (by omega) slices_S512x1024_o192_256_S64x256 _ _ _ _
    (load_apply arg3 harg3 x0 192 256 _) (load_apply arg4 harg4 x1 192 256 _) (load_apply arg5 harg5 x2 192 512 _)
    (stA_13 c arg4 harg4 arg5 harg5 arg7 harg7 arg8 harg8 arg9 harg9 arg12 x1 x2 x4 x5 x6) _ x

/-- Chunk 3 of head 0 is stored. -/
theorem ocA_12 (x : S64x512.Idx) :
    pieceO ![192, 0] slices_S512x1024_o192_0_S64x256 (blA c arg7 harg7 arg8 harg8 arg9 harg9 x4 x5 x6) (View.readAt (Elt Ideal) arg3.view (Rect.unit (s := S512x1024) ![192, 0] S64x256.size inb_S512x1024_S64x256_192_0).toLoadRect (harg3.unread x0)) (View.readAt (Elt Ideal) arg4.view (Rect.unit (s := S512x1024) ![192, 0] S64x256.size inb_S512x1024_S64x256_192_0).toLoadRect (harg4.unread x1))
      (View.readAt (Elt Ideal) arg5.view (Rect.unit (s := S512x2048) ![192, 0] S64x512.size inb_S512x2048_S64x512_192_0).toLoadRect (harg5.unread x2)) (kernelRun0_A.sl.v576 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![192, 0] S64x512.size inb_S512x2048_S64x512_192_0).emb x) :=
  outStep (blA c arg7 harg7 arg8 harg8 arg9 harg9 x4 x5 x6) x0 x1 x2 (fun _ _ _ => 0) 0 3 (by omega) (by omega) slices_S512x1024_o192_0_S64x256 _ _ _ _
    (load_apply arg3 harg3 x0 192 0 _) (load_apply arg4 harg4 x1 192 0 _) (load_apply arg5 harg5 x2 192 0 _)
    (stA_12 c arg4 harg4 arg5 harg5 arg7 harg7 arg8 harg8 arg9 harg9 arg12 x1 x2 x4 x5 x6) _ x

/-- Chunk 2 of head 3 is stored. -/
theorem ocA_11 (x : S64x512.Idx) :
    pieceO ![128, 768] slices_S512x1024_o128_768_S64x256 (blA c arg7 harg7 arg8 harg8 arg9 harg9 x4 x5 x6) (View.readAt (Elt Ideal) arg3.view (Rect.unit (s := S512x1024) ![128, 768] S64x256.size inb_S512x1024_S64x256_128_768).toLoadRect (harg3.unread x0)) (View.readAt (Elt Ideal) arg4.view (Rect.unit (s := S512x1024) ![128, 768] S64x256.size inb_S512x1024_S64x256_128_768).toLoadRect (harg4.unread x1))
      (View.readAt (Elt Ideal) arg5.view (Rect.unit (s := S512x2048) ![128, 1536] S64x512.size inb_S512x2048_S64x512_128_1536).toLoadRect (harg5.unread x2)) (kernelRun0_A.sl.v537 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![128, 1536] S64x512.size inb_S512x2048_S64x512_128_1536).emb x) :=
  outStep (blA c arg7 harg7 arg8 harg8 arg9 harg9 x4 x5 x6) x0 x1 x2 (fun _ _ _ => 0) 3 2 (by omega) (by omega) slices_S512x1024_o128_768_S64x256 _ _ _ _
    (load_apply arg3 harg3 x0 128 768 _) (load_apply arg4 harg4 x1 128 768 _) (load_apply arg5 harg5 x2 128 1536 _)
    (stA_11 c arg4 harg4 arg5 harg5 arg7 harg7 arg8 harg8 arg9 harg9 arg12 x1 x2 x4 x5 x6) _ x

/-- Chunk 2 of head 2 is stored. -/
theorem ocA_10 (x : S64x512.Idx) :
    pieceO ![128, 512] slices_S512x1024_o128_512_S64x256 (blA c arg7 harg7 arg8 harg8 arg9 harg9 x4 x5 x6) (View.readAt (Elt Ideal) arg3.view (Rect.unit (s := S512x1024) ![128, 512] S64x256.size inb_S512x1024_S64x256_128_512).toLoadRect (harg3.unread x0)) (View.readAt (Elt Ideal) arg4.view (Rect.unit (s := S512x1024) ![128, 512] S64x256.size inb_S512x1024_S64x256_128_512).toLoadRect (harg4.unread x1))
      (View.readAt (Elt Ideal) arg5.view (Rect.unit (s := S512x2048) ![128, 1024] S64x512.size inb_S512x2048_S64x512_128_1024).toLoadRect (harg5.unread x2)) (kernelRun0_A.sl.v498 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![128, 1024] S64x512.size inb_S512x2048_S64x512_128_1024).emb x) :=
  outStep (blA c arg7 harg7 arg8 harg8 arg9 harg9 x4 x5 x6) x0 x1 x2 (fun _ _ _ => 0) 2 2 (by omega) (by omega) slices_S512x1024_o128_512_S64x256 _ _ _ _
    (load_apply arg3 harg3 x0 128 512 _) (load_apply arg4 harg4 x1 128 512 _) (load_apply arg5 harg5 x2 128 1024 _)
    (stA_10 c arg4 harg4 arg5 harg5 arg7 harg7 arg8 harg8 arg9 harg9 arg12 x1 x2 x4 x5 x6) _ x

/-- Chunk 2 of head 1 is stored. -/
theorem ocA_9 (x : S64x512.Idx) :
    pieceO ![128, 256] slices_S512x1024_o128_256_S64x256 (blA c arg7 harg7 arg8 harg8 arg9 harg9 x4 x5 x6) (View.readAt (Elt Ideal) arg3.view (Rect.unit (s := S512x1024) ![128, 256] S64x256.size inb_S512x1024_S64x256_128_256).toLoadRect (harg3.unread x0)) (View.readAt (Elt Ideal) arg4.view (Rect.unit (s := S512x1024) ![128, 256] S64x256.size inb_S512x1024_S64x256_128_256).toLoadRect (harg4.unread x1))
      (View.readAt (Elt Ideal) arg5.view (Rect.unit (s := S512x2048) ![128, 512] S64x512.size inb_S512x2048_S64x512_128_512).toLoadRect (harg5.unread x2)) (kernelRun0_A.sl.v459 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![128, 512] S64x512.size inb_S512x2048_S64x512_128_512).emb x) :=
  outStep (blA c arg7 harg7 arg8 harg8 arg9 harg9 x4 x5 x6) x0 x1 x2 (fun _ _ _ => 0) 1 2 (by omega) (by omega) slices_S512x1024_o128_256_S64x256 _ _ _ _
    (load_apply arg3 harg3 x0 128 256 _) (load_apply arg4 harg4 x1 128 256 _) (load_apply arg5 harg5 x2 128 512 _)
    (stA_9 c arg4 harg4 arg5 harg5 arg7 harg7 arg8 harg8 arg9 harg9 arg12 x1 x2 x4 x5 x6) _ x

/-- Chunk 2 of head 0 is stored. -/
theorem ocA_8 (x : S64x512.Idx) :
    pieceO ![128, 0] slices_S512x1024_o128_0_S64x256 (blA c arg7 harg7 arg8 harg8 arg9 harg9 x4 x5 x6) (View.readAt (Elt Ideal) arg3.view (Rect.unit (s := S512x1024) ![128, 0] S64x256.size inb_S512x1024_S64x256_128_0).toLoadRect (harg3.unread x0)) (View.readAt (Elt Ideal) arg4.view (Rect.unit (s := S512x1024) ![128, 0] S64x256.size inb_S512x1024_S64x256_128_0).toLoadRect (harg4.unread x1))
      (View.readAt (Elt Ideal) arg5.view (Rect.unit (s := S512x2048) ![128, 0] S64x512.size inb_S512x2048_S64x512_128_0).toLoadRect (harg5.unread x2)) (kernelRun0_A.sl.v420 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![128, 0] S64x512.size inb_S512x2048_S64x512_128_0).emb x) :=
  outStep (blA c arg7 harg7 arg8 harg8 arg9 harg9 x4 x5 x6) x0 x1 x2 (fun _ _ _ => 0) 0 2 (by omega) (by omega) slices_S512x1024_o128_0_S64x256 _ _ _ _
    (load_apply arg3 harg3 x0 128 0 _) (load_apply arg4 harg4 x1 128 0 _) (load_apply arg5 harg5 x2 128 0 _)
    (stA_8 c arg4 harg4 arg5 harg5 arg7 harg7 arg8 harg8 arg9 harg9 arg12 x1 x2 x4 x5 x6) _ x

/-- Chunk 1 of head 3 is stored. -/
theorem ocA_7 (x : S64x512.Idx) :
    pieceO ![64, 768] slices_S512x1024_o64_768_S64x256 (blA c arg7 harg7 arg8 harg8 arg9 harg9 x4 x5 x6) (View.readAt (Elt Ideal) arg3.view (Rect.unit (s := S512x1024) ![64, 768] S64x256.size inb_S512x1024_S64x256_64_768).toLoadRect (harg3.unread x0)) (View.readAt (Elt Ideal) arg4.view (Rect.unit (s := S512x1024) ![64, 768] S64x256.size inb_S512x1024_S64x256_64_768).toLoadRect (harg4.unread x1))
      (View.readAt (Elt Ideal) arg5.view (Rect.unit (s := S512x2048) ![64, 1536] S64x512.size inb_S512x2048_S64x512_64_1536).toLoadRect (harg5.unread x2)) (kernelRun0_A.sl.v381 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![64, 1536] S64x512.size inb_S512x2048_S64x512_64_1536).emb x) :=
  outStep (blA c arg7 harg7 arg8 harg8 arg9 harg9 x4 x5 x6) x0 x1 x2 (fun _ _ _ => 0) 3 1 (by omega) (by omega) slices_S512x1024_o64_768_S64x256 _ _ _ _
    (load_apply arg3 harg3 x0 64 768 _) (load_apply arg4 harg4 x1 64 768 _) (load_apply arg5 harg5 x2 64 1536 _)
    (stA_7 c arg4 harg4 arg5 harg5 arg7 harg7 arg8 harg8 arg9 harg9 arg12 x1 x2 x4 x5 x6) _ x

/-- Chunk 1 of head 2 is stored. -/
theorem ocA_6 (x : S64x512.Idx) :
    pieceO ![64, 512] slices_S512x1024_o64_512_S64x256 (blA c arg7 harg7 arg8 harg8 arg9 harg9 x4 x5 x6) (View.readAt (Elt Ideal) arg3.view (Rect.unit (s := S512x1024) ![64, 512] S64x256.size inb_S512x1024_S64x256_64_512).toLoadRect (harg3.unread x0)) (View.readAt (Elt Ideal) arg4.view (Rect.unit (s := S512x1024) ![64, 512] S64x256.size inb_S512x1024_S64x256_64_512).toLoadRect (harg4.unread x1))
      (View.readAt (Elt Ideal) arg5.view (Rect.unit (s := S512x2048) ![64, 1024] S64x512.size inb_S512x2048_S64x512_64_1024).toLoadRect (harg5.unread x2)) (kernelRun0_A.sl.v342 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![64, 1024] S64x512.size inb_S512x2048_S64x512_64_1024).emb x) :=
  outStep (blA c arg7 harg7 arg8 harg8 arg9 harg9 x4 x5 x6) x0 x1 x2 (fun _ _ _ => 0) 2 1 (by omega) (by omega) slices_S512x1024_o64_512_S64x256 _ _ _ _
    (load_apply arg3 harg3 x0 64 512 _) (load_apply arg4 harg4 x1 64 512 _) (load_apply arg5 harg5 x2 64 1024 _)
    (stA_6 c arg4 harg4 arg5 harg5 arg7 harg7 arg8 harg8 arg9 harg9 arg12 x1 x2 x4 x5 x6) _ x

/-- Chunk 1 of head 1 is stored. -/
theorem ocA_5 (x : S64x512.Idx) :
    pieceO ![64, 256] slices_S512x1024_o64_256_S64x256 (blA c arg7 harg7 arg8 harg8 arg9 harg9 x4 x5 x6) (View.readAt (Elt Ideal) arg3.view (Rect.unit (s := S512x1024) ![64, 256] S64x256.size inb_S512x1024_S64x256_64_256).toLoadRect (harg3.unread x0)) (View.readAt (Elt Ideal) arg4.view (Rect.unit (s := S512x1024) ![64, 256] S64x256.size inb_S512x1024_S64x256_64_256).toLoadRect (harg4.unread x1))
      (View.readAt (Elt Ideal) arg5.view (Rect.unit (s := S512x2048) ![64, 512] S64x512.size inb_S512x2048_S64x512_64_512).toLoadRect (harg5.unread x2)) (kernelRun0_A.sl.v303 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![64, 512] S64x512.size inb_S512x2048_S64x512_64_512).emb x) :=
  outStep (blA c arg7 harg7 arg8 harg8 arg9 harg9 x4 x5 x6) x0 x1 x2 (fun _ _ _ => 0) 1 1 (by omega) (by omega) slices_S512x1024_o64_256_S64x256 _ _ _ _
    (load_apply arg3 harg3 x0 64 256 _) (load_apply arg4 harg4 x1 64 256 _) (load_apply arg5 harg5 x2 64 512 _)
    (stA_5 c arg4 harg4 arg5 harg5 arg7 harg7 arg8 harg8 arg9 harg9 arg12 x1 x2 x4 x5 x6) _ x

/-- Chunk 1 of head 0 is stored. -/
theorem ocA_4 (x : S64x512.Idx) :
    pieceO ![64, 0] slices_S512x1024_o64_0_S64x256 (blA c arg7 harg7 arg8 harg8 arg9 harg9 x4 x5 x6) (View.readAt (Elt Ideal) arg3.view (Rect.unit (s := S512x1024) ![64, 0] S64x256.size inb_S512x1024_S64x256_64_0).toLoadRect (harg3.unread x0)) (View.readAt (Elt Ideal) arg4.view (Rect.unit (s := S512x1024) ![64, 0] S64x256.size inb_S512x1024_S64x256_64_0).toLoadRect (harg4.unread x1))
      (View.readAt (Elt Ideal) arg5.view (Rect.unit (s := S512x2048) ![64, 0] S64x512.size inb_S512x2048_S64x512_64_0).toLoadRect (harg5.unread x2)) (kernelRun0_A.sl.v264 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![64, 0] S64x512.size inb_S512x2048_S64x512_64_0).emb x) :=
  outStep (blA c arg7 harg7 arg8 harg8 arg9 harg9 x4 x5 x6) x0 x1 x2 (fun _ _ _ => 0) 0 1 (by omega) (by omega) slices_S512x1024_o64_0_S64x256 _ _ _ _
    (load_apply arg3 harg3 x0 64 0 _) (load_apply arg4 harg4 x1 64 0 _) (load_apply arg5 harg5 x2 64 0 _)
    (stA_4 c arg4 harg4 arg5 harg5 arg7 harg7 arg8 harg8 arg9 harg9 arg12 x1 x2 x4 x5 x6) _ x

/-- Chunk 0 of head 3 is stored. -/
theorem ocA_3 (x : S64x512.Idx) :
    pieceO ![0, 768] slices_S512x1024_o0_768_S64x256 (blA c arg7 harg7 arg8 harg8 arg9 harg9 x4 x5 x6) (View.readAt (Elt Ideal) arg3.view (Rect.unit (s := S512x1024) ![0, 768] S64x256.size inb_S512x1024_S64x256_0_768).toLoadRect (harg3.unread x0)) (View.readAt (Elt Ideal) arg4.view (Rect.unit (s := S512x1024) ![0, 768] S64x256.size inb_S512x1024_S64x256_0_768).toLoadRect (harg4.unread x1))
      (View.readAt (Elt Ideal) arg5.view (Rect.unit (s := S512x2048) ![0, 1536] S64x512.size inb_S512x2048_S64x512_0_1536).toLoadRect (harg5.unread x2)) (kernelRun0_A.sl.v225 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![0, 1536] S64x512.size inb_S512x2048_S64x512_0_1536).emb x) :=
  outStep (blA c arg7 harg7 arg8 harg8 arg9 harg9 x4 x5 x6) x0 x1 x2 (fun _ _ _ => 0) 3 0 (by omega) (by omega) slices_S512x1024_o0_768_S64x256 _ _ _ _
    (load_apply arg3 harg3 x0 0 768 _) (load_apply arg4 harg4 x1 0 768 _) (load_apply arg5 harg5 x2 0 1536 _)
    (stA_3 c arg4 harg4 arg5 harg5 arg7 harg7 arg8 harg8 arg9 harg9 arg12 x1 x2 x4 x5 x6) _ x

/-- Chunk 0 of head 2 is stored. -/
theorem ocA_2 (x : S64x512.Idx) :
    pieceO ![0, 512] slices_S512x1024_o0_512_S64x256 (blA c arg7 harg7 arg8 harg8 arg9 harg9 x4 x5 x6) (View.readAt (Elt Ideal) arg3.view (Rect.unit (s := S512x1024) ![0, 512] S64x256.size inb_S512x1024_S64x256_0_512).toLoadRect (harg3.unread x0)) (View.readAt (Elt Ideal) arg4.view (Rect.unit (s := S512x1024) ![0, 512] S64x256.size inb_S512x1024_S64x256_0_512).toLoadRect (harg4.unread x1))
      (View.readAt (Elt Ideal) arg5.view (Rect.unit (s := S512x2048) ![0, 1024] S64x512.size inb_S512x2048_S64x512_0_1024).toLoadRect (harg5.unread x2)) (kernelRun0_A.sl.v186 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![0, 1024] S64x512.size inb_S512x2048_S64x512_0_1024).emb x) :=
  outStep (blA c arg7 harg7 arg8 harg8 arg9 harg9 x4 x5 x6) x0 x1 x2 (fun _ _ _ => 0) 2 0 (by omega) (by omega) slices_S512x1024_o0_512_S64x256 _ _ _ _
    (load_apply arg3 harg3 x0 0 512 _) (load_apply arg4 harg4 x1 0 512 _) (load_apply arg5 harg5 x2 0 1024 _)
    (stA_2 c arg4 harg4 arg5 harg5 arg7 harg7 arg8 harg8 arg9 harg9 arg12 x1 x2 x4 x5 x6) _ x

/-- Chunk 0 of head 1 is stored. -/
theorem ocA_1 (x : S64x512.Idx) :
    pieceO ![0, 256] slices_S512x1024_o0_256_S64x256 (blA c arg7 harg7 arg8 harg8 arg9 harg9 x4 x5 x6) (View.readAt (Elt Ideal) arg3.view (Rect.unit (s := S512x1024) ![0, 256] S64x256.size inb_S512x1024_S64x256_0_256).toLoadRect (harg3.unread x0)) (View.readAt (Elt Ideal) arg4.view (Rect.unit (s := S512x1024) ![0, 256] S64x256.size inb_S512x1024_S64x256_0_256).toLoadRect (harg4.unread x1))
      (View.readAt (Elt Ideal) arg5.view (Rect.unit (s := S512x2048) ![0, 512] S64x512.size inb_S512x2048_S64x512_0_512).toLoadRect (harg5.unread x2)) (kernelRun0_A.sl.v147 (F := Ideal) c arg4 harg4 arg5 harg5 arg7 harg7 arg8 harg8 arg9 harg9 arg12 x1 x2 x4 x5 x6) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![0, 512] S64x512.size inb_S512x2048_S64x512_0_512).emb x) :=
  outStep (blA c arg7 harg7 arg8 harg8 arg9 harg9 x4 x5 x6) x0 x1 x2 (fun _ _ _ => 0) 1 0 (by omega) (by omega) slices_S512x1024_o0_256_S64x256 _ _ _ _
    (load_apply arg3 harg3 x0 0 256 _) (load_apply arg4 harg4 x1 0 256 _) (load_apply arg5 harg5 x2 0 512 _)
    (stA_1 c arg4 harg4 arg5 harg5 arg7 harg7 arg8 harg8 arg9 harg9 arg12 x1 x2 x4 x5 x6) _ x

/-- Chunk 0 of head 0 is stored. -/
theorem ocA_0 (x : S64x512.Idx) :
    pieceO ![0, 0] slices_S512x1024_o0_0_S64x256 (blA c arg7 harg7 arg8 harg8 arg9 harg9 x4 x5 x6) (View.readAt (Elt Ideal) arg3.view (Rect.unit (s := S512x1024) ![0, 0] S64x256.size inb_S512x1024_S64x256_0_0).toLoadRect (harg3.unread x0)) (View.readAt (Elt Ideal) arg4.view (Rect.unit (s := S512x1024) ![0, 0] S64x256.size inb_S512x1024_S64x256_0_0).toLoadRect (harg4.unread x1))
      (View.readAt (Elt Ideal) arg5.view (Rect.unit (s := S512x2048) ![0, 0] S64x512.size inb_S512x2048_S64x512_0_0).toLoadRect (harg5.unread x2)) (kernelRun0_A.sl.v108 (F := Ideal) c arg12) x
      = (fun y : S512x2048.Idx => outAt (at2 (blA c arg7 harg7 arg8 harg8 arg9 harg9 x4 x5 x6)) (at2 x0) (at2 x1) (at2 x2) (fun _ _ _ => 0) (y 0).val (y 1).val)
          ((Rect.unit (s := S512x2048) ![0, 0] S64x512.size inb_S512x2048_S64x512_0_0).emb x) :=
  outStep (blA c arg7 harg7 arg8 harg8 arg9 harg9 x4 x5 x6) x0 x1 x2 (fun _ _ _ => 0) 0 0 (by omega) (by omega) slices_S512x1024_o0_0_S64x256 _ _ _ _
    (load_apply arg3 harg3 x0 0 0 _) (load_apply arg4 harg4 x1 0 0 _) (load_apply arg5 harg5 x2 0 0 _)
    (stA_0 c arg4 harg4 arg5 harg5 arg7 harg7 arg8 harg8 arg9 harg9 arg12 x1 x2 x4 x5 x6) _ x

/-- What the chunks' stores leave: the output before normalization. -/
theorem oaccA : View.canon (kernelRun0_A.sl.HS1_32 (F := Ideal) c arg3 harg3 arg4 harg4 arg5 harg5 arg7 harg7 arg8 harg8 arg9 harg9 arg12 x0 x1 x2 x4 x5 x6) = fun y : S512x2048.Idx => outAt (at2 (blA c arg7 harg7 arg8 harg8 arg9 harg9 x4 x5 x6)) (at2 x0) (at2 x1) (at2 x2) (fun _ _ _ => 0) (y 0).val (y 1).val := by
  have hp : View.PiecesOf (fun y : S512x2048.Idx => outAt (at2 (blA c arg7 harg7 arg8 harg8 arg9 harg9 x4 x5 x6)) (at2 x0) (at2 x1) (at2 x2) (fun _ _ _ => 0) (y 0).val (y 1).val) (kernelRun0_A.sl.HS1_32 (F := Ideal) c arg3 harg3 arg4 harg4 arg5 harg5 arg7 harg7 arg8 harg8 arg9 harg9 arg12 x0 x1 x2 x4 x5 x6) := by
    unfold kernelRun0_A.sl.HS1_32
    exact ⟨ocA_31 c arg3 harg3 arg4 harg4 arg5 harg5 arg7 harg7 arg8 harg8 arg9 harg9 arg12 x0 x1 x2 x4 x5 x6,
      ocA_30 c arg3 harg3 arg4 harg4 arg5 harg5 arg7 harg7 arg8 harg8 arg9 harg9 arg12 x0 x1 x2 x4 x5 x6,
      ocA_29 c arg3 harg3 arg4 harg4 arg5 harg5 arg7 harg7 arg8 harg8 arg9 harg9 arg12 x0 x1 x2 x4 x5 x6,
      ocA_28 c arg3 harg3 arg4 harg4 arg5 harg5 arg7 harg7 arg8 harg8 arg9 harg9 arg12 x0 x1 x2 x4 x5 x6,
      ocA_27 c arg3 harg3 arg4 harg4 arg5 harg5 arg7 harg7 arg8 harg8 arg9 harg9 arg12 x0 x1 x2 x4 x5 x6,
      ocA_26 c arg3 harg3 arg4 harg4 arg5 harg5 arg7 harg7 arg8 harg8 arg9 harg9 arg12 x0 x1 x2 x4 x5 x6,
      ocA_25 c arg3 harg3 arg4 harg4 arg5 harg5 arg7 harg7 arg8 harg8 arg9 harg9 arg12 x0 x1 x2 x4 x5 x6,
      ocA_24 c arg3 harg3 arg4 harg4 arg5 harg5 arg7 harg7 arg8 harg8 arg9 harg9 arg12 x0 x1 x2 x4 x5 x6,
      ocA_23 c arg3 harg3 arg4 harg4 arg5 harg5 arg7 harg7 arg8 harg8 arg9 harg9 arg12 x0 x1 x2 x4 x5 x6,
      ocA_22 c arg3 harg3 arg4 harg4 arg5 harg5 arg7 harg7 arg8 harg8 arg9 harg9 arg12 x0 x1 x2 x4 x5 x6,
      ocA_21 c arg3 harg3 arg4 harg4 arg5 harg5 arg7 harg7 arg8 harg8 arg9 harg9 arg12 x0 x1 x2 x4 x5 x6,
      ocA_20 c arg3 harg3 arg4 harg4 arg5 harg5 arg7 harg7 arg8 harg8 arg9 harg9 arg12 x0 x1 x2 x4 x5 x6,
      ocA_19 c arg3 harg3 arg4 harg4 arg5 harg5 arg7 harg7 arg8 harg8 arg9 harg9 arg12 x0 x1 x2 x4 x5 x6,
      ocA_18 c arg3 harg3 arg4 harg4 arg5 harg5 arg7 harg7 arg8 harg8 arg9 harg9 arg12 x0 x1 x2 x4 x5 x6,
      ocA_17 c arg3 harg3 arg4 harg4 arg5 harg5 arg7 harg7 arg8 harg8 arg9 harg9 arg12 x0 x1 x2 x4 x5 x6,
      ocA_16 c arg3 harg3 arg4 harg4 arg5 harg5 arg7 harg7 arg8 harg8 arg9 harg9 arg12 x0 x1 x2 x4 x5 x6,
      ocA_15 c arg3 harg3 arg4 harg4 arg5 harg5 arg7 harg7 arg8 harg8 arg9 harg9 arg12 x0 x1 x2 x4 x5 x6,
      ocA_14 c arg3 harg3 arg4 harg4 arg5 harg5 arg7 harg7 arg8 harg8 arg9 harg9 arg12 x0 x1 x2 x4 x5 x6,
      ocA_13 c arg3 harg3 arg4 harg4 arg5 harg5 arg7 harg7 arg8 harg8 arg9 harg9 arg12 x0 x1 x2 x4 x5 x6,
      ocA_12 c arg3 harg3 arg4 harg4 arg5 harg5 arg7 harg7 arg8 harg8 arg9 harg9 arg12 x0 x1 x2 x4 x5 x6,
      ocA_11 c arg3 harg3 arg4 harg4 arg5 harg5 arg7 harg7 arg8 harg8 arg9 harg9 arg12 x0 x1 x2 x4 x5 x6,
      ocA_10 c arg3 harg3 arg4 harg4 arg5 harg5 arg7 harg7 arg8 harg8 arg9 harg9 arg12 x0 x1 x2 x4 x5 x6,
      ocA_9 c arg3 harg3 arg4 harg4 arg5 harg5 arg7 harg7 arg8 harg8 arg9 harg9 arg12 x0 x1 x2 x4 x5 x6,
      ocA_8 c arg3 harg3 arg4 harg4 arg5 harg5 arg7 harg7 arg8 harg8 arg9 harg9 arg12 x0 x1 x2 x4 x5 x6,
      ocA_7 c arg3 harg3 arg4 harg4 arg5 harg5 arg7 harg7 arg8 harg8 arg9 harg9 arg12 x0 x1 x2 x4 x5 x6,
      ocA_6 c arg3 harg3 arg4 harg4 arg5 harg5 arg7 harg7 arg8 harg8 arg9 harg9 arg12 x0 x1 x2 x4 x5 x6,
      ocA_5 c arg3 harg3 arg4 harg4 arg5 harg5 arg7 harg7 arg8 harg8 arg9 harg9 arg12 x0 x1 x2 x4 x5 x6,
      ocA_4 c arg3 harg3 arg4 harg4 arg5 harg5 arg7 harg7 arg8 harg8 arg9 harg9 arg12 x0 x1 x2 x4 x5 x6,
      ocA_3 c arg3 harg3 arg4 harg4 arg5 harg5 arg7 harg7 arg8 harg8 arg9 harg9 arg12 x0 x1 x2 x4 x5 x6,
      ocA_2 c arg3 harg3 arg4 harg4 arg5 harg5 arg7 harg7 arg8 harg8 arg9 harg9 arg12 x0 x1 x2 x4 x5 x6,
      ocA_1 c arg3 harg3 arg4 harg4 arg5 harg5 arg7 harg7 arg8 harg8 arg9 harg9 arg12 x0 x1 x2 x4 x5 x6,
      ocA_0 c arg3 harg3 arg4 harg4 arg5 harg5 arg7 harg7 arg8 harg8 arg9 harg9 arg12 x0 x1 x2 x4 x5 x6, trivial⟩
  exact canon_pieces (e := .f32) (fun y : S512x2048.Idx => outAt (at2 (blA c arg7 harg7 arg8 harg8 arg9 harg9 x4 x5 x6)) (at2 x0) (at2 x1) (at2 x2) (fun _ _ _ => 0) (y 0).val (y 1).val) (kernelRun0_A.sl.HS1_32 (F := Ideal) c arg3 harg3 arg4 harg4 arg5 harg5 arg7 harg7 arg8 harg8 arg9 harg9 arg12 x0 x1 x2 x4 x5 x6) hp
    (View.cover_of_tiledL (kernelRun0_A.sl.HS1_32 (F := Ideal) c arg3 harg3 arg4 harg4 arg5 harg5 arg7 harg7 arg8 harg8 arg9 harg9 arg12 x0 x1 x2 x4 x5 x6) S64x512.size (by sl_kernel_rfl))

include arg6 harg6 arg10 harg10 arg13 x3 x7

/-- Head 3 of the result is stored. -/
theorem finA_3 (x : S512x512.Idx) :
    finPiece 1536 slices_S512x2048_o0_1536_S512x512
        (k0_pay289 (F := Ideal) (View.readAt (Elt Ideal) arg6.view (Rect.unit (s := S512x2048) ![0, 0] S512x2048.size inb_S512x2048_S512x2048_0_0).toLoadRect (harg6.unread x3)))
        (kernelRun0_A.sl.v1397 (F := Ideal) c arg3 harg3 arg4 harg4 arg5 harg5 arg7 harg7 arg8 harg8 arg9 harg9 arg12 arg13 x0 x1 x2 x4 x5 x6)
        (View.readAt (Elt Ideal) arg10.view (Rect.unit (s := S1x512) ![0, 0] S1x512.size inb_S1x512_S1x512_0_0).toLoadRect (harg10.unread x7)) x
      = (fun y : S512x2048.Idx => yAt (at2 (blA c arg7 harg7 arg8 harg8 arg9 harg9 x4 x5 x6)) (at2 x0) (at2 x1) (at2 x2) (fun _ _ _ => 0) (at2 x3) (at2 x7 0) (y 0).val (y 1).val) ((Rect.unit (s := S512x2048) ![0, 1536] S512x512.size inb_S512x2048_S512x512_0_1536).emb x) :=
  finStep (blA c arg7 harg7 arg8 harg8 arg9 harg9 x4 x5 x6) x0 x1 x2 x3 x7 (fun _ _ _ => 0) 3 (by omega) slices_S512x2048_o0_1536_S512x512 _ (load_whole2 arg6 harg6 x3 hz _) _ _
    (load_whole2 arg10 harg10 x7 hz _)
    (cols_apply arg13.view (kernelRun0_A.sl.HS1_32 (F := Ideal) c arg3 harg3 arg4 harg4 arg5 harg5 arg7 harg7 arg8 harg8 arg9 harg9 arg12 x0 x1 x2 x4 x5 x6) (outAt (at2 (blA c arg7 harg7 arg8 harg8 arg9 harg9 x4 x5 x6)) (at2 x0) (at2 x1) (at2 x2) (fun _ _ _ => 0)) (oaccA c arg3 harg3 arg4 harg4 arg5 harg5 arg7 harg7 arg8 harg8 arg9 harg9 arg12 x0 x1 x2 x4 x5 x6) 1536 _) _ x

/-- Head 2 of the result is stored. -/
theorem finA_2 (x : S512x512.Idx) :
    finPiece 1024 slices_S512x2048_o0_1024_S512x512
        (k0_pay289 (F := Ideal) (View.readAt (Elt Ideal) arg6.view (Rect.unit (s := S512x2048) ![0, 0] S512x2048.size inb_S512x2048_S512x2048_0_0).toLoadRect (harg6.unread x3)))
        (kernelRun0_A.sl.v1379 (F := Ideal) c arg3 harg3 arg4 harg4 arg5 harg5 arg7 harg7 arg8 harg8 arg9 harg9 arg12 arg13 x0 x1 x2 x4 x5 x6)
        (View.readAt (Elt Ideal) arg10.view (Rect.unit (s := S1x512) ![0, 0] S1x512.size inb_S1x512_S1x512_0_0).toLoadRect (harg10.unread x7)) x
      = (fun y : S512x2048.Idx => yAt (at2 (blA c arg7 harg7 arg8 harg8 arg9 harg9 x4 x5 x6)) (at2 x0) (at2 x1) (at2 x2) (fun _ _ _ => 0) (at2 x3) (at2 x7 0) (y 0).val (y 1).val) ((Rect.unit (s := S512x2048) ![0, 1024] S512x512.size inb_S512x2048_S512x512_0_1024).emb x) :=
  finStep (blA c arg7 harg7 arg8 harg8 arg9 harg9 x4 x5 x6) x0 x1 x2 x3 x7 (fun _ _ _ => 0) 2 (by omega) slices_S512x2048_o0_1024_S512x512 _ (load_whole2 arg6 harg6 x3 hz _) _ _
    (load_whole2 arg10 harg10 x7 hz _)
    (cols_apply arg13.view (kernelRun0_A.sl.HS1_32 (F := Ideal) c arg3 harg3 arg4 harg4 arg5 harg5 arg7 harg7 arg8 harg8 arg9 harg9 arg12 x0 x1 x2 x4 x5 x6) (outAt (at2 (blA c arg7 harg7 arg8 harg8 arg9 harg9 x4 x5 x6)) (at2 x0) (at2 x1) (at2 x2) (fun _ _ _ => 0)) (oaccA c arg3 harg3 arg4 harg4 arg5 harg5 arg7 harg7 arg8 harg8 arg9 harg9 arg12 x0 x1 x2 x4 x5 x6) 1024 _) _ x

/-- Head 1 of the result is stored. -/
theorem finA_1 (x : S512x512.Idx) :
    finPiece 512 slices_S512x2048_o0_512_S512x512
        (k0_pay289 (F := Ideal) (View.readAt (Elt Ideal) arg6.view (Rect.unit (s := S512x2048) ![0, 0] S512x2048.size inb_S512x2048_S512x2048_0_0).toLoadRect (harg6.unread x3)))
        (kernelRun0_A.sl.v1361 (F := Ideal) c arg3 harg3 arg4 harg4 arg5 harg5 arg7 harg7 arg8 harg8 arg9 harg9 arg12 arg13 x0 x1 x2 x4 x5 x6)
        (View.readAt (Elt Ideal) arg10.view (Rect.unit (s := S1x512) ![0, 0] S1x512.size inb_S1x512_S1x512_0_0).toLoadRect (harg10.unread x7)) x
      = (fun y : S512x2048.Idx => yAt (at2 (blA c arg7 harg7 arg8 harg8 arg9 harg9 x4 x5 x6)) (at2 x0) (at2 x1) (at2 x2) (fun _ _ _ => 0) (at2 x3) (at2 x7 0) (y 0).val (y 1).val) ((Rect.unit (s := S512x2048) ![0, 512] S512x512.size inb_S512x2048_S512x512_0_512).emb x) :=
  finStep (blA c arg7 harg7 arg8 harg8 arg9 harg9 x4 x5 x6) x0 x1 x2 x3 x7 (fun _ _ _ => 0) 1 (by omega) slices_S512x2048_o0_512_S512x512 _ (load_whole2 arg6 harg6 x3 hz _) _ _
    (load_whole2 arg10 harg10 x7 hz _)
    (cols_apply arg13.view (kernelRun0_A.sl.HS1_32 (F := Ideal) c arg3 harg3 arg4 harg4 arg5 harg5 arg7 harg7 arg8 harg8 arg9 harg9 arg12 x0 x1 x2 x4 x5 x6) (outAt (at2 (blA c arg7 harg7 arg8 harg8 arg9 harg9 x4 x5 x6)) (at2 x0) (at2 x1) (at2 x2) (fun _ _ _ => 0)) (oaccA c arg3 harg3 arg4 harg4 arg5 harg5 arg7 harg7 arg8 harg8 arg9 harg9 arg12 x0 x1 x2 x4 x5 x6) 512 _) _ x

/-- Head 0 of the result is stored. -/
theorem finA_0 (x : S512x512.Idx) :
    finPiece 0 slices_S512x2048_o0_0_S512x512
        (k0_pay289 (F := Ideal) (View.readAt (Elt Ideal) arg6.view (Rect.unit (s := S512x2048) ![0, 0] S512x2048.size inb_S512x2048_S512x2048_0_0).toLoadRect (harg6.unread x3)))
        (kernelRun0_A.sl.v1343 (F := Ideal) c arg3 harg3 arg4 harg4 arg5 harg5 arg7 harg7 arg8 harg8 arg9 harg9 arg12 arg13 x0 x1 x2 x4 x5 x6)
        (View.readAt (Elt Ideal) arg10.view (Rect.unit (s := S1x512) ![0, 0] S1x512.size inb_S1x512_S1x512_0_0).toLoadRect (harg10.unread x7)) x
      = (fun y : S512x2048.Idx => yAt (at2 (blA c arg7 harg7 arg8 harg8 arg9 harg9 x4 x5 x6)) (at2 x0) (at2 x1) (at2 x2) (fun _ _ _ => 0) (at2 x3) (at2 x7 0) (y 0).val (y 1).val) ((Rect.unit (s := S512x2048) ![0, 0] S512x512.size inb_S512x2048_S512x512_0_0).emb x) :=
  finStep (blA c arg7 harg7 arg8 harg8 arg9 harg9 x4 x5 x6) x0 x1 x2 x3 x7 (fun _ _ _ => 0) 0 (by omega) slices_S512x2048_o0_0_S512x512 _ (load_whole2 arg6 harg6 x3 hz _) _ _
    (load_whole2 arg10 harg10 x7 hz _)
    (cols_apply arg13.view (kernelRun0_A.sl.HS1_32 (F := Ideal) c arg3 harg3 arg4 harg4 arg5 harg5 arg7 harg7 arg8 harg8 arg9 harg9 arg12 x0 x1 x2 x4 x5 x6) (outAt (at2 (blA c arg7 harg7 arg8 harg8 arg9 harg9 x4 x5 x6)) (at2 x0) (at2 x1) (at2 x2) (fun _ _ _ => 0)) (oaccA c arg3 harg3 arg4 harg4 arg5 harg5 arg7 harg7 arg8 harg8 arg9 harg9 arg12 x0 x1 x2 x4 x5 x6) 0 _) _ x

/-- The decays of the point's rows are the sums over each chunk of their logarithms. -/
theorem blA_eq : (blA c arg7 harg7 arg8 harg8 arg9 harg9 x4 x5 x6) = sums x4 x5 x6 := by
  unfold blA kernelRun0_A.sl.r_4 kernelRun0_A.sl.r_1 kernelRun0_A.sl.r_2 kernelRun0_A.sl.r_3 kernelRun0_A.sl.r
  rw [load_whole2 arg7 harg7 x4 hz, load_whole2 arg8 harg8 x5 hz, load_whole2 arg9 harg9 x6 hz]
  rfl

/-- What the body leaves in the output's block. -/
theorem out_A (i : grid0.Coords) (arg11 : Memref sig .tc .vmem S512x2048 .bf16) (harg11 : arg11.IsWhole) (harg12 : arg12.IsWhole) (harg13 : arg13.IsWhole) (hc : cond0_0 i) :
    out0_A_8 c i arg3 harg3 arg4 harg4 arg5 harg5 arg6 harg6 arg7 harg7 arg8 harg8 arg9 harg9 arg10 harg10 arg11 harg11 arg12 harg12 arg13 harg13 hc x0 x1 x2 x3 x4 x5 x6 x7 = fun y : S512x2048.Idx =>
      yAt (at2 (sums x4 x5 x6)) (at2 x0) (at2 x1) (at2 x2) (fun _ _ _ => 0) (at2 x3) (at2 x7 0) (y 0).val (y 1).val := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 hc x0 x1 x2 x3 x4 x5 x6 x7)]
  rw [← blA_eq c arg3 harg3 arg4 harg4 arg5 harg5 arg6 harg6 arg7 harg7 arg8 harg8 arg9 harg9 arg10 harg10 arg12 arg13 x0 x1 x2 x3 x4 x5 x6 x7]
  have hp : View.PiecesOf (fun y : S512x2048.Idx => yAt (at2 (blA c arg7 harg7 arg8 harg8 arg9 harg9 x4 x5 x6)) (at2 x0) (at2 x1) (at2 x2) (fun _ _ _ => 0) (at2 x3) (at2 x7 0) (y 0).val (y 1).val) (kernelRun0_A c i arg3 harg3 arg4 harg4 arg5 harg5 arg6 harg6 arg7 harg7 arg8 harg8 arg9 harg9 arg10 harg10 arg11 harg11 arg12 harg12 arg13 harg13 hc x0 x1 x2 x3 x4 x5 x6 x7).1 := by
    unfold kernelRun0_A; dsimp only
    exact ⟨finA_3 c arg3 harg3 arg4 harg4 arg5 harg5 arg6 harg6 arg7 harg7 arg8 harg8 arg9 harg9 arg10 harg10 arg12 arg13 x0 x1 x2 x3 x4 x5 x6 x7,
      finA_2 c arg3 harg3 arg4 harg4 arg5 harg5 arg6 harg6 arg7 harg7 arg8 harg8 arg9 harg9 arg10 harg10 arg12 arg13 x0 x1 x2 x3 x4 x5 x6 x7,
      finA_1 c arg3 harg3 arg4 harg4 arg5 harg5 arg6 harg6 arg7 harg7 arg8 harg8 arg9 harg9 arg10 harg10 arg12 arg13 x0 x1 x2 x3 x4 x5 x6 x7,
      finA_0 c arg3 harg3 arg4 harg4 arg5 harg5 arg6 harg6 arg7 harg7 arg8 harg8 arg9 harg9 arg10 harg10 arg12 arg13 x0 x1 x2 x3 x4 x5 x6 x7, trivial⟩
  exact canon_pieces (e := .bf16) (fun y : S512x2048.Idx => yAt (at2 (blA c arg7 harg7 arg8 harg8 arg9 harg9 x4 x5 x6)) (at2 x0) (at2 x1) (at2 x2) (fun _ _ _ => 0) (at2 x3) (at2 x7 0) (y 0).val (y 1).val) (kernelRun0_A c i arg3 harg3 arg4 harg4 arg5 harg5 arg6 harg6 arg7 harg7 arg8 harg8 arg9 harg9 arg10 harg10 arg11 harg11 arg12 harg12 arg13 harg13 hc x0 x1 x2 x3 x4 x5 x6 x7).1 hp (cover0_A_8 c i arg3 harg3 arg4 harg4 arg5 harg5 arg6 harg6 arg7 harg7 arg8 harg8 arg9 harg9 arg10 harg10 arg11 harg11 arg12 harg12 arg13 harg13 hc x0 x1 x2 x3 x4 x5 x6 x7)

/-- What the body leaves in the states. -/
theorem sout_A (i : grid0.Coords) (arg11 : Memref sig .tc .vmem S512x2048 .bf16) (harg11 : arg11.IsWhole) (harg12 : arg12.IsWhole) (harg13 : arg13.IsWhole) (hc : cond0_0 i) (p : Fin 4) (e : Fin 512) (d : Fin 256) :
    sout0_A_0 c i arg3 harg3 arg4 harg4 arg5 harg5 arg6 harg6 arg7 harg7 arg8 harg8 arg9 harg9 arg10 harg10 arg11 harg11 arg12 harg12 arg13 harg13 hc x0 x1 x2 x3 x4 x5 x6 x7 (ix3 p e d) = state (at2 (sums x4 x5 x6)) (at2 x1) (at2 x2) (fun _ _ _ => 0) p.val 8 e.val d.val := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc x0 x1 x2 x3 x4 x5 x6 x7)]
  rw [← blA_eq c arg3 harg3 arg4 harg4 arg5 harg5 arg6 harg6 arg7 harg7 arg8 harg8 arg9 harg9 arg10 harg10 arg12 arg13 x0 x1 x2 x3 x4 x5 x6 x7]
  exact statesA c arg4 harg4 arg5 harg5 arg7 harg7 arg8 harg8 arg9 harg9 arg12 x1 x2 x4 x5 x6 p e d

end Cert.GlaEq
-- ==== Proof.Gla.Later.lean ====
/- The body at a later point of a batch: each of the 32 states it reads is the recurrence's, and so is every stored chunk. -/
module

public import proofs.«01_k».proof.Proof.Gla.Body

@[expose] public section

set_option maxRecDepth 16384

noncomputable section

namespace Cert.GlaEq

open Idealize.ShloMosaic Idealize.ShloMosaic.TcCoe Idealize.SL.Sem
open Cert.KernelIdeal Cert.KernelIdeal.Gen Cert.KernelIdeal.Value

variable (c : Dev nD)
  (arg3 : Memref sig .tc .vmem S512x1024 .bf16) (harg3 : arg3.IsWhole)
  (arg4 : Memref sig .tc .vmem S512x1024 .bf16) (harg4 : arg4.IsWhole)
  (arg5 : Memref sig .tc .vmem S512x2048 .bf16) (harg5 : arg5.IsWhole)
  (arg6 : Memref sig .tc .vmem S512x2048 .bf16) (harg6 : arg6.IsWhole)
  (arg7 : Memref sig .tc .vmem S512x128 .bf16) (harg7 : arg7.IsWhole)
  (arg8 : Memref sig .tc .vmem S128x1024 .bf16) (harg8 : arg8.IsWhole)
  (arg9 : Memref sig .tc .vmem S1x1024 .f32) (harg9 : arg9.IsWhole)
  (arg10 : Memref sig .tc .vmem S1x512 .f32) (harg10 : arg10.IsWhole)
  (arg12 : Memref sig .tc .vmem S4x512x256 .f32) (harg12 : arg12.IsWhole)
  (arg13 : Memref sig .tc .vmem S512x2048 .f32)
  (x0 : Vec Ideal S512x1024 .bf16) (x1 : Vec Ideal S512x1024 .bf16) (x2 : Vec Ideal S512x2048 .bf16)
  (x3 : Vec Ideal S512x2048 .bf16) (x4 : Vec Ideal S512x128 .bf16) (x5 : Vec Ideal S128x1024 .bf16)
  (x6 : Vec Ideal S1x1024 .f32) (x7 : Vec Ideal S1x512 .f32) (xs0 : Vec Ideal S4x512x256 .f32)

/-- The decays of the point's rows. -/
abbrev blB : FVec Ideal S512x1024 .f32 := kernelRun0_B.sl.r_4 (F := Ideal) c arg7 harg7 arg8 harg8 arg9 harg9 x4 x5 x6

include c arg4 harg4 arg5 harg5 arg7 harg7 arg8 harg8 arg9 harg9 arg12 harg12 x1 x2 x4 x5 x6 xs0

/-- Head 0 after 0 chunks. -/
theorem stB_0 : View.readAt (Elt Ideal) arg12.view (Rect.unit (s := S4x512x256) ![0, 0, 0] S1x512x256.size inb_S4x512x256_S1x512x256_0_0_0).toLoadRect (harg12.unread xs0) = slab (blB c arg7 harg7 arg8 harg8 arg9 harg9 x4 x5 x6) x1 x2 (fun h e d => at3 xs0 h e d) 0 0 := by
  exact slab_of_array (blB c arg7 harg7 arg8 harg8 arg9 harg9 x4 x5 x6) x1 x2 arg12 harg12 xs0 0 (by omega) _

/-- Head 1 after 0 chunks. -/
theorem stB_1 : kernelRun0_B.sl.v147 (F := Ideal) c arg12 harg12 xs0 = slab (blB c arg7 harg7 arg8 harg8 arg9 harg9 x4 x5 x6) x1 x2 (fun h e d => at3 xs0 h e d) 1 0 := by
  unfold kernelRun0_B.sl.v147
  exact slab_of_array (blB c arg7 harg7 arg8 harg8 arg9 harg9 x4 x5 x6) x1 x2 arg12 harg12 xs0 1 (by omega) _

/-- Head 2 after 0 chunks. -/
theorem stB_2 : kernelRun0_B.sl.v186 (F := Ideal) c arg12 harg12 xs0 = slab (blB c arg7 harg7 arg8 harg8 arg9 harg9 x4 x5 x6) x1 x2 (fun h e d => at3 xs0 h e d) 2 0 := by
  unfold kernelRun0_B.sl.v186
  exact slab_of_array (blB c arg7 harg7 arg8 harg8 arg9 harg9 x4 x5 x6) x1 x2 arg12 harg12 xs0 2 (by omega) _

/-- Head 3 after 0 chunks. -/
theorem stB_3 : kernelRun0_B.sl.v225 (F := Ideal) c arg12 harg12 xs0 = slab (blB c arg7 harg7 arg8 harg8 arg9 harg9 x4 x5 x6) x1 x2 (fun h e d => at3 xs0 h e d) 3 0 := by
  unfold kernelRun0_B.sl.v225
  exact slab_of_array (blB c arg7 harg7 arg8 harg8 arg9 harg9 x4 x5 x6) x1 x2 arg12 harg12 xs0 3 (by omega) _

/-- Head 0 after 1 chunks. -/
theorem stB_4 : kernelRun0_B.sl.v264 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 0 1 := by
  unfold kernelRun0_B.sl.v264 kernelRun0_B.sl.HS0_4
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 0 0 slices_S512x1024_o0_0_S64x256 (View.readAt (Elt Ideal) arg4.view (Rect.unit (s := S512x1024) ![0, 0] S64x256.size inb_S512x1024_S64x256_0_0).toLoadRect (harg4.unread x1))
    (View.readAt (Elt Ideal) arg5.view (Rect.unit (s := S512x2048) ![0, 0] S64x512.size inb_S512x2048_S64x512_0_0).toLoadRect (harg5.unread x2))
    (View.readAt (Elt Ideal) arg12.view (Rect.unit (s := S4x512x256) ![0, 0, 0] S1x512x256.size inb_S4x512x256_S1x512x256_0_0_0).toLoadRect (harg12.unread xs0))
    (load_apply arg4 harg4 x1 0 0 _) (load_apply arg5 harg5 x2 0 0 _)
    (stB_0 c arg4 harg4 arg5 harg5 arg7 harg7 arg8 harg8 arg9 harg9 arg12 harg12 x1 x2 x4 x5 x6 xs0)

/-- Head 1 after 1 chunks. -/
theorem stB_5 : kernelRun0_B.sl.v303 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 1 1 := by
  unfold kernelRun0_B.sl.v303 kernelRun0_B.sl.HS0_5 kernelRun0_B.sl.HS0_4
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 1 0 slices_S512x1024_o0_256_S64x256 (View.readAt (Elt Ideal) arg4.view (Rect.unit (s := S512x1024) ![0, 256] S64x256.size inb_S512x1024_S64x256_0_256).toLoadRect (harg4.unread x1))
    (View.readAt (Elt Ideal) arg5.view (Rect.unit (s := S512x2048) ![0, 512] S64x512.size inb_S512x2048_S64x512_0_512).toLoadRect (harg5.unread x2))
    (kernelRun0_B.sl.v147 (F := Ideal) c arg12 harg12 xs0)
    (load_apply arg4 harg4 x1 0 256 _) (load_apply arg5 harg5 x2 0 512 _)
    (stB_1 c arg4 harg4 arg5 harg5 arg7 harg7 arg8 harg8 arg9 harg9 arg12 harg12 x1 x2 x4 x5 x6 xs0)

/-- Head 2 after 1 chunks. -/
theorem stB_6 : kernelRun0_B.sl.v342 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 2 1 := by
  unfold kernelRun0_B.sl.v342 kernelRun0_B.sl.HS0_6 kernelRun0_B.sl.HS0_5 kernelRun0_B.sl.HS0_4
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 2 0 slices_S512x1024_o0_512_S64x256 (View.readAt (Elt Ideal) arg4.view (Rect.unit (s := S512x1024) ![0, 512] S64x256.size inb_S512x1024_S64x256_0_512).toLoadRect (harg4.unread x1))
    (View.readAt (Elt Ideal) arg5.view (Rect.unit (s := S512x2048) ![0, 1024] S64x512.size inb_S512x2048_S64x512_0_1024).toLoadRect (harg5.unread x2))
    (kernelRun0_B.sl.v186 (F := Ideal) c arg12 harg12 xs0)
    (load_apply arg4 harg4 x1 0 512 _) (load_apply arg5 harg5 x2 0 1024 _)
    (stB_2 c arg4 harg4 arg5 harg5 arg7 harg7 arg8 harg8 arg9 harg9 arg12 harg12 x1 x2 x4 x5 x6 xs0)

/-- Head 3 after 1 chunks. -/
theorem stB_7 : kernelRun0_B.sl.v381 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 3 1 := by
  unfold kernelRun0_B.sl.v381 kernelRun0_B.sl.HS0_7 kernelRun0_B.sl.HS0_6 kernelRun0_B.sl.HS0_5 kernelRun0_B.sl.HS0_4
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 3 0 slices_S512x1024_o0_768_S64x256 (View.readAt (Elt Ideal) arg4.view (Rect.unit (s := S512x1024) ![0, 768] S64x256.size inb_S512x1024_S64x256_0_768).toLoadRect (harg4.unread x1))
    (View.readAt (Elt Ideal) arg5.view (Rect.unit (s := S512x2048) ![0, 1536] S64x512.size inb_S512x2048_S64x512_0_1536).toLoadRect (harg5.unread x2))
    (kernelRun0_B.sl.v225 (F := Ideal) c arg12 harg12 xs0)
    (load_apply arg4 harg4 x1 0 768 _) (load_apply arg5 harg5 x2 0 1536 _)
    (stB_3 c arg4 harg4 arg5 harg5 arg7 harg7 arg8 harg8 arg9 harg9 arg12 harg12 x1 x2 x4 x5 x6 xs0)

/-- Head 0 after 2 chunks. -/
theorem stB_8 : kernelRun0_B.sl.v420 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 0 2 := by
  unfold kernelRun0_B.sl.v420 kernelRun0_B.sl.HS0_8 kernelRun0_B.sl.HS0_7 kernelRun0_B.sl.HS0_6 kernelRun0_B.sl.HS0_5
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 0 1 slices_S512x1024_o64_0_S64x256 (View.readAt (Elt Ideal) arg4.view (Rect.unit (s := S512x1024) ![64, 0] S64x256.size inb_S512x1024_S64x256_64_0).toLoadRect (harg4.unread x1))
    (View.readAt (Elt Ideal) arg5.view (Rect.unit (s := S512x2048) ![64, 0] S64x512.size inb_S512x2048_S64x512_64_0).toLoadRect (harg5.unread x2))
    (kernelRun0_B.sl.v264 (F := Ideal) c arg4 harg4 arg5 harg5 arg7 harg7 arg8 harg8 arg9 harg9 arg12 harg12 x1 x2 x4 x5 x6 xs0)
    (load_apply arg4 harg4 x1 64 0 _) (load_apply arg5 harg5 x2 64 0 _)
    (stB_4 c arg4 harg4 arg5 harg5 arg7 harg7 arg8 harg8 arg9 harg9 arg12 harg12 x1 x2 x4 x5 x6 xs0)

/-- Head 1 after 2 chunks. -/
theorem stB_9 : kernelRun0_B.sl.v459 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 1 2 := by
  unfold kernelRun0_B.sl.v459 kernelRun0_B.sl.HS0_9 kernelRun0_B.sl.HS0_8 kernelRun0_B.sl.HS0_7 kernelRun0_B.sl.HS0_6
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 1 1 slices_S512x1024_o64_256_S64x256 (View.readAt (Elt Ideal) arg4.view (Rect.unit (s := S512x1024) ![64, 256] S64x256.size inb_S512x1024_S64x256_64_256).toLoadRect (harg4.unread x1))
    (View.readAt (Elt Ideal) arg5.view (Rect.unit (s := S512x2048) ![64, 512] S64x512.size inb_S512x2048_S64x512_64_512).toLoadRect (harg5.unread x2))
    (kernelRun0_B.sl.v303 (F := Ideal) c arg4 harg4 arg5 harg5 arg7 harg7 arg8 harg8 arg9 harg9 arg12 harg12 x1 x2 x4 x5 x6 xs0)
    (load_apply arg4 harg4 x1 64 256 _) (load_apply arg5 harg5 x2 64 512 _)
    (stB_5 c arg4 harg4 arg5 harg5 arg7 harg7 arg8 harg8 arg9 harg9 arg12 harg12 x1 x2 x4 x5 x6 xs0)

/-- Head 2 after 2 chunks. -/
theorem stB_10 : kernelRun0_B.sl.v498 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 2 2 := by
  unfold kernelRun0_B.sl.v498 kernelRun0_B.sl.HS0_10 kernelRun0_B.sl.HS0_9 kernelRun0_B.sl.HS0_8 kernelRun0_B.sl.HS0_7
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 2 1 slices_S512x1024_o64_512_S64x256 (View.readAt (Elt Ideal) arg4.view (Rect.unit (s := S512x1024) ![64, 512] S64x256.size inb_S512x1024_S64x256_64_512).toLoadRect (harg4.unread x1))
    (View.readAt (Elt Ideal) arg5.view (Rect.unit (s := S512x2048) ![64, 1024] S64x512.size inb_S512x2048_S64x512_64_1024).toLoadRect (harg5.unread x2))
    (kernelRun0_B.sl.v342 (F := Ideal) c arg4 harg4 arg5 harg5 arg7 harg7 arg8 harg8 arg9 harg9 arg12 harg12 x1 x2 x4 x5 x6 xs0)
    (load_apply arg4 harg4 x1 64 512 _) (load_apply arg5 harg5 x2 64 1024 _)
    (stB_6 c arg4 harg4 arg5 harg5 arg7 harg7 arg8 harg8 arg9 harg9 arg12 harg12 x1 x2 x4 x5 x6 xs0)

/-- Head 3 after 2 chunks. -/
theorem stB_11 : kernelRun0_B.sl.v537 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 3 2 := by
  unfold kernelRun0_B.sl.v537 kernelRun0_B.sl.HS0_11 kernelRun0_B.sl.HS0_10 kernelRun0_B.sl.HS0_9 kernelRun0_B.sl.HS0_8
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 3 1 slices_S512x1024_o64_768_S64x256 (View.readAt (Elt Ideal) arg4.view (Rect.unit (s := S512x1024) ![64, 768] S64x256.size inb_S512x1024_S64x256_64_768).toLoadRect (harg4.unread x1))
    (View.readAt (Elt Ideal) arg5.view (Rect.unit (s := S512x2048) ![64, 1536] S64x512.size inb_S512x2048_S64x512_64_1536).toLoadRect (harg5.unread x2))
    (kernelRun0_B.sl.v381 (F := Ideal) c arg4 harg4 arg5 harg5 arg7 harg7 arg8 harg8 arg9 harg9 arg12 harg12 x1 x2 x4 x5 x6 xs0)
    (load_apply arg4 harg4 x1 64 768 _) (load_apply arg5 harg5 x2 64 1536 _)
    (stB_7 c arg4 harg4 arg5 harg5 arg7 harg7 arg8 harg8 arg9 harg9 arg12 harg12 x1 x2 x4 x5 x6 xs0)

/-- Head 0 after 3 chunks. -/
theorem stB_12 : kernelRun0_B.sl.v576 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 0 3 := by
  unfold kernelRun0_B.sl.v576 kernelRun0_B.sl.HS0_12 kernelRun0_B.sl.HS0_11 kernelRun0_B.sl.HS0_10 kernelRun0_B.sl.HS0_9
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 0 2 slices_S512x1024_o128_0_S64x256 (View.readAt (Elt Ideal) arg4.view (Rect.unit (s := S512x1024) ![128, 0] S64x256.size inb_S512x1024_S64x256_128_0).toLoadRect (harg4.unread x1))
    (View.readAt (Elt Ideal) arg5.view (Rect.unit (s := S512x2048) ![128, 0] S64x512.size inb_S512x2048_S64x512_128_0).toLoadRect (harg5.unread x2))
    (kernelRun0_B.sl.v420 (F := Ideal) c arg4 harg4 arg5 harg5 arg7 harg7 arg8 harg8 arg9 harg9 arg12 harg12 x1 x2 x4 x5 x6 xs0)
    (load_apply arg4 harg4 x1 128 0 _) (load_apply arg5 harg5 x2 128 0 _)
    (stB_8 c arg4 harg4 arg5 harg5 arg7 harg7 arg8 harg8 arg9 harg9 arg12 harg12 x1 x2 x4 x5 x6 xs0)

/-- Head 1 after 3 chunks. -/
theorem stB_13 : kernelRun0_B.sl.v615 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 1 3 := by
  unfold kernelRun0_B.sl.v615 kernelRun0_B.sl.HS0_13 kernelRun0_B.sl.HS0_12 kernelRun0_B.sl.HS0_11 kernelRun0_B.sl.HS0_10
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 1 2 slices_S512x1024_o128_256_S64x256 (View.readAt (Elt Ideal) arg4.view (Rect.unit (s := S512x1024) ![128, 256] S64x256.size inb_S512x1024_S64x256_128_256).toLoadRect (harg4.unread x1))
    (View.readAt (Elt Ideal) arg5.view (Rect.unit (s := S512x2048) ![128, 512] S64x512.size inb_S512x2048_S64x512_128_512).toLoadRect (harg5.unread x2))
    (kernelRun0_B.sl.v459 (F := Ideal) c arg4 harg4 arg5 harg5 arg7 harg7 arg8 harg8 arg9 harg9 arg12 harg12 x1 x2 x4 x5 x6 xs0)
    (load_apply arg4 harg4 x1 128 256 _) (load_apply arg5 harg5 x2 128 512 _)
    (stB_9 c arg4 harg4 arg5 harg5 arg7 harg7 arg8 harg8 arg9 harg9 arg12 harg12 x1 x2 x4 x5 x6 xs0)

/-- Head 2 after 3 chunks. -/
theorem stB_14 : kernelRun0_B.sl.v654 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 2 3 := by
  unfold kernelRun0_B.sl.v654 kernelRun0_B.sl.HS0_14 kernelRun0_B.sl.HS0_13 kernelRun0_B.sl.HS0_12 kernelRun0_B.sl.HS0_11
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 2 2 slices_S512x1024_o128_512_S64x256 (View.readAt (Elt Ideal) arg4.view (Rect.unit (s := S512x1024) ![128, 512] S64x256.size inb_S512x1024_S64x256_128_512).toLoadRect (harg4.unread x1))
    (View.readAt (Elt Ideal) arg5.view (Rect.unit (s := S512x2048) ![128, 1024] S64x512.size inb_S512x2048_S64x512_128_1024).toLoadRect (harg5.unread x2))
    (kernelRun0_B.sl.v498 (F := Ideal) c arg4 harg4 arg5 harg5 arg7 harg7 arg8 harg8 arg9 harg9 arg12 harg12 x1 x2 x4 x5 x6 xs0)
    (load_apply arg4 harg4 x1 128 512 _) (load_apply arg5 harg5 x2 128 1024 _)
    (stB_10 c arg4 harg4 arg5 harg5 arg7 harg7 arg8 harg8 arg9 harg9 arg12 harg12 x1 x2 x4 x5 x6 xs0)

/-- Head 3 after 3 chunks. -/
theorem stB_15 : kernelRun0_B.sl.v693 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 3 3 := by
  unfold kernelRun0_B.sl.v693 kernelRun0_B.sl.HS0_15 kernelRun0_B.sl.HS0_14 kernelRun0_B.sl.HS0_13 kernelRun0_B.sl.HS0_12
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 3 2 slices_S512x1024_o128_768_S64x256 (View.readAt (Elt Ideal) arg4.view (Rect.unit (s := S512x1024) ![128, 768] S64x256.size inb_S512x1024_S64x256_128_768).toLoadRect (harg4.unread x1))
    (View.readAt (Elt Ideal) arg5.view (Rect.unit (s := S512x2048) ![128, 1536] S64x512.size inb_S512x2048_S64x512_128_1536).toLoadRect (harg5.unread x2))
    (kernelRun0_B.sl.v537 (F := Ideal) c arg4 harg4 arg5 harg5 arg7 harg7 arg8 harg8 arg9 harg9 arg12 harg12 x1 x2 x4 x5 x6 xs0)
    (load_apply arg4 harg4 x1 128 768 _) (load_apply arg5 harg5 x2 128 1536 _)
    (stB_11 c arg4 harg4 arg5 harg5 arg7 harg7 arg8 harg8 arg9 harg9 arg12 harg12 x1 x2 x4 x5 x6 xs0)

/-- Head 0 after 4 chunks. -/
theorem stB_16 : kernelRun0_B.sl.v732 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 0 4 := by
  unfold kernelRun0_B.sl.v732 kernelRun0_B.sl.HS0_16 kernelRun0_B.sl.HS0_15 kernelRun0_B.sl.HS0_14 kernelRun0_B.sl.HS0_13
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 0 3 slices_S512x1024_o192_0_S64x256 (View.readAt (Elt Ideal) arg4.view (Rect.unit (s := S512x1024) ![192, 0] S64x256.size inb_S512x1024_S64x256_192_0).toLoadRect (harg4.unread x1))
    (View.readAt (Elt Ideal) arg5.view (Rect.unit (s := S512x2048) ![192, 0] S64x512.size inb_S512x2048_S64x512_192_0).toLoadRect (harg5.unread x2))
    (kernelRun0_B.sl.v576 (F := Ideal) c arg4 harg4 arg5 harg5 arg7 harg7 arg8 harg8 arg9 harg9 arg12 harg12 x1 x2 x4 x5 x6 xs0)
    (load_apply arg4 harg4 x1 192 0 _) (load_apply arg5 harg5 x2 192 0 _)
    (stB_12 c arg4 harg4 arg5 harg5 arg7 harg7 arg8 harg8 arg9 harg9 arg12 harg12 x1 x2 x4 x5 x6 xs0)

/-- Head 1 after 4 chunks. -/
theorem stB_17 : kernelRun0_B.sl.v771 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 1 4 := by
  unfold kernelRun0_B.sl.v771 kernelRun0_B.sl.HS0_17 kernelRun0_B.sl.HS0_16 kernelRun0_B.sl.HS0_15 kernelRun0_B.sl.HS0_14
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 1 3 slices_S512x1024_o192_256_S64x256 (View.readAt (Elt Ideal) arg4.view (Rect.unit (s := S512x1024) ![192, 256] S64x256.size inb_S512x1024_S64x256_192_256).toLoadRect (harg4.unread x1))
    (View.readAt (Elt Ideal) arg5.view (Rect.unit (s := S512x2048) ![192, 512] S64x512.size inb_S512x2048_S64x512_192_512).toLoadRect (harg5.unread x2))
    (kernelRun0_B.sl.v615 (F := Ideal) c arg4 harg4 arg5 harg5 arg7 harg7 arg8 harg8 arg9 harg9 arg12 harg12 x1 x2 x4 x5 x6 xs0)
    (load_apply arg4 harg4 x1 192 256 _) (load_apply arg5 harg5 x2 192 512 _)
    (stB_13 c arg4 harg4 arg5 harg5 arg7 harg7 arg8 harg8 arg9 harg9 arg12 harg12 x1 x2 x4 x5 x6 xs0)

/-- Head 2 after 4 chunks. -/
theorem stB_18 : kernelRun0_B.sl.v810 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 2 4 := by
  unfold kernelRun0_B.sl.v810 kernelRun0_B.sl.HS0_18 kernelRun0_B.sl.HS0_17 kernelRun0_B.sl.HS0_16 kernelRun0_B.sl.HS0_15
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 2 3 slices_S512x1024_o192_512_S64x256 (View.readAt (Elt Ideal) arg4.view (Rect.unit (s := S512x1024) ![192, 512] S64x256.size inb_S512x1024_S64x256_192_512).toLoadRect (harg4.unread x1))
    (View.readAt (Elt Ideal) arg5.view (Rect.unit (s := S512x2048) ![192, 1024] S64x512.size inb_S512x2048_S64x512_192_1024).toLoadRect (harg5.unread x2))
    (kernelRun0_B.sl.v654 (F := Ideal) c arg4 harg4 arg5 harg5 arg7 harg7 arg8 harg8 arg9 harg9 arg12 harg12 x1 x2 x4 x5 x6 xs0)
    (load_apply arg4 harg4 x1 192 512 _) (load_apply arg5 harg5 x2 192 1024 _)
    (stB_14 c arg4 harg4 arg5 harg5 arg7 harg7 arg8 harg8 arg9 harg9 arg12 harg12 x1 x2 x4 x5 x6 xs0)

/-- Head 3 after 4 chunks. -/
theorem stB_19 : kernelRun0_B.sl.v849 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 3 4 := by
  unfold kernelRun0_B.sl.v849 kernelRun0_B.sl.HS0_19 kernelRun0_B.sl.HS0_18 kernelRun0_B.sl.HS0_17 kernelRun0_B.sl.HS0_16
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 3 3 slices_S512x1024_o192_768_S64x256 (View.readAt (Elt Ideal) arg4.view (Rect.unit (s := S512x1024) ![192, 768] S64x256.size inb_S512x1024_S64x256_192_768).toLoadRect (harg4.unread x1))
    (View.readAt (Elt Ideal) arg5.view (Rect.unit (s := S512x2048) ![192, 1536] S64x512.size inb_S512x2048_S64x512_192_1536).toLoadRect (harg5.unread x2))
    (kernelRun0_B.sl.v693 (F := Ideal) c arg4 harg4 arg5 harg5 arg7 harg7 arg8 harg8 arg9 harg9 arg12 harg12 x1 x2 x4 x5 x6 xs0)
    (load_apply arg4 harg4 x1 192 768 _) (load_apply arg5 harg5 x2 192 1536 _)
    (stB_15 c arg4 harg4 arg5 harg5 arg7 harg7 arg8 harg8 arg9 harg9 arg12 harg12 x1 x2 x4 x5 x6 xs0)

/-- Head 0 after 5 chunks. -/
theorem stB_20 : kernelRun0_B.sl.v888 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 0 5 := by
  unfold kernelRun0_B.sl.v888 kernelRun0_B.sl.HS0_20 kernelRun0_B.sl.HS0_19 kernelRun0_B.sl.HS0_18 kernelRun0_B.sl.HS0_17
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 0 4 slices_S512x1024_o256_0_S64x256 (View.readAt (Elt Ideal) arg4.view (Rect.unit (s := S512x1024) ![256, 0] S64x256.size inb_S512x1024_S64x256_256_0).toLoadRect (harg4.unread x1))
    (View.readAt (Elt Ideal) arg5.view (Rect.unit (s := S512x2048) ![256, 0] S64x512.size inb_S512x2048_S64x512_256_0).toLoadRect (harg5.unread x2))
    (kernelRun0_B.sl.v732 (F := Ideal) c arg4 harg4 arg5 harg5 arg7 harg7 arg8 harg8 arg9 harg9 arg12 harg12 x1 x2 x4 x5 x6 xs0)
    (load_apply arg4 harg4 x1 256 0 _) (load_apply arg5 harg5 x2 256 0 _)
    (stB_16 c arg4 harg4 arg5 harg5 arg7 harg7 arg8 harg8 arg9 harg9 arg12 harg12 x1 x2 x4 x5 x6 xs0)

/-- Head 1 after 5 chunks. -/
theorem stB_21 : kernelRun0_B.sl.v927 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 1 5 := by
  unfold kernelRun0_B.sl.v927 kernelRun0_B.sl.HS0_21 kernelRun0_B.sl.HS0_20 kernelRun0_B.sl.HS0_19 kernelRun0_B.sl.HS0_18
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 1 4 slices_S512x1024_o256_256_S64x256 (View.readAt (Elt Ideal) arg4.view (Rect.unit (s := S512x1024) ![256, 256] S64x256.size inb_S512x1024_S64x256_256_256).toLoadRect (harg4.unread x1))
    (View.readAt (Elt Ideal) arg5.view (Rect.unit (s := S512x2048) ![256, 512] S64x512.size inb_S512x2048_S64x512_256_512).toLoadRect (harg5.unread x2))
    (kernelRun0_B.sl.v771 (F := Ideal) c arg4 harg4 arg5 harg5 arg7 harg7 arg8 harg8 arg9 harg9 arg12 harg12 x1 x2 x4 x5 x6 xs0)
    (load_apply arg4 harg4 x1 256 256 _) (load_apply arg5 harg5 x2 256 512 _)
    (stB_17 c arg4 harg4 arg5 harg5 arg7 harg7 arg8 harg8 arg9 harg9 arg12 harg12 x1 x2 x4 x5 x6 xs0)

/-- Head 2 after 5 chunks. -/
theorem stB_22 : kernelRun0_B.sl.v966 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 2 5 := by
  unfold kernelRun0_B.sl.v966 kernelRun0_B.sl.HS0_22 kernelRun0_B.sl.HS0_21 kernelRun0_B.sl.HS0_20 kernelRun0_B.sl.HS0_19
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 2 4 slices_S512x1024_o256_512_S64x256 (View.readAt (Elt Ideal) arg4.view (Rect.unit (s := S512x1024) ![256, 512] S64x256.size inb_S512x1024_S64x256_256_512).toLoadRect (harg4.unread x1))
    (View.readAt (Elt Ideal) arg5.view (Rect.unit (s := S512x2048) ![256, 1024] S64x512.size inb_S512x2048_S64x512_256_1024).toLoadRect (harg5.unread x2))
    (kernelRun0_B.sl.v810 (F := Ideal) c arg4 harg4 arg5 harg5 arg7 harg7 arg8 harg8 arg9 harg9 arg12 harg12 x1 x2 x4 x5 x6 xs0)
    (load_apply arg4 harg4 x1 256 512 _) (load_apply arg5 harg5 x2 256 1024 _)
    (stB_18 c arg4 harg4 arg5 harg5 arg7 harg7 arg8 harg8 arg9 harg9 arg12 harg12 x1 x2 x4 x5 x6 xs0)

/-- Head 3 after 5 chunks. -/
theorem stB_23 : kernelRun0_B.sl.v1005 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 3 5 := by
  unfold kernelRun0_B.sl.v1005 kernelRun0_B.sl.HS0_23 kernelRun0_B.sl.HS0_22 kernelRun0_B.sl.HS0_21 kernelRun0_B.sl.HS0_20
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 3 4 slices_S512x1024_o256_768_S64x256 (View.readAt (Elt Ideal) arg4.view (Rect.unit (s := S512x1024) ![256, 768] S64x256.size inb_S512x1024_S64x256_256_768).toLoadRect (harg4.unread x1))
    (View.readAt (Elt Ideal) arg5.view (Rect.unit (s := S512x2048) ![256, 1536] S64x512.size inb_S512x2048_S64x512_256_1536).toLoadRect (harg5.unread x2))
    (kernelRun0_B.sl.v849 (F := Ideal) c arg4 harg4 arg5 harg5 arg7 harg7 arg8 harg8 arg9 harg9 arg12 harg12 x1 x2 x4 x5 x6 xs0)
    (load_apply arg4 harg4 x1 256 768 _) (load_apply arg5 harg5 x2 256 1536 _)
    (stB_19 c arg4 harg4 arg5 harg5 arg7 harg7 arg8 harg8 arg9 harg9 arg12 harg12 x1 x2 x4 x5 x6 xs0)

/-- Head 0 after 6 chunks. -/
theorem stB_24 : kernelRun0_B.sl.v1044 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 0 6 := by
  unfold kernelRun0_B.sl.v1044 kernelRun0_B.sl.HS0_24 kernelRun0_B.sl.HS0_23 kernelRun0_B.sl.HS0_22 kernelRun0_B.sl.HS0_21
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 0 5 slices_S512x1024_o320_0_S64x256 (View.readAt (Elt Ideal) arg4.view (Rect.unit (s := S512x1024) ![320, 0] S64x256.size inb_S512x1024_S64x256_320_0).toLoadRect (harg4.unread x1))
    (View.readAt (Elt Ideal) arg5.view (Rect.unit (s := S512x2048) ![320, 0] S64x512.size inb_S512x2048_S64x512_320_0).toLoadRect (harg5.unread x2))
    (kernelRun0_B.sl.v888 (F := Ideal) c arg4 harg4 arg5 harg5 arg7 harg7 arg8 harg8 arg9 harg9 arg12 harg12 x1 x2 x4 x5 x6 xs0)
    (load_apply arg4 harg4 x1 320 0 _) (load_apply arg5 harg5 x2 320 0 _)
    (stB_20 c arg4 harg4 arg5 harg5 arg7 harg7 arg8 harg8 arg9 harg9 arg12 harg12 x1 x2 x4 x5 x6 xs0)

/-- Head 1 after 6 chunks. -/
theorem stB_25 : kernelRun0_B.sl.v1083 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 1 6 := by
  unfold kernelRun0_B.sl.v1083 kernelRun0_B.sl.HS0_25 kernelRun0_B.sl.HS0_24 kernelRun0_B.sl.HS0_23 kernelRun0_B.sl.HS0_22
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 1 5 slices_S512x1024_o320_256_S64x256 (View.readAt (Elt Ideal) arg4.view (Rect.unit (s := S512x1024) ![320, 256] S64x256.size inb_S512x1024_S64x256_320_256).toLoadRect (harg4.unread x1))
    (View.readAt (Elt Ideal) arg5.view (Rect.unit (s := S512x2048) ![320, 512] S64x512.size inb_S512x2048_S64x512_320_512).toLoadRect (harg5.unread x2))
    (kernelRun0_B.sl.v927 (F := Ideal) c arg4 harg4 arg5 harg5 arg7 harg7 arg8 harg8 arg9 harg9 arg12 harg12 x1 x2 x4 x5 x6 xs0)
    (load_apply arg4 harg4 x1 320 256 _) (load_apply arg5 harg5 x2 320 512 _)
    (stB_21 c arg4 harg4 arg5 harg5 arg7 harg7 arg8 harg8 arg9 harg9 arg12 harg12 x1 x2 x4 x5 x6 xs0)

/-- Head 2 after 6 chunks. -/
theorem stB_26 : kernelRun0_B.sl.v1122 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 2 6 := by
  unfold kernelRun0_B.sl.v1122 kernelRun0_B.sl.HS0_26 kernelRun0_B.sl.HS0_25 kernelRun0_B.sl.HS0_24 kernelRun0_B.sl.HS0_23
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 2 5 slices_S512x1024_o320_512_S64x256 (View.readAt (Elt Ideal) arg4.view (Rect.unit (s := S512x1024) ![320, 512] S64x256.size inb_S512x1024_S64x256_320_512).toLoadRect (harg4.unread x1))
    (View.readAt (Elt Ideal) arg5.view (Rect.unit (s := S512x2048) ![320, 1024] S64x512.size inb_S512x2048_S64x512_320_1024).toLoadRect (harg5.unread x2))
    (kernelRun0_B.sl.v966 (F := Ideal) c arg4 harg4 arg5 harg5 arg7 harg7 arg8 harg8 arg9 harg9 arg12 harg12 x1 x2 x4 x5 x6 xs0)
    (load_apply arg4 harg4 x1 320 512 _) (load_apply arg5 harg5 x2 320 1024 _)
    (stB_22 c arg4 harg4 arg5 harg5 arg7 harg7 arg8 harg8 arg9 harg9 arg12 harg12 x1 x2 x4 x5 x6 xs0)

/-- Head 3 after 6 chunks. -/
theorem stB_27 : kernelRun0_B.sl.v1161 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 3 6 := by
  unfold kernelRun0_B.sl.v1161 kernelRun0_B.sl.HS0_27 kernelRun0_B.sl.HS0_26 kernelRun0_B.sl.HS0_25 kernelRun0_B.sl.HS0_24
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 3 5 slices_S512x1024_o320_768_S64x256 (View.readAt (Elt Ideal) arg4.view (Rect.unit (s := S512x1024) ![320, 768] S64x256.size inb_S512x1024_S64x256_320_768).toLoadRect (harg4.unread x1))
    (View.readAt (Elt Ideal) arg5.view (Rect.unit (s := S512x2048) ![320, 1536] S64x512.size inb_S512x2048_S64x512_320_1536).toLoadRect (harg5.unread x2))
    (kernelRun0_B.sl.v1005 (F := Ideal) c arg4 harg4 arg5 harg5 arg7 harg7 arg8 harg8 arg9 harg9 arg12 harg12 x1 x2 x4 x5 x6 xs0)
    (load_apply arg4 harg4 x1 320 768 _) (load_apply arg5 harg5 x2 320 1536 _)
    (stB_23 c arg4 harg4 arg5 harg5 arg7 harg7 arg8 harg8 arg9 harg9 arg12 harg12 x1 x2 x4 x5 x6 xs0)

/-- Head 0 after 7 chunks. -/
theorem stB_28 : kernelRun0_B.sl.v1200 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 0 7 := by
  unfold kernelRun0_B.sl.v1200 kernelRun0_B.sl.HS0_28 kernelRun0_B.sl.HS0_27 kernelRun0_B.sl.HS0_26 kernelRun0_B.sl.HS0_25
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 0 6 slices_S512x1024_o384_0_S64x256 (View.readAt (Elt Ideal) arg4.view (Rect.unit (s := S512x1024) ![384, 0] S64x256.size inb_S512x1024_S64x256_384_0).toLoadRect (harg4.unread x1))
    (View.readAt (Elt Ideal) arg5.view (Rect.unit (s := S512x2048) ![384, 0] S64x512.size inb_S512x2048_S64x512_384_0).toLoadRect (harg5.unread x2))
    (kernelRun0_B.sl.v1044 (F := Ideal) c arg4 harg4 arg5 harg5 arg7 harg7 arg8 harg8 arg9 harg9 arg12 harg12 x1 x2 x4 x5 x6 xs0)
    (load_apply arg4 harg4 x1 384 0 _) (load_apply arg5 harg5 x2 384 0 _)
    (stB_24 c arg4 harg4 arg5 harg5 arg7 harg7 arg8 harg8 arg9 harg9 arg12 harg12 x1 x2 x4 x5 x6 xs0)

/-- Head 1 after 7 chunks. -/
theorem stB_29 : kernelRun0_B.sl.v1239 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 1 7 := by
  unfold kernelRun0_B.sl.v1239 kernelRun0_B.sl.HS0_29 kernelRun0_B.sl.HS0_28 kernelRun0_B.sl.HS0_27 kernelRun0_B.sl.HS0_26
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 1 6 slices_S512x1024_o384_256_S64x256 (View.readAt (Elt Ideal) arg4.view (Rect.unit (s := S512x1024) ![384, 256] S64x256.size inb_S512x1024_S64x256_384_256).toLoadRect (harg4.unread x1))
    (View.readAt (Elt Ideal) arg5.view (Rect.unit (s := S512x2048) ![384, 512] S64x512.size inb_S512x2048_S64x512_384_512).toLoadRect (harg5.unread x2))
    (kernelRun0_B.sl.v1083 (F := Ideal) c arg4 harg4 arg5 harg5 arg7 harg7 arg8 harg8 arg9 harg9 arg12 harg12 x1 x2 x4 x5 x6 xs0)
    (load_apply arg4 harg4 x1 384 256 _) (load_apply arg5 harg5 x2 384 512 _)
    (stB_25 c arg4 harg4 arg5 harg5 arg7 harg7 arg8 harg8 arg9 harg9 arg12 harg12 x1 x2 x4 x5 x6 xs0)

/-- Head 2 after 7 chunks. -/
theorem stB_30 : kernelRun0_B.sl.v1278 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 2 7 := by
  unfold kernelRun0_B.sl.v1278 kernelRun0_B.sl.HS0_30 kernelRun0_B.sl.HS0_29 kernelRun0_B.sl.HS0_28 kernelRun0_B.sl.HS0_27
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 2 6 slices_S512x1024_o384_512_S64x256 (View.readAt (Elt Ideal) arg4.view (Rect.unit (s := S512x1024) ![384, 512] S64x256.size inb_S512x1024_S64x256_384_512).toLoadRect (harg4.unread x1))
    (View.readAt (Elt Ideal) arg5.view (Rect.unit (s := S512x2048) ![384, 1024] S64x512.size inb_S512x2048_S64x512_384_1024).toLoadRect (harg5.unread x2))
    (kernelRun0_B.sl.v1122 (F := Ideal) c arg4 harg4 arg5 harg5 arg7 harg7 arg8 harg8 arg9 harg9 arg12 harg12 x1 x2 x4 x5 x6 xs0)
    (load_apply arg4 harg4 x1 384 512 _) (load_apply arg5 harg5 x2 384 1024 _)
    (stB_26 c arg4 harg4 arg5 harg5 arg7 harg7 arg8 harg8 arg9 harg9 arg12 harg12 x1 x2 x4 x5 x6 xs0)

/-- Head 3 after 7 chunks. -/
theorem stB_31 : kernelRun0_B.sl.v1317 (F := Ideal) c arg4 harg4 arg5 harg5 arg7 harg7 arg8 harg8 arg9 harg9 arg12 harg12 x1 x2 x4 x5 x6 xs0 = slab (blB c arg7 harg7 arg8 harg8 arg9 harg9 x4 x5 x6) x1 x2 (fun h e d => at3 xs0 h e d) 3 7 := by
  unfold kernelRun0_B.sl.v1317 kernelRun0_B.sl.HS0_31 kernelRun0_B.sl.HS0_30 kernelRun0_B.sl.HS0_29 kernelRun0_B.sl.HS0_28
  rw [View.readCov_skip _ _ _ _ _ (by decide), View.readCov_skip _ _ _ _ _ (by decide),
    View.readCov_skip _ _ _ _ _ (by decide), View.readCov_cons_toLoadRect]
  exact step (blB c arg7 harg7 arg8 harg8 arg9 harg9 x4 x5 x6) x1 x2 (fun h e d => at3 xs0 h e d) 3 6 slices_S512x1024_o384_768_S64x256 (View.readAt (Elt Ideal) arg4.view (Rect.unit (s := S512x1024) ![384, 768] S64x256.size inb_S512x1024_S64x256_384_768).toLoadRect (harg4.unread x1))
    (View.readAt (Elt Ideal) arg5.view (Rect.unit (s := S512x2048) ![384, 1536] S64x512.size inb_S512x2048_S64x512_384_1536).toLoadRect (harg5.unread x2))
    (kernelRun0_B.sl.v1161 (F := Ideal) c arg4 harg4 arg5 harg5 arg7 harg7 arg8 harg8 arg9 harg9 arg12 harg12 x1 x2 x4 x5 x6 xs0)
    (load_apply arg4 harg4 x1 384 768 _) (load_apply arg5 harg5 x2 384 1536 _)
    (stB_27 c arg4 harg4 arg5 harg5 arg7 harg7 arg8 harg8 arg9 harg9 arg12 harg12 x1 x2 x4 x5 x6 xs0)

/-- The stores to the states, the last one first. -/
def lastB : List (View.Piece (Elt Ideal) S4x512x256 .f32) :=
  ⟨Rect.unit ![3, 0, 0] S1x512x256.size inb_S4x512x256_S1x512x256_3_0_0,
    k0_pay288 (F := Ideal) (kernelRun0_B.sl.r_160 (F := Ideal) c arg5 harg5 x2) (kernelRun0_B.sl.r_161 (F := Ideal) c arg7 harg7 arg8 harg8 arg9 harg9 x4 x5 x6) (kernelRun0_B.sl.r_163 (F := Ideal) c arg4 harg4 arg7 harg7 arg8 harg8 arg9 harg9 x1 x4 x5 x6) (kernelRun0_B.sl.v1317 (F := Ideal) c arg4 harg4 arg5 harg5 arg7 harg7 arg8 harg8 arg9 harg9 arg12 harg12 x1 x2 x4 x5 x6 xs0)⟩
  :: kernelRun0_B.sl.HS0_31 (F := Ideal) c arg4 harg4 arg5 harg5 arg7 harg7 arg8 harg8 arg9 harg9 arg12 harg12 x1 x2 x4 x5 x6 xs0

/-- The state of head 0 after the 8 chunks. -/
theorem endB_0 : arg12.view.readCov (lastB c arg4 harg4 arg5 harg5 arg7 harg7 arg8 harg8 arg9 harg9 arg12 harg12 x1 x2 x4 x5 x6 xs0) (Rect.unit (s := S4x512x256) ![0, 0, 0] S1x512x256.size inb_S4x512x256_S1x512x256_0_0_0).toLoadRect
    = slab (blB c arg7 harg7 arg8 harg8 arg9 harg9 x4 x5 x6) x1 x2 (fun h e d => at3 xs0 h e d) 0 8 := by
  unfold lastB kernelRun0_B.sl.HS0_31 kernelRun0_B.sl.HS0_30 kernelRun0_B.sl.HS0_29
  rw [View.readCov_skip _ _ _ _ _ (by decide)]
  rw [View.readCov_skip _ _ _ _ _ (by decide)]
  rw [View.readCov_skip _ _ _ _ _ (by decide)]
  rw [View.readCov_cons_toLoadRect]
  exact step (blB c arg7 harg7 arg8 harg8 arg9 harg9 x4 x5 x6) x1 x2 (fun h e d => at3 xs0 h e d) 0 7 slices_S512x1024_o448_0_S64x256 (View.readAt (Elt Ideal) arg4.view (Rect.unit (s := S512x1024) ![448, 0] S64x256.size inb_S512x1024_S64x256_448_0).toLoadRect (harg4.unread x1))
    (View.readAt (Elt Ideal) arg5.view (Rect.unit (s := S512x2048) ![448, 0] S64x512.size inb_S512x2048_S64x512_448_0).toLoadRect (harg5.unread x2))
    (kernelRun0_B.sl.v1200 (F := Ideal) c arg4 harg4 arg5 harg5 arg7 harg7 arg8 harg8 arg9 harg9 arg12 harg12 x1 x2 x4 x5 x6 xs0)
    (load_apply arg4 harg4 x1 448 0 _) (load_apply arg5 harg5 x2 448 0 _)
    (stB_28 c arg4 harg4 arg5 harg5 arg7 harg7 arg8 harg8 arg9 harg9 arg12 harg12 x1 x2 x4 x5 x6 xs0)

/-- The state of head 1 after the 8 chunks. -/
theorem endB_1 : arg12.view.readCov (lastB c arg4 harg4 arg5 harg5 arg7 harg7 arg8 harg8 arg9 harg9 arg12 harg12 x1 x2 x4 x5 x6 xs0) (Rect.unit (s := S4x512x256) ![1, 0, 0] S1x512x256.size inb_S4x512x256_S1x512x256_1_0_0).toLoadRect
    = slab (blB c arg7 harg7 arg8 harg8 arg9 harg9 x4 x5 x6) x1 x2 (fun h e d => at3 xs0 h e d) 1 8 := by
  unfold lastB kernelRun0_B.sl.HS0_31 kernelRun0_B.sl.HS0_30
  rw [View.readCov_skip _ _ _ _ _ (by decide)]
  rw [View.readCov_skip _ _ _ _ _ (by decide)]
  rw [View.readCov_cons_toLoadRect]
  exact step (blB c arg7 harg7 arg8 harg8 arg9 harg9 x4 x5 x6) x1 x2 (fun h e d => at3 xs0 h e d) 1 7 slices_S512x1024_o448_256_S64x256 (View.readAt (Elt Ideal) arg4.view (Rect.unit (s := S512x1024) ![448, 256] S64x256.size inb_S512x1024_S64x256_448_256).toLoadRect (harg4.unread x1))
    (View.readAt (Elt Ideal) arg5.view (Rect.unit (s := S512x2048) ![448, 512] S64x512.size inb_S512x2048_S64x512_448_512).toLoadRect (harg5.unread x2))
    (kernelRun0_B.sl.v1239 (F := Ideal) c arg4 harg4 arg5 harg5 arg7 harg7 arg8 harg8 arg9 harg9 arg12 harg12 x1 x2 x4 x5 x6 xs0)
    (load_apply arg4 harg4 x1 448 256 _) (load_apply arg5 harg5 x2 448 512 _)
    (stB_29 c arg4 harg4 arg5 harg5 arg7 harg7 arg8 harg8 arg9 harg9 arg12 harg12 x1 x2 x4 x5 x6 xs0)

/-- The state of head 2 after the 8 chunks. -/
theorem endB_2 : arg12.view.readCov (lastB c arg4 harg4 arg5 harg5 arg7 harg7 arg8 harg8 arg9 harg9 arg12 harg12 x1 x2 x4 x5 x6 xs0) (Rect.unit (s := S4x512x256) ![2, 0, 0] S1x512x256.size inb_S4x512x256_S1x512x256_2_0_0).toLoadRect
    = slab (blB c arg7 harg7 arg8 harg8 arg9 harg9 x4 x5 x6) x1 x2 (fun h e d => at3 xs0 h e d) 2 8 := by
  unfold lastB kernelRun0_B.sl.HS0_31
  rw [View.readCov_skip _ _ _ _ _ (by decide)]
  rw [View.readCov_cons_toLoadRect]
  exact step (blB c arg7 harg7 arg8 harg8 arg9 harg9 x4 x5 x6) x1 x2 (fun h e d => at3 xs0 h e d) 2 7 slices_S512x1024_o448_512_S64x256 (View.readAt (Elt Ideal) arg4.view (Rect.unit (s := S512x1024) ![448, 512] S64x256.size inb_S512x1024_S64x256_448_512).toLoadRect (harg4.unread x1))
    (View.readAt (Elt Ideal) arg5.view (Rect.unit (s := S512x2048) ![448, 1024] S64x512.size inb_S512x2048_S64x512_448_1024).toLoadRect (harg5.unread x2))
    (kernelRun0_B.sl.v1278 (F := Ideal) c arg4 harg4 arg5 harg5 arg7 harg7 arg8 harg8 arg9 harg9 arg12 harg12 x1 x2 x4 x5 x6 xs0)
    (load_apply arg4 harg4 x1 448 512 _) (load_apply arg5 harg5 x2 448 1024 _)
    (stB_30 c arg4 harg4 arg5 harg5 arg7 harg7 arg8 harg8 arg9 harg9 arg12 harg12 x1 x2 x4 x5 x6 xs0)

/-- The state of head 3 after the 8 chunks. -/
theorem endB_3 : arg12.view.readCov (lastB c arg4 harg4 arg5 harg5 arg7 harg7 arg8 harg8 arg9 harg9 arg12 harg12 x1 x2 x4 x5 x6 xs0) (Rect.unit (s := S4x512x256) ![3, 0, 0] S1x512x256.size inb_S4x512x256_S1x512x256_3_0_0).toLoadRect
    = slab (blB c arg7 harg7 arg8 harg8 arg9 harg9 x4 x5 x6) x1 x2 (fun h e d => at3 xs0 h e d) 3 8 := by
  unfold lastB
  rw [View.readCov_cons_toLoadRect]
  exact step (blB c arg7 harg7 arg8 harg8 arg9 harg9 x4 x5 x6) x1 x2 (fun h e d => at3 xs0 h e d) 3 7 slices_S512x1024_o448_768_S64x256 (View.readAt (Elt Ideal) arg4.view (Rect.unit (s := S512x1024) ![448, 768] S64x256.size inb_S512x1024_S64x256_448_768).toLoadRect (harg4.unread x1))
    (View.readAt (Elt Ideal) arg5.view (Rect.unit (s := S512x2048) ![448, 1536] S64x512.size inb_S512x2048_S64x512_448_1536).toLoadRect (harg5.unread x2))
    (kernelRun0_B.sl.v1317 (F := Ideal) c arg4 harg4 arg5 harg5 arg7 harg7 arg8 harg8 arg9 harg9 arg12 harg12 x1 x2 x4 x5 x6 xs0)
    (load_apply arg4 harg4 x1 448 768 _) (load_apply arg5 harg5 x2 448 1536 _)
    (stB_31 c arg4 harg4 arg5 harg5 arg7 harg7 arg8 harg8 arg9 harg9 arg12 harg12 x1 x2 x4 x5 x6 xs0)

/-- The four states the body leaves. -/
theorem statesB (p : Fin 4) (e : Fin 512) (d : Fin 256) :
    View.canon (lastB c arg4 harg4 arg5 harg5 arg7 harg7 arg8 harg8 arg9 harg9 arg12 harg12 x1 x2 x4 x5 x6 xs0) (ix3 p e d) = state (at2 (blB c arg7 harg7 arg8 harg8 arg9 harg9 x4 x5 x6)) (at2 x1) (at2 x2) (fun h e d => at3 xs0 h e d) p.val 8 e.val d.val :=
  canon_states arg12.view (lastB c arg4 harg4 arg5 harg5 arg7 harg7 arg8 harg8 arg9 harg9 arg12 harg12 x1 x2 x4 x5 x6 xs0) (blB c arg7 harg7 arg8 harg8 arg9 harg9 x4 x5 x6) x1 x2 (fun h e d => at3 xs0 h e d)
    (endB_0 c arg4 harg4 arg5 harg5 arg7 harg7 arg8 harg8 arg9 harg9 arg12 harg12 x1 x2 x4 x5 x6 xs0) (endB_1 c arg4 harg4 arg5 harg5 arg7 harg7 arg8 harg8 arg9 harg9 arg12 harg12 x1 x2 x4 x5 x6 xs0) (endB_2 c arg4 harg4 arg5 harg5 arg7 harg7 arg8 harg8 arg9 harg9 arg12 harg12 x1 x2 x4 x5 x6 xs0) (endB_3 c arg4 harg4 arg5 harg5 arg7 harg7 arg8 harg8 arg9 harg9 arg12 harg12 x1 x2 x4 x5 x6 xs0) p e d

include arg3 harg3 x0

/-- Chunk 7 of head 3 is stored. -/
theorem ocB_31 (x : S64x512.Idx) :
    pieceO ![448, 768] slices_S512x1024_o448_768_S64x256 (blB c arg7 harg7 arg8 harg8 arg9 harg9 x4 x5 x6) (View.readAt (Elt Ideal) arg3.view (Rect.unit (s := S512x1024) ![448, 768] S64x256.size inb_S512x1024_S64x256_448_768).toLoadRect (harg3.unread x0)) (View.readAt (Elt Ideal) arg4.view (Rect.unit (s := S512x1024) ![448, 768] S64x256.size inb_S512x1024_S64x256_448_768).toLoadRect (harg4.unread x1))
      (View.readAt (Elt Ideal) arg5.view (Rect.unit (s := S512x2048) ![448, 1536] S64x512.size inb_S512x2048_S64x512_448_1536).toLoadRect (harg5.unread x2)) (kernelRun0_B.sl.v1317 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![448, 1536] S64x512.size inb_S512x2048_S64x512_448_1536).emb x) :=
  outStep (blB c arg7 harg7 arg8 harg8 arg9 harg9 x4 x5 x6) x0 x1 x2 (fun h e d => at3 xs0 h e d) 3 7 (by omega) (by omega) slices_S512x1024_o448_768_S64x256 _ _ _ _
    (load_apply arg3 harg3 x0 448 768 _) (load_apply arg4 harg4 x1 448 768 _) (load_apply arg5 harg5 x2 448 1536 _)
    (stB_31 c arg4 harg4 arg5 harg5 arg7 harg7 arg8 harg8 arg9 harg9 arg12 harg12 x1 x2 x4 x5 x6 xs0) _ x

/-- Chunk 7 of head 2 is stored. -/
theorem ocB_30 (x : S64x512.Idx) :
    pieceO ![448, 512] slices_S512x1024_o448_512_S64x256 (blB c arg7 harg7 arg8 harg8 arg9 harg9 x4 x5 x6) (View.readAt (Elt Ideal) arg3.view (Rect.unit (s := S512x1024) ![448, 512] S64x256.size inb_S512x1024_S64x256_448_512).toLoadRect (harg3.unread x0)) (View.readAt (Elt Ideal) arg4.view (Rect.unit (s := S512x1024) ![448, 512] S64x256.size inb_S512x1024_S64x256_448_512).toLoadRect (harg4.unread x1))
      (View.readAt (Elt Ideal) arg5.view (Rect.unit (s := S512x2048) ![448, 1024] S64x512.size inb_S512x2048_S64x512_448_1024).toLoadRect (harg5.unread x2)) (kernelRun0_B.sl.v1278 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![448, 1024] S64x512.size inb_S512x2048_S64x512_448_1024).emb x) :=
  outStep (blB c arg7 harg7 arg8 harg8 arg9 harg9 x4 x5 x6) x0 x1 x2 (fun h e d => at3 xs0 h e d) 2 7 (by omega) (by omega) slices_S512x1024_o448_512_S64x256 _ _ _ _
    (load_apply arg3 harg3 x0 448 512 _) (load_apply arg4 harg4 x1 448 512 _) (load_apply arg5 harg5 x2 448 1024 _)
    (stB_30 c arg4 harg4 arg5 harg5 arg7 harg7 arg8 harg8 arg9 harg9 arg12 harg12 x1 x2 x4 x5 x6 xs0) _ x

/-- Chunk 7 of head 1 is stored. -/
theorem ocB_29 (x : S64x512.Idx) :
    pieceO ![448, 256] slices_S512x1024_o448_256_S64x256 (blB c arg7 harg7 arg8 harg8 arg9 harg9 x4 x5 x6) (View.readAt (Elt Ideal) arg3.view (Rect.unit (s := S512x1024) ![448, 256] S64x256.size inb_S512x1024_S64x256_448_256).toLoadRect (harg3.unread x0)) (View.readAt (Elt Ideal) arg4.view (Rect.unit (s := S512x1024) ![448, 256] S64x256.size inb_S512x1024_S64x256_448_256).toLoadRect (harg4.unread x1))
      (View.readAt (Elt Ideal) arg5.view (Rect.unit (s := S512x2048) ![448, 512] S64x512.size inb_S512x2048_S64x512_448_512).toLoadRect (harg5.unread x2)) (kernelRun0_B.sl.v1239 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![448, 512] S64x512.size inb_S512x2048_S64x512_448_512).emb x) :=
  outStep (blB c arg7 harg7 arg8 harg8 arg9 harg9 x4 x5 x6) x0 x1 x2 (fun h e d => at3 xs0 h e d) 1 7 (by omega) (by omega) slices_S512x1024_o448_256_S64x256 _ _ _ _
    (load_apply arg3 harg3 x0 448 256 _) (load_apply arg4 harg4 x1 448 256 _) (load_apply arg5 harg5 x2 448 512 _)
    (stB_29 c arg4 harg4 arg5 harg5 arg7 harg7 arg8 harg8 arg9 harg9 arg12 harg12 x1 x2 x4 x5 x6 xs0) _ x

/-- Chunk 7 of head 0 is stored. -/
theorem ocB_28 (x : S64x512.Idx) :
    pieceO ![448, 0] slices_S512x1024_o448_0_S64x256 (blB c arg7 harg7 arg8 harg8 arg9 harg9 x4 x5 x6) (View.readAt (Elt Ideal) arg3.view (Rect.unit (s := S512x1024) ![448, 0] S64x256.size inb_S512x1024_S64x256_448_0).toLoadRect (harg3.unread x0)) (View.readAt (Elt Ideal) arg4.view (Rect.unit (s := S512x1024) ![448, 0] S64x256.size inb_S512x1024_S64x256_448_0).toLoadRect (harg4.unread x1))
      (View.readAt (Elt Ideal) arg5.view (Rect.unit (s := S512x2048) ![448, 0] S64x512.size inb_S512x2048_S64x512_448_0).toLoadRect (harg5.unread x2)) (kernelRun0_B.sl.v1200 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![448, 0] S64x512.size inb_S512x2048_S64x512_448_0).emb x) :=
  outStep (blB c arg7 harg7 arg8 harg8 arg9 harg9 x4 x5 x6) x0 x1 x2 (fun h e d => at3 xs0 h e d) 0 7 (by omega) (by omega) slices_S512x1024_o448_0_S64x256 _ _ _ _
    (load_apply arg3 harg3 x0 448 0 _) (load_apply arg4 harg4 x1 448 0 _) (load_apply arg5 harg5 x2 448 0 _)
    (stB_28 c arg4 harg4 arg5 harg5 arg7 harg7 arg8 harg8 arg9 harg9 arg12 harg12 x1 x2 x4 x5 x6 xs0) _ x

/-- Chunk 6 of head 3 is stored. -/
theorem ocB_27 (x : S64x512.Idx) :
    pieceO ![384, 768] slices_S512x1024_o384_768_S64x256 (blB c arg7 harg7 arg8 harg8 arg9 harg9 x4 x5 x6) (View.readAt (Elt Ideal) arg3.view (Rect.unit (s := S512x1024) ![384, 768] S64x256.size inb_S512x1024_S64x256_384_768).toLoadRect (harg3.unread x0)) (View.readAt (Elt Ideal) arg4.view (Rect.unit (s := S512x1024) ![384, 768] S64x256.size inb_S512x1024_S64x256_384_768).toLoadRect (harg4.unread x1))
      (View.readAt (Elt Ideal) arg5.view (Rect.unit (s := S512x2048) ![384, 1536] S64x512.size inb_S512x2048_S64x512_384_1536).toLoadRect (harg5.unread x2)) (kernelRun0_B.sl.v1161 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![384, 1536] S64x512.size inb_S512x2048_S64x512_384_1536).emb x) :=
  outStep (blB c arg7 harg7 arg8 harg8 arg9 harg9 x4 x5 x6) x0 x1 x2 (fun h e d => at3 xs0 h e d) 3 6 (by omega) (by omega) slices_S512x1024_o384_768_S64x256 _ _ _ _
    (load_apply arg3 harg3 x0 384 768 _) (load_apply arg4 harg4 x1 384 768 _) (load_apply arg5 harg5 x2 384 1536 _)
    (stB_27 c arg4 harg4 arg5 harg5 arg7 harg7 arg8 harg8 arg9 harg9 arg12 harg12 x1 x2 x4 x5 x6 xs0) _ x

/-- Chunk 6 of head 2 is stored. -/
theorem ocB_26 (x : S64x512.Idx) :
    pieceO ![384, 512] slices_S512x1024_o384_512_S64x256 (blB c arg7 harg7 arg8 harg8 arg9 harg9 x4 x5 x6) (View.readAt (Elt Ideal) arg3.view (Rect.unit (s := S512x1024) ![384, 512] S64x256.size inb_S512x1024_S64x256_384_512).toLoadRect (harg3.unread x0)) (View.readAt (Elt Ideal) arg4.view (Rect.unit (s := S512x1024) ![384, 512] S64x256.size inb_S512x1024_S64x256_384_512).toLoadRect (harg4.unread x1))
      (View.readAt (Elt Ideal) arg5.view (Rect.unit (s := S512x2048) ![384, 1024] S64x512.size inb_S512x2048_S64x512_384_1024).toLoadRect (harg5.unread x2)) (kernelRun0_B.sl.v1122 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![384, 1024] S64x512.size inb_S512x2048_S64x512_384_1024).emb x) :=
  outStep (blB c arg7 harg7 arg8 harg8 arg9 harg9 x4 x5 x6) x0 x1 x2 (fun h e d => at3 xs0 h e d) 2 6 (by omega) (by omega) slices_S512x1024_o384_512_S64x256 _ _ _ _
    (load_apply arg3 harg3 x0 384 512 _) (load_apply arg4 harg4 x1 384 512 _) (load_apply arg5 harg5 x2 384 1024 _)
    (stB_26 c arg4 harg4 arg5 harg5 arg7 harg7 arg8 harg8 arg9 harg9 arg12 harg12 x1 x2 x4 x5 x6 xs0) _ x

/-- Chunk 6 of head 1 is stored. -/
theorem ocB_25 (x : S64x512.Idx) :
    pieceO ![384, 256] slices_S512x1024_o384_256_S64x256 (blB c arg7 harg7 arg8 harg8 arg9 harg9 x4 x5 x6) (View.readAt (Elt Ideal) arg3.view (Rect.unit (s := S512x1024) ![384, 256] S64x256.size inb_S512x1024_S64x256_384_256).toLoadRect (harg3.unread x0)) (View.readAt (Elt Ideal) arg4.view (Rect.unit (s := S512x1024) ![384, 256] S64x256.size inb_S512x1024_S64x256_384_256).toLoadRect (harg4.unread x1))
      (View.readAt (Elt Ideal) arg5.view (Rect.unit (s := S512x2048) ![384, 512] S64x512.size inb_S512x2048_S64x512_384_512).toLoadRect (harg5.unread x2)) (kernelRun0_B.sl.v1083 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![384, 512] S64x512.size inb_S512x2048_S64x512_384_512).emb x) :=
  outStep (blB c arg7 harg7 arg8 harg8 arg9 harg9 x4 x5 x6) x0 x1 x2 (fun h e d => at3 xs0 h e d) 1 6 (by omega) (by omega) slices_S512x1024_o384_256_S64x256 _ _ _ _
    (load_apply arg3 harg3 x0 384 256 _) (load_apply arg4 harg4 x1 384 256 _) (load_apply arg5 harg5 x2 384 512 _)
    (stB_25 c arg4 harg4 arg5 harg5 arg7 harg7 arg8 harg8 arg9 harg9 arg12 harg12 x1 x2 x4 x5 x6 xs0) _ x

/-- Chunk 6 of head 0 is stored. -/
theorem ocB_24 (x : S64x512.Idx) :
    pieceO ![384, 0] slices_S512x1024_o384_0_S64x256 (blB c arg7 harg7 arg8 harg8 arg9 harg9 x4 x5 x6) (View.readAt (Elt Ideal) arg3.view (Rect.unit (s := S512x1024) ![384, 0] S64x256.size inb_S512x1024_S64x256_384_0).toLoadRect (harg3.unread x0)) (View.readAt (Elt Ideal) arg4.view (Rect.unit (s := S512x1024) ![384, 0] S64x256.size inb_S512x1024_S64x256_384_0).toLoadRect (harg4.unread x1))
      (View.readAt (Elt Ideal) arg5.view (Rect.unit (s := S512x2048) ![384, 0] S64x512.size inb_S512x2048_S64x512_384_0).toLoadRect (harg5.unread x2)) (kernelRun0_B.sl.v1044 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![384, 0] S64x512.size inb_S512x2048_S64x512_384_0).emb x) :=
  outStep (blB c arg7 harg7 arg8 harg8 arg9 harg9 x4 x5 x6) x0 x1 x2 (fun h e d => at3 xs0 h e d) 0 6 (by omega) (by omega) slices_S512x1024_o384_0_S64x256 _ _ _ _
    (load_apply arg3 harg3 x0 384 0 _) (load_apply arg4 harg4 x1 384 0 _) (load_apply arg5 harg5 x2 384 0 _)
    (stB_24 c arg4 harg4 arg5 harg5 arg7 harg7 arg8 harg8 arg9 harg9 arg12 harg12 x1 x2 x4 x5 x6 xs0) _ x

/-- Chunk 5 of head 3 is stored. -/
theorem ocB_23 (x : S64x512.Idx) :
    pieceO ![320, 768] slices_S512x1024_o320_768_S64x256 (blB c arg7 harg7 arg8 harg8 arg9 harg9 x4 x5 x6) (View.readAt (Elt Ideal) arg3.view (Rect.unit (s := S512x1024) ![320, 768] S64x256.size inb_S512x1024_S64x256_320_768).toLoadRect (harg3.unread x0)) (View.readAt (Elt Ideal) arg4.view (Rect.unit (s := S512x1024) ![320, 768] S64x256.size inb_S512x1024_S64x256_320_768).toLoadRect (harg4.unread x1))
      (View.readAt (Elt Ideal) arg5.view (Rect.unit (s := S512x2048) ![320, 1536] S64x512.size inb_S512x2048_S64x512_320_1536).toLoadRect (harg5.unread x2)) (kernelRun0_B.sl.v1005 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![320, 1536] S64x512.size inb_S512x2048_S64x512_320_1536).emb x) :=
  outStep (blB c arg7 harg7 arg8 harg8 arg9 harg9 x4 x5 x6) x0 x1 x2 (fun h e d => at3 xs0 h e d) 3 5 (by omega) (by omega) slices_S512x1024_o320_768_S64x256 _ _ _ _
    (load_apply arg3 harg3 x0 320 768 _) (load_apply arg4 harg4 x1 320 768 _) (load_apply arg5 harg5 x2 320 1536 _)
    (stB_23 c arg4 harg4 arg5 harg5 arg7 harg7 arg8 harg8 arg9 harg9 arg12 harg12 x1 x2 x4 x5 x6 xs0) _ x

/-- Chunk 5 of head 2 is stored. -/
theorem ocB_22 (x : S64x512.Idx) :
    pieceO ![320, 512] slices_S512x1024_o320_512_S64x256 (blB c arg7 harg7 arg8 harg8 arg9 harg9 x4 x5 x6) (View.readAt (Elt Ideal) arg3.view (Rect.unit (s := S512x1024) ![320, 512] S64x256.size inb_S512x1024_S64x256_320_512).toLoadRect (harg3.unread x0)) (View.readAt (Elt Ideal) arg4.view (Rect.unit (s := S512x1024) ![320, 512] S64x256.size inb_S512x1024_S64x256_320_512).toLoadRect (harg4.unread x1))
      (View.readAt (Elt Ideal) arg5.view (Rect.unit (s := S512x2048) ![320, 1024] S64x512.size inb_S512x2048_S64x512_320_1024).toLoadRect (harg5.unread x2)) (kernelRun0_B.sl.v966 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![320, 1024] S64x512.size inb_S512x2048_S64x512_320_1024).emb x) :=
  outStep (blB c arg7 harg7 arg8 harg8 arg9 harg9 x4 x5 x6) x0 x1 x2 (fun h e d => at3 xs0 h e d) 2 5 (by omega) (by omega) slices_S512x1024_o320_512_S64x256 _ _ _ _
    (load_apply arg3 harg3 x0 320 512 _) (load_apply arg4 harg4 x1 320 512 _) (load_apply arg5 harg5 x2 320 1024 _)
    (stB_22 c arg4 harg4 arg5 harg5 arg7 harg7 arg8 harg8 arg9 harg9 arg12 harg12 x1 x2 x4 x5 x6 xs0) _ x

/-- Chunk 5 of head 1 is stored. -/
theorem ocB_21 (x : S64x512.Idx) :
    pieceO ![320, 256] slices_S512x1024_o320_256_S64x256 (blB c arg7 harg7 arg8 harg8 arg9 harg9 x4 x5 x6) (View.readAt (Elt Ideal) arg3.view (Rect.unit (s := S512x1024) ![320, 256] S64x256.size inb_S512x1024_S64x256_320_256).toLoadRect (harg3.unread x0)) (View.readAt (Elt Ideal) arg4.view (Rect.unit (s := S512x1024) ![320, 256] S64x256.size inb_S512x1024_S64x256_320_256).toLoadRect (harg4.unread x1))
      (View.readAt (Elt Ideal) arg5.view (Rect.unit (s := S512x2048) ![320, 512] S64x512.size inb_S512x2048_S64x512_320_512).toLoadRect (harg5.unread x2)) (kernelRun0_B.sl.v927 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![320, 512] S64x512.size inb_S512x2048_S64x512_320_512).emb x) :=
  outStep (blB c arg7 harg7 arg8 harg8 arg9 harg9 x4 x5 x6) x0 x1 x2 (fun h e d => at3 xs0 h e d) 1 5 (by omega) (by omega) slices_S512x1024_o320_256_S64x256 _ _ _ _
    (load_apply arg3 harg3 x0 320 256 _) (load_apply arg4 harg4 x1 320 256 _) (load_apply arg5 harg5 x2 320 512 _)
    (stB_21 c arg4 harg4 arg5 harg5 arg7 harg7 arg8 harg8 arg9 harg9 arg12 harg12 x1 x2 x4 x5 x6 xs0) _ x

/-- Chunk 5 of head 0 is stored. -/
theorem ocB_20 (x : S64x512.Idx) :
    pieceO ![320, 0] slices_S512x1024_o320_0_S64x256 (blB c arg7 harg7 arg8 harg8 arg9 harg9 x4 x5 x6) (View.readAt (Elt Ideal) arg3.view (Rect.unit (s := S512x1024) ![320, 0] S64x256.size inb_S512x1024_S64x256_320_0).toLoadRect (harg3.unread x0)) (View.readAt (Elt Ideal) arg4.view (Rect.unit (s := S512x1024) ![320, 0] S64x256.size inb_S512x1024_S64x256_320_0).toLoadRect (harg4.unread x1))
      (View.readAt (Elt Ideal) arg5.view (Rect.unit (s := S512x2048) ![320, 0] S64x512.size inb_S512x2048_S64x512_320_0).toLoadRect (harg5.unread x2)) (kernelRun0_B.sl.v888 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![320, 0] S64x512.size inb_S512x2048_S64x512_320_0).emb x) :=
  outStep (blB c arg7 harg7 arg8 harg8 arg9 harg9 x4 x5 x6) x0 x1 x2 (fun h e d => at3 xs0 h e d) 0 5 (by omega) (by omega) slices_S512x1024_o320_0_S64x256 _ _ _ _
    (load_apply arg3 harg3 x0 320 0 _) (load_apply arg4 harg4 x1 320 0 _) (load_apply arg5 harg5 x2 320 0 _)
    (stB_20 c arg4 harg4 arg5 harg5 arg7 harg7 arg8 harg8 arg9 harg9 arg12 harg12 x1 x2 x4 x5 x6 xs0) _ x

/-- Chunk 4 of head 3 is stored. -/
theorem ocB_19 (x : S64x512.Idx) :
    pieceO ![256, 768] slices_S512x1024_o256_768_S64x256 (blB c arg7 harg7 arg8 harg8 arg9 harg9 x4 x5 x6) (View.readAt (Elt Ideal) arg3.view (Rect.unit (s := S512x1024) ![256, 768] S64x256.size inb_S512x1024_S64x256_256_768).toLoadRect (harg3.unread x0)) (View.readAt (Elt Ideal) arg4.view (Rect.unit (s := S512x1024) ![256, 768] S64x256.size inb_S512x1024_S64x256_256_768).toLoadRect (harg4.unread x1))
      (View.readAt (Elt Ideal) arg5.view (Rect.unit (s := S512x2048) ![256, 1536] S64x512.size inb_S512x2048_S64x512_256_1536).toLoadRect (harg5.unread x2)) (kernelRun0_B.sl.v849 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![256, 1536] S64x512.size inb_S512x2048_S64x512_256_1536).emb x) :=
  outStep (blB c arg7 harg7 arg8 harg8 arg9 harg9 x4 x5 x6) x0 x1 x2 (fun h e d => at3 xs0 h e d) 3 4 (by omega) (by omega) slices_S512x1024_o256_768_S64x256 _ _ _ _
    (load_apply arg3 harg3 x0 256 768 _) (load_apply arg4 harg4 x1 256 768 _) (load_apply arg5 harg5 x2 256 1536 _)
    (stB_19 c arg4 harg4 arg5 harg5 arg7 harg7 arg8 harg8 arg9 harg9 arg12 harg12 x1 x2 x4 x5 x6 xs0) _ x

/-- Chunk 4 of head 2 is stored. -/
theorem ocB_18 (x : S64x512.Idx) :
    pieceO ![256, 512] slices_S512x1024_o256_512_S64x256 (blB c arg7 harg7 arg8 harg8 arg9 harg9 x4 x5 x6) (View.readAt (Elt Ideal) arg3.view (Rect.unit (s := S512x1024) ![256, 512] S64x256.size inb_S512x1024_S64x256_256_512).toLoadRect (harg3.unread x0)) (View.readAt (Elt Ideal) arg4.view (Rect.unit (s := S512x1024) ![256, 512] S64x256.size inb_S512x1024_S64x256_256_512).toLoadRect (harg4.unread x1))
      (View.readAt (Elt Ideal) arg5.view (Rect.unit (s := S512x2048) ![256, 1024] S64x512.size inb_S512x2048_S64x512_256_1024).toLoadRect (harg5.unread x2)) (kernelRun0_B.sl.v810 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![256, 1024] S64x512.size inb_S512x2048_S64x512_256_1024).emb x) :=
  outStep (blB c arg7 harg7 arg8 harg8 arg9 harg9 x4 x5 x6) x0 x1 x2 (fun h e d => at3 xs0 h e d) 2 4 (by omega) (by omega) slices_S512x1024_o256_512_S64x256 _ _ _ _
    (load_apply arg3 harg3 x0 256 512 _) (load_apply arg4 harg4 x1 256 512 _) (load_apply arg5 harg5 x2 256 1024 _)
    (stB_18 c arg4 harg4 arg5 harg5 arg7 harg7 arg8 harg8 arg9 harg9 arg12 harg12 x1 x2 x4 x5 x6 xs0) _ x

/-- Chunk 4 of head 1 is stored. -/
theorem ocB_17 (x : S64x512.Idx) :
    pieceO ![256, 256] slices_S512x1024_o256_256_S64x256 (blB c arg7 harg7 arg8 harg8 arg9 harg9 x4 x5 x6) (View.readAt (Elt Ideal) arg3.view (Rect.unit (s := S512x1024) ![256, 256] S64x256.size inb_S512x1024_S64x256_256_256).toLoadRect (harg3.unread x0)) (View.readAt (Elt Ideal) arg4.view (Rect.unit (s := S512x1024) ![256, 256] S64x256.size inb_S512x1024_S64x256_256_256).toLoadRect (harg4.unread x1))
      (View.readAt (Elt Ideal) arg5.view (Rect.unit (s := S512x2048) ![256, 512] S64x512.size inb_S512x2048_S64x512_256_512).toLoadRect (harg5.unread x2)) (kernelRun0_B.sl.v771 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![256, 512] S64x512.size inb_S512x2048_S64x512_256_512).emb x) :=
  outStep (blB c arg7 harg7 arg8 harg8 arg9 harg9 x4 x5 x6) x0 x1 x2 (fun h e d => at3 xs0 h e d) 1 4 (by omega) (by omega) slices_S512x1024_o256_256_S64x256 _ _ _ _
    (load_apply arg3 harg3 x0 256 256 _) (load_apply arg4 harg4 x1 256 256 _) (load_apply arg5 harg5 x2 256 512 _)
    (stB_17 c arg4 harg4 arg5 harg5 arg7 harg7 arg8 harg8 arg9 harg9 arg12 harg12 x1 x2 x4 x5 x6 xs0) _ x

/-- Chunk 4 of head 0 is stored. -/
theorem ocB_16 (x : S64x512.Idx) :
    pieceO ![256, 0] slices_S512x1024_o256_0_S64x256 (blB c arg7 harg7 arg8 harg8 arg9 harg9 x4 x5 x6) (View.readAt (Elt Ideal) arg3.view (Rect.unit (s := S512x1024) ![256, 0] S64x256.size inb_S512x1024_S64x256_256_0).toLoadRect (harg3.unread x0)) (View.readAt (Elt Ideal) arg4.view (Rect.unit (s := S512x1024) ![256, 0] S64x256.size inb_S512x1024_S64x256_256_0).toLoadRect (harg4.unread x1))
      (View.readAt (Elt Ideal) arg5.view (Rect.unit (s := S512x2048) ![256, 0] S64x512.size inb_S512x2048_S64x512_256_0).toLoadRect (harg5.unread x2)) (kernelRun0_B.sl.v732 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![256, 0] S64x512.size inb_S512x2048_S64x512_256_0).emb x) :=
  outStep (blB c arg7 harg7 arg8 harg8 arg9 harg9 x4 x5 x6) x0 x1 x2 (fun h e d => at3 xs0 h e d) 0 4 (by omega) (by omega) slices_S512x1024_o256_0_S64x256 _ _ _ _
    (load_apply arg3 harg3 x0 256 0 _) (load_apply arg4 harg4 x1 256 0 _) (load_apply arg5 harg5 x2 256 0 _)
    (stB_16 c arg4 harg4 arg5 harg5 arg7 harg7 arg8 harg8 arg9 harg9 arg12 harg12 x1 x2 x4 x5 x6 xs0) _ x

/-- Chunk 3 of head 3 is stored. -/
theorem ocB_15 (x : S64x512.Idx) :
    pieceO ![192, 768] slices_S512x1024_o192_768_S64x256 (blB c arg7 harg7 arg8 harg8 arg9 harg9 x4 x5 x6) (View.readAt (Elt Ideal) arg3.view (Rect.unit (s := S512x1024) ![192, 768] S64x256.size inb_S512x1024_S64x256_192_768).toLoadRect (harg3.unread x0)) (View.readAt (Elt Ideal) arg4.view (Rect.unit (s := S512x1024) ![192, 768] S64x256.size inb_S512x1024_S64x256_192_768).toLoadRect (harg4.unread x1))
      (View.readAt (Elt Ideal) arg5.view (Rect.unit (s := S512x2048) ![192, 1536] S64x512.size inb_S512x2048_S64x512_192_1536).toLoadRect (harg5.unread x2)) (kernelRun0_B.sl.v693 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![192, 1536] S64x512.size inb_S512x2048_S64x512_192_1536).emb x) :=
  outStep (blB c arg7 harg7 arg8 harg8 arg9 harg9 x4 x5 x6) x0 x1 x2 (fun h e d => at3 xs0 h e d) 3 3 (by omega) (by omega) slices_S512x1024_o192_768_S64x256 _ _ _ _
    (load_apply arg3 harg3 x0 192 768 _) (load_apply arg4 harg4 x1 192 768 _) (load_apply arg5 harg5 x2 192 1536 _)
    (stB_15 c arg4 harg4 arg5 harg5 arg7 harg7 arg8 harg8 arg9 harg9 arg12 harg12 x1 x2 x4 x5 x6 xs0) _ x

/-- Chunk 3 of head 2 is stored. -/
theorem ocB_14 (x : S64x512.Idx) :
    pieceO ![192, 512] slices_S512x1024_o192_512_S64x256 (blB c arg7 harg7 arg8 harg8 arg9 harg9 x4 x5 x6) (View.readAt (Elt Ideal) arg3.view (Rect.unit (s := S512x1024) ![192, 512] S64x256.size inb_S512x1024_S64x256_192_512).toLoadRect (harg3.unread x0)) (View.readAt (Elt Ideal) arg4.view (Rect.unit (s := S512x1024) ![192, 512] S64x256.size inb_S512x1024_S64x256_192_512).toLoadRect (harg4.unread x1))
      (View.readAt (Elt Ideal) arg5.view (Rect.unit (s := S512x2048) ![192, 1024] S64x512.size inb_S512x2048_S64x512_192_1024).toLoadRect (harg5.unread x2)) (kernelRun0_B.sl.v654 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![192, 1024] S64x512.size inb_S512x2048_S64x512_192_1024).emb x) :=
  outStep (blB c arg7 harg7 arg8 harg8 arg9 harg9 x4 x5 x6) x0 x1 x2 (fun h e d => at3 xs0 h e d) 2 3 (by omega) (by omega) slices_S512x1024_o192_512_S64x256 _ _ _ _
    (load_apply arg3 harg3 x0 192 512 _) (load_apply arg4 harg4 x1 192 512 _) (load_apply arg5 harg5 x2 192 1024 _)
    (stB_14 c arg4 harg4 arg5 harg5 arg7 harg7 arg8 harg8 arg9 harg9 arg12 harg12 x1 x2 x4 x5 x6 xs0) _ x

/-- Chunk 3 of head 1 is stored. -/
theorem ocB_13 (x : S64x512.Idx) :
    pieceO ![192, 256] slices_S512x1024_o192_256_S64x256 (blB c arg7 harg7 arg8 harg8 arg9 harg9 x4 x5 x6) (View.readAt (Elt Ideal) arg3.view (Rect.unit (s := S512x1024) ![192, 256] S64x256.size inb_S512x1024_S64x256_192_256).toLoadRect (harg3.unread x0)) (View.readAt (Elt Ideal) arg4.view (Rect.unit (s := S512x1024) ![192, 256] S64x256.size inb_S512x1024_S64x256_192_256).toLoadRect (harg4.unread x1))
      (View.readAt (Elt Ideal) arg5.view (Rect.unit (s := S512x2048) ![192, 512] S64x512.size inb_S512x2048_S64x512_192_512).toLoadRect (harg5.unread x2)) (kernelRun0_B.sl.v615 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![192, 512] S64x512.size inb_S512x2048_S64x512_192_512).emb x) :=
  outStep (blB c arg7 harg7 arg8 harg8 arg9 harg9 x4 x5 x6) x0 x1 x2 (fun h e d => at3 xs0 h e d) 1 3 (by omega) (by omega) slices_S512x1024_o192_256_S64x256 _ _ _ _
    (load_apply arg3 harg3 x0 192 256 _) (load_apply arg4 harg4 x1 192 256 _) (load_apply arg5 harg5 x2 192 512 _)
    (stB_13 c arg4 harg4 arg5 harg5 arg7 harg7 arg8 harg8 arg9 harg9 arg12 harg12 x1 x2 x4 x5 x6 xs0) _ x

/-- Chunk 3 of head 0 is stored. -/
theorem ocB_12 (x : S64x512.Idx) :
    pieceO ![192, 0] slices_S512x1024_o192_0_S64x256 (blB c arg7 harg7 arg8 harg8 arg9 harg9 x4 x5 x6) (View.readAt (Elt Ideal) arg3.view (Rect.unit (s := S512x1024) ![192, 0] S64x256.size inb_S512x1024_S64x256_192_0).toLoadRect (harg3.unread x0)) (View.readAt (Elt Ideal) arg4.view (Rect.unit (s := S512x1024) ![192, 0] S64x256.size inb_S512x1024_S64x256_192_0).toLoadRect (harg4.unread x1))
      (View.readAt (Elt Ideal) arg5.view (Rect.unit (s := S512x2048) ![192, 0] S64x512.size inb_S512x2048_S64x512_192_0).toLoadRect (harg5.unread x2)) (kernelRun0_B.sl.v576 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![192, 0] S64x512.size inb_S512x2048_S64x512_192_0).emb x) :=
  outStep (blB c arg7 harg7 arg8 harg8 arg9 harg9 x4 x5 x6) x0 x1 x2 (fun h e d => at3 xs0 h e d) 0 3 (by omega) (by omega) slices_S512x1024_o192_0_S64x256 _ _ _ _
    (load_apply arg3 harg3 x0 192 0 _) (load_apply arg4 harg4 x1 192 0 _) (load_apply arg5 harg5 x2 192 0 _)
    (stB_12 c arg4 harg4 arg5 harg5 arg7 harg7 arg8 harg8 arg9 harg9 arg12 harg12 x1 x2 x4 x5 x6 xs0) _ x

/-- Chunk 2 of head 3 is stored. -/
theorem ocB_11 (x : S64x512.Idx) :
    pieceO ![128, 768] slices_S512x1024_o128_768_S64x256 (blB c arg7 harg7 arg8 harg8 arg9 harg9 x4 x5 x6) (View.readAt (Elt Ideal) arg3.view (Rect.unit (s := S512x1024) ![128, 768] S64x256.size inb_S512x1024_S64x256_128_768).toLoadRect (harg3.unread x0)) (View.readAt (Elt Ideal) arg4.view (Rect.unit (s := S512x1024) ![128, 768] S64x256.size inb_S512x1024_S64x256_128_768).toLoadRect (harg4.unread x1))
      (View.readAt (Elt Ideal) arg5.view (Rect.unit (s := S512x2048) ![128, 1536] S64x512.size inb_S512x2048_S64x512_128_1536).toLoadRect (harg5.unread x2)) (kernelRun0_B.sl.v537 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![128, 1536] S64x512.size inb_S512x2048_S64x512_128_1536).emb x) :=
  outStep (blB c arg7 harg7 arg8 harg8 arg9 harg9 x4 x5 x6) x0 x1 x2 (fun h e d => at3 xs0 h e d) 3 2 (by omega) (by omega) slices_S512x1024_o128_768_S64x256 _ _ _ _
    (load_apply arg3 harg3 x0 128 768 _) (load_apply arg4 harg4 x1 128 768 _) (load_apply arg5 harg5 x2 128 1536 _)
    (stB_11 c arg4 harg4 arg5 harg5 arg7 harg7 arg8 harg8 arg9 harg9 arg12 harg12 x1 x2 x4 x5 x6 xs0) _ x

/-- Chunk 2 of head 2 is stored. -/
theorem ocB_10 (x : S64x512.Idx) :
    pieceO ![128, 512] slices_S512x1024_o128_512_S64x256 (blB c arg7 harg7 arg8 harg8 arg9 harg9 x4 x5 x6) (View.readAt (Elt Ideal) arg3.view (Rect.unit (s := S512x1024) ![128, 512] S64x256.size inb_S512x1024_S64x256_128_512).toLoadRect (harg3.unread x0)) (View.readAt (Elt Ideal) arg4.view (Rect.unit (s := S512x1024) ![128, 512] S64x256.size inb_S512x1024_S64x256_128_512).toLoadRect (harg4.unread x1))
      (View.readAt (Elt Ideal) arg5.view (Rect.unit (s := S512x2048) ![128, 1024] S64x512.size inb_S512x2048_S64x512_128_1024).toLoadRect (harg5.unread x2)) (kernelRun0_B.sl.v498 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![128, 1024] S64x512.size inb_S512x2048_S64x512_128_1024).emb x) :=
  outStep (blB c arg7 harg7 arg8 harg8 arg9 harg9 x4 x5 x6) x0 x1 x2 (fun h e d => at3 xs0 h e d) 2 2 (by omega) (by omega) slices_S512x1024_o128_512_S64x256 _ _ _ _
    (load_apply arg3 harg3 x0 128 512 _) (load_apply arg4 harg4 x1 128 512 _) (load_apply arg5 harg5 x2 128 1024 _)
    (stB_10 c arg4 harg4 arg5 harg5 arg7 harg7 arg8 harg8 arg9 harg9 arg12 harg12 x1 x2 x4 x5 x6 xs0) _ x

/-- Chunk 2 of head 1 is stored. -/
theorem ocB_9 (x : S64x512.Idx) :
    pieceO ![128, 256] slices_S512x1024_o128_256_S64x256 (blB c arg7 harg7 arg8 harg8 arg9 harg9 x4 x5 x6) (View.readAt (Elt Ideal) arg3.view (Rect.unit (s := S512x1024) ![128, 256] S64x256.size inb_S512x1024_S64x256_128_256).toLoadRect (harg3.unread x0)) (View.readAt (Elt Ideal) arg4.view (Rect.unit (s := S512x1024) ![128, 256] S64x256.size inb_S512x1024_S64x256_128_256).toLoadRect (harg4.unread x1))
      (View.readAt (Elt Ideal) arg5.view (Rect.unit (s := S512x2048) ![128, 512] S64x512.size inb_S512x2048_S64x512_128_512).toLoadRect (harg5.unread x2)) (kernelRun0_B.sl.v459 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![128, 512] S64x512.size inb_S512x2048_S64x512_128_512).emb x) :=
  outStep (blB c arg7 harg7 arg8 harg8 arg9 harg9 x4 x5 x6) x0 x1 x2 (fun h e d => at3 xs0 h e d) 1 2 (by omega) (by omega) slices_S512x1024_o128_256_S64x256 _ _ _ _
    (load_apply arg3 harg3 x0 128 256 _) (load_apply arg4 harg4 x1 128 256 _) (load_apply arg5 harg5 x2 128 512 _)
    (stB_9 c arg4 harg4 arg5 harg5 arg7 harg7 arg8 harg8 arg9 harg9 arg12 harg12 x1 x2 x4 x5 x6 xs0) _ x

/-- Chunk 2 of head 0 is stored. -/
theorem ocB_8 (x : S64x512.Idx) :
    pieceO ![128, 0] slices_S512x1024_o128_0_S64x256 (blB c arg7 harg7 arg8 harg8 arg9 harg9 x4 x5 x6) (View.readAt (Elt Ideal) arg3.view (Rect.unit (s := S512x1024) ![128, 0] S64x256.size inb_S512x1024_S64x256_128_0).toLoadRect (harg3.unread x0)) (View.readAt (Elt Ideal) arg4.view (Rect.unit (s := S512x1024) ![128, 0] S64x256.size inb_S512x1024_S64x256_128_0).toLoadRect (harg4.unread x1))
      (View.readAt (Elt Ideal) arg5.view (Rect.unit (s := S512x2048) ![128, 0] S64x512.size inb_S512x2048_S64x512_128_0).toLoadRect (harg5.unread x2)) (kernelRun0_B.sl.v420 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![128, 0] S64x512.size inb_S512x2048_S64x512_128_0).emb x) :=
  outStep (blB c arg7 harg7 arg8 harg8 arg9 harg9 x4 x5 x6) x0 x1 x2 (fun h e d => at3 xs0 h e d) 0 2 (by omega) (by omega) slices_S512x1024_o128_0_S64x256 _ _ _ _
    (load_apply arg3 harg3 x0 128 0 _) (load_apply arg4 harg4 x1 128 0 _) (load_apply arg5 harg5 x2 128 0 _)
    (stB_8 c arg4 harg4 arg5 harg5 arg7 harg7 arg8 harg8 arg9 harg9 arg12 harg12 x1 x2 x4 x5 x6 xs0) _ x

/-- Chunk 1 of head 3 is stored. -/
theorem ocB_7 (x : S64x512.Idx) :
    pieceO ![64, 768] slices_S512x1024_o64_768_S64x256 (blB c arg7 harg7 arg8 harg8 arg9 harg9 x4 x5 x6) (View.readAt (Elt Ideal) arg3.view (Rect.unit (s := S512x1024) ![64, 768] S64x256.size inb_S512x1024_S64x256_64_768).toLoadRect (harg3.unread x0)) (View.readAt (Elt Ideal) arg4.view (Rect.unit (s := S512x1024) ![64, 768] S64x256.size inb_S512x1024_S64x256_64_768).toLoadRect (harg4.unread x1))
      (View.readAt (Elt Ideal) arg5.view (Rect.unit (s := S512x2048) ![64, 1536] S64x512.size inb_S512x2048_S64x512_64_1536).toLoadRect (harg5.unread x2)) (kernelRun0_B.sl.v381 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![64, 1536] S64x512.size inb_S512x2048_S64x512_64_1536).emb x) :=
  outStep (blB c arg7 harg7 arg8 harg8 arg9 harg9 x4 x5 x6) x0 x1 x2 (fun h e d => at3 xs0 h e d) 3 1 (by omega) (by omega) slices_S512x1024_o64_768_S64x256 _ _ _ _
    (load_apply arg3 harg3 x0 64 768 _) (load_apply arg4 harg4 x1 64 768 _) (load_apply arg5 harg5 x2 64 1536 _)
    (stB_7 c arg4 harg4 arg5 harg5 arg7 harg7 arg8 harg8 arg9 harg9 arg12 harg12 x1 x2 x4 x5 x6 xs0) _ x

/-- Chunk 1 of head 2 is stored. -/
theorem ocB_6 (x : S64x512.Idx) :
    pieceO ![64, 512] slices_S512x1024_o64_512_S64x256 (blB c arg7 harg7 arg8 harg8 arg9 harg9 x4 x5 x6) (View.readAt (Elt Ideal) arg3.view (Rect.unit (s := S512x1024) ![64, 512] S64x256.size inb_S512x1024_S64x256_64_512).toLoadRect (harg3.unread x0)) (View.readAt (Elt Ideal) arg4.view (Rect.unit (s := S512x1024) ![64, 512] S64x256.size inb_S512x1024_S64x256_64_512).toLoadRect (harg4.unread x1))
      (View.readAt (Elt Ideal) arg5.view (Rect.unit (s := S512x2048) ![64, 1024] S64x512.size inb_S512x2048_S64x512_64_1024).toLoadRect (harg5.unread x2)) (kernelRun0_B.sl.v342 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![64, 1024] S64x512.size inb_S512x2048_S64x512_64_1024).emb x) :=
  outStep (blB c arg7 harg7 arg8 harg8 arg9 harg9 x4 x5 x6) x0 x1 x2 (fun h e d => at3 xs0 h e d) 2 1 (by omega) (by omega) slices_S512x1024_o64_512_S64x256 _ _ _ _
    (load_apply arg3 harg3 x0 64 512 _) (load_apply arg4 harg4 x1 64 512 _) (load_apply arg5 harg5 x2 64 1024 _)
    (stB_6 c arg4 harg4 arg5 harg5 arg7 harg7 arg8 harg8 arg9 harg9 arg12 harg12 x1 x2 x4 x5 x6 xs0) _ x

/-- Chunk 1 of head 1 is stored. -/
theorem ocB_5 (x : S64x512.Idx) :
    pieceO ![64, 256] slices_S512x1024_o64_256_S64x256 (blB c arg7 harg7 arg8 harg8 arg9 harg9 x4 x5 x6) (View.readAt (Elt Ideal) arg3.view (Rect.unit (s := S512x1024) ![64, 256] S64x256.size inb_S512x1024_S64x256_64_256).toLoadRect (harg3.unread x0)) (View.readAt (Elt Ideal) arg4.view (Rect.unit (s := S512x1024) ![64, 256] S64x256.size inb_S512x1024_S64x256_64_256).toLoadRect (harg4.unread x1))
      (View.readAt (Elt Ideal) arg5.view (Rect.unit (s := S512x2048) ![64, 512] S64x512.size inb_S512x2048_S64x512_64_512).toLoadRect (harg5.unread x2)) (kernelRun0_B.sl.v303 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![64, 512] S64x512.size inb_S512x2048_S64x512_64_512).emb x) :=
  outStep (blB c arg7 harg7 arg8 harg8 arg9 harg9 x4 x5 x6) x0 x1 x2 (fun h e d => at3 xs0 h e d) 1 1 (by omega) (by omega) slices_S512x1024_o64_256_S64x256 _ _ _ _
    (load_apply arg3 harg3 x0 64 256 _) (load_apply arg4 harg4 x1 64 256 _) (load_apply arg5 harg5 x2 64 512 _)
    (stB_5 c arg4 harg4 arg5 harg5 arg7 harg7 arg8 harg8 arg9 harg9 arg12 harg12 x1 x2 x4 x5 x6 xs0) _ x

/-- Chunk 1 of head 0 is stored. -/
theorem ocB_4 (x : S64x512.Idx) :
    pieceO ![64, 0] slices_S512x1024_o64_0_S64x256 (blB c arg7 harg7 arg8 harg8 arg9 harg9 x4 x5 x6) (View.readAt (Elt Ideal) arg3.view (Rect.unit (s := S512x1024) ![64, 0] S64x256.size inb_S512x1024_S64x256_64_0).toLoadRect (harg3.unread x0)) (View.readAt (Elt Ideal) arg4.view (Rect.unit (s := S512x1024) ![64, 0] S64x256.size inb_S512x1024_S64x256_64_0).toLoadRect (harg4.unread x1))
      (View.readAt (Elt Ideal) arg5.view (Rect.unit (s := S512x2048) ![64, 0] S64x512.size inb_S512x2048_S64x512_64_0).toLoadRect (harg5.unread x2)) (kernelRun0_B.sl.v264 (F := Ideal) c arg4 harg4 arg5 harg5 arg7 harg7 arg8 harg8 arg9 harg9 arg12 harg12 x1 x2 x4 x5 x6 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![64, 0] S64x512.size inb_S512x2048_S64x512_64_0).emb x) :=
  outStep (blB c arg7 harg7 arg8 harg8 arg9 harg9 x4 x5 x6) x0 x1 x2 (fun h e d => at3 xs0 h e d) 0 1 (by omega) (by omega) slices_S512x1024_o64_0_S64x256 _ _ _ _
    (load_apply arg3 harg3 x0 64 0 _) (load_apply arg4 harg4 x1 64 0 _) (load_apply arg5 harg5 x2 64 0 _)
    (stB_4 c arg4 harg4 arg5 harg5 arg7 harg7 arg8 harg8 arg9 harg9 arg12 harg12 x1 x2 x4 x5 x6 xs0) _ x

/-- Chunk 0 of head 3 is stored. -/
theorem ocB_3 (x : S64x512.Idx) :
    pieceO ![0, 768] slices_S512x1024_o0_768_S64x256 (blB c arg7 harg7 arg8 harg8 arg9 harg9 x4 x5 x6) (View.readAt (Elt Ideal) arg3.view (Rect.unit (s := S512x1024) ![0, 768] S64x256.size inb_S512x1024_S64x256_0_768).toLoadRect (harg3.unread x0)) (View.readAt (Elt Ideal) arg4.view (Rect.unit (s := S512x1024) ![0, 768] S64x256.size inb_S512x1024_S64x256_0_768).toLoadRect (harg4.unread x1))
      (View.readAt (Elt Ideal) arg5.view (Rect.unit (s := S512x2048) ![0, 1536] S64x512.size inb_S512x2048_S64x512_0_1536).toLoadRect (harg5.unread x2)) (kernelRun0_B.sl.v225 (F := Ideal) c arg12 harg12 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![0, 1536] S64x512.size inb_S512x2048_S64x512_0_1536).emb x) :=
  outStep (blB c arg7 harg7 arg8 harg8 arg9 harg9 x4 x5 x6) x0 x1 x2 (fun h e d => at3 xs0 h e d) 3 0 (by omega) (by omega) slices_S512x1024_o0_768_S64x256 _ _ _ _
    (load_apply arg3 harg3 x0 0 768 _) (load_apply arg4 harg4 x1 0 768 _) (load_apply arg5 harg5 x2 0 1536 _)
    (stB_3 c arg4 harg4 arg5 harg5 arg7 harg7 arg8 harg8 arg9 harg9 arg12 harg12 x1 x2 x4 x5 x6 xs0) _ x

/-- Chunk 0 of head 2 is stored. -/
theorem ocB_2 (x : S64x512.Idx) :
    pieceO ![0, 512] slices_S512x1024_o0_512_S64x256 (blB c arg7 harg7 arg8 harg8 arg9 harg9 x4 x5 x6) (View.readAt (Elt Ideal) arg3.view (Rect.unit (s := S512x1024) ![0, 512] S64x256.size inb_S512x1024_S64x256_0_512).toLoadRect (harg3.unread x0)) (View.readAt (Elt Ideal) arg4.view (Rect.unit (s := S512x1024) ![0, 512] S64x256.size inb_S512x1024_S64x256_0_512).toLoadRect (harg4.unread x1))
      (View.readAt (Elt Ideal) arg5.view (Rect.unit (s := S512x2048) ![0, 1024] S64x512.size inb_S512x2048_S64x512_0_1024).toLoadRect (harg5.unread x2)) (kernelRun0_B.sl.v186 (F := Ideal) c arg12 harg12 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![0, 1024] S64x512.size inb_S512x2048_S64x512_0_1024).emb x) :=
  outStep (blB c arg7 harg7 arg8 harg8 arg9 harg9 x4 x5 x6) x0 x1 x2 (fun h e d => at3 xs0 h e d) 2 0 (by omega) (by omega) slices_S512x1024_o0_512_S64x256 _ _ _ _
    (load_apply arg3 harg3 x0 0 512 _) (load_apply arg4 harg4 x1 0 512 _) (load_apply arg5 harg5 x2 0 1024 _)
    (stB_2 c arg4 harg4 arg5 harg5 arg7 harg7 arg8 harg8 arg9 harg9 arg12 harg12 x1 x2 x4 x5 x6 xs0) _ x

/-- Chunk 0 of head 1 is stored. -/
theorem ocB_1 (x : S64x512.Idx) :
    pieceO ![0, 256] slices_S512x1024_o0_256_S64x256 (blB c arg7 harg7 arg8 harg8 arg9 harg9 x4 x5 x6) (View.readAt (Elt Ideal) arg3.view (Rect.unit (s := S512x1024) ![0, 256] S64x256.size inb_S512x1024_S64x256_0_256).toLoadRect (harg3.unread x0)) (View.readAt (Elt Ideal) arg4.view (Rect.unit (s := S512x1024) ![0, 256] S64x256.size inb_S512x1024_S64x256_0_256).toLoadRect (harg4.unread x1))
      (View.readAt (Elt Ideal) arg5.view (Rect.unit (s := S512x2048) ![0, 512] S64x512.size inb_S512x2048_S64x512_0_512).toLoadRect (harg5.unread x2)) (kernelRun0_B.sl.v147 (F := Ideal) c arg12 harg12 xs0) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![0, 512] S64x512.size inb_S512x2048_S64x512_0_512).emb x) :=
  outStep (blB c arg7 harg7 arg8 harg8 arg9 harg9 x4 x5 x6) x0 x1 x2 (fun h e d => at3 xs0 h e d) 1 0 (by omega) (by omega) slices_S512x1024_o0_256_S64x256 _ _ _ _
    (load_apply arg3 harg3 x0 0 256 _) (load_apply arg4 harg4 x1 0 256 _) (load_apply arg5 harg5 x2 0 512 _)
    (stB_1 c arg4 harg4 arg5 harg5 arg7 harg7 arg8 harg8 arg9 harg9 arg12 harg12 x1 x2 x4 x5 x6 xs0) _ x

/-- Chunk 0 of head 0 is stored. -/
theorem ocB_0 (x : S64x512.Idx) :
    pieceO ![0, 0] slices_S512x1024_o0_0_S64x256 (blB c arg7 harg7 arg8 harg8 arg9 harg9 x4 x5 x6) (View.readAt (Elt Ideal) arg3.view (Rect.unit (s := S512x1024) ![0, 0] S64x256.size inb_S512x1024_S64x256_0_0).toLoadRect (harg3.unread x0)) (View.readAt (Elt Ideal) arg4.view (Rect.unit (s := S512x1024) ![0, 0] S64x256.size inb_S512x1024_S64x256_0_0).toLoadRect (harg4.unread x1))
      (View.readAt (Elt Ideal) arg5.view (Rect.unit (s := S512x2048) ![0, 0] S64x512.size inb_S512x2048_S64x512_0_0).toLoadRect (harg5.unread x2)) (View.readAt (Elt Ideal) arg12.view (Rect.unit (s := S4x512x256) ![0, 0, 0] S1x512x256.size inb_S4x512x256_S1x512x256_0_0_0).toLoadRect (harg12.unread xs0)) x
      = (fun y : S512x2048.Idx => outAt (at2 (blB c arg7 harg7 arg8 harg8 arg9 harg9 x4 x5 x6)) (at2 x0) (at2 x1) (at2 x2) (fun h e d => at3 xs0 h e d) (y 0).val (y 1).val)
          ((Rect.unit (s := S512x2048) ![0, 0] S64x512.size inb_S512x2048_S64x512_0_0).emb x) :=
  outStep (blB c arg7 harg7 arg8 harg8 arg9 harg9 x4 x5 x6) x0 x1 x2 (fun h e d => at3 xs0 h e d) 0 0 (by omega) (by omega) slices_S512x1024_o0_0_S64x256 _ _ _ _
    (load_apply arg3 harg3 x0 0 0 _) (load_apply arg4 harg4 x1 0 0 _) (load_apply arg5 harg5 x2 0 0 _)
    (stB_0 c arg4 harg4 arg5 harg5 arg7 harg7 arg8 harg8 arg9 harg9 arg12 harg12 x1 x2 x4 x5 x6 xs0) _ x

/-- What the chunks' stores leave: the output before normalization. -/
theorem oaccB : View.canon (kernelRun0_B.sl.HS1_32 (F := Ideal) c arg3 harg3 arg4 harg4 arg5 harg5 arg7 harg7 arg8 harg8 arg9 harg9 arg12 harg12 x0 x1 x2 x4 x5 x6 xs0) = fun y : S512x2048.Idx => outAt (at2 (blB c arg7 harg7 arg8 harg8 arg9 harg9 x4 x5 x6)) (at2 x0) (at2 x1) (at2 x2) (fun h e d => at3 xs0 h e d) (y 0).val (y 1).val := by
  have hp : View.PiecesOf (fun y : S512x2048.Idx => outAt (at2 (blB c arg7 harg7 arg8 harg8 arg9 harg9 x4 x5 x6)) (at2 x0) (at2 x1) (at2 x2) (fun h e d => at3 xs0 h e d) (y 0).val (y 1).val) (kernelRun0_B.sl.HS1_32 (F := Ideal) c arg3 harg3 arg4 harg4 arg5 harg5 arg7 harg7 arg8 harg8 arg9 harg9 arg12 harg12 x0 x1 x2 x4 x5 x6 xs0) := by
    unfold kernelRun0_B.sl.HS1_32
    exact ⟨ocB_31 c arg3 harg3 arg4 harg4 arg5 harg5 arg7 harg7 arg8 harg8 arg9 harg9 arg12 harg12 x0 x1 x2 x4 x5 x6 xs0,
      ocB_30 c arg3 harg3 arg4 harg4 arg5 harg5 arg7 harg7 arg8 harg8 arg9 harg9 arg12 harg12 x0 x1 x2 x4 x5 x6 xs0,
      ocB_29 c arg3 harg3 arg4 harg4 arg5 harg5 arg7 harg7 arg8 harg8 arg9 harg9 arg12 harg12 x0 x1 x2 x4 x5 x6 xs0,
      ocB_28 c arg3 harg3 arg4 harg4 arg5 harg5 arg7 harg7 arg8 harg8 arg9 harg9 arg12 harg12 x0 x1 x2 x4 x5 x6 xs0,
      ocB_27 c arg3 harg3 arg4 harg4 arg5 harg5 arg7 harg7 arg8 harg8 arg9 harg9 arg12 harg12 x0 x1 x2 x4 x5 x6 xs0,
      ocB_26 c arg3 harg3 arg4 harg4 arg5 harg5 arg7 harg7 arg8 harg8 arg9 harg9 arg12 harg12 x0 x1 x2 x4 x5 x6 xs0,
      ocB_25 c arg3 harg3 arg4 harg4 arg5 harg5 arg7 harg7 arg8 harg8 arg9 harg9 arg12 harg12 x0 x1 x2 x4 x5 x6 xs0,
      ocB_24 c arg3 harg3 arg4 harg4 arg5 harg5 arg7 harg7 arg8 harg8 arg9 harg9 arg12 harg12 x0 x1 x2 x4 x5 x6 xs0,
      ocB_23 c arg3 harg3 arg4 harg4 arg5 harg5 arg7 harg7 arg8 harg8 arg9 harg9 arg12 harg12 x0 x1 x2 x4 x5 x6 xs0,
      ocB_22 c arg3 harg3 arg4 harg4 arg5 harg5 arg7 harg7 arg8 harg8 arg9 harg9 arg12 harg12 x0 x1 x2 x4 x5 x6 xs0,
      ocB_21 c arg3 harg3 arg4 harg4 arg5 harg5 arg7 harg7 arg8 harg8 arg9 harg9 arg12 harg12 x0 x1 x2 x4 x5 x6 xs0,
      ocB_20 c arg3 harg3 arg4 harg4 arg5 harg5 arg7 harg7 arg8 harg8 arg9 harg9 arg12 harg12 x0 x1 x2 x4 x5 x6 xs0,
      ocB_19 c arg3 harg3 arg4 harg4 arg5 harg5 arg7 harg7 arg8 harg8 arg9 harg9 arg12 harg12 x0 x1 x2 x4 x5 x6 xs0,
      ocB_18 c arg3 harg3 arg4 harg4 arg5 harg5 arg7 harg7 arg8 harg8 arg9 harg9 arg12 harg12 x0 x1 x2 x4 x5 x6 xs0,
      ocB_17 c arg3 harg3 arg4 harg4 arg5 harg5 arg7 harg7 arg8 harg8 arg9 harg9 arg12 harg12 x0 x1 x2 x4 x5 x6 xs0,
      ocB_16 c arg3 harg3 arg4 harg4 arg5 harg5 arg7 harg7 arg8 harg8 arg9 harg9 arg12 harg12 x0 x1 x2 x4 x5 x6 xs0,
      ocB_15 c arg3 harg3 arg4 harg4 arg5 harg5 arg7 harg7 arg8 harg8 arg9 harg9 arg12 harg12 x0 x1 x2 x4 x5 x6 xs0,
      ocB_14 c arg3 harg3 arg4 harg4 arg5 harg5 arg7 harg7 arg8 harg8 arg9 harg9 arg12 harg12 x0 x1 x2 x4 x5 x6 xs0,
      ocB_13 c arg3 harg3 arg4 harg4 arg5 harg5 arg7 harg7 arg8 harg8 arg9 harg9 arg12 harg12 x0 x1 x2 x4 x5 x6 xs0,
      ocB_12 c arg3 harg3 arg4 harg4 arg5 harg5 arg7 harg7 arg8 harg8 arg9 harg9 arg12 harg12 x0 x1 x2 x4 x5 x6 xs0,
      ocB_11 c arg3 harg3 arg4 harg4 arg5 harg5 arg7 harg7 arg8 harg8 arg9 harg9 arg12 harg12 x0 x1 x2 x4 x5 x6 xs0,
      ocB_10 c arg3 harg3 arg4 harg4 arg5 harg5 arg7 harg7 arg8 harg8 arg9 harg9 arg12 harg12 x0 x1 x2 x4 x5 x6 xs0,
      ocB_9 c arg3 harg3 arg4 harg4 arg5 harg5 arg7 harg7 arg8 harg8 arg9 harg9 arg12 harg12 x0 x1 x2 x4 x5 x6 xs0,
      ocB_8 c arg3 harg3 arg4 harg4 arg5 harg5 arg7 harg7 arg8 harg8 arg9 harg9 arg12 harg12 x0 x1 x2 x4 x5 x6 xs0,
      ocB_7 c arg3 harg3 arg4 harg4 arg5 harg5 arg7 harg7 arg8 harg8 arg9 harg9 arg12 harg12 x0 x1 x2 x4 x5 x6 xs0,
      ocB_6 c arg3 harg3 arg4 harg4 arg5 harg5 arg7 harg7 arg8 harg8 arg9 harg9 arg12 harg12 x0 x1 x2 x4 x5 x6 xs0,
      ocB_5 c arg3 harg3 arg4 harg4 arg5 harg5 arg7 harg7 arg8 harg8 arg9 harg9 arg12 harg12 x0 x1 x2 x4 x5 x6 xs0,
      ocB_4 c arg3 harg3 arg4 harg4 arg5 harg5 arg7 harg7 arg8 harg8 arg9 harg9 arg12 harg12 x0 x1 x2 x4 x5 x6 xs0,
      ocB_3 c arg3 harg3 arg4 harg4 arg5 harg5 arg7 harg7 arg8 harg8 arg9 harg9 arg12 harg12 x0 x1 x2 x4 x5 x6 xs0,
      ocB_2 c arg3 harg3 arg4 harg4 arg5 harg5 arg7 harg7 arg8 harg8 arg9 harg9 arg12 harg12 x0 x1 x2 x4 x5 x6 xs0,
      ocB_1 c arg3 harg3 arg4 harg4 arg5 harg5 arg7 harg7 arg8 harg8 arg9 harg9 arg12 harg12 x0 x1 x2 x4 x5 x6 xs0,
      ocB_0 c arg3 harg3 arg4 harg4 arg5 harg5 arg7 harg7 arg8 harg8 arg9 harg9 arg12 harg12 x0 x1 x2 x4 x5 x6 xs0, trivial⟩
  exact canon_pieces (e := .f32) (fun y : S512x2048.Idx => outAt (at2 (blB c arg7 harg7 arg8 harg8 arg9 harg9 x4 x5 x6)) (at2 x0) (at2 x1) (at2 x2) (fun h e d => at3 xs0 h e d) (y 0).val (y 1).val) (kernelRun0_B.sl.HS1_32 (F := Ideal) c arg3 harg3 arg4 harg4 arg5 harg5 arg7 harg7 arg8 harg8 arg9 harg9 arg12 harg12 x0 x1 x2 x4 x5 x6 xs0) hp
    (View.cover_of_tiledL (kernelRun0_B.sl.HS1_32 (F := Ideal) c arg3 harg3 arg4 harg4 arg5 harg5 arg7 harg7 arg8 harg8 arg9 harg9 arg12 harg12 x0 x1 x2 x4 x5 x6 xs0) S64x512.size (by sl_kernel_rfl))

include arg6 harg6 arg10 harg10 arg13 x3 x7

/-- Head 3 of the result is stored. -/
theorem finB_3 (x : S512x512.Idx) :
    finPiece 1536 slices_S512x2048_o0_1536_S512x512
        (k0_pay289 (F := Ideal) (View.readAt (Elt Ideal) arg6.view (Rect.unit (s := S512x2048) ![0, 0] S512x2048.size inb_S512x2048_S512x2048_0_0).toLoadRect (harg6.unread x3)))
        (kernelRun0_B.sl.v1397 (F := Ideal) c arg3 harg3 arg4 harg4 arg5 harg5 arg7 harg7 arg8 harg8 arg9 harg9 arg12 harg12 arg13 x0 x1 x2 x4 x5 x6 xs0)
        (View.readAt (Elt Ideal) arg10.view (Rect.unit (s := S1x512) ![0, 0] S1x512.size inb_S1x512_S1x512_0_0).toLoadRect (harg10.unread x7)) x
      = (fun y : S512x2048.Idx => yAt (at2 (blB c arg7 harg7 arg8 harg8 arg9 harg9 x4 x5 x6)) (at2 x0) (at2 x1) (at2 x2) (fun h e d => at3 xs0 h e d) (at2 x3) (at2 x7 0) (y 0).val (y 1).val) ((Rect.unit (s := S512x2048) ![0, 1536] S512x512.size inb_S512x2048_S512x512_0_1536).emb x) :=
  finStep (blB c arg7 harg7 arg8 harg8 arg9 harg9 x4 x5 x6) x0 x1 x2 x3 x7 (fun h e d => at3 xs0 h e d) 3 (by omega) slices_S512x2048_o0_1536_S512x512 _ (load_whole2 arg6 harg6 x3 hz _) _ _
    (load_whole2 arg10 harg10 x7 hz _)
    (cols_apply arg13.view (kernelRun0_B.sl.HS1_32 (F := Ideal) c arg3 harg3 arg4 harg4 arg5 harg5 arg7 harg7 arg8 harg8 arg9 harg9 arg12 harg12 x0 x1 x2 x4 x5 x6 xs0) (outAt (at2 (blB c arg7 harg7 arg8 harg8 arg9 harg9 x4 x5 x6)) (at2 x0) (at2 x1) (at2 x2) (fun h e d => at3 xs0 h e d)) (oaccB c arg3 harg3 arg4 harg4 arg5 harg5 arg7 harg7 arg8 harg8 arg9 harg9 arg12 harg12 x0 x1 x2 x4 x5 x6 xs0) 1536 _) _ x

/-- Head 2 of the result is stored. -/
theorem finB_2 (x : S512x512.Idx) :
    finPiece 1024 slices_S512x2048_o0_1024_S512x512
        (k0_pay289 (F := Ideal) (View.readAt (Elt Ideal) arg6.view (Rect.unit (s := S512x2048) ![0, 0] S512x2048.size inb_S512x2048_S512x2048_0_0).toLoadRect (harg6.unread x3)))
        (kernelRun0_B.sl.v1379 (F := Ideal) c arg3 harg3 arg4 harg4 arg5 harg5 arg7 harg7 arg8 harg8 arg9 harg9 arg12 harg12 arg13 x0 x1 x2 x4 x5 x6 xs0)
        (View.readAt (Elt Ideal) arg10.view (Rect.unit (s := S1x512) ![0, 0] S1x512.size inb_S1x512_S1x512_0_0).toLoadRect (harg10.unread x7)) x
      = (fun y : S512x2048.Idx => yAt (at2 (blB c arg7 harg7 arg8 harg8 arg9 harg9 x4 x5 x6)) (at2 x0) (at2 x1) (at2 x2) (fun h e d => at3 xs0 h e d) (at2 x3) (at2 x7 0) (y 0).val (y 1).val) ((Rect.unit (s := S512x2048) ![0, 1024] S512x512.size inb_S512x2048_S512x512_0_1024).emb x) :=
  finStep (blB c arg7 harg7 arg8 harg8 arg9 harg9 x4 x5 x6) x0 x1 x2 x3 x7 (fun h e d => at3 xs0 h e d) 2 (by omega) slices_S512x2048_o0_1024_S512x512 _ (load_whole2 arg6 harg6 x3 hz _) _ _
    (load_whole2 arg10 harg10 x7 hz _)
    (cols_apply arg13.view (kernelRun0_B.sl.HS1_32 (F := Ideal) c arg3 harg3 arg4 harg4 arg5 harg5 arg7 harg7 arg8 harg8 arg9 harg9 arg12 harg12 x0 x1 x2 x4 x5 x6 xs0) (outAt (at2 (blB c arg7 harg7 arg8 harg8 arg9 harg9 x4 x5 x6)) (at2 x0) (at2 x1) (at2 x2) (fun h e d => at3 xs0 h e d)) (oaccB c arg3 harg3 arg4 harg4 arg5 harg5 arg7 harg7 arg8 harg8 arg9 harg9 arg12 harg12 x0 x1 x2 x4 x5 x6 xs0) 1024 _) _ x

/-- Head 1 of the result is stored. -/
theorem finB_1 (x : S512x512.Idx) :
    finPiece 512 slices_S512x2048_o0_512_S512x512
        (k0_pay289 (F := Ideal) (View.readAt (Elt Ideal) arg6.view (Rect.unit (s := S512x2048) ![0, 0] S512x2048.size inb_S512x2048_S512x2048_0_0).toLoadRect (harg6.unread x3)))
        (kernelRun0_B.sl.v1361 (F := Ideal) c arg3 harg3 arg4 harg4 arg5 harg5 arg7 harg7 arg8 harg8 arg9 harg9 arg12 harg12 arg13 x0 x1 x2 x4 x5 x6 xs0)
        (View.readAt (Elt Ideal) arg10.view (Rect.unit (s := S1x512) ![0, 0] S1x512.size inb_S1x512_S1x512_0_0).toLoadRect (harg10.unread x7)) x
      = (fun y : S512x2048.Idx => yAt (at2 (blB c arg7 harg7 arg8 harg8 arg9 harg9 x4 x5 x6)) (at2 x0) (at2 x1) (at2 x2) (fun h e d => at3 xs0 h e d) (at2 x3) (at2 x7 0) (y 0).val (y 1).val) ((Rect.unit (s := S512x2048) ![0, 512] S512x512.size inb_S512x2048_S512x512_0_512).emb x) :=
  finStep (blB c arg7 harg7 arg8 harg8 arg9 harg9 x4 x5 x6) x0 x1 x2 x3 x7 (fun h e d => at3 xs0 h e d) 1 (by omega) slices_S512x2048_o0_512_S512x512 _ (load_whole2 arg6 harg6 x3 hz _) _ _
    (load_whole2 arg10 harg10 x7 hz _)
    (cols_apply arg13.view (kernelRun0_B.sl.HS1_32 (F := Ideal) c arg3 harg3 arg4 harg4 arg5 harg5 arg7 harg7 arg8 harg8 arg9 harg9 arg12 harg12 x0 x1 x2 x4 x5 x6 xs0) (outAt (at2 (blB c arg7 harg7 arg8 harg8 arg9 harg9 x4 x5 x6)) (at2 x0) (at2 x1) (at2 x2) (fun h e d => at3 xs0 h e d)) (oaccB c arg3 harg3 arg4 harg4 arg5 harg5 arg7 harg7 arg8 harg8 arg9 harg9 arg12 harg12 x0 x1 x2 x4 x5 x6 xs0) 512 _) _ x

/-- Head 0 of the result is stored. -/
theorem finB_0 (x : S512x512.Idx) :
    finPiece 0 slices_S512x2048_o0_0_S512x512
        (k0_pay289 (F := Ideal) (View.readAt (Elt Ideal) arg6.view (Rect.unit (s := S512x2048) ![0, 0] S512x2048.size inb_S512x2048_S512x2048_0_0).toLoadRect (harg6.unread x3)))
        (kernelRun0_B.sl.v1343 (F := Ideal) c arg3 harg3 arg4 harg4 arg5 harg5 arg7 harg7 arg8 harg8 arg9 harg9 arg12 harg12 arg13 x0 x1 x2 x4 x5 x6 xs0)
        (View.readAt (Elt Ideal) arg10.view (Rect.unit (s := S1x512) ![0, 0] S1x512.size inb_S1x512_S1x512_0_0).toLoadRect (harg10.unread x7)) x
      = (fun y : S512x2048.Idx => yAt (at2 (blB c arg7 harg7 arg8 harg8 arg9 harg9 x4 x5 x6)) (at2 x0) (at2 x1) (at2 x2) (fun h e d => at3 xs0 h e d) (at2 x3) (at2 x7 0) (y 0).val (y 1).val) ((Rect.unit (s := S512x2048) ![0, 0] S512x512.size inb_S512x2048_S512x512_0_0).emb x) :=
  finStep (blB c arg7 harg7 arg8 harg8 arg9 harg9 x4 x5 x6) x0 x1 x2 x3 x7 (fun h e d => at3 xs0 h e d) 0 (by omega) slices_S512x2048_o0_0_S512x512 _ (load_whole2 arg6 harg6 x3 hz _) _ _
    (load_whole2 arg10 harg10 x7 hz _)
    (cols_apply arg13.view (kernelRun0_B.sl.HS1_32 (F := Ideal) c arg3 harg3 arg4 harg4 arg5 harg5 arg7 harg7 arg8 harg8 arg9 harg9 arg12 harg12 x0 x1 x2 x4 x5 x6 xs0) (outAt (at2 (blB c arg7 harg7 arg8 harg8 arg9 harg9 x4 x5 x6)) (at2 x0) (at2 x1) (at2 x2) (fun h e d => at3 xs0 h e d)) (oaccB c arg3 harg3 arg4 harg4 arg5 harg5 arg7 harg7 arg8 harg8 arg9 harg9 arg12 harg12 x0 x1 x2 x4 x5 x6 xs0) 0 _) _ x

/-- The decays of the point's rows are the sums over each chunk of their logarithms. -/
theorem blB_eq : (blB c arg7 harg7 arg8 harg8 arg9 harg9 x4 x5 x6) = sums x4 x5 x6 := by
  unfold blB kernelRun0_B.sl.r_4 kernelRun0_B.sl.r_1 kernelRun0_B.sl.r_2 kernelRun0_B.sl.r_3 kernelRun0_B.sl.r
  rw [load_whole2 arg7 harg7 x4 hz, load_whole2 arg8 harg8 x5 hz, load_whole2 arg9 harg9 x6 hz]
  rfl

/-- What the body leaves in the output's block. -/
theorem out_B (i : grid0.Coords) (arg11 : Memref sig .tc .vmem S512x2048 .bf16) (harg11 : arg11.IsWhole) (harg13 : arg13.IsWhole) (hc : ¬ cond0_0 i) :
    out0_B_8 c i arg3 harg3 arg4 harg4 arg5 harg5 arg6 harg6 arg7 harg7 arg8 harg8 arg9 harg9 arg10 harg10 arg11 harg11 arg12 harg12 arg13 harg13 hc x0 x1 x2 x3 x4 x5 x6 x7 xs0 = fun y : S512x2048.Idx =>
      yAt (at2 (sums x4 x5 x6)) (at2 x0) (at2 x1) (at2 x2) (fun h e d => at3 xs0 h e d) (at2 x3) (at2 x7 0) (y 0).val (y 1).val := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 hc x0 x1 x2 x3 x4 x5 x6 x7 xs0)]
  rw [← blB_eq c arg3 harg3 arg4 harg4 arg5 harg5 arg6 harg6 arg7 harg7 arg8 harg8 arg9 harg9 arg10 harg10 arg12 harg12 arg13 x0 x1 x2 x3 x4 x5 x6 x7 xs0]
  have hp : View.PiecesOf (fun y : S512x2048.Idx => yAt (at2 (blB c arg7 harg7 arg8 harg8 arg9 harg9 x4 x5 x6)) (at2 x0) (at2 x1) (at2 x2) (fun h e d => at3 xs0 h e d) (at2 x3) (at2 x7 0) (y 0).val (y 1).val) (kernelRun0_B c i arg3 harg3 arg4 harg4 arg5 harg5 arg6 harg6 arg7 harg7 arg8 harg8 arg9 harg9 arg10 harg10 arg11 harg11 arg12 harg12 arg13 harg13 hc x0 x1 x2 x3 x4 x5 x6 x7 xs0).1 := by
    unfold kernelRun0_B; dsimp only
    exact ⟨finB_3 c arg3 harg3 arg4 harg4 arg5 harg5 arg6 harg6 arg7 harg7 arg8 harg8 arg9 harg9 arg10 harg10 arg12 harg12 arg13 x0 x1 x2 x3 x4 x5 x6 x7 xs0,
      finB_2 c arg3 harg3 arg4 harg4 arg5 harg5 arg6 harg6 arg7 harg7 arg8 harg8 arg9 harg9 arg10 harg10 arg12 harg12 arg13 x0 x1 x2 x3 x4 x5 x6 x7 xs0,
      finB_1 c arg3 harg3 arg4 harg4 arg5 harg5 arg6 harg6 arg7 harg7 arg8 harg8 arg9 harg9 arg10 harg10 arg12 harg12 arg13 x0 x1 x2 x3 x4 x5 x6 x7 xs0,
      finB_0 c arg3 harg3 arg4 harg4 arg5 harg5 arg6 harg6 arg7 harg7 arg8 harg8 arg9 harg9 arg10 harg10 arg12 harg12 arg13 x0 x1 x2 x3 x4 x5 x6 x7 xs0, trivial⟩
  exact canon_pieces (e := .bf16) (fun y : S512x2048.Idx => yAt (at2 (blB c arg7 harg7 arg8 harg8 arg9 harg9 x4 x5 x6)) (at2 x0) (at2 x1) (at2 x2) (fun h e d => at3 xs0 h e d) (at2 x3) (at2 x7 0) (y 0).val (y 1).val) (kernelRun0_B c i arg3 harg3 arg4 harg4 arg5 harg5 arg6 harg6 arg7 harg7 arg8 harg8 arg9 harg9 arg10 harg10 arg11 harg11 arg12 harg12 arg13 harg13 hc x0 x1 x2 x3 x4 x5 x6 x7 xs0).1 hp (cover0_B_8 c i arg3 harg3 arg4 harg4 arg5 harg5 arg6 harg6 arg7 harg7 arg8 harg8 arg9 harg9 arg10 harg10 arg11 harg11 arg12 harg12 arg13 harg13 hc x0 x1 x2 x3 x4 x5 x6 x7 xs0)

/-- What the body leaves in the states. -/
theorem sout_B (i : grid0.Coords) (arg11 : Memref sig .tc .vmem S512x2048 .bf16) (harg11 : arg11.IsWhole) (harg13 : arg13.IsWhole) (hc : ¬ cond0_0 i) (p : Fin 4) (e : Fin 512) (d : Fin 256) :
    sout0_B_0 c i arg3 harg3 arg4 harg4 arg5 harg5 arg6 harg6 arg7 harg7 arg8 harg8 arg9 harg9 arg10 harg10 arg11 harg11 arg12 harg12 arg13 harg13 hc x0 x1 x2 x3 x4 x5 x6 x7 xs0 (ix3 p e d) = state (at2 (sums x4 x5 x6)) (at2 x1) (at2 x2) (fun h e d => at3 xs0 h e d) p.val 8 e.val d.val := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc x0 x1 x2 x3 x4 x5 x6 x7 xs0)]
  rw [← blB_eq c arg3 harg3 arg4 harg4 arg5 harg5 arg6 harg6 arg7 harg7 arg8 harg8 arg9 harg9 arg10 harg10 arg12 harg12 arg13 x0 x1 x2 x3 x4 x5 x6 x7 xs0]
  exact statesB c arg4 harg4 arg5 harg5 arg7 harg7 arg8 harg8 arg9 harg9 arg12 harg12 x1 x2 x4 x5 x6 xs0 p e d

end Cert.GlaEq
-- ==== Proof.Gla.Points.lean ====
/- From the grid's points to the whole arrays: each point continues the recurrence of its sequence by the eight chunks of
   its 512 rows, and the kernel's result is, entry by entry, the recurrence over the whole sequence. -/
module

public import proofs.«01_k».proof.Defs
public import proofs.«01_k».proof.Proof.Gen.KernelIdeal.Value
public import proofs.«01_k».proof.Proof.Gla.Sums
public import proofs.«01_k».proof.Proof.Gla.First
public import proofs.«01_k».proof.Proof.Gla.Later

@[expose] public section

set_option maxRecDepth 16384

noncomputable section

namespace Cert.GlaEq

open Idealize.ShloMosaic Idealize.ShloMosaic.TcCoe Idealize.SL.Sem

/-! ## The recurrence continued, and the entries it depends on -/

/-- The rows from row `o` on. -/
def from' (o : ℕ) (f : ℕ → ℕ → EReal) (i j : ℕ) : EReal := f (o + i) j

section shift
variable (b q k v : ℕ → ℕ → EReal) (X : ℕ → ℕ → ℕ → EReal)

/-- The state after `a + n` chunks continues the state after `a`. -/
theorem state_add (h a n e d : ℕ) :
    state b k v X h (a + n) e d
      = state (from' (64 * a) b) (from' (64 * a) k) (from' (64 * a) v) (fun h e d => state b k v X h a e d) h n e d := by
  induction n generalizing e d with
  | zero => rfl
  | succ n ih =>
    show state b k v X h (a + n + 1) e d = _
    unfold state from'
    rw [ih]
    unfold from'
    have e1 : ∀ s, 64 * (a + n) + s = 64 * a + (64 * n + s) := fun s => by omega
    simp only [e1]

theorem out_add (h a n i e : ℕ) :
    out b q k v X h (a + n) i e
      = out (from' (64 * a) b) (from' (64 * a) q) (from' (64 * a) k) (from' (64 * a) v)
          (fun h e d => state b k v X h a e d) h n i e := by
  unfold out weight
  simp only [state_add]
  unfold from'
  have e1 : ∀ s, 64 * (a + n) + s = 64 * a + (64 * n + s) := fun s => by omega
  simp only [e1]

theorem outAt_add (a i j : ℕ) :
    outAt b q k v X (64 * a + i) j
      = outAt (from' (64 * a) b) (from' (64 * a) q) (from' (64 * a) k) (from' (64 * a) v)
          (fun h e d => state b k v X h a e d) i j := by
  unfold outAt
  rw [show (64 * a + i) / 64 = a + i / 64 by omega, show (64 * a + i) % 64 = i % 64 by omega, out_add]

theorem yAt_add (r : ℕ → ℕ → EReal) (g : ℕ → EReal) (a i j : ℕ) :
    yAt b q k v X r g (64 * a + i) j
      = yAt (from' (64 * a) b) (from' (64 * a) q) (from' (64 * a) k) (from' (64 * a) v)
          (fun h e d => state b k v X h a e d) (from' (64 * a) r) g i j := by
  unfold yAt
  simp only [outAt_add]
  rfl

end shift

section congr
variable {b q k v b' q' k' v' : ℕ → ℕ → EReal} {X X' : ℕ → ℕ → ℕ → EReal} {N : ℕ}
  (hb : ∀ i j, i < N → j < 1024 → b i j = b' i j) (hq : ∀ i j, i < N → j < 1024 → q i j = q' i j)
  (hk : ∀ i j, i < N → j < 1024 → k i j = k' i j) (hv : ∀ i j, i < N → j < 2048 → v i j = v' i j)
  (hX : ∀ h e d, h < 4 → e < 512 → d < 256 → X h e d = X' h e d)

include hb hk hv hX in
/-- The state after `n` chunks depends on their rows only. -/
theorem state_congr (h n e d : ℕ) (hh : h < 4) (hn : 64 * n ≤ N) (he : e < 512) (hd : d < 256) :
    state b k v X h n e d = state b' k' v' X' h n e d := by
  induction n with
  | zero => exact hX h e d hh he hd
  | succ n ih =>
    unfold state
    rw [ih (by omega), hb _ _ (by omega) (by omega)]
    congr 1
    refine Finset.sum_congr rfl fun s _ => ?_
    rw [hb _ _ (by omega) (by omega), hk _ _ (by omega) (by omega), hv _ _ (by omega) (by omega)]

include hb hq hk hv hX in
theorem outAt_congr (hN : N % 64 = 0) (i j : ℕ) (hi : i < N) (hj : j < 2048) :
    outAt b q k v X i j = outAt b' q' k' v' X' i j := by
  unfold outAt out
  congr 1
  · refine Finset.sum_congr rfl fun s _ => ?_
    rw [hv _ _ (by omega) (by omega)]
    unfold weight
    congr 2
    refine Finset.sum_congr rfl fun d _ => ?_
    rw [hb _ _ (by omega) (by omega), hq _ _ (by omega) (by omega), hk _ _ (by omega) (by omega),
      hb _ _ (by omega) (by omega)]
  · refine Finset.sum_congr rfl fun d _ => ?_
    rw [hb _ _ (by omega) (by omega), hq _ _ (by omega) (by omega),
      state_congr hb hk hv hX _ _ _ _ (by omega) (by omega) (by omega) d.isLt]

include hb hq hk hv hX in
theorem yAt_congr (hN : N % 64 = 0) {r r' : ℕ → ℕ → EReal} {g g' : ℕ → EReal}
    (hr : ∀ i j, i < N → j < 2048 → r i j = r' i j) (hg : ∀ j, j < 512 → g j = g' j)
    (i j : ℕ) (hi : i < N) (hj : j < 2048) :
    yAt b q k v X r g i j = yAt b' q' k' v' X' r' g' i j := by
  unfold yAt
  rw [outAt_congr hb hq hk hv hX hN i j hi hj, hr i j hi hj, hg _ (by omega)]
  congr 6
  refine Finset.sum_congr rfl fun e _ => ?_
  rw [outAt_congr hb hq hk hv hX hN _ _ hi (by omega)]

end congr

/-- Sums over the chunks of a block of 512 rows are those over the chunks of the whole. -/
theorem upTo_shift (f g : ℕ → EReal) (t i : ℕ) (hi : i < 512) (h : ∀ r, r < 512 → f r = g (512 * t + r)) :
    upTo f i = upTo g (512 * t + i) := by
  unfold upTo
  rw [show (512 * t + i) % 64 = i % 64 by omega]
  refine Finset.sum_congr rfl fun s hs => ?_
  have hs := Finset.mem_range.mp hs
  rw [h _ (by omega), show 64 * ((512 * t + i) / 64) + s = 512 * t + (64 * (i / 64) + s) by omega]

/-! ## The function of the whole arrays -/

section global
variable (P : Vec Ideal ⟨2, ![16384, 6144]⟩ .bf16) (Z : Vec Ideal ⟨2, ![16384, 128]⟩ .bf16)
  (W : Vec Ideal ⟨2, ![128, 1024]⟩ .bf16) (G : Vec Ideal ⟨2, ![1, 1024]⟩ .f32) (N : Vec Ideal ⟨2, ![1, 512]⟩ .f32)

/-- The logarithm of the decay of row `r` in column `j`. -/
def lg (r j : ℕ) : EReal := logDecay (∑ x : Fin 128, at2 Z r x.val * at2 W x.val j + at2 G 0 j)

/-- Its sum over the rows of the chunk up to row `r`. -/
def dcy (r j : ℕ) : EReal := upTo (fun r => lg Z W G r j) r

/-- The columns of the projection from column `o` on. -/
def cols (o r j : ℕ) : EReal := at2 P r (o + j)

/-- The states of sequence `s`. -/
def stateOf (s : ℕ) : ℕ → ℕ → ℕ → ℕ → EReal :=
  state (from' (4096 * s) (dcy Z W G)) (from' (4096 * s) (cols P 1024)) (from' (4096 * s) (cols P 2048)) (fun _ _ _ => 0)

/-- The result at row `i` of sequence `s`. -/
def resOf (s i j : ℕ) : EReal :=
  yAt (from' (4096 * s) (dcy Z W G)) (from' (4096 * s) (cols P 0)) (from' (4096 * s) (cols P 1024))
    (from' (4096 * s) (cols P 2048)) (fun _ _ _ => 0) (from' (4096 * s) (cols P 4096)) (at2 N 0) i j

end global

open Cert.KernelIdeal Cert.KernelIdeal.Gen Cert.KernelIdeal.Value

/-! ## The blocks the points read -/

variable (m : (ℓ : Loc nD τ sig) → Buf (Elt Ideal) ℓ) (c : Dev nD)

abbrev aP : Vec Ideal S16384x6144 .bf16 := m ((c.tc : Thread nD τ).loc main_arg0)
abbrev aZ : Vec Ideal S16384x128 .bf16 := m ((c.tc : Thread nD τ).loc main_arg1)
abbrev aW : Vec Ideal S128x1024 .bf16 := m ((c.tc : Thread nD τ).loc main_arg2)
abbrev aG : Vec Ideal S1x1024 .f32 := m ((c.tc : Thread nD τ).loc main_arg3)
abbrev aN : Vec Ideal S1x512 .f32 := m ((c.tc : Thread nD τ).loc main_arg4)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 1 :=
  (by decide +kernel : ∀ t : Fin grid0.N, _)
theorem idx2 : ∀ t : Fin cfg0.N, win0_2.index t (0 : Fin 2) = t.val ∧ win0_2.index t (1 : Fin 2) = 1 :=
  (by decide +kernel : ∀ t : Fin grid0.N, _)
theorem idx3 : ∀ t : Fin cfg0.N, win0_3.index t (0 : Fin 2) = t.val ∧ win0_3.index t (1 : Fin 2) = 2 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

theorem q_blk (t : Fin cfg0.N) (i j : ℕ) (hi : i < 512) (hj : j < 1024) :
    at2 (R := 512) (C := 1024) (iblk m c 0 t) i j = at2 (aP m c) (512 * t.val + i) (0 + j) := by
  have ht := lt_of_lt_of_eq t.isLt N_0
  rw [at2_of (R := 512) (C := 1024) _ i j hi hj, at2_of (aP m c) _ _ (by omega) (by omega)]
  unfold iblk
  rw [View.read_apply]
  show aP m c _ = _
  congr 1; funext a; apply Fin.ext
  match a with
  | ⟨0, _⟩ => show win0_0.index t (0 : Fin 2) * 512 + 1 * i = 512 * t.val + i; rw [(idx0 t).1]; omega
  | ⟨1, _⟩ => show win0_0.index t (1 : Fin 2) * 1024 + 1 * j = 0 + j; rw [(idx0 t).2]; omega

theorem k_blk (t : Fin cfg0.N) (i j : ℕ) (hi : i < 512) (hj : j < 1024) :
    at2 (R := 512) (C := 1024) (iblk m c 1 t) i j = at2 (aP m c) (512 * t.val + i) (1024 + j) := by
  have ht := lt_of_lt_of_eq t.isLt N_0
  rw [at2_of (R := 512) (C := 1024) _ i j hi hj, at2_of (aP m c) _ _ (by omega) (by omega)]
  unfold iblk
  rw [View.read_apply]
  show aP m c _ = _
  congr 1; funext a; apply Fin.ext
  match a with
  | ⟨0, _⟩ => show win0_1.index t (0 : Fin 2) * 512 + 1 * i = 512 * t.val + i; rw [(idx1 t).1]; omega
  | ⟨1, _⟩ => show win0_1.index t (1 : Fin 2) * 1024 + 1 * j = 1024 + j; rw [(idx1 t).2]; omega

theorem v_blk (t : Fin cfg0.N) (i j : ℕ) (hi : i < 512) (hj : j < 2048) :
    at2 (R := 512) (C := 2048) (iblk m c 2 t) i j = at2 (aP m c) (512 * t.val + i) (2048 + j) := by
  have ht := lt_of_lt_of_eq t.isLt N_0
  rw [at2_of (R := 512) (C := 2048) _ i j hi hj, at2_of (aP m c) _ _ (by omega) (by omega)]
  unfold iblk
  rw [View.read_apply]
  show aP m c _ = _
  congr 1; funext a; apply Fin.ext
  match a with
  | ⟨0, _⟩ => show win0_2.index t (0 : Fin 2) * 512 + 1 * i = 512 * t.val + i; rw [(idx2 t).1]; omega
  | ⟨1, _⟩ => show win0_2.index t (1 : Fin 2) * 2048 + 1 * j = 2048 + j; rw [(idx2 t).2]; omega

theorem r_blk (t : Fin cfg0.N) (i j : ℕ) (hi : i < 512) (hj : j < 2048) :
    at2 (R := 512) (C := 2048) (iblk m c 3 t) i j = at2 (aP m c) (512 * t.val + i) (4096 + j) := by
  have ht := lt_of_lt_of_eq t.isLt N_0
  rw [at2_of (R := 512) (C := 2048) _ i j hi hj, at2_of (aP m c) _ _ (by omega) (by omega)]
  unfold iblk
  rw [View.read_apply]
  show aP m c _ = _
  congr 1; funext a; apply Fin.ext
  match a with
  | ⟨0, _⟩ => show win0_3.index t (0 : Fin 2) * 512 + 1 * i = 512 * t.val + i; rw [(idx3 t).1]; omega
  | ⟨1, _⟩ => show win0_3.index t (1 : Fin 2) * 2048 + 1 * j = 4096 + j; rw [(idx3 t).2]; omega

theorem z_blk (t : Fin cfg0.N) (i j : ℕ) (hi : i < 512) (hj : j < 128) :
    at2 (R := 512) (C := 128) (iblk m c 4 t) i j = at2 (aZ m c) (512 * t.val + i) (j) := by
  have ht := lt_of_lt_of_eq t.isLt N_0
  rw [at2_of (R := 512) (C := 128) _ i j hi hj, at2_of (aZ m c) _ _ (by omega) (by omega)]
  unfold iblk
  rw [View.read_apply]
  show aZ m c _ = _
  congr 1; funext a; apply Fin.ext
  match a with
  | ⟨0, _⟩ => show win0_4.index t (0 : Fin 2) * 512 + 1 * i = 512 * t.val + i; rw [(idx4 t).1]; omega
  | ⟨1, _⟩ => show win0_4.index t (1 : Fin 2) * 128 + 1 * j = j; rw [(idx4 t).2]; omega

theorem w_blk (t : Fin cfg0.N) (i j : ℕ) (hi : i < 128) (hj : j < 1024) :
    at2 (R := 128) (C := 1024) (iblk m c 5 t) i j = at2 (aW m c) (i) (j) := by
  have ht := lt_of_lt_of_eq t.isLt N_0
  rw [at2_of (R := 128) (C := 1024) _ i j hi hj, at2_of (aW m c) _ _ (by omega) (by omega)]
  unfold iblk
  rw [View.read_apply]
  show aW m c _ = _
  congr 1; funext a; apply Fin.ext
  match a with
  | ⟨0, _⟩ => show win0_5.index t (0 : Fin 2) * 128 + 1 * i = i; rw [(idx5 t).1]; omega
  | ⟨1, _⟩ => show win0_5.index t (1 : Fin 2) * 1024 + 1 * j = j; rw [(idx5 t).2]; omega

theorem g_blk (t : Fin cfg0.N) (i j : ℕ) (hi : i < 1) (hj : j < 1024) :
    at2 (R := 1) (C := 1024) (iblk m c 6 t) i j = at2 (aG m c) (i) (j) := by
  have ht := lt_of_lt_of_eq t.isLt N_0
  rw [at2_of (R := 1) (C := 1024) _ i j hi hj, at2_of (aG m c) _ _ (by omega) (by omega)]
  unfold iblk
  rw [View.read_apply]
  show aG m c _ = _
  congr 1; funext a; apply Fin.ext
  match a with
  | ⟨0, _⟩ => show win0_6.index t (0 : Fin 2) * 1 + 1 * i = i; rw [(idx6 t).1]; omega
  | ⟨1, _⟩ => show win0_6.index t (1 : Fin 2) * 1024 + 1 * j = j; rw [(idx6 t).2]; omega

theorem n_blk (t : Fin cfg0.N) (i j : ℕ) (hi : i < 1) (hj : j < 512) :
    at2 (R := 1) (C := 512) (iblk m c 7 t) i j = at2 (aN m c) (i) (j) := by
  have ht := lt_of_lt_of_eq t.isLt N_0
  rw [at2_of (R := 1) (C := 512) _ i j hi hj, at2_of (aN m c) _ _ (by omega) (by omega)]
  unfold iblk
  rw [View.read_apply]
  show aN m c _ = _
  congr 1; funext a; apply Fin.ext
  match a with
  | ⟨0, _⟩ => show win0_7.index t (0 : Fin 2) * 1 + 1 * i = i; rw [(idx7 t).1]; omega
  | ⟨1, _⟩ => show win0_7.index t (1 : Fin 2) * 512 + 1 * j = j; rw [(idx7 t).2]; omega

/-- The decays of a point's rows are those of the whole arrays. -/
theorem sums_blk (t : Fin cfg0.N) (i j : ℕ) (hi : i < 512) (hj : j < 1024) :
    at2 (sums (iblk m c 4 t) (iblk m c 5 t) (iblk m c 6 t)) i j = dcy (aZ m c) (aW m c) (aG m c) (512 * t.val + i) j := by
  rw [sums_apply _ _ _ i j hi hj]
  have e : ∀ r, r < 512 → logDecay (∑ x : Fin 128, at2 (R := 512) (C := 128) (iblk m c 4 t) r x.val
        * at2 (R := 128) (C := 1024) (iblk m c 5 t) x.val j + at2 (R := 1) (C := 1024) (iblk m c 6 t) 0 j)
      = lg (aZ m c) (aW m c) (aG m c) (512 * t.val + r) j := by
    intro r hr
    unfold lg
    rw [g_blk m c t 0 j (by omega) hj]
    congr 2
    exact Finset.sum_congr rfl fun x _ => by rw [z_blk m c t r x.val hr x.isLt, w_blk m c t x.val j x.isLt hj]
  exact upTo_shift _ _ t.val i hi e

/-! ## The states and the result after each point -/

/-- After point `n` the states are those of the point's sequence after the chunks met so far. -/
theorem state_eq : ∀ (n : ℕ) (hn : n < cfg0.N) (p : Fin 4) (e : Fin 512) (d : Fin 256),
    (outsAt0 m c n hn).2 (ix3 p e d)
      = stateOf (aP m c) (aZ m c) (aW m c) (aG m c) (n / 8) p.val (8 * (n % 8) + 8) e.val d.val := by
  have first : ∀ (n : ℕ) (hn : n < cfg0.N) (h0 : n % 8 = 0) (p : Fin 4) (e : Fin 512) (d : Fin 256),
      (outsAt0 m c n hn).2 (ix3 p e d)
        = stateOf (aP m c) (aZ m c) (aW m c) (aG m c) (n / 8) p.val (8 * (n % 8) + 8) e.val d.val := by
    intro n hn h0 p e d
    rw [outsAt0_A m c ⟨n, hn⟩ h0]
    dsimp only
    rw [sout_A, h0]
    refine state_congr (N := 512) (fun i j hi hj => ?_) (fun i j hi hj => ?_) (fun i j hi hj => ?_) (fun _ _ _ _ _ _ => rfl)
      _ _ _ _ p.isLt (by omega) e.isLt d.isLt
    · rw [sums_blk m c ⟨n, hn⟩ i j hi hj]
      show dcy _ _ _ (512 * n + i) j = dcy _ _ _ (4096 * (n / 8) + i) j
      rw [show 512 * n = 4096 * (n / 8) by omega]
    · rw [k_blk m c ⟨n, hn⟩ i j hi hj]
      show at2 _ (512 * n + i) _ = at2 _ (4096 * (n / 8) + i) _
      rw [show 512 * n = 4096 * (n / 8) by omega]
    · rw [v_blk m c ⟨n, hn⟩ i j hi hj]
      show at2 _ (512 * n + i) _ = at2 _ (4096 * (n / 8) + i) _
      rw [show 512 * n = 4096 * (n / 8) by omega]
  intro n
  induction n with
  | zero => exact fun hn p e d => first 0 hn rfl p e d
  | succ n ih =>
    intro hn p e d
    by_cases h0 : (n + 1) % 8 = 0
    · exact first (n + 1) hn h0 p e d
    · rw [outsAt0_B m c ⟨n + 1, hn⟩ h0]
      dsimp only
      rw [sout_B]
      unfold stateOf
      rw [state_add]
      refine state_congr (N := 512) (fun i j hi hj => ?_) (fun i j hi hj => ?_) (fun i j hi hj => ?_)
        (fun h e d hh he hd => ?_) _ _ _ _ p.isLt (by omega) e.isLt d.isLt
      · rw [sums_blk m c ⟨n + 1, hn⟩ i j hi hj]
        show dcy _ _ _ (512 * (n + 1) + i) j = dcy _ _ _ (4096 * ((n + 1) / 8) + (64 * (8 * ((n + 1) % 8)) + i)) j
        congr 1; omega
      · rw [k_blk m c ⟨n + 1, hn⟩ i j hi hj]
        show at2 _ (512 * (n + 1) + i) _ = at2 _ (4096 * ((n + 1) / 8) + (64 * (8 * ((n + 1) % 8)) + i)) _
        congr 1; omega
      · rw [v_blk m c ⟨n + 1, hn⟩ i j hi hj]
        show at2 _ (512 * (n + 1) + i) _ = at2 _ (4096 * ((n + 1) / 8) + (64 * (8 * ((n + 1) % 8)) + i)) _
        congr 1; omega
      · rw [at3_of _ h e d hh he hd]
        refine (ih (Nat.lt_of_succ_lt hn) ⟨h, hh⟩ ⟨e, he⟩ ⟨d, hd⟩).trans ?_
        unfold stateOf
        rw [show 8 * (n % 8) + 8 = 8 * ((n + 1) % 8) by omega, show n / 8 = (n + 1) / 8 by omega]

/-- What point `n` leaves in the output's block. -/
theorem out_eq (n : ℕ) (hn : n < cfg0.N) (i : Fin 512) (j : Fin 2048) :
    (outsAt0 m c n hn).1 (ix2 i j)
      = resOf (aP m c) (aZ m c) (aW m c) (aG m c) (aN m c) (n / 8) (512 * (n % 8) + i.val) j.val := by
  unfold resOf
  rw [show 512 * (n % 8) = 64 * (8 * (n % 8)) by omega, yAt_add]
  by_cases h0 : n % 8 = 0
  · rw [outsAt0_A m c ⟨n, hn⟩ h0]
    dsimp only
    rw [out_A]
    refine yAt_congr (N := 512) (fun i j hi hj => ?_) (fun i j hi hj => ?_) (fun i j hi hj => ?_) (fun i j hi hj => ?_)
      (fun h e d hh he hd => ?_) rfl (fun i j hi hj => ?_) (fun j hj => n_blk m c ⟨n, hn⟩ 0 j (by omega) hj)
      i.val j.val i.isLt j.isLt
    · rw [sums_blk m c ⟨n, hn⟩ i j hi hj]
      show dcy _ _ _ (512 * n + i) j = dcy _ _ _ (4096 * (n / 8) + (64 * (8 * (n % 8)) + i)) j
      congr 1; omega
    · rw [q_blk m c ⟨n, hn⟩ i j hi hj]
      show at2 _ (512 * n + i) _ = at2 _ (4096 * (n / 8) + (64 * (8 * (n % 8)) + i)) _
      congr 1; omega
    · rw [k_blk m c ⟨n, hn⟩ i j hi hj]
      show at2 _ (512 * n + i) _ = at2 _ (4096 * (n / 8) + (64 * (8 * (n % 8)) + i)) _
      congr 1; omega
    · rw [v_blk m c ⟨n, hn⟩ i j hi hj]
      show at2 _ (512 * n + i) _ = at2 _ (4096 * (n / 8) + (64 * (8 * (n % 8)) + i)) _
      congr 1; omega
    · rw [h0]; rfl
    · rw [r_blk m c ⟨n, hn⟩ i j hi hj]
      show at2 _ (512 * n + i) _ = at2 _ (4096 * (n / 8) + (64 * (8 * (n % 8)) + i)) _
      congr 1; omega
  · rw [outsAt0_B m c ⟨n, hn⟩ h0]
    dsimp only
    rw [out_B]
    refine yAt_congr (N := 512) (fun i j hi hj => ?_) (fun i j hi hj => ?_) (fun i j hi hj => ?_) (fun i j hi hj => ?_)
      (fun h e d hh he hd => ?_) rfl (fun i j hi hj => ?_) (fun j hj => n_blk m c ⟨n, hn⟩ 0 j (by omega) hj)
      i.val j.val i.isLt j.isLt
    · rw [sums_blk m c ⟨n, hn⟩ i j hi hj]
      show dcy _ _ _ (512 * n + i) j = dcy _ _ _ (4096 * (n / 8) + (64 * (8 * (n % 8)) + i)) j
      congr 1; omega
    · rw [q_blk m c ⟨n, hn⟩ i j hi hj]
      show at2 _ (512 * n + i) _ = at2 _ (4096 * (n / 8) + (64 * (8 * (n % 8)) + i)) _
      congr 1; omega
    · rw [k_blk m c ⟨n, hn⟩ i j hi hj]
      show at2 _ (512 * n + i) _ = at2 _ (4096 * (n / 8) + (64 * (8 * (n % 8)) + i)) _
      congr 1; omega
    · rw [v_blk m c ⟨n, hn⟩ i j hi hj]
      show at2 _ (512 * n + i) _ = at2 _ (4096 * (n / 8) + (64 * (8 * (n % 8)) + i)) _
      congr 1; omega
    · rw [at3_of _ h e d hh he hd]
      refine (state_eq m c (n - 1) (by omega) ⟨h, hh⟩ ⟨e, he⟩ ⟨d, hd⟩).trans ?_
      unfold stateOf
      rw [show 8 * ((n - 1) % 8) + 8 = 8 * (n % 8) by omega, show (n - 1) / 8 = n / 8 by omega]
    · rw [r_blk m c ⟨n, hn⟩ i j hi hj]
      show at2 _ (512 * n + i) _ = at2 _ (4096 * (n / 8) + (64 * (8 * (n % 8)) + i)) _
      congr 1; omega

/-- The kernel's result, entry by entry. -/
theorem value (i : Fin 16384) (j : Fin 2048) :
    G8 m c (ix2 i j) = resOf (aP m c) (aZ m c) (aW m c) (aG m c) (aN m c) (i.val / 4096) (i.val % 4096) j.val := by
  have e : pt8Of (ix2 i j) = i.val / 512 := by
    show 1 * (i.val / 512 - 0) + 1 * (j.val / 2048 - 0) = i.val / 512
    omega
  have h : pt8Of (ix2 i j) < cfg0.N := by
    rw [e, show cfg0.N = 32 from N_0]; omega
  unfold G8
  rw [dif_pos h, ← outsAt0_sweep m c _ h]
  have hl : loc8Of (ix2 i j) = ix2 (⟨i.val % 512, by omega⟩ : Fin 512) j := by
    funext a
    apply Fin.ext
    match a with
    | ⟨0, _⟩ => rfl
    | ⟨1, _⟩ => show j.val % 2048 = j.val; omega
  rw [hl, out_eq m c _ h, e]
  congr 1
  · omega
  · show 512 * (i.val / 512 % 8) + i.val % 512 = i.val % 4096
    omega

end Cert.GlaEq
-- ==== Proof.Gla.Entry.lean ====
/- The reference before its loop over the chunks: the running sums of the decays' logarithms, and what the loop's operands
   hold at an index. -/
module

public import proofs.«01_k».proof.Defs
public import proofs.«01_k».proof.Proof.Gen.ReferenceIdeal.Run
public import proofs.«01_k».proof.Proof.Gla.Points
public import Idealize.ShloMosaic.Lib.Pointwise

@[expose] public section

set_option maxRecDepth 16384

noncomputable section

namespace Cert.GlaEq

open Idealize.ShloMosaic Idealize.ShloMosaic.TcCoe Idealize.SL.Sem
open Idealize.ShloMosaic.Tactic Idealize.ShloMosaic.StableHlo Idealize.ShloMosaic.Pipeline
open Cert.ReferenceIdeal Cert.ReferenceIdeal.Gen Cert.ReferenceIdeal.Value

/-! ## The running sum within a chunk -/

/-- A left fold of additions is the start plus the list's sum. -/
theorem foldl_sum {α : Type} (g : α → EReal) (L : List α) (v : EReal) :
    L.foldl (fun r n => r + g n) v = v + (L.map g).sum := by
  induction L generalizing v with
  | nil => simp
  | cons a L ih => rw [List.foldl_cons, ih, List.map_cons, List.sum_cons, add_assoc]

/-- A window of 64 padded by 63 in front meets the entries up to its own. -/
theorem sum_window (f : ℕ → EReal) (t : ℕ) (ht : t < 64) :
    (∑ s ∈ Finset.range 64, if 63 ≤ t + s then f (t + s - 63) else 0) = ∑ s ∈ Finset.range (t + 1), f s := by
  have e : (64 : ℕ) = (63 - t) + (t + 1) := by omega
  rw [e, Finset.sum_range_add, Finset.sum_eq_zero, zero_add]
  · refine Finset.sum_congr rfl fun s _ => ?_
    rw [if_pos (by omega)]
    congr 1; omega
  · intro s hs
    have := Finset.mem_range.mp hs
    rw [if_neg (by omega)]

/-- The positions of a window of 64 rows are the rows. -/
def rowsEquiv : (⟨5, ![1, 1, 1, 64, 1]⟩ : Shape).Idx ≃ Fin 64 where
  toFun w := w 3
  invFun s := ix5 0 0 0 s 0
  left_inv w := by
    funext a
    apply Fin.ext
    match a with
    | ⟨0, _⟩ => have : (w 0).val < 1 := (w 0).isLt; show 0 = (w 0).val; omega
    | ⟨1, _⟩ => have : (w 1).val < 1 := (w 1).isLt; show 0 = (w 1).val; omega
    | ⟨2, _⟩ => have : (w 2).val < 1 := (w 2).isLt; show 0 = (w 2).val; omega
    | ⟨3, _⟩ => rfl
    | ⟨4, _⟩ => have : (w 4).val < 1 := (w 4).isLt; show 0 = (w 4).val; omega
  right_inv _ := rfl

/-- The position of a window with a given number. -/
abbrev pos (n : Fin (⟨5, ![1, 1, 1, 64, 1]⟩ : Shape).numel) : (⟨5, ![1, 1, 1, 64, 1]⟩ : Shape).Idx :=
  (Shape.rowMajor (⟨5, ![1, 1, 1, 64, 1]⟩ : Shape)).symm n

/-- The running sum along the rows of a chunk: at row `t`, the entries of the rows up to it. -/
theorem cumsum_apply (x : FVec Ideal S64x4x4x64x256 .f32) (init : FVec Ideal S_ .f32) (hi : init ix0 = 0)
    (h) (hu : 0 < S_.numel) (n : Fin 64) (β p : Fin 4) (t : Fin 64) (d : Fin 256) (f : ℕ → EReal)
    (hf : ∀ s : Fin 64, x (ix5 n β p s d) = f s.val) :
    Host.reduceWindowAdd (s := S64x4x4x64x256) (t := S64x4x4x64x256) ![1, 1, 1, 64, 1] ![1, 1, 1, 1, 1] ![0, 0, 0, 63, 0]
      ![0, 0, 0, 0, 0] x init h hu (ix5 n β p t d) = ∑ s ∈ Finset.range (t.val + 1), f s := by
  show Host.reduceWindow (· + ·) _ _ _ _ x _ h _ _ = _
  unfold Host.reduceWindow
  have hv : init (Shape.Idx.first hu) = 0 := (congrArg init (funext fun a => a.elim0)).trans hi
  refine (foldl_sum _ _ _).trans ?_
  rw [hv, zero_add, ← Fin.sum_univ_def, ← sum_window f t.val t.isLt, Finset.sum_range]
  refine Fintype.sum_equiv ((Shape.rowMajor (⟨5, ![1, 1, 1, 64, 1]⟩ : Shape)).symm.trans rowsEquiv) _ _ fun n' => ?_
  show _ = if 63 ≤ t.val + (pos n' 3).val
    then f (t.val + (pos n' 3).val - 63) else 0
  have w0 : (pos n' 0).val < 1 := (pos n' 0).isLt
  have w1 : (pos n' 1).val < 1 := (pos n' 1).isLt
  have w2 : (pos n' 2).val < 1 := (pos n' 2).isLt
  have w3 : (pos n' 3).val < 64 := (pos n' 3).isLt
  have w4 : (pos n' 4).val < 1 := (pos n' 4).isLt
  have hn := n.isLt
  have hβ := β.isLt
  have hp := p.isLt
  have ht := t.isLt
  have hd := d.isLt
  by_cases h3 : 63 ≤ t.val + (pos n' 3).val
  · rw [if_pos h3, dif_pos]
    · refine Eq.trans (congrArg x (funext fun a => Fin.ext ?_)) (hf ⟨t.val + (pos n' 3).val - 63, by omega⟩)
      match a with
      | ⟨0, _⟩ => show n.val * 1 + (pos n' 0).val - 0 = n.val; omega
      | ⟨1, _⟩ => show β.val * 1 + (pos n' 1).val - 0 = β.val; omega
      | ⟨2, _⟩ => show p.val * 1 + (pos n' 2).val - 0 = p.val; omega
      | ⟨3, _⟩ => show t.val * 1 + (pos n' 3).val - 63 = t.val + (pos n' 3).val - 63; omega
      | ⟨4, _⟩ => show d.val * 1 + (pos n' 4).val - 0 = d.val; omega
    · intro a
      match a with
      | ⟨0, _⟩ => show 0 ≤ n.val * 1 + (pos n' 0).val ∧ n.val * 1 + (pos n' 0).val - 0 < 64; omega
      | ⟨1, _⟩ => show 0 ≤ β.val * 1 + (pos n' 1).val ∧ β.val * 1 + (pos n' 1).val - 0 < 4; omega
      | ⟨2, _⟩ => show 0 ≤ p.val * 1 + (pos n' 2).val ∧ p.val * 1 + (pos n' 2).val - 0 < 4; omega
      | ⟨3, _⟩ => show 63 ≤ t.val * 1 + (pos n' 3).val ∧ t.val * 1 + (pos n' 3).val - 63 < 64; omega
      | ⟨4, _⟩ => show 0 ≤ d.val * 1 + (pos n' 4).val ∧ d.val * 1 + (pos n' 4).val - 0 < 256; omega
  · rw [if_neg h3, dif_neg]
    intro hin
    have : 63 ≤ t.val * 1 + (pos n' 3).val := (hin 3).1
    omega

/-! ## The reference's terms before the loop -/

section terms
variable (P : FVec Ideal S16384x6144 .bf16) (Z : FVec Ideal S16384x128 .bf16) (W : FVec Ideal S128x1024 .bf16)
  (G : FVec Ideal S1x1024 .f32)

/-- An array of 1024 columns by chunk, sequence, head, row and column. -/
def chunks (x : FVec Ideal S16384x1024 .f32) : FVec Ideal S64x4x4x64x256 .f32 :=
  transpose S64x4x4x64x256 [1, 0, 3, 2, 4] (shapeCast S4x64x64x4x256 x shapeCasts_S16384x1024_S4x64x64x4x256)
    transposes_S4x64x64x4x256_S64x4x4x64x256_1_0_3_2_4

/-- The same for 2048 columns. -/
def chunksV (x : FVec Ideal S16384x2048 .f32) : FVec Ideal S64x4x4x64x512 .f32 :=
  transpose S64x4x4x64x512 [1, 0, 3, 2, 4] (shapeCast S4x64x64x4x512 x shapeCasts_S16384x2048_S4x64x64x4x512)
    transposes_S4x64x64x4x512_S64x4x4x64x512_1_0_3_2_4

theorem chunks_apply (x : FVec Ideal S16384x1024 .f32) (n : Fin 64) (β p : Fin 4) (t : Fin 64) (d : Fin 256) :
    chunks x (ix5 n β p t d) = at2 x (4096 * β.val + (64 * n.val + t.val)) (256 * p.val + d.val) := by
  rw [at2_of _ _ _ (by omega) (by omega)]
  pointwise [chunks]
  refine congrArg x (congrArg₂ ix2 (Fin.ext ?_) (Fin.ext ?_)) <;> dsimp only <;> omega

theorem chunksV_apply (x : FVec Ideal S16384x2048 .f32) (n : Fin 64) (β p : Fin 4) (t : Fin 64) (d : Fin 512) :
    chunksV x (ix5 n β p t d) = at2 x (4096 * β.val + (64 * n.val + t.val)) (512 * p.val + d.val) := by
  rw [at2_of _ _ _ (by omega) (by omega)]
  pointwise [chunksV]
  refine congrArg x (congrArg₂ ix2 (Fin.ext ?_) (Fin.ext ?_)) <;> dsimp only <;> omega

/-- The logarithms of the decays. -/
def logs : FVec Ideal S16384x1024 .f32 :=
  let g : FVec Ideal S16384x1024 .f32 := Host.negf (addf (Host.dotGeneral dot_S16384x128_S128x1024_S16384x1024_1_0_0_1_n_n none
    (extf .f32 Z bitsLt_bf16_f32) (extf .f32 W bitsLt_bf16_f32)) (broadcastInDim S16384x1024 ![0, 1] bcast_S1x1024_S16384x1024_0_1 G))
  let o : FVec Ideal S16384x1024 .f32 := broadcastInDim S16384x1024 ![] bcast_S_S16384x1024 (constant S_ .f32 0x00000000#32)
  Host.divf (Host.negf (select (cmpf .une (subf g o) (subf g o)) (addf g o)
      (addf (maximumf g o) (Host.log1p (Host.exp (Host.negf (Host.absf (subf g o))))))))
    (broadcastInDim S16384x1024 ![] bcast_S_S16384x1024 (constant S_ .f32 0x41800000#32))

theorem logs_apply (i : Fin 16384) (j : Fin 1024) : logs Z W G (ix2 i j) = lg Z W G i.val j.val := by
  unfold lg
  rw [at2_of (R := 1) (C := 1024) G 0 j.val (by omega) j.isLt]
  have e : ∀ x : Fin 128, at2 (R := 16384) (C := 128) Z i.val x.val * at2 (R := 128) (C := 1024) W x.val j.val
      = Z (ix2 i x) * W (ix2 x j) := fun x => by
    rw [at2_of (R := 16384) (C := 128) Z i.val x.val i.isLt x.isLt, at2_of (R := 128) (C := 1024) W x.val j.val x.isLt j.isLt]
  simp only [e]
  pointwise [logs, logDecay]
  rw [if_neg (not_not.mpr rfl)]

/-- Their running sums. -/
def sumsR : FVec Ideal S64x4x4x64x256 .f32 :=
  Host.reduceWindowAdd ![1, 1, 1, 64, 1] ![1, 1, 1, 1, 1] ![0, 0, 0, 63, 0] ![0, 0, 0, 0, 0] (chunks (logs Z W G))
    (broadcastInDim S_ ![] bcast_S_S_ (constant S_ .f32 0x00000000#32))
    reduceWindows_S64x4x4x64x256_S64x4x4x64x256_w1s1p0_0_w1s1p0_0_w1s1p0_0_w64s1p63_0_w1s1p0_0 h_S_

theorem sumsR_apply (n : Fin 64) (β p : Fin 4) (t : Fin 64) (d : Fin 256) :
    sumsR Z W G (ix5 n β p t d) = from' (4096 * β.val) (dcy Z W G) (64 * n.val + t.val) (256 * p.val + d.val) := by
  unfold sumsR
  refine (cumsum_apply _ _ (by pointwise []) _ _ n β p t d
    (fun s => lg Z W G (4096 * β.val + (64 * n.val + s)) (256 * p.val + d.val)) fun s => ?_).trans ?_
  · rw [chunks_apply, at2_of _ _ _ (by omega) (by omega), logs_apply]
  · unfold from' dcy upTo
    rw [show (4096 * β.val + (64 * n.val + t.val)) % 64 = t.val by omega]
    refine Finset.sum_congr rfl fun s _ => ?_
    dsimp only
    congr 1
    omega

/-- The projection's columns from column `o` on, as the reference slices them. -/
theorem slice_apply (o : ℕ) (h : S16384x6144.Slices ![0, o] S16384x1024) (i j : ℕ) (hi : i < 16384) (hj : j < 1024) (ho : o + j < 6144) :
    at2 (R := 16384) (C := 1024) (extf (F := Ideal) .f32 (extractStridedSlice S16384x1024 ![0, o] P h) bitsLt_bf16_f32) i j = cols P o i j := by
  unfold cols
  rw [at2_of (R := 16384) (C := 1024) _ _ _ hi hj, at2_of P _ _ hi ho]
  pointwise []

theorem sliceV_apply (o : ℕ) (h : S16384x6144.Slices ![0, o] S16384x2048) (i j : ℕ) (hi : i < 16384) (hj : j < 2048) (ho : o + j < 6144) :
    at2 (R := 16384) (C := 2048) (extf (F := Ideal) .f32 (extractStridedSlice S16384x2048 ![0, o] P h) bitsLt_bf16_f32) i j = cols P o i j := by
  unfold cols
  rw [at2_of (R := 16384) (C := 2048) _ _ _ hi hj, at2_of P _ _ hi ho]
  pointwise []

/-- Queries, keys and values by chunk. -/
def qR : FVec Ideal S64x4x4x64x256 .f32 :=
  chunks (extf .f32 (extractStridedSlice S16384x1024 ![0, 0] P slices_S16384x6144_S16384x1024_0_0) bitsLt_bf16_f32)
def kR : FVec Ideal S64x4x4x64x256 .f32 :=
  chunks (extf .f32 (extractStridedSlice S16384x1024 ![0, 1024] P slices_S16384x6144_S16384x1024_0_1024) bitsLt_bf16_f32)
def vR : FVec Ideal S64x4x4x64x512 .f32 :=
  chunksV (extf .f32 (extractStridedSlice S16384x2048 ![0, 2048] P slices_S16384x6144_S16384x2048_0_2048) bitsLt_bf16_f32)

theorem qR_apply (n : Fin 64) (β p : Fin 4) (t : Fin 64) (d : Fin 256) :
    qR P (ix5 n β p t d) = from' (4096 * β.val) (cols P 0) (64 * n.val + t.val) (256 * p.val + d.val) := by
  unfold qR
  rw [chunks_apply]
  exact slice_apply P 0 _ _ _ (by omega) (by omega) (by omega)
theorem kR_apply (n : Fin 64) (β p : Fin 4) (t : Fin 64) (d : Fin 256) :
    kR P (ix5 n β p t d) = from' (4096 * β.val) (cols P 1024) (64 * n.val + t.val) (256 * p.val + d.val) := by
  unfold kR
  rw [chunks_apply]
  exact slice_apply P 1024 _ _ _ (by omega) (by omega) (by omega)
theorem vR_apply (n : Fin 64) (β p : Fin 4) (t : Fin 64) (d : Fin 512) :
    vR P (ix5 n β p t d) = from' (4096 * β.val) (cols P 2048) (64 * n.val + t.val) (512 * p.val + d.val) := by
  unfold vR
  rw [chunksV_apply]
  exact sliceV_apply P 2048 _ _ _ (by omega) (by omega) (by omega)

/-- The queries decayed from the chunk's start, the keys to the chunk's end, each row against the chunk's rows up to it. -/
def qDecR : FVec Ideal S64x4x4x64x256 .f32 := mulf (qR P) (Host.exp (sumsR Z W G))
def lastR : FVec Ideal S64x4x4x1x256 .f32 :=
  extractStridedSlice S64x4x4x1x256 ![0, 0, 0, 63, 0] (sumsR Z W G) slices_S64x4x4x64x256_S64x4x4x1x256_0_0_0_63_0
def kStR : FVec Ideal S64x4x4x64x256 .f32 :=
  mulf (kR P) (Host.exp (subf (broadcastInDim S64x4x4x64x256 ![0, 1, 2, 3, 4] bcast_S64x4x4x1x256_S64x4x4x64x256_0_1_2_3_4 (lastR Z W G))
    (sumsR Z W G)))
def lowerR : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
def intraR : FVec Ideal S64x4x4x64x512 .f32 :=
  Host.dotGeneral dot_S64x4x4x64x64_S64x4x4x64x512_S64x4x4x64x512_4_3_3_4_012_012 none
    (select (broadcastInDim S64x4x4x64x64 ![3, 4] bcast_S64x64_S64x4x4x64x64_3_4 lowerR)
      (Host.dotGeneral dot_S64x4x4x64x256_S64x4x4x64x256_S64x4x4x64x64_4_4_3_3_012_012 none (qDecR P Z W G)
        (mulf (kR P) (Host.exp (Host.negf (sumsR Z W G)))))
      (broadcastInDim S64x4x4x64x64 ![] bcast_S_S64x4x4x64x64 (constant S_ .f32 0x00000000#32))) (vR P)

theorem qDecR_apply (n : Fin 64) (β p : Fin 4) (t : Fin 64) (d : Fin 256) :
    qDecR P Z W G (ix5 n β p t d) = from' (4096 * β.val) (cols P 0) (64 * n.val + t.val) (256 * p.val + d.val)
      * Ideal.exp (from' (4096 * β.val) (dcy Z W G) (64 * n.val + t.val) (256 * p.val + d.val)) := by
  pointwise [qDecR, qR_apply, sumsR_apply]

theorem lastR_apply (n : Fin 64) (β p : Fin 4) (d : Fin 256) :
    lastR Z W G (ix5 n β p 0 d) = from' (4096 * β.val) (dcy Z W G) (64 * n.val + 63) (256 * p.val + d.val) := by
  pointwise [lastR, sumsR_apply]

theorem kStR_apply (n : Fin 64) (β p : Fin 4) (t : Fin 64) (d : Fin 256) :
    kStR P Z W G (ix5 n β p t d) = from' (4096 * β.val) (cols P 1024) (64 * n.val + t.val) (256 * p.val + d.val)
      * Ideal.exp (from' (4096 * β.val) (dcy Z W G) (64 * n.val + 63) (256 * p.val + d.val)
          - from' (4096 * β.val) (dcy Z W G) (64 * n.val + t.val) (256 * p.val + d.val)) := by
  pointwise [kStR, kR_apply, sumsR_apply, lastR_apply]

/-- The mask keeps the rows up to the row. -/
theorem lowerR_apply (t s : Fin 64) : lowerR (ix2 t s) = if s.val ≤ t.val then 1#1 else 0#1 := by
  pointwise [lowerR]
  revert t s
  decide +kernel

theorem intraR_apply (n : Fin 64) (β p : Fin 4) (t : Fin 64) (e : Fin 512) :
    intraR P Z W G (ix5 n β p t e)
      = ∑ s : Fin 64, weight (from' (4096 * β.val) (dcy Z W G)) (from' (4096 * β.val) (cols P 0))
            (from' (4096 * β.val) (cols P 1024)) p.val n.val t.val s.val
          * from' (4096 * β.val) (cols P 2048) (64 * n.val + s.val) (512 * p.val + e.val) := by
  pointwise [intraR, lowerR_apply, qDecR_apply, kR_apply, sumsR_apply, vR_apply]
  refine Finset.sum_congr rfl fun s _ => ?_
  unfold weight
  by_cases h : s.val ≤ t.val
  · simp [h, Scalar.select]
  · simp [h, Scalar.select]

end terms

/-! ## What the loop starts from -/

section entry
variable (m : (ℓ : Loc nD τ sig) → Buf (Elt Ideal) ℓ) (c : Dev nD)

abbrev bP : FVec Ideal S16384x6144 .bf16 := m ((c.tc : Thread nD τ).loc main_arg0)
abbrev bZ : FVec Ideal S16384x128 .bf16 := m ((c.tc : Thread nD τ).loc main_arg1)
abbrev bW : FVec Ideal S128x1024 .bf16 := m ((c.tc : Thread nD τ).loc main_arg2)
abbrev bG : FVec Ideal S1x1024 .f32 := m ((c.tc : Thread nD τ).loc main_arg3)

theorem entry_0 : entryContents preI m c (Proc.devRef .tc main_v40_0) = qDecR (bP m c) (bZ m c) (bW m c) (bG m c) := by
  simp only [entryContents, afterL_cons, afterL_nil]
  after_reads_simp
  rfl
theorem entry_1 : entryContents preI m c (Proc.devRef .tc main_v40_1) = kStR (bP m c) (bZ m c) (bW m c) (bG m c) := by
  simp only [entryContents, afterL_cons, afterL_nil]
  after_reads_simp
  rfl
theorem entry_2 : entryContents preI m c (Proc.devRef .tc main_v40_2) = vR (bP m c) := by
  simp only [entryContents, afterL_cons, afterL_nil]
  after_reads_simp
  rfl
theorem entry_3 : entryContents preI m c (Proc.devRef .tc main_v40_3) = lastR (bZ m c) (bW m c) (bG m c) := by
  simp only [entryContents, afterL_cons, afterL_nil]
  after_reads_simp
  rfl
theorem entry_4 : entryContents preI m c (Proc.devRef .tc main_v40_4) = intraR (bP m c) (bZ m c) (bW m c) (bG m c) := by
  simp only [entryContents, afterL_cons, afterL_nil]
  after_reads_simp
  rfl
theorem entry_6 : entryContents preI m c (Proc.devRef .tc main_v40_6)
    = broadcastInDim S4x4x256x512 ![] bcast_S_S4x4x256x512 (constant (F := Ideal) S_ .f32 0x00000000#32) := by
  simp only [entryContents, afterL_cons, afterL_nil]
  after_reads_simp
  rfl

end entry

end Cert.GlaEq
-- ==== Proof.Gla.Loop.lean ====
/- The reference's loop over the chunks, over the extended reals: the state and the outputs after each trip, and the result. -/
module

public import proofs.«01_k».proof.Defs
public import proofs.«01_k».proof.Proof.Gen.ReferenceIdeal.Run
public import proofs.«01_k».proof.Proof.Gla.Entry
public import Idealize.ShloMosaic.Lib.Pointwise
public import Idealize.ShloMosaic.Lib.WordCmp

@[expose] public section

set_option maxRecDepth 16384

noncomputable section

namespace Cert.GlaEq

open Idealize.ShloMosaic Idealize.ShloMosaic.TcCoe Idealize.SL.Sem
open Idealize.ShloMosaic.Tactic Idealize.ShloMosaic.StableHlo Idealize.ShloMosaic.Pipeline
open Cert.ReferenceIdeal Cert.ReferenceIdeal.Gen Cert.ReferenceIdeal.Value

/-! ## The decays -/

/-- An exponential is not negative. -/
theorem exp_nonneg (x : EReal) : 0 ≤ Ideal.exp x := by
  induction x using EReal.rec with
  | bot => simp
  | top => simp
  | coe r => rw [Ideal.exp_coe]; exact_mod_cast (Real.exp_pos r).le

/-- The logarithm of one plus a number that is not negative is not negative. -/
theorem log1p_nonneg (y : EReal) (h : 0 ≤ y) : 0 ≤ Ideal.log1p y := by
  unfold Ideal.log1p
  induction y using EReal.rec with
  | bot => simp at h
  | top =>
    rw [show (1 : EReal) + ⊤ = ⊤ from rfl, Ideal.log_top]
    exact le_top
  | coe r =>
    have hr : 0 ≤ r := by exact_mod_cast h
    rw [show (1 : EReal) + (r : EReal) = ((1 + r : ℝ) : EReal) from rfl, Ideal.log_coe, if_neg (by linarith)]
    exact_mod_cast Real.log_nonneg (by linarith)

/-- The logarithm of a decay is not positive. -/
theorem logDecay_nonpos (g : EReal) : logDecay g ≤ 0 := by
  have h16 : Ideal.ofBits .f32 0x41800000#32 = ((16 : ℝ) : EReal) := by
    simp [Ideal.ofBits, Ideal.ieee, -EReal.coe_mul]; norm_num
  unfold logDecay
  rw [h16, Ideal.div_coe (by norm_num), neg_mul]
  have h : 0 ≤ (max (-g) 0 + Ideal.log1p (Ideal.exp (-(FloatOps.absf (F := Ideal) (φ := .f32) (-g)))))
      * ((1 / 16 : ℝ) : EReal) :=
    mul_nonneg (add_nonneg (le_max_right _ _) (log1p_nonneg _ (exp_nonneg _))) (by norm_cast; norm_num)
  exact EReal.neg_le_zero.mpr h

section terms
variable (Z : Vec Ideal S16384x128 .bf16) (W : Vec Ideal S128x1024 .bf16) (G : Vec Ideal S1x1024 .f32)

theorem dcy_nonpos (r j : ℕ) : dcy Z W G r j ≤ 0 := by
  unfold dcy upTo
  exact Finset.sum_nonpos fun _ _ => logDecay_nonpos _

/-- Where a row's decay is total, so is its chunk's. -/
theorem dcy_last (o n t j : ℕ) (ho : o % 64 = 0) (ht : t < 64) (h : from' o (dcy Z W G) (64 * n + t) j = ⊥) :
    from' o (dcy Z W G) (64 * n + 63) j = ⊥ := by
  unfold from' dcy upTo at *
  have e : (o + (64 * n + 63)) % 64 + 1 = ((o + (64 * n + t)) % 64 + 1) + (63 - t) := by omega
  have e2 : (o + (64 * n + 63)) / 64 = (o + (64 * n + t)) / 64 := by omega
  rw [e, e2, Finset.sum_range_add, h, EReal.bot_add]

/-- Decaying back to the chunk's start and on to its end is decaying to its end. -/
theorem exp_split (k b l : EReal) (hb : b ≤ 0) (hl : l ≤ 0) (h : b = ⊥ → l = ⊥) :
    k * Ideal.exp (l - b) = k * Ideal.exp (0 - b) * Ideal.exp l := by
  rw [mul_assoc]
  congr 1
  induction l using EReal.rec with
  | bot =>
    rw [Ideal.exp_bot, mul_zero, sub_eq_add_neg, EReal.bot_add, Ideal.exp_bot]
  | top => exact absurd hl (by simp)
  | coe l =>
    induction b using EReal.rec with
    | bot => exact absurd (h rfl) (by simp)
    | top => exact absurd hb (by simp)
    | coe b =>
      rw [zero_sub, ← EReal.coe_neg, ← EReal.coe_sub, Ideal.exp_coe, Ideal.exp_coe, Ideal.exp_coe, ← EReal.coe_mul, ← Real.exp_add]
      congr 2
      ring

end terms

/-! ## One trip -/

theorem ofNat_toInt (n : Fin 64) : (BitVec.ofNat 32 n.val).toInt = (n.val : Int) := by
  revert n; decide +kernel

/-- The chunk's number and four zeros. -/
abbrev at0 (n : ℕ) : Fin 5 → ℕ := ![n, 0, 0, 0, 0]

theorem starts_eq (x : IVec S_ 32) (n : Fin 64) (hx : x = fun _ => BitVec.ofNat 32 n.val) (a : Fin 5) :
    (((![x, constantI S_ 32 0#32, constantI S_ 32 0#32, constantI S_ 32 0#32, constantI S_ 32 0#32] :
      Fin 5 → (⟨S_, .i32⟩ : BufTy).Contents (Elt Ideal))) a (Shape.Idx.first h_S_)).toInt = (at0 n.val a : Int) := by
  subst hx
  fin_cases a
  · exact ofNat_toInt n
  all_goals rfl

theorem sl1 (n : Fin 64) : S64x4x4x1x256.Slices (at0 n.val) S1x4x4x1x256 := by revert n; decide +kernel
theorem sl2 (n : Fin 64) : S64x4x4x64x256.Slices (at0 n.val) S1x4x4x64x256 := by revert n; decide +kernel
theorem sl3 (n : Fin 64) : S64x4x4x64x512.Slices (at0 n.val) S1x4x4x64x512 := by revert n; decide +kernel

theorem pick1 (n : Fin 64) (x : FVec Ideal S64x4x4x1x256 .f32) (β p : Fin 4) (d : Fin 256) :
    extractStridedSlice S1x4x4x1x256 (at0 n.val) x (sl1 n) (ix5 0 β p 0 d) = x (ix5 n β p 0 d) := by
  pointwise []
theorem pick2 (n : Fin 64) (x : FVec Ideal S64x4x4x64x256 .f32) (β p : Fin 4) (t : Fin 64) (d : Fin 256) :
    extractStridedSlice S1x4x4x64x256 (at0 n.val) x (sl2 n) (ix5 0 β p t d) = x (ix5 n β p t d) := by
  pointwise []
theorem pick3 (n : Fin 64) (x : FVec Ideal S64x4x4x64x512 .f32) (β p : Fin 4) (t : Fin 64) (d : Fin 512) :
    extractStridedSlice S1x4x4x64x512 (at0 n.val) x (sl3 n) (ix5 0 β p t d) = x (ix5 n β p t d) := by
  pointwise []

section trip
variable (V : Valuation τ sig (Elt Ideal)) (n : Fin 64)
  (A0 A1 : FVec Ideal S64x4x4x64x256 .f32) (A2 A4 A7 : FVec Ideal S64x4x4x64x512 .f32) (A3 : FVec Ideal S64x4x4x1x256 .f32)
  (A6 : FVec Ideal S4x4x256x512 .f32)

/-- The state after chunk `n`, of the state before it. -/
def nextState : FVec Ideal S4x4x256x512 .f32 :=
  addf (mulf (broadcastInDim S4x4x256x512 ![0, 1, 2, 3] bcast_S4x4x256x1_S4x4x256x512_0_1_2_3
      (broadcastInDim S4x4x256x1 ![0, 1, 2] bcast_S4x4x256_S4x4x256x1_0_1_2
        (shapeCast S4x4x256 (Host.exp (shapeCast S4x4x1x256 (extractStridedSlice S1x4x4x1x256 (at0 n.val) A3 (sl1 n))
          shapeCasts_S1x4x4x1x256_S4x4x1x256)) shapeCasts_S4x4x1x256_S4x4x256))) A6)
    (Host.dotGeneral dot_S4x4x64x256_S4x4x64x512_S4x4x256x512_2_2_3_3_01_01 none
      (shapeCast S4x4x64x256 (extractStridedSlice S1x4x4x64x256 (at0 n.val) A1 (sl2 n)) shapeCasts_S1x4x4x64x256_S4x4x64x256)
      (shapeCast S4x4x64x512 (extractStridedSlice S1x4x4x64x512 (at0 n.val) A2 (sl3 n)) shapeCasts_S1x4x4x64x512_S4x4x64x512))

theorem nextState_apply (β p : Fin 4) (d : Fin 256) (e : Fin 512) :
    nextState n A1 A2 A3 A6 (ix4 β p d e) = Ideal.exp (A3 (ix5 n β p 0 d)) * A6 (ix4 β p d e)
      + ∑ t : Fin 64, A1 (ix5 n β p t d) * A2 (ix5 n β p t e) := by
  pointwise [nextState]

theorem trip6 (hx : V (Proc.devRef .tc main_v40_5) = fun _ => BitVec.ofNat 32 n.val)
    (h1 : V (Proc.devRef .tc main_v40_1) = A1) (h2 : V (Proc.devRef .tc main_v40_2) = A2)
    (h3 : V (Proc.devRef .tc main_v40_3) = A3) (h6 : V (Proc.devRef .tc main_v40_6) = A6)
    : step_main_v40_6 V = nextState n A1 A2 A3 A6 := by
  unfold step_main_v40_6
  rw [h1, h2, h3, h6, WordCmp.dynamicSlice_eq_extract _ _ _ _ (at0 n.val) (sl1 n) (starts_eq _ n hx),
    WordCmp.dynamicSlice_eq_extract _ _ _ _ (at0 n.val) (sl2 n) (starts_eq _ n hx),
    WordCmp.dynamicSlice_eq_extract _ _ _ _ (at0 n.val) (sl3 n) (starts_eq _ n hx)]
  rfl

/-- The output of chunk `n`. -/
def chunkOut : FVec Ideal S4x4x64x512 .f32 :=
  addf (shapeCast S4x4x64x512 (extractStridedSlice S1x4x4x64x512 (at0 n.val) A4 (sl3 n)) shapeCasts_S1x4x4x64x512_S4x4x64x512)
    (Host.dotGeneral dot_S4x4x64x256_S4x4x256x512_S4x4x64x512_3_2_2_3_01_01 none
      (shapeCast S4x4x64x256 (extractStridedSlice S1x4x4x64x256 (at0 n.val) A0 (sl2 n)) shapeCasts_S1x4x4x64x256_S4x4x64x256) A6)

theorem chunkOut_apply (β p : Fin 4) (t : Fin 64) (e : Fin 512) :
    chunkOut n A0 A4 A6 (ix4 β p t e) = A4 (ix5 n β p t e) + ∑ d : Fin 256, A0 (ix5 n β p t d) * A6 (ix4 β p d e) := by
  pointwise [chunkOut]

/-- The outputs after chunk `n`. -/
theorem trip7 (hx : V (Proc.devRef .tc main_v40_5) = fun _ => BitVec.ofNat 32 n.val)
    (h0 : V (Proc.devRef .tc main_v40_0) = A0) (h4 : V (Proc.devRef .tc main_v40_4) = A4)
    (h6 : V (Proc.devRef .tc main_v40_6) = A6) (h7 : V (Proc.devRef .tc main_v40_7) = A7)
    (n' : Fin 64) (β p : Fin 4) (t : Fin 64) (e : Fin 512) :
    step_main_v40_7 V (ix5 n' β p t e) = if n' = n then chunkOut n A0 A4 A6 (ix4 β p t e) else A7 (ix5 n' β p t e) := by
  unfold step_main_v40_7
  rw [h0, h4, h6, h7, WordCmp.dynamicSlice_eq_extract _ _ _ _ (at0 n.val) (sl3 n) (starts_eq _ n hx),
    WordCmp.dynamicSlice_eq_extract _ _ _ _ (at0 n.val) (sl2 n) (starts_eq _ n hx),
    WordCmp.dynamicUpdateSlice_eq_update _ _ _ _ (at0 n.val) (sl3 n) (starts_eq _ n hx)]
  change updateSlice A7 (broadcastInDim S1x4x4x64x512 ![1, 2, 3, 4] bcast_S4x4x64x512_S1x4x4x64x512_1_2_3_4 (chunkOut n A0 A4 A6))
    (at0 n.val) (sl3 n) (ix5 n' β p t e) = _
  generalize chunkOut n A0 A4 A6 = C
  pointwise []
  by_cases h : n' = n
  · rw [if_pos h, dif_pos ⟨by rw [h], by rw [h]; omega⟩]
  · rw [if_neg h, dif_neg fun hh => h (Fin.ext (by omega))]

end trip

/-! ## All trips -/

section trips
variable (m : (ℓ : Loc nD τ sig) → Buf (Elt Ideal) ℓ) (c : Dev nD)

/-- The contents before trip `k`. -/
abbrev trips (k : ℕ) : Valuation τ sig (Elt Ideal) := STEP^[k] (entryContents preI m c)

/-- The result's rows before normalization at sequence `s`. -/
abbrev outOf (P : Vec Ideal S16384x6144 .bf16) (Z : Vec Ideal S16384x128 .bf16) (W : Vec Ideal S128x1024 .bf16)
    (G : Vec Ideal S1x1024 .f32) (s : ℕ) : ℕ → ℕ → ℕ → ℕ → EReal :=
  out (from' (4096 * s) (dcy Z W G)) (from' (4096 * s) (cols P 0)) (from' (4096 * s) (cols P 1024))
    (from' (4096 * s) (cols P 2048)) (fun _ _ _ => 0)

/-- Before trip `k` the counter is `k`, the operands are the entry's, the state is the one after `k` chunks, and the first
    `k` chunks' outputs are in place. -/
theorem trips_hold (k : ℕ) (hk : k ≤ 64) :
    trips m c k (Proc.devRef .tc main_v40_5) = (fun _ => BitVec.ofNat 32 k)
    ∧ trips m c k (Proc.devRef .tc main_v40_0) = qDecR (bP m c) (bZ m c) (bW m c) (bG m c)
    ∧ trips m c k (Proc.devRef .tc main_v40_1) = kStR (bP m c) (bZ m c) (bW m c) (bG m c)
    ∧ trips m c k (Proc.devRef .tc main_v40_2) = vR (bP m c)
    ∧ trips m c k (Proc.devRef .tc main_v40_3) = lastR (bZ m c) (bW m c) (bG m c)
    ∧ trips m c k (Proc.devRef .tc main_v40_4) = intraR (bP m c) (bZ m c) (bW m c) (bG m c)
    ∧ (∃ A6 : FVec Ideal S4x4x256x512 .f32, trips m c k (Proc.devRef .tc main_v40_6) = A6 ∧
        ∀ (β p : Fin 4) (d : Fin 256) (e : Fin 512),
          A6 (ix4 β p d e) = stateOf (bP m c) (bZ m c) (bW m c) (bG m c) β.val p.val k e.val d.val)
    ∧ ∃ A7 : FVec Ideal S64x4x4x64x512 .f32, trips m c k (Proc.devRef .tc main_v40_7) = A7 ∧
        ∀ (n : Fin 64) (β p : Fin 4) (t : Fin 64) (e : Fin 512), n.val < k →
          A7 (ix5 n β p t e) = outOf (bP m c) (bZ m c) (bW m c) (bG m c) β.val p.val n.val t.val e.val := by
  induction k with
  | zero =>
    refine ⟨ctr_entry m c, entry_0 m c, entry_1 m c, entry_2 m c, entry_3 m c, entry_4 m c, ⟨_, entry_6 m c, ?_⟩, ⟨_, rfl, ?_⟩⟩
    · intro β p d e
      pointwise []
      rfl
    · intro n β p t e h
      exact absurd h (Nat.not_lt_zero _)
  | succ k ih =>
    obtain ⟨h5, h0, h1, h2, h3, h4, ⟨A6, h6, v6⟩, A7, h7, v7⟩ := ih (by omega)
    have hn : k < 64 := by omega
    rw [show trips m c (k + 1) = STEP (trips m c k) from Function.iterate_succ_apply' _ _ _]
    refine ⟨?_, (STEP_main_v40_0 _).trans h0, (STEP_main_v40_1 _).trans h1, (STEP_main_v40_2 _).trans h2,
      (STEP_main_v40_3 _).trans h3, (STEP_main_v40_4 _).trans h4,
      ⟨_, (STEP_main_v40_6 _).trans (trip6 _ ⟨k, hn⟩ _ _ _ _ h5 h1 h2 h3 h6), ?_⟩, ⟨_, STEP_main_v40_7 _, ?_⟩⟩
    · rw [STEP_main_v40_5]
      unfold step_main_v40_5
      rw [h5]
      funext _
      exact (BitVec.ofNat_add k 1).symm
    · intro β p d e
      rw [nextState_apply, v6, lastR_apply]
      unfold stateOf
      rw [state]
      refine congrArg₂ _ rfl (Finset.sum_congr rfl fun t _ => ?_)
      rw [kStR_apply, vR_apply, mul_comm]
      refine congrArg₂ _ rfl (exp_split _ _ _ (dcy_nonpos _ _ _ _ _) (dcy_nonpos _ _ _ _ _)
        (dcy_last _ _ _ _ _ _ _ (by omega) t.isLt))
    · intro n β p t e h
      rw [trip7 _ ⟨k, hn⟩ _ _ _ _ h5 h0 h4 h6 h7]
      by_cases hnk : n = ⟨k, hn⟩
      · rw [if_pos hnk, chunkOut_apply, intraR_apply]
        subst hnk
        unfold outOf out
        refine congrArg₂ _ rfl (Finset.sum_congr rfl fun d _ => ?_)
        rw [qDecR_apply, v6]
        rfl
      · rw [if_neg hnk]
        exact v7 n β p t e (by have := Fin.val_ne_of_ne hnk; dsimp only at this; omega)

end trips

/-! ## The result -/

/-- The chunks' outputs by row, head and column. -/
def byRow (A7 : FVec Ideal S64x4x4x64x512 .f32) : FVec Ideal S16384x4x512 .f32 :=
  shapeCast S16384x4x512 (transpose S4x64x64x4x512 [1, 0, 3, 2, 4] A7 transposes_S64x4x4x64x512_S4x64x64x4x512_1_0_3_2_4)
    shapeCasts_S4x64x64x4x512_S16384x4x512

theorem byRow_apply (A7 : FVec Ideal S64x4x4x64x512 .f32) (i : Fin 16384) (p : Fin 4) (e : Fin 512) :
    byRow A7 (ix3 i p e) = A7 (ix5 ⟨i.val % 4096 / 64, by omega⟩ ⟨i.val / 4096, by omega⟩ p ⟨i.val % 4096 % 64, by omega⟩ e) := by
  pointwise [byRow]
  have h1 : (⟨i.val / 64 % 64, by omega⟩ : Fin 64) = ⟨i.val % 4096 / 64, by omega⟩ := Fin.ext (by dsimp only; omega)
  have h2 : (⟨i.val % 64, by omega⟩ : Fin 64) = ⟨i.val % 4096 % 64, by omega⟩ := Fin.ext (by dsimp only; omega)
  rw [h1, h2]

/-- The rows normalized by head, weighted and gated. -/
def gatedR (O : FVec Ideal S16384x4x512 .f32) (N : FVec Ideal S1x512 .f32) (P : FVec Ideal S16384x6144 .bf16) :
    FVec Ideal S16384x2048 .bf16 :=
  truncf .bf16 (mulf (shapeCast S16384x2048 (mulf (mulf O (broadcastInDim S16384x4x512 ![0, 1, 2] bcast_S16384x4x1_S16384x4x512_0_1_2
      (Host.rsqrt (addf (Host.divf (broadcastInDim S16384x4x1 ![0, 1] bcast_S16384x4_S16384x4x1_0_1
          (Host.reduceAdd (mulf O O) (constant S_ .f32 0x00000000#32) reducesTo_S16384x4x512_S16384x4_d2 h_S_))
        (broadcastInDim S16384x4x1 ![] bcast_S_S16384x4x1 (constant S_ .f32 0x44000000#32)))
        (broadcastInDim S16384x4x1 ![] bcast_S_S16384x4x1 (constant S_ .f32 0x358637BD#32))))))
      (broadcastInDim S16384x4x512 ![0, 1, 2] bcast_S1x1x512_S16384x4x512_0_1_2
        (broadcastInDim S1x1x512 ![2] bcast_S512_S1x1x512_2 (shapeCast S512 N shapeCasts_S1x512_S512)))) shapeCasts_S16384x4x512_S16384x2048)
    (mulf (extf .f32 (extractStridedSlice S16384x2048 ![0, 4096] P slices_S16384x6144_S16384x2048_0_4096) bitsLt_bf16_f32)
      (Host.divf (broadcastInDim S16384x2048 ![] bcast_S_S16384x2048 (constant S_ .f32 0x3F800000#32))
        (addf (broadcastInDim S16384x2048 ![] bcast_S_S16384x2048 (constant S_ .f32 0x3F800000#32))
          (Host.exp (Host.negf (extf .f32 (extractStridedSlice S16384x2048 ![0, 4096] P slices_S16384x6144_S16384x2048_0_4096)
            bitsLt_bf16_f32))))))) bitsLt_bf16_f32

theorem gatedR_apply (O : FVec Ideal S16384x4x512 .f32) (N : FVec Ideal S1x512 .f32) (P : FVec Ideal S16384x6144 .bf16)
    (i : Fin 16384) (j : Fin 2048) :
    gatedR O N P (ix2 i j)
      = O (ix3 i ⟨j.val / 512, by omega⟩ ⟨j.val % 512, by omega⟩)
        * Ideal.rsqrt (Ideal.div (∑ e : Fin 512, O (ix3 i ⟨j.val / 512, by omega⟩ e) * O (ix3 i ⟨j.val / 512, by omega⟩ e))
            (Ideal.ofBits .f32 0x44000000#32) + Ideal.ofBits .f32 0x358637BD#32)
        * N (ix2 0 ⟨j.val % 512, by omega⟩)
        * (P (ix2 i ⟨4096 + j.val, by omega⟩) * Ideal.logistic (P (ix2 i ⟨4096 + j.val, by omega⟩))) := by
  unfold gatedR Ideal.logistic
  pointwise []

section result
variable (m : (ℓ : Loc nD τ sig) → Buf (Elt Ideal) ℓ) (c : Dev nD)

abbrev bN : FVec Ideal S1x512 .f32 := m ((c.tc : Thread nD τ).loc main_arg4)

/-- The reference's result at row `i` and column `j`. -/
theorem ref_apply (i : Fin 16384) (j : Fin 2048) :
    out_main_v62 (STEP^[64] (entryContents preI m c)) (ix2 i j)
      = resOf (bP m c) (bZ m c) (bW m c) (bG m c) (bN m c) (i.val / 4096) (i.val % 4096) j.val := by
  obtain ⟨_, _, _, _, _, _, _, A7, h7, v7⟩ := trips_hold m c 64 le_rfl
  have h : out_main_v62 (STEP^[64] (entryContents preI m c)) = gatedR (byRow A7) (bN m c) (bP m c) := by
    unfold out_main_v62
    have h7' : (STEP^[64] (entryContents preI m c)) (Proc.devRef .tc main_v40_7) = A7 := h7
    rw [h7', iter_main_arg4, iter_main_arg0]
    rfl
  have hO : ∀ (p : Fin 4) (e : Fin 512), byRow A7 (ix3 i p e)
      = outAt (from' (4096 * (i.val / 4096)) (dcy (bZ m c) (bW m c) (bG m c))) (from' (4096 * (i.val / 4096)) (cols (bP m c) 0))
        (from' (4096 * (i.val / 4096)) (cols (bP m c) 1024)) (from' (4096 * (i.val / 4096)) (cols (bP m c) 2048)) (fun _ _ _ => 0)
        (i.val % 4096) (512 * p.val + e.val) := by
    intro p e
    rw [byRow_apply, v7 _ _ _ _ _ (by dsimp only; omega)]
    unfold outAt
    rw [show (512 * p.val + e.val) / 512 = p.val by omega, show (512 * p.val + e.val) % 512 = e.val by omega]
  rw [h, gatedR_apply]
  unfold resOf yAt
  simp only [hO]
  rw [show 512 * (j.val / 512) + j.val % 512 = j.val by omega, at2_of (bN m c) 0 _ (by omega) (by omega)]
  have hr : from' (4096 * (i.val / 4096)) (cols (bP m c) 4096) (i.val % 4096) j.val = bP m c (ix2 i ⟨4096 + j.val, by omega⟩) := by
    unfold from' cols
    rw [show 4096 * (i.val / 4096) + i.val % 4096 = i.val by omega, at2_of (bP m c) _ _ i.isLt (by omega)]
  rw [hr]
  rfl

end result

end Cert.GlaEq
-- ==== Proof.Gla.Value.lean ====
/- Gated linear attention: the kernel's value is the reference's. -/
module

public import proofs.«01_k».proof.Defs
public import proofs.«01_k».proof.Proof.Gen.KernelIdeal.Value
public import proofs.«01_k».proof.Proof.Gla.Points
public import proofs.«01_k».proof.Proof.Gla.Loop

@[expose] public section

set_option maxRecDepth 16384

noncomputable section

namespace Cert.GlaEq

open Idealize.ShloMosaic Idealize.ShloMosaic.TcCoe Idealize.SL.Sem

/-- The reference ends with its arguments as they were and no semaphore raised. -/
theorem frame_ref : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

/-- From equal arguments the kernel and the reference end with the same result. -/
theorem algebraic : Cert.algebraic_KernelIdeal_ReferenceIdeal := by
  intro m g m' g' _ hargs
  refine ⟨fun c => Cert.KernelIdeal.Value.G8 m c, Cert.KernelIdeal.Value.run m g,
    (θ_run _ _ _).mono (fun r h c => ⟨?_, (h c).2⟩) (Cert.ReferenceIdeal.Value.run m' g')⟩
  obtain ⟨h0, h1, h2, h3, h4⟩ := hargs c
  rw [(h c).1]
  funext i
  idx_vars i
  refine (ref_apply m' c i0 i1).trans (Eq.trans ?_ (value m c i0 i1).symm)
  unfold bP bZ bW bG bN aP aZ aW aG aN
  rw [h0, h1, h2, h3, h4]

end Cert.GlaEq
-- ==== Proof.LayerNorm.lean ====
/- Layer normalization of one row of 2048 extended reals, as both the kernels' bodies and the references compute it. -/
module

public import Idealize.ShloMosaic.Lib.Pointwise

@[expose] public section

noncomputable section

namespace Cert.RowNorm

open Idealize.ShloMosaic

/-- The mean of a row of 2048. -/
def mean (z : Fin 2048 → EReal) : EReal :=
  Ideal.div (∑ j, z j) (Ideal.ofBits .f32 0x45000000#32)

/-- A row normalized to its mean and variance, scaled by `g` and shifted by `b`. -/
def norm (z : Fin 2048 → EReal) (g b : EReal) (j : Fin 2048) : EReal :=
  (z j - mean z)
      * Ideal.rsqrt (mean (fun k => (z k - mean z) * (z k - mean z)) + Ideal.ofBits .f32 0x3727C5AC#32)
      * g + b

/-- A residual row: `h` weighted by the residual's constant, plus the branch `y`. -/
def residual (h y : Fin 2048 → EReal) (j : Fin 2048) : EReal :=
  Ideal.ofBits .f32 0x3FD744FD#32 * h j + y j

end Cert.RowNorm
end
-- ==== Proof.Mlp.Value.lean ====
/- The feed-forward part with its residual and layer normalization: what the kernel's run leaves in its two results,
   index by index, equals the reference's terms.

   Grid point `8 q + f` adds, to the 512 rows of row block `q`, what the 1024 hidden units of block `f` contribute; the
   accumulator is reset at `f = 0` and the rows are normalized and written at `f = 7`. -/
module

public import proofs.«01_k».proof.Defs
public import proofs.«01_k».proof.Proof.LayerNorm
public import proofs.«01_k».proof.Proof.Gen.MlpIdeal.Value
public import proofs.«01_k».proof.Proof.Gen.MlpRefIdeal.Run
public import Idealize.ShloMosaic.Lib.Pointwise

@[expose] public section

set_option maxRecDepth 16384

noncomputable section

namespace Cert.MlpEq

open Idealize.ShloMosaic Idealize.ShloMosaic.TcCoe Idealize.SL.Sem

/-! ## The function both compute -/

section spec
variable (x : FVec Ideal ⟨2, ![16384, 2048]⟩ .bf16) (w₁ : FVec Ideal ⟨3, ![4, 2048, 8192]⟩ .bf16)
  (w₂ : FVec Ideal ⟨3, ![4, 8192, 2048]⟩ .bf16) (h : FVec Ideal ⟨2, ![16384, 2048]⟩ .f32)
  (g b : FVec Ideal ⟨2, ![1, 2048]⟩ .f32)

/-- What hidden unit `f` contributes to column `j` of row `r`: the squared positive part of its input, times its weight. -/
def unit (r : Fin 16384) (j : Fin 2048) (f : Fin 8192) : EReal :=
  max (∑ k : Fin 2048, x (ix2 r k) * w₁ (ix3 3 k f)) 0 * max (∑ k : Fin 2048, x (ix2 r k) * w₁ (ix3 3 k f)) 0
    * w₂ (ix3 3 f j)

/-- The same at any number, nothing from 8192 on. -/
def unitN (r : Fin 16384) (j : Fin 2048) (f : ℕ) : EReal :=
  if hf : f < 8192 then unit x w₁ w₂ r j ⟨f, hf⟩ else 0

/-- The contributions of all numbers below 8192 are those of the hidden units. -/
theorem sum_unitN (r : Fin 16384) (j : Fin 2048) :
    ∑ f ∈ Finset.range 8192, unitN x w₁ w₂ r j f = ∑ f : Fin 8192, unit x w₁ w₂ r j f := by
  rw [Finset.sum_range]
  exact Finset.sum_congr rfl fun f _ => dif_pos f.isLt

/-- One row of the result: the sum of the contributions, the residual, the normalization. -/
def row (r : Fin 16384) (j : Fin 2048) : EReal :=
  RowNorm.norm (RowNorm.residual (fun j => h (ix2 r j)) (fun j => ∑ f : Fin 8192, unit x w₁ w₂ r j f))
    (g (ix2 0 j)) (b (ix2 0 j)) j

end spec

section reference
open Cert.MlpRefIdeal Cert.MlpRefIdeal.Gen Cert.MlpRefIdeal.Value
variable (m : (ℓ : Loc nD τ sig) → Buf (Elt Ideal) ℓ) (c : Dev nD)

/-- The reference's first result at an index. -/
theorem ref_apply (r : Fin 16384) (j : Fin 2048) :
    res_main_v33 m c (ix2 r j)
      = row (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) r j := by
  pointwise [res_main_v33, row, unit, RowNorm.norm, RowNorm.residual, RowNorm.mean]

/-- The reference's second result at an index: the first rounded, over the extended reals the same value. -/
theorem ref_apply' (r : Fin 16384) (j : Fin 2048) :
    res_main_v34 m c (ix2 r j)
      = row (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) r j := by
  pointwise [res_main_v34, row, unit, RowNorm.norm, RowNorm.residual, RowNorm.mean]

end reference

open Cert.MlpIdeal Cert.MlpIdeal.Gen Cert.MlpIdeal.Value

/-! ## The body's payloads at an index -/

theorem hz : (![0, 0] : Fin 2 → Nat) = fun _ => 0 := funext fun a => by fin_cases a <;> rfl
theorem hz3 : (![0, 0, 0] : Fin 3 → Nat) = fun _ => 0 := funext fun a => by fin_cases a <;> rfl

/-- The accumulator is reset to zero. -/
theorem pay1_apply (r : Fin 512) (j : Fin 2048) : k0_pay1 (F := Ideal) (ix2 r j) = 0 := by
  pointwise [k0_pay1]

/-- A point adds the contributions of its 1024 hidden units. -/
theorem pay2_apply (x : Vec Ideal S512x2048 .bf16) (w₁ : Vec Ideal S1x2048x1024 .bf16) (acc : Vec Ideal S512x2048 .f32)
    (w₂ : Vec Ideal S1x1024x2048 .bf16) (r : Fin 512) (j : Fin 2048) :
    k0_pay2 x w₁ acc w₂ (ix2 r j)
      = acc (ix2 r j) + ∑ f : Fin 1024, max (∑ k : Fin 2048, x (ix2 r k) * w₁ (ix3 0 k f)) 0
          * max (∑ k : Fin 2048, x (ix2 r k) * w₁ (ix3 0 k f)) 0 * w₂ (ix3 0 f j) := by
  pointwise [k0_pay2]

/-- The last point of a row block normalizes the residual row. -/
theorem pay3_apply (h acc : Vec Ideal S512x2048 .f32) (g b : Vec Ideal S1x2048 .f32) (r : Fin 512) (j : Fin 2048) :
    k0_pay3 h acc g b (ix2 r j)
      = RowNorm.norm (RowNorm.residual (fun j => h (ix2 r j)) (fun j => acc (ix2 r j))) (g (ix2 0 j)) (b (ix2 0 j)) j := by
  pointwise [k0_pay3, RowNorm.norm, RowNorm.residual, RowNorm.mean]
theorem pay4_apply (h acc : Vec Ideal S512x2048 .f32) (g b : Vec Ideal S1x2048 .f32) (r : Fin 512) (j : Fin 2048) :
    k0_pay4 h acc g b (ix2 r j)
      = RowNorm.norm (RowNorm.residual (fun j => h (ix2 r j)) (fun j => acc (ix2 r j))) (g (ix2 0 j)) (b (ix2 0 j)) j := by
  pointwise [k0_pay4, k0_pay3, RowNorm.norm, RowNorm.residual, RowNorm.mean]

/-! ## The body's named terms -/

section body
variable (c : Dev nD) (i : grid0.Coords)
  (a2 : Memref sig .tc .vmem S512x2048 .bf16) (h2 : a2.IsWhole)
  (a3 : Memref sig .tc .vmem S1x2048x1024 .bf16) (h3 : a3.IsWhole)
  (a4 : Memref sig .tc .vmem S1x1024x2048 .bf16) (h4 : a4.IsWhole)
  (a5 : Memref sig .tc .vmem S512x2048 .f32) (h5 : a5.IsWhole)
  (a6 : Memref sig .tc .vmem S1x2048 .f32) (h6 : a6.IsWhole)
  (a7 : Memref sig .tc .vmem S1x2048 .f32) (h7 : a7.IsWhole)
  (a8 : Memref sig .tc .vmem S512x2048 .f32) (h8 : a8.IsWhole)
  (a9 : Memref sig .tc .vmem S512x2048 .bf16) (h9 : a9.IsWhole)
  (a10 : Memref sig .tc .vmem S512x2048 .f32) (h10 : a10.IsWhole)
  (x : Vec Ideal S512x2048 .bf16) (w₁ : Vec Ideal S1x2048x1024 .bf16) (w₂ : Vec Ideal S1x1024x2048 .bf16)
  (h : Vec Ideal S512x2048 .f32) (g b : Vec Ideal S1x2048 .f32) (xs : Vec Ideal S512x2048 .f32)

/-- The first point of a row block leaves the contributions of its hidden units over zero. -/
theorem scratch_A (hc : cond0_0 i) (hd : ¬ cond0_1 i) :
    sout0_A_0 c i a2 h2 a3 h3 a4 h4 a5 h5 a6 h6 a7 h7 a8 h8 a9 h9 a10 h10 hc hd x w₁ w₂ h g b
      = k0_pay2 x w₁ (k0_pay1 (F := Ideal)) w₂ := by
  unfold sout0_A_0
  rw [View.read_writes_eq_canon _ _ _
    (scover0_A_0 c i a2 h2 a3 h3 a4 h4 a5 h5 a6 h6 a7 h7 a8 h8 a9 h9 a10 h10 hc hd x w₁ w₂ h g b)]
  unfold kernelRun0_A; dsimp only
  sl_unfold_words
  rw [View.canon_cons_unit_zero (S := S512x2048) hz, View.readCov_unit_zero (S := S512x2048) _ hz]
  simp only [View.readAt_eq_ld, h2.read_unread, h3.read_unread, h4.read_unread, View.ld_unit_zero (S := S512x2048) hz,
    View.ld_unit_zero (S := S1x2048x1024) hz3, View.ld_unit_zero (S := S1x1024x2048) hz3]

/-- A middle point adds the contributions of its hidden units. -/
theorem scratch_B (hc : ¬ cond0_0 i) (hd : ¬ cond0_1 i) :
    sout0_B_0 c i a2 h2 a3 h3 a4 h4 a5 h5 a6 h6 a7 h7 a8 h8 a9 h9 a10 h10 hc hd x w₁ w₂ h g b xs
      = k0_pay2 x w₁ xs w₂ := by
  unfold sout0_B_0
  rw [View.read_writes_eq_canon _ _ _
    (scover0_B_0 c i a2 h2 a3 h3 a4 h4 a5 h5 a6 h6 a7 h7 a8 h8 a9 h9 a10 h10 hc hd x w₁ w₂ h g b xs)]
  unfold kernelRun0_B; dsimp only
  sl_unfold_words
  rw [View.canon_unit_zero hz]
  simp only [View.readAt_eq_ld, h2.read_unread, h3.read_unread, h4.read_unread, h10.read_unread,
    View.ld_unit_zero (S := S512x2048) hz, View.ld_unit_zero (S := S1x2048x1024) hz3,
    View.ld_unit_zero (S := S1x1024x2048) hz3]

/-- The last point adds the contributions of its hidden units. -/
theorem scratch_C (hc : ¬ cond0_0 i) (hd : cond0_1 i) :
    sout0_C_0 c i a2 h2 a3 h3 a4 h4 a5 h5 a6 h6 a7 h7 a8 h8 a9 h9 a10 h10 hc hd x w₁ w₂ h g b xs
      = k0_pay2 x w₁ xs w₂ := by
  unfold sout0_C_0
  rw [View.read_writes_eq_canon _ _ _
    (scover0_C_0 c i a2 h2 a3 h3 a4 h4 a5 h5 a6 h6 a7 h7 a8 h8 a9 h9 a10 h10 hc hd x w₁ w₂ h g b xs)]
  unfold kernelRun0_C; dsimp only
  sl_unfold_words
  rw [View.canon_unit_zero hz]
  simp only [View.readAt_eq_ld, h2.read_unread, h3.read_unread, h4.read_unread, h10.read_unread,
    View.ld_unit_zero (S := S512x2048) hz, View.ld_unit_zero (S := S1x2048x1024) hz3,
    View.ld_unit_zero (S := S1x1024x2048) hz3]

/-- The last point writes the normalized rows to both outputs. -/
theorem out6_C (hc : ¬ cond0_0 i) (hd : cond0_1 i) :
    out0_C_6 c i a2 h2 a3 h3 a4 h4 a5 h5 a6 h6 a7 h7 a8 h8 a9 h9 a10 h10 hc hd x w₁ w₂ h g b xs
      = k0_pay3 h (k0_pay2 x w₁ xs w₂) g b := by
  unfold out0_C_6
  rw [View.read_writes_eq_canon _ _ _
    (cover0_C_6 c i a2 h2 a3 h3 a4 h4 a5 h5 a6 h6 a7 h7 a8 h8 a9 h9 a10 h10 hc hd x w₁ w₂ h g b xs)]
  unfold kernelRun0_C; dsimp only
  sl_unfold_words
  rw [View.canon_unit_zero hz, View.readCov_unit_zero (S := S512x2048) _ hz]
  simp only [View.readAt_eq_ld, h2.read_unread, h3.read_unread, h4.read_unread, h5.read_unread, h6.read_unread,
    h7.read_unread, h10.read_unread,
    View.ld_unit_zero (S := S512x2048) hz, View.ld_unit_zero (S := S1x2048x1024) hz3,
    View.ld_unit_zero (S := S1x1024x2048) hz3, View.ld_unit_zero (S := S1x2048) hz]
theorem out7_C (hc : ¬ cond0_0 i) (hd : cond0_1 i) :
    out0_C_7 c i a2 h2 a3 h3 a4 h4 a5 h5 a6 h6 a7 h7 a8 h8 a9 h9 a10 h10 hc hd x w₁ w₂ h g b xs
      = k0_pay4 h (k0_pay2 x w₁ xs w₂) g b := by
  unfold out0_C_7
  rw [View.read_writes_eq_canon _ _ _
    (cover0_C_7 c i a2 h2 a3 h3 a4 h4 a5 h5 a6 h6 a7 h7 a8 h8 a9 h9 a10 h10 hc hd x w₁ w₂ h g b xs)]
  unfold kernelRun0_C; dsimp only
  sl_unfold_words
  rw [View.canon_unit_zero hz, View.readCov_unit_zero (S := S512x2048) _ hz]
  simp only [View.readAt_eq_ld, h2.read_unread, h3.read_unread, h4.read_unread, h5.read_unread, h6.read_unread,
    h7.read_unread, h10.read_unread,
    View.ld_unit_zero (S := S512x2048) hz, View.ld_unit_zero (S := S1x2048x1024) hz3,
    View.ld_unit_zero (S := S1x1024x2048) hz3, View.ld_unit_zero (S := S1x2048) hz]

end body

/-! ## The blocks the points read -/

variable (m : (ℓ : Loc nD τ sig) → Buf (Elt Ideal) ℓ)

/-- The activations, the two weights, the residual, and the normalization's scale and shift. -/
abbrev X (c : Dev nD) : Vec Ideal S16384x2048 .bf16 := m ((c.tc : Thread nD τ).loc main_arg0)
abbrev W₁ (c : Dev nD) : Vec Ideal S4x2048x8192 .bf16 := m ((c.tc : Thread nD τ).loc main_arg1)
abbrev W₂ (c : Dev nD) : Vec Ideal S4x8192x2048 .bf16 := m ((c.tc : Thread nD τ).loc main_arg2)
abbrev H (c : Dev nD) : Vec Ideal S16384x2048 .f32 := m ((c.tc : Thread nD τ).loc main_arg3)
abbrev G (c : Dev nD) : Vec Ideal S1x2048 .f32 := m ((c.tc : Thread nD τ).loc main_arg4)
abbrev B (c : Dev nD) : Vec Ideal S1x2048 .f32 := m ((c.tc : Thread nD τ).loc main_arg5)

/-- Which block each window reads, at every grid point. -/
theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 3) = 3 ∧ win0_1.index t (1 : Fin 3) = 0
    ∧ win0_1.index t (2 : Fin 3) = t.val % 8 :=
  (by decide +kernel : ∀ t : Fin grid0.N, _)
theorem idx2 : ∀ t : Fin cfg0.N, win0_2.index t (0 : Fin 3) = 3 ∧ win0_2.index t (1 : Fin 3) = t.val % 8
    ∧ win0_2.index t (2 : Fin 3) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem x_blk (c : Dev nD) (t : Fin cfg0.N) (r : Fin 512) (k : Fin 2048) :
    iblk m c 0 t (ix2 r k)
      = X m c (ix2 ⟨t.val / 8 * 512 + r.val, by have := lt_of_lt_of_eq t.isLt N_0; omega⟩ k) := by
  unfold iblk
  rw [View.read_apply]
  show X m c _ = _
  congr 1; funext b; apply Fin.ext
  match b with
  | ⟨0, _⟩ => show win0_0.index t (0 : Fin 2) * 512 + 1 * r.val = t.val / 8 * 512 + r.val; rw [(idx0 t).1]; omega
  | ⟨1, _⟩ => show win0_0.index t (1 : Fin 2) * 2048 + 1 * k.val = k.val; rw [(idx0 t).2]; omega

theorem w₁_blk (c : Dev nD) (t : Fin cfg0.N) (a : Fin 1) (k : Fin 2048) (f : Fin 1024) :
    iblk m c 1 t (ix3 a k f) = W₁ m c (ix3 3 k ⟨t.val % 8 * 1024 + f.val, by omega⟩) := by
  unfold iblk
  rw [View.read_apply]
  show W₁ m c _ = _
  congr 1; funext b; apply Fin.ext
  match b with
  | ⟨0, _⟩ => show win0_1.index t (0 : Fin 3) * 1 + 1 * a.val = 3; rw [(idx1 t).1]; omega
  | ⟨1, _⟩ => show win0_1.index t (1 : Fin 3) * 2048 + 1 * k.val = k.val; rw [(idx1 t).2.1]; omega
  | ⟨2, _⟩ => show win0_1.index t (2 : Fin 3) * 1024 + 1 * f.val = t.val % 8 * 1024 + f.val; rw [(idx1 t).2.2]; omega

theorem w₂_blk (c : Dev nD) (t : Fin cfg0.N) (a : Fin 1) (f : Fin 1024) (j : Fin 2048) :
    iblk m c 2 t (ix3 a f j) = W₂ m c (ix3 3 ⟨t.val % 8 * 1024 + f.val, by omega⟩ j) := by
  unfold iblk
  rw [View.read_apply]
  show W₂ m c _ = _
  congr 1; funext b; apply Fin.ext
  match b with
  | ⟨0, _⟩ => show win0_2.index t (0 : Fin 3) * 1 + 1 * a.val = 3; rw [(idx2 t).1]; omega
  | ⟨1, _⟩ => show win0_2.index t (1 : Fin 3) * 1024 + 1 * f.val = t.val % 8 * 1024 + f.val; rw [(idx2 t).2.1]; omega
  | ⟨2, _⟩ => show win0_2.index t (2 : Fin 3) * 2048 + 1 * j.val = j.val; rw [(idx2 t).2.2]; omega

theorem h_blk (c : Dev nD) (t : Fin cfg0.N) (r : Fin 512) (k : Fin 2048) :
    iblk m c 3 t (ix2 r k)
      = H m c (ix2 ⟨t.val / 8 * 512 + r.val, by have := lt_of_lt_of_eq t.isLt N_0; omega⟩ k) := by
  unfold iblk
  rw [View.read_apply]
  show H m c _ = _
  congr 1; funext b; apply Fin.ext
  match b with
  | ⟨0, _⟩ => show win0_3.index t (0 : Fin 2) * 512 + 1 * r.val = t.val / 8 * 512 + r.val; rw [(idx3 t).1]; omega
  | ⟨1, _⟩ => show win0_3.index t (1 : Fin 2) * 2048 + 1 * k.val = k.val; rw [(idx3 t).2]; omega

theorem g_blk (c : Dev nD) (t : Fin cfg0.N) (a : Fin 1) (j : Fin 2048) :
    iblk m c 4 t (ix2 a j) = G m c (ix2 0 j) := by
  unfold iblk
  rw [View.read_apply]
  show G m c _ = _
  congr 1; funext b; apply Fin.ext
  match b with
  | ⟨0, _⟩ => show win0_4.index t (0 : Fin 2) * 1 + 1 * a.val = 0; rw [(idx4 t).1]; omega
  | ⟨1, _⟩ => show win0_4.index t (1 : Fin 2) * 2048 + 1 * j.val = j.val; rw [(idx4 t).2]; omega

theorem b_blk (c : Dev nD) (t : Fin cfg0.N) (a : Fin 1) (j : Fin 2048) :
    iblk m c 5 t (ix2 a j) = B m c (ix2 0 j) := by
  unfold iblk
  rw [View.read_apply]
  show B m c _ = _
  congr 1; funext b; apply Fin.ext
  match b with
  | ⟨0, _⟩ => show win0_5.index t (0 : Fin 2) * 1 + 1 * a.val = 0; rw [(idx5 t).1]; omega
  | ⟨1, _⟩ => show win0_5.index t (1 : Fin 2) * 2048 + 1 * j.val = j.val; rw [(idx5 t).2]; omega

/-! ## The accumulator -/

/-- What a point adds: the contributions of its block of hidden units to its block of rows. -/
theorem step_blk (c : Dev nD) (t : Fin cfg0.N) (acc : Vec Ideal S512x2048 .f32) (r : Fin 512) (j : Fin 2048) :
    k0_pay2 (iblk m c 0 t) (iblk m c 1 t) acc (iblk m c 2 t) (ix2 r j)
      = acc (ix2 r j) + ∑ f ∈ Finset.range 1024, unitN (X m c) (W₁ m c) (W₂ m c)
          ⟨t.val / 8 * 512 + r.val, by have := lt_of_lt_of_eq t.isLt N_0; omega⟩ j (t.val % 8 * 1024 + f) := by
  rw [pay2_apply, Finset.sum_range]
  refine congrArg (acc (ix2 r j) + ·) (Finset.sum_congr rfl fun f _ => ?_)
  unfold unitN
  rw [dif_pos (by omega)]
  unfold unit
  simp only [x_blk, w₁_blk, w₂_blk]

/-- After point `n` the accumulator holds the contributions of the hidden units met so far in the row block. -/
theorem scratch_eq (c : Dev nD) : ∀ (n : ℕ) (hn : n < cfg0.N) (r : Fin 512) (j : Fin 2048),
    (outsAt0 m c n hn).2.2 (ix2 r j)
      = ∑ f ∈ Finset.range (n % 8 * 1024 + 1024), unitN (X m c) (W₁ m c) (W₂ m c)
          ⟨n / 8 * 512 + r.val, by have := lt_of_lt_of_eq hn N_0; omega⟩ j f := by
  have reset : ∀ (n : ℕ) (hn : n < cfg0.N) (h0 : n % 8 = 0) (r : Fin 512) (j : Fin 2048),
      (outsAt0 m c n hn).2.2 (ix2 r j)
        = ∑ f ∈ Finset.range (n % 8 * 1024 + 1024), unitN (X m c) (W₁ m c) (W₂ m c)
            ⟨n / 8 * 512 + r.val, by have := lt_of_lt_of_eq hn N_0; omega⟩ j f := by
    intro n hn h0 r j
    rw [outsAt0_A m c ⟨n, hn⟩ h0 (by show ¬ n % 8 = 7; omega)]
    dsimp only
    rw [scratch_A, step_blk, pay1_apply, zero_add]
    simp only [h0, Nat.zero_mul, Nat.zero_add]
  intro n
  induction n with
  | zero => exact fun hn r j => reset 0 hn rfl r j
  | succ n ih =>
    intro hn r j
    by_cases h0 : (n + 1) % 8 = 0
    · exact reset (n + 1) hn h0 r j
    · have key : (outsAt0 m c (n + 1) hn).2.2 (ix2 r j)
          = k0_pay2 (iblk m c 0 ⟨n + 1, hn⟩) (iblk m c 1 ⟨n + 1, hn⟩)
              (outsAt0 m c n (Nat.lt_of_succ_lt hn)).2.2 (iblk m c 2 ⟨n + 1, hn⟩) (ix2 r j) := by
        by_cases h1 : (n + 1) % 8 = 7
        · rw [outsAt0_C m c ⟨n + 1, hn⟩ h0 h1]
          dsimp only
          rw [scratch_C]
          rfl
        · rw [outsAt0_B m c ⟨n + 1, hn⟩ h0 h1]
          dsimp only
          rw [scratch_B]
          rfl
      rw [key, step_blk, ih, Finset.sum_range_add _ ((n + 1) % 8 * 1024)]
      have e1 : n / 8 = (n + 1) / 8 := by omega
      have e2 : n % 8 * 1024 + 1024 = (n + 1) % 8 * 1024 := by omega
      simp only [e1, e2]

/-! ## The results -/

/-- At the last point of a row block the accumulator holds the contributions of all hidden units. -/
theorem last_eq (c : Dev nD) (n : ℕ) (hn : n < cfg0.N) (h1 : n % 8 = 7) (r : Fin 512) (j : Fin 2048) :
    k0_pay2 (iblk m c 0 ⟨n, hn⟩) (iblk m c 1 ⟨n, hn⟩)
        (outsAt0 m c (n - 1) (Nat.lt_of_le_of_lt (Nat.sub_le _ _) hn)).2.2 (iblk m c 2 ⟨n, hn⟩) (ix2 r j)
      = ∑ f : Fin 8192, unit (X m c) (W₁ m c) (W₂ m c)
          ⟨n / 8 * 512 + r.val, by have := lt_of_lt_of_eq hn N_0; omega⟩ j f := by
  have h := scratch_eq m c n hn r j
  rw [outsAt0_C m c ⟨n, hn⟩ (by show ¬ n % 8 = 0; omega) h1] at h
  dsimp only at h
  rw [scratch_C] at h
  refine h.trans ?_
  rw [← sum_unitN]
  simp only [h1]

/-- What the last point of a row block leaves in the two output blocks. -/
theorem out6_eq (c : Dev nD) (n : ℕ) (hn : n < cfg0.N) (h1 : n % 8 = 7) (r : Fin 512) (j : Fin 2048) :
    (outsAt0 m c n hn).1 (ix2 r j)
      = row (X m c) (W₁ m c) (W₂ m c) (H m c) (G m c) (B m c)
          ⟨n / 8 * 512 + r.val, by have := lt_of_lt_of_eq hn N_0; omega⟩ j := by
  rw [outsAt0_C m c ⟨n, hn⟩ (by show ¬ n % 8 = 0; omega) h1]
  dsimp only
  rw [out6_C, pay3_apply]
  unfold row
  simp only [last_eq m c n hn h1, h_blk, g_blk, b_blk]
theorem out7_eq (c : Dev nD) (n : ℕ) (hn : n < cfg0.N) (h1 : n % 8 = 7) (r : Fin 512) (j : Fin 2048) :
    (outsAt0 m c n hn).2.1 (ix2 r j)
      = row (X m c) (W₁ m c) (W₂ m c) (H m c) (G m c) (B m c)
          ⟨n / 8 * 512 + r.val, by have := lt_of_lt_of_eq hn N_0; omega⟩ j := by
  rw [outsAt0_C m c ⟨n, hn⟩ (by show ¬ n % 8 = 0; omega) h1]
  dsimp only
  rw [out7_C, pay4_apply]
  unfold row
  simp only [last_eq m c n hn h1, h_blk, g_blk, b_blk]

/-- The first result array, index by index. -/
theorem value6 (c : Dev nD) (i : Fin 16384) (j : Fin 2048) :
    G6 m c (ix2 i j) = row (X m c) (W₁ m c) (W₂ m c) (H m c) (G m c) (B m c) i j := by
  have e : pt6Of (ix2 i j) = 8 * (i.val / 512) + 7 := by
    show 8 * (1 * (i.val / 512 - 0) + 1 * (j.val / 2048 - 0)) + 7 = 8 * (i.val / 512) + 7
    omega
  have h : pt6Of (ix2 i j) < cfg0.N := by
    rw [e, show cfg0.N = 256 from N_0]; omega
  unfold G6
  rw [dif_pos h, ← outsAt0_sweep m c _ h]
  have hl : loc6Of (ix2 i j) = ix2 (⟨i.val % 512, by omega⟩ : Fin 512) j := by
    funext a
    apply Fin.ext
    match a with
    | ⟨0, _⟩ => rfl
    | ⟨1, _⟩ => show j.val % 2048 = j.val; omega
  rw [hl, out6_eq m c _ h (by rw [e]; omega)]
  congr 1
  apply Fin.ext
  show pt6Of (ix2 i j) / 8 * 512 + i.val % 512 = i.val
  rw [e]; omega

/-- The second result array, index by index. -/
theorem value7 (c : Dev nD) (i : Fin 16384) (j : Fin 2048) :
    G7 m c (ix2 i j) = row (X m c) (W₁ m c) (W₂ m c) (H m c) (G m c) (B m c) i j := by
  have e : pt7Of (ix2 i j) = 8 * (i.val / 512) + 7 := by
    show 8 * (1 * (i.val / 512 - 0) + 1 * (j.val / 2048 - 0)) + 7 = 8 * (i.val / 512) + 7
    omega
  have h : pt7Of (ix2 i j) < cfg0.N := by
    rw [e, show cfg0.N = 256 from N_0]; omega
  unfold G7
  rw [dif_pos h, ← outsAt0_sweep m c _ h]
  have hl : loc7Of (ix2 i j) = ix2 (⟨i.val % 512, by omega⟩ : Fin 512) j := by
    funext a
    apply Fin.ext
    match a with
    | ⟨0, _⟩ => rfl
    | ⟨1, _⟩ => show j.val % 2048 = j.val; omega
  rw [hl, out7_eq m c _ h (by rw [e]; omega)]
  congr 1
  apply Fin.ext
  show pt7Of (ix2 i j) / 8 * 512 + i.val % 512 = i.val
  rw [e]; omega

/-! ## The claims -/

/-- The reference ends with its arguments unchanged and every counter at zero. -/
theorem frame_ref : Cert.quiescent_MlpRefIdeal := fun m g _ =>
  (θ_run _ _ _).mono (fun r h => ⟨fun c => (h c).2.2, Idealize.ShloMosaic.sem_eq_zero_of_no_sems (by decide) r.2⟩)
    (Cert.MlpRefIdeal.Value.run m g)

/-- Over the extended reals the kernel and the reference leave the same two arrays, from the same arguments. -/
theorem algebraic : Cert.algebraic_MlpIdeal_MlpRefIdeal := by
  intro m g m' g' _ hargs
  refine ⟨fun c => G6 m c, fun c => G7 m c, run m g,
    (θ_run _ _ _).mono (fun r h c => ⟨?_, ?_, (h c).2.2⟩) (Cert.MlpRefIdeal.Value.run m' g')⟩
  · obtain ⟨h0, h1, h2, h3, h4, h5⟩ := hargs c
    rw [(h c).1]
    funext i
    idx_vars i
    refine (ref_apply m' c i0 i1).trans (Eq.trans ?_ (value6 m c i0 i1).symm)
    rw [h0, h1, h2, h3, h4, h5]
  · obtain ⟨h0, h1, h2, h3, h4, h5⟩ := hargs c
    rw [(h c).2.1]
    funext i
    idx_vars i
    refine (ref_apply' m' c i0 i1).trans (Eq.trans ?_ (value7 m c i0 i1).symm)
    rw [h0, h1, h2, h3, h4, h5]

end Cert.MlpEq
end
-- ==== Proof.Out.Value.lean ====
/- The mixer's output projection with its residual and layer normalization: what the kernel's run leaves in its two
   results, index by index, equals the reference's terms.

   Grid point `t` holds 512 rows, computed in two halves of 256. -/
module

public import proofs.«01_k».proof.Defs
public import proofs.«01_k».proof.Proof.LayerNorm
public import proofs.«01_k».proof.Proof.Gen.OutIdeal.Value
public import proofs.«01_k».proof.Proof.Gen.OutRefIdeal.Run
public import Idealize.ShloMosaic.Lib.Pointwise

@[expose] public section

set_option maxRecDepth 16384

noncomputable section

namespace Cert.OutEq

open Idealize.ShloMosaic Idealize.ShloMosaic.TcCoe Idealize.SL.Sem

/-- One row of the result, of the arguments: the row of the product, the residual, the normalization. -/
def row {n : ℕ} (a : FVec Ideal ⟨2, ![n, 2048]⟩ .bf16) (w : FVec Ideal ⟨3, ![2, 2048, 2048]⟩ .bf16)
    (h : FVec Ideal ⟨2, ![n, 2048]⟩ .f32) (g b : FVec Ideal ⟨2, ![1, 2048]⟩ .f32) (r : Fin n) (j : Fin 2048) : EReal :=
  RowNorm.norm (RowNorm.residual (fun j => h (ix2 r j)) (fun j => ∑ k : Fin 2048, a (ix2 r k) * w (ix3 0 k j)))
    (g (ix2 0 j)) (b (ix2 0 j)) j

section reference
open Cert.OutRefIdeal Cert.OutRefIdeal.Gen Cert.OutRefIdeal.Value
variable (m : (ℓ : Loc nD τ sig) → Buf (Elt Ideal) ℓ) (c : Dev nD)

/-- The reference's first result at an index. -/
theorem ref_apply (r : Fin 16384) (j : Fin 2048) :
    res_main_v27 m c (ix2 r j)
      = row (n := 16384) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) r j := by
  pointwise [res_main_v27, row, RowNorm.norm, RowNorm.residual, RowNorm.mean]

/-- The reference's second result at an index: the first rounded, over the extended reals the same value. -/
theorem ref_apply' (r : Fin 16384) (j : Fin 2048) :
    res_main_v28 m c (ix2 r j)
      = row (n := 16384) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) r j := by
  pointwise [res_main_v28, row, RowNorm.norm, RowNorm.residual, RowNorm.mean]

end reference

open Cert.OutIdeal Cert.OutIdeal.Gen Cert.OutIdeal.Value

/-! ## The body's payloads at an index -/

theorem hz : (![0, 0] : Fin 2 → Nat) = fun _ => 0 := funext fun a => by fin_cases a <;> rfl
theorem hz3 : (![0, 0, 0] : Fin 3 → Nat) = fun _ => 0 := funext fun a => by fin_cases a <;> rfl

section payloads
variable (a : Vec Ideal S256x2048 .bf16) (w : Vec Ideal S1x2048x2048 .bf16) (h : Vec Ideal S256x2048 .f32)
  (g b : Vec Ideal S1x2048 .f32) (r : Fin 256) (j : Fin 2048)

/-- A row of half a block, of the blocks. -/
abbrev half : EReal :=
  RowNorm.norm (RowNorm.residual (fun j => h (ix2 r j)) (fun j => ∑ k : Fin 2048, a (ix2 r k) * w (ix3 0 k j)))
    (g (ix2 0 j)) (b (ix2 0 j)) j

theorem pay1_apply : k0_pay1 a w h g b (ix2 r j) = half a w h g b r j := by
  pointwise [k0_pay1, RowNorm.norm, RowNorm.residual, RowNorm.mean]
theorem pay2_apply : k0_pay2 a w h g b (ix2 r j) = half a w h g b r j := by
  pointwise [k0_pay2, k0_pay1, RowNorm.norm, RowNorm.residual, RowNorm.mean]
theorem pay3_apply : k0_pay3 a w h g b (ix2 r j) = half a w h g b r j := by
  pointwise [k0_pay3, RowNorm.norm, RowNorm.residual, RowNorm.mean]
theorem pay4_apply : k0_pay4 a w h g b (ix2 r j) = half a w h g b r j := by
  pointwise [k0_pay4, k0_pay3, RowNorm.norm, RowNorm.residual, RowNorm.mean]
end payloads

/-! ## What the body leaves in its two output blocks -/

section body
variable (a : Vec Ideal S512x2048 .bf16) (w : Vec Ideal S1x2048x2048 .bf16) (h : Vec Ideal S512x2048 .f32)
  (g b : Vec Ideal S1x2048 .f32) (r : Fin 512) (j : Fin 2048)

/-- A row of the block, of the blocks. -/
abbrev whole : EReal :=
  RowNorm.norm (RowNorm.residual (fun j => h (ix2 r j)) (fun j => ∑ k : Fin 2048, a (ix2 r k) * w (ix3 0 k j)))
    (g (ix2 0 j)) (b (ix2 0 j)) j

/-- Two stored halves, read at a row of the second and of the first. -/
theorem canon_hi {e : EltTy} (u v : Vec Ideal S256x2048 e) (hr : 256 ≤ r.val) :
    View.canon (Val := Elt Ideal) [⟨r0_3, u⟩, ⟨r0_0, v⟩] (ix2 r j) = u (ix2 ⟨r.val - 256, by omega⟩ j) := by
  have e' : (ix2 r j : S512x2048.Idx) = r0_3.emb (ix2 ⟨r.val - 256, by omega⟩ j) := by
    funext b; apply Fin.ext
    match b with
    | ⟨0, _⟩ => show r.val = 256 + 1 * (r.val - 256); omega
    | ⟨1, _⟩ => show j.val = 0 + 1 * j.val; omega
  rw [e']; exact View.canon_cons_emb r0_3 u _ _
theorem not_mem_hi (hr : r.val < 256) : (ix2 r j : S512x2048.Idx) ∉ r0_3.set := fun hm =>
  absurd ((Rect.mem_set_unit.mp hm) (0 : Fin 2)).1 (Nat.not_le.mpr hr)
theorem emb_lo (hr : r.val < 256) :
    (ix2 r j : S512x2048.Idx) = r0_0.emb (ix2 (⟨r.val, hr⟩ : Fin 256) j) := by
  funext b; apply Fin.ext
  match b with
  | ⟨0, _⟩ => show r.val = 0 + 1 * r.val; omega
  | ⟨1, _⟩ => show j.val = 0 + 1 * j.val; omega
theorem canon_lo {e : EltTy} (u v : Vec Ideal S256x2048 e) (hr : r.val < 256) :
    View.canon (Val := Elt Ideal) [⟨r0_3, u⟩, ⟨r0_0, v⟩] (ix2 r j) = v (ix2 ⟨r.val, hr⟩ j) := by
  have h1 := View.canon_cons_of_not_mem (Val := Elt Ideal) (⟨r0_3, u⟩ : View.Piece (Elt Ideal) S512x2048 e)
    [⟨r0_0, v⟩] (y := ix2 r j) (not_mem_hi r j hr)
  rw [h1]
  rw [emb_lo r j hr]
  exact View.canon_cons_emb r0_0 v _ _

/-- The first output block, row by row. -/
theorem out5_apply : out0_5 a w h g b (ix2 r j) = whole a w h g b r j := by
  unfold out0_5
  by_cases hr : 256 ≤ r.val
  · rw [canon_hi r j _ _ hr, pay1_apply]
    have e : 256 + (r.val - 256) = r.val := by omega
    unfold half whole
    pointwise
    simp only [e]
  · rw [canon_lo r j _ _ (by omega), pay3_apply]
    unfold half whole
    pointwise

/-- The second output block, row by row. -/
theorem out6_apply : out0_6 a w h g b (ix2 r j) = whole a w h g b r j := by
  unfold out0_6
  by_cases hr : 256 ≤ r.val
  · rw [canon_hi r j _ _ hr, pay2_apply]
    have e : 256 + (r.val - 256) = r.val := by omega
    unfold half whole
    pointwise
    simp only [e]
  · rw [canon_lo r j _ _ (by omega), pay4_apply]
    unfold half whole
    pointwise

end body

/-! ## The blocks the points read and write -/

variable (m : (ℓ : Loc nD τ sig) → Buf (Elt Ideal) ℓ)

/-- The mixer's result, the weights, the residual, and the normalization's scale and shift. -/
abbrev A (c : Dev nD) : Vec Ideal S16384x2048 .bf16 := m ((c.tc : Thread nD τ).loc main_arg0)
abbrev W (c : Dev nD) : Vec Ideal S2x2048x2048 .bf16 := m ((c.tc : Thread nD τ).loc main_arg1)
abbrev H (c : Dev nD) : Vec Ideal S16384x2048 .f32 := m ((c.tc : Thread nD τ).loc main_arg2)
abbrev G (c : Dev nD) : Vec Ideal S1x2048 .f32 := m ((c.tc : Thread nD τ).loc main_arg3)
abbrev B (c : Dev nD) : Vec Ideal S1x2048 .f32 := m ((c.tc : Thread nD τ).loc main_arg4)

/-- Which block each window reads or writes, at every grid point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0
    ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- Every point writes both its blocks back. -/
theorem flush5 : ∀ t : Fin cfg0.N, (cfg0.win 5).flush t = true := (by decide +kernel : ∀ t : Fin grid0.N, _)
theorem flush6 : ∀ t : Fin cfg0.N, (cfg0.win 6).flush t = true := (by decide +kernel : ∀ t : Fin grid0.N, _)

theorem a_blk (c : Dev nD) (t : Fin cfg0.N) (r : Fin 512) (k : Fin 2048) :
    iblk m c 0 t (ix2 r k)
      = A m c (ix2 ⟨t.val * 512 + r.val, by have := lt_of_lt_of_eq t.isLt N_0; omega⟩ k) := by
  unfold iblk
  rw [View.read_apply]
  show A m c _ = _
  congr 1; funext b; apply Fin.ext
  match b with
  | ⟨0, _⟩ => show win0_0.index t (0 : Fin 2) * 512 + 1 * r.val = t.val * 512 + r.val; rw [(idx0 t).1]; omega
  | ⟨1, _⟩ => show win0_0.index t (1 : Fin 2) * 2048 + 1 * k.val = k.val; rw [(idx0 t).2]; omega

theorem w_blk (c : Dev nD) (t : Fin cfg0.N) (a : Fin 1) (k j : Fin 2048) :
    iblk m c 1 t (ix3 a k j) = W m c (ix3 0 k j) := by
  unfold iblk
  rw [View.read_apply]
  show W m c _ = _
  congr 1; funext b; apply Fin.ext
  match b with
  | ⟨0, _⟩ => show win0_1.index t (0 : Fin 3) * 1 + 1 * a.val = 0; rw [(idx1 t).1]; omega
  | ⟨1, _⟩ => show win0_1.index t (1 : Fin 3) * 2048 + 1 * k.val = k.val; rw [(idx1 t).2.1]; omega
  | ⟨2, _⟩ => show win0_1.index t (2 : Fin 3) * 2048 + 1 * j.val = j.val; rw [(idx1 t).2.2]; omega

theorem h_blk (c : Dev nD) (t : Fin cfg0.N) (r : Fin 512) (k : Fin 2048) :
    iblk m c 2 t (ix2 r k)
      = H m c (ix2 ⟨t.val * 512 + r.val, by have := lt_of_lt_of_eq t.isLt N_0; omega⟩ k) := by
  unfold iblk
  rw [View.read_apply]
  show H m c _ = _
  congr 1; funext b; apply Fin.ext
  match b with
  | ⟨0, _⟩ => show win0_2.index t (0 : Fin 2) * 512 + 1 * r.val = t.val * 512 + r.val; rw [(idx2 t).1]; omega
  | ⟨1, _⟩ => show win0_2.index t (1 : Fin 2) * 2048 + 1 * k.val = k.val; rw [(idx2 t).2]; omega

theorem g_blk (c : Dev nD) (t : Fin cfg0.N) (a : Fin 1) (j : Fin 2048) :
    iblk m c 3 t (ix2 a j) = G m c (ix2 0 j) := by
  unfold iblk
  rw [View.read_apply]
  show G m c _ = _
  congr 1; funext b; apply Fin.ext
  match b with
  | ⟨0, _⟩ => show win0_3.index t (0 : Fin 2) * 1 + 1 * a.val = 0; rw [(idx3 t).1]; omega
  | ⟨1, _⟩ => show win0_3.index t (1 : Fin 2) * 2048 + 1 * j.val = j.val; rw [(idx3 t).2]; omega

theorem b_blk (c : Dev nD) (t : Fin cfg0.N) (a : Fin 1) (j : Fin 2048) :
    iblk m c 4 t (ix2 a j) = B m c (ix2 0 j) := by
  unfold iblk
  rw [View.read_apply]
  show B m c _ = _
  congr 1; funext b; apply Fin.ext
  match b with
  | ⟨0, _⟩ => show win0_4.index t (0 : Fin 2) * 1 + 1 * a.val = 0; rw [(idx4 t).1]; omega
  | ⟨1, _⟩ => show win0_4.index t (1 : Fin 2) * 2048 + 1 * j.val = j.val; rw [(idx4 t).2]; omega

/-- A row of the block at point `t` is that row of the whole arrays. -/
theorem whole_blk (c : Dev nD) (t : Fin cfg0.N) (r : Fin 512) (j : Fin 2048) :
    whole (iblk m c 0 t) (iblk m c 1 t) (iblk m c 2 t) (iblk m c 3 t) (iblk m c 4 t) r j
      = row (A m c) (W m c) (H m c) (G m c) (B m c)
          ⟨t.val * 512 + r.val, by have := lt_of_lt_of_eq t.isLt N_0; omega⟩ j := by
  unfold whole row
  simp only [a_blk, w_blk, h_blk, g_blk, b_blk]

/-! ## The result arrays -/

/-- The first result array, index by index. -/
theorem arr5 (c : Dev nD) (i : Fin 16384) (j : Fin 2048) :
    (dats m 0 c).arrAt 5 cfg0.N (ix2 i j) = row (A m c) (W m c) (H m c) (G m c) (B m c) i j := by
  have hN : cfg0.N = 32 := N_0
  let t : Fin cfg0.N := ⟨i.val / 512, by rw [hN]; omega⟩
  have hb := congrFun (blocks5 m c t (flush5 t)) (ix2 (⟨i.val % 512, by omega⟩ : Fin 512) j)
  rw [View.read_apply, flushed5] at hb
  have e : ((cfg0.win 5).blk t).view.emb (ix2 (⟨i.val % 512, by omega⟩ : Fin 512) j) = ix2 i j := by
    funext b; apply Fin.ext
    match b with
    | ⟨0, _⟩ => show win0_5.index t (0 : Fin 2) * 512 + 1 * (i.val % 512) = i.val; rw [(idx5 t).1]; show i.val / 512 * 512 + 1 * (i.val % 512) = i.val; omega
    | ⟨1, _⟩ => show win0_5.index t (1 : Fin 2) * 2048 + 1 * j.val = j.val; rw [(idx5 t).2]; omega
  rw [e] at hb
  refine hb.trans ?_
  refine (out5_apply _ _ _ _ _ (⟨i.val % 512, by omega⟩ : Fin 512) j).trans ((whole_blk m c t _ j).trans ?_)
  congr 1; apply Fin.ext; show i.val / 512 * 512 + i.val % 512 = i.val; omega

/-- The second result array, index by index. -/
theorem arr6 (c : Dev nD) (i : Fin 16384) (j : Fin 2048) :
    (dats m 0 c).arrAt 6 cfg0.N (ix2 i j) = row (A m c) (W m c) (H m c) (G m c) (B m c) i j := by
  have hN : cfg0.N = 32 := N_0
  let t : Fin cfg0.N := ⟨i.val / 512, by rw [hN]; omega⟩
  have hb := congrFun (blocks6 m c t (flush6 t)) (ix2 (⟨i.val % 512, by omega⟩ : Fin 512) j)
  rw [View.read_apply, flushed6] at hb
  have e : ((cfg0.win 6).blk t).view.emb (ix2 (⟨i.val % 512, by omega⟩ : Fin 512) j) = ix2 i j := by
    funext b; apply Fin.ext
    match b with
    | ⟨0, _⟩ => show win0_6.index t (0 : Fin 2) * 512 + 1 * (i.val % 512) = i.val; rw [(idx6 t).1]; show i.val / 512 * 512 + 1 * (i.val % 512) = i.val; omega
    | ⟨1, _⟩ => show win0_6.index t (1 : Fin 2) * 2048 + 1 * j.val = j.val; rw [(idx6 t).2]; omega
  rw [e] at hb
  refine hb.trans ?_
  refine (out6_apply _ _ _ _ _ (⟨i.val % 512, by omega⟩ : Fin 512) j).trans ((whole_blk m c t _ j).trans ?_)
  congr 1; apply Fin.ext; show i.val / 512 * 512 + i.val % 512 = i.val; omega

/-! ## The claims -/

/-- The reference ends with its arguments unchanged and every counter at zero. -/
theorem frame_ref : Cert.quiescent_OutRefIdeal := fun m g _ =>
  (θ_run _ _ _).mono (fun r h => ⟨fun c => (h c).2.2, Idealize.ShloMosaic.sem_eq_zero_of_no_sems (by decide) r.2⟩)
    (Cert.OutRefIdeal.Value.run m g)

/-- Over the extended reals the kernel and the reference leave the same two arrays, from the same arguments. -/
theorem algebraic : Cert.algebraic_OutIdeal_OutRefIdeal := by
  intro m g m' g' _ hargs
  refine ⟨fun c => (dats m 0 c).arrAt 5 cfg0.N, fun c => (dats m 0 c).arrAt 6 cfg0.N, run_blocks m g,
    (θ_run _ _ _).mono (fun r h c => ⟨?_, ?_, (h c).2.2⟩) (Cert.OutRefIdeal.Value.run m' g')⟩
  · obtain ⟨h0, h1, h2, h3, h4⟩ := hargs c
    rw [(h c).1]
    funext i
    idx_vars i
    refine (ref_apply m' c i0 i1).trans (Eq.trans ?_ (arr5 m c i0 i1).symm)
    rw [h0, h1, h2, h3, h4]
  · obtain ⟨h0, h1, h2, h3, h4⟩ := hargs c
    rw [(h c).2.1]
    funext i
    idx_vars i
    refine (ref_apply' m' c i0 i1).trans (Eq.trans ?_ (arr6 m c i0 i1).symm)
    rw [h0, h1, h2, h3, h4]

end Cert.OutEq
end
-- ==== Proof.Qk.Value.lean ====
/- The projection of the queries and keys: what the kernel's run leaves in its result, index by index, equals the
   reference's term.

   Each grid point `(n, m)` holds one 1024 by 1024 block of the result: row block `m`, column block `n`. The weight block
   is kept in scratch, stored at `m = 0` and read by the sixteen points of the column. -/
module

public import proofs.«01_k».proof.Defs
public import proofs.«01_k».proof.Proof.Gen.QkIdeal.Value
public import proofs.«01_k».proof.Proof.Gen.QkRefIdeal.Run
public import Idealize.ShloMosaic.Lib.Pointwise

@[expose] public section

set_option maxRecDepth 16384

noncomputable section

namespace Cert.QkEq

open Idealize.ShloMosaic Idealize.ShloMosaic.TcCoe Idealize.SL.Sem

section reference
open Cert.QkRefIdeal Cert.QkRefIdeal.Gen

/-- The reference's term: the whole product, its first 4096 columns, scaled. -/
abbrev refTerm (x : FVec Ideal S16384x2048 .f32) (w : FVec Ideal S2x2048x6144 .f32) (s : FVec Ideal S1x6144 .f32) :
    FVec Ideal S16384x4096 .bf16 :=
  truncf .bf16 (mulf (extractStridedSlice S16384x4096 ![0, 0] (Host.dotGeneral dot_S16384x2048_S2048x6144_S16384x6144_1_0_0_1_n_n none x (shapeCast _ (extractStridedSlice S1x2048x6144 ![0, 0, 0] w slices_S2x2048x6144_S1x2048x6144_0_0_0) shapeCasts_S1x2048x6144_S2048x6144)) slices_S16384x6144_S16384x4096_0_0) (broadcastInDim S16384x4096 ![0, 1] bcast_S1x4096_S16384x4096_0_1 (extractStridedSlice S1x4096 ![0, 0] s slices_S1x6144_S1x4096_0_0))) bitsLt_bf16_f32

/-- The reference at an index: a row times a column of the first slab, scaled. -/
theorem ref_apply (x : FVec Ideal S16384x2048 .f32) (w : FVec Ideal S2x2048x6144 .f32) (s : FVec Ideal S1x6144 .f32)
    (r : Fin 16384) (j : Fin 4096) :
    refTerm x w s (ix2 r j)
      = (∑ k : Fin 2048, x (ix2 r k) * w (ix3 0 k ⟨j.val, by omega⟩)) * s (ix2 0 ⟨j.val, by omega⟩) := by
  pointwise [refTerm]

end reference

open Cert.QkIdeal Cert.QkIdeal.Gen Cert.QkIdeal.Value

/-! ## The body's named terms -/

theorem hz : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords)
  (a2 : Memref sig .tc .vmem S1024x2048 .f32) (h2 : a2.IsWhole)
  (a3 : Memref sig .tc .vmem S1x2048x1024 .f32) (h3 : a3.IsWhole)
  (a4 : Memref sig .tc .vmem S1x1024 .f32) (h4 : a4.IsWhole)
  (a5 : Memref sig .tc .vmem S1024x1024 .bf16) (h5 : a5.IsWhole)
  (a6 : Memref sig .tc .vmem S2048x1024 .bf16) (h6 : a6.IsWhole)
  (x : Vec Ideal S1024x2048 .f32) (w : Vec Ideal S1x2048x1024 .f32) (s : Vec Ideal S1x1024 .f32)
  (xs : Vec Ideal S2048x1024 .bf16)

/-- The first point of a column stores the weight block it was given in the scratch. -/
theorem scratch_A (hc : cond0_0 i) :
    sout0_A_0 c i a2 h2 a3 h3 a4 h4 a5 h5 a6 h6 hc x w s = k0_pay1 w := by
  unfold sout0_A_0
  rw [View.read_writes_eq_canon _ _ _ (scover0_A_0 c i a2 h2 a3 h3 a4 h4 a5 h5 a6 h6 hc x w s)]
  unfold kernelRun0_A; dsimp only
  sl_unfold_words
  rw [View.canon_unit_zero hz]
  simp only [View.readAt_eq_ld, h3.read_unread, View.ld_unit_zero (S := S1x2048x1024) hz3]

/-- The first point of a column leaves the product of its block of rows with that weight block. -/
theorem out_A (hc : cond0_0 i) :
    out0_A_3 c i a2 h2 a3 h3 a4 h4 a5 h5 a6 h6 hc x w s = k0_pay2 x (k0_pay1 w) s := by
  unfold out0_A_3
  rw [View.read_writes_eq_canon _ _ _ (cover0_A_3 c i a2 h2 a3 h3 a4 h4 a5 h5 a6 h6 hc x w s)]
  unfold kernelRun0_A; dsimp only
  sl_unfold_words
  rw [View.canon_unit_zero hz, View.readCov_unit_zero (S := S2048x1024) _ hz]
  simp only [View.readAt_eq_ld, h2.read_unread, h3.read_unread, h4.read_unread, View.ld_unit_zero (S := S1x2048x1024) hz3,
    View.ld_unit_zero (S := S1024x2048) hz, View.ld_unit_zero (S := S1x1024) hz]

/-- Every other point leaves the product of its block of rows with the scratch it finds. -/
theorem out_B (hc : ¬ cond0_0 i) :
    out0_B_3 c i a2 h2 a3 h3 a4 h4 a5 h5 a6 h6 hc x w s xs = k0_pay2 x xs s := by
  unfold out0_B_3
  rw [View.read_writes_eq_canon _ _ _ (cover0_B_3 c i a2 h2 a3 h3 a4 h4 a5 h5 a6 h6 hc x w s xs)]
  unfold kernelRun0_B; dsimp only
  sl_unfold_words
  rw [View.canon_unit_zero hz]
  simp only [View.readAt_eq_ld, h2.read_unread, h4.read_unread, h6.read_unread, View.ld_unit_zero (S := S2048x1024) hz,
    View.ld_unit_zero (S := S1024x2048) hz, View.ld_unit_zero (S := S1x1024) hz]

end body

/-! ## The blocks the points read -/

variable (m : (ℓ : Loc nD τ sig) → Buf (Elt Ideal) ℓ)

/-- The activations, the weights and the scales the call reads. -/
abbrev X (c : Dev nD) : Vec Ideal S16384x2048 .f32 := m ((c.tc : Thread nD τ).loc main_arg0)
abbrev W (c : Dev nD) : Vec Ideal S2x2048x6144 .f32 := m ((c.tc : Thread nD τ).loc main_arg1)
abbrev S (c : Dev nD) : Vec Ideal S1x6144 .f32 := m ((c.tc : Thread nD τ).loc main_arg2)

/-- Which block each window reads, at every grid point. -/
theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0
    ∧ win0_1.index t (2 : Fin 3) = t.val / 16 :=
  (by decide +kernel : ∀ t : Fin grid0.N, _)
theorem idx2 : ∀ t : Fin cfg0.N, win0_2.index t (0 : Fin 2) = 0 ∧ win0_2.index t (1 : Fin 2) = t.val / 16 :=
  (by decide +kernel : ∀ t : Fin grid0.N, _)

/-- A block of activations is 1024 whole rows. -/
theorem x_blk (c : Dev nD) (t : Fin cfg0.N) (r : Fin 1024) (k : Fin 2048) :
    iblk m c 0 t (ix2 r k) = X m c (ix2 ⟨t.val % 16 * 1024 + r.val, by omega⟩ k) := by
  unfold iblk
  rw [View.read_apply]
  show X m c _ = _
  congr 1; funext a; apply Fin.ext
  match a with
  | ⟨0, _⟩ => show win0_0.index t (0 : Fin 2) * 1024 + 1 * r.val = t.val % 16 * 1024 + r.val; rw [(idx0 t).1]; omega
  | ⟨1, _⟩ => show win0_0.index t (1 : Fin 2) * 2048 + 1 * k.val = k.val; rw [(idx0 t).2]; omega

/-- A block of weights is 1024 whole columns of the first slab. -/
theorem w_blk (c : Dev nD) (t : Fin cfg0.N) (a : Fin 1) (k : Fin 2048) (j : Fin 1024) :
    iblk m c 1 t (ix3 a k j)
      = W m c (ix3 0 k ⟨t.val / 16 * 1024 + j.val, by have := lt_of_lt_of_eq t.isLt N_0; omega⟩) := by
  unfold iblk
  rw [View.read_apply]
  show W m c _ = _
  congr 1; funext b; apply Fin.ext
  match b with
  | ⟨0, _⟩ => show win0_1.index t (0 : Fin 3) * 1 + 1 * a.val = 0; rw [(idx1 t).1]; omega
  | ⟨1, _⟩ => show win0_1.index t (1 : Fin 3) * 2048 + 1 * k.val = k.val; rw [(idx1 t).2.1]; omega
  | ⟨2, _⟩ => show win0_1.index t (2 : Fin 3) * 1024 + 1 * j.val = t.val / 16 * 1024 + j.val; rw [(idx1 t).2.2]; omega

/-- A block of scales is 1024 of them. -/
theorem s_blk (c : Dev nD) (t : Fin cfg0.N) (a : Fin 1) (j : Fin 1024) :
    iblk m c 2 t (ix2 a j)
      = S m c (ix2 0 ⟨t.val / 16 * 1024 + j.val, by have := lt_of_lt_of_eq t.isLt N_0; omega⟩) := by
  unfold iblk
  rw [View.read_apply]
  show S m c _ = _
  congr 1; funext b; apply Fin.ext
  match b with
  | ⟨0, _⟩ => show win0_2.index t (0 : Fin 2) * 1 + 1 * a.val = 0; rw [(idx2 t).1]; omega
  | ⟨1, _⟩ => show win0_2.index t (1 : Fin 2) * 1024 + 1 * j.val = t.val / 16 * 1024 + j.val; rw [(idx2 t).2]; omega

/-! ## What the points leave -/

/-- Before and after every point of column block `n / 16` the scratch holds that block of the weights. -/
theorem scratch_eq (c : Dev nD) : ∀ (n : ℕ) (hn : n < cfg0.N) (k : Fin 2048) (j : Fin 1024),
    (outsAt0 m c n hn).2 (ix2 k j)
      = W m c (ix3 0 k ⟨n / 16 * 1024 + j.val, by have := lt_of_lt_of_eq hn N_0; omega⟩) := by
  have reset : ∀ (n : ℕ) (hn : n < cfg0.N) (h0 : n % 16 = 0) (k : Fin 2048) (j : Fin 1024),
      (outsAt0 m c n hn).2 (ix2 k j)
        = W m c (ix3 0 k ⟨n / 16 * 1024 + j.val, by have := lt_of_lt_of_eq hn N_0; omega⟩) := by
    intro n hn h0 k j
    rw [outsAt0_A m c ⟨n, hn⟩ h0]
    dsimp only
    rw [scratch_A]
    pointwise [k0_pay1]
    exact w_blk m c ⟨n, hn⟩ 0 k j
  intro n
  induction n with
  | zero => exact fun hn k j => reset 0 hn rfl k j
  | succ n ih =>
    intro hn k j
    by_cases h0 : (n + 1) % 16 = 0
    · exact reset (n + 1) hn h0 k j
    · rw [outsAt0_B m c ⟨n + 1, hn⟩ h0]
      dsimp only
      unfold sout0_B_0
      rw [show outsAt0 m c (n + 1 - 1) _ = outsAt0 m c n (Nat.lt_of_succ_lt hn) from rfl, ih]
      congr 2
      apply Fin.ext
      show n / 16 * 1024 + j.val = (n + 1) / 16 * 1024 + j.val
      omega

/-- The body's result at an index: a row of its block times a column of the weight block, scaled. -/
theorem pay_apply (x : Vec Ideal S1024x2048 .f32) (w : Vec Ideal S2048x1024 .bf16) (s : Vec Ideal S1x1024 .f32)
    (r : Fin 1024) (j : Fin 1024) :
    k0_pay2 x w s (ix2 r j) = (∑ k : Fin 2048, x (ix2 r k) * w (ix2 k j)) * s (ix2 0 j) := by
  pointwise [k0_pay2]

/-- What point `n` leaves in its block of the result. -/
theorem out_eq (c : Dev nD) (n : ℕ) (hn : n < cfg0.N) (r j : Fin 1024) :
    (outsAt0 m c n hn).1 (ix2 r j)
      = (∑ k : Fin 2048, X m c (ix2 ⟨n % 16 * 1024 + r.val, by omega⟩ k)
          * W m c (ix3 0 k ⟨n / 16 * 1024 + j.val, by have := lt_of_lt_of_eq hn N_0; omega⟩))
        * S m c (ix2 0 ⟨n / 16 * 1024 + j.val, by have := lt_of_lt_of_eq hn N_0; omega⟩) := by
  by_cases h0 : n % 16 = 0
  · rw [outsAt0_A m c ⟨n, hn⟩ h0]
    dsimp only
    rw [out_A, pay_apply]
    refine congrArg₂ (· * ·) (Finset.sum_congr rfl fun k _ => congrArg₂ (· * ·) (x_blk m c ⟨n, hn⟩ r k) ?_)
      (s_blk m c ⟨n, hn⟩ 0 j)
    pointwise [k0_pay1]
    exact w_blk m c ⟨n, hn⟩ 0 k j
  · rw [outsAt0_B m c ⟨n, hn⟩ h0]
    dsimp only
    rw [out_B, pay_apply]
    refine congrArg₂ (· * ·) (Finset.sum_congr rfl fun k _ => congrArg₂ (· * ·) (x_blk m c ⟨n, hn⟩ r k) ?_)
      (s_blk m c ⟨n, hn⟩ 0 j)
    rw [scratch_eq]
    congr 2
    apply Fin.ext
    show (n - 1) / 16 * 1024 + j.val = n / 16 * 1024 + j.val
    omega

/-- What the run leaves in the result array is the reference's term of the call's arguments. -/
theorem value (c : Dev nD) : G3 m c = refTerm (X m c) (W m c) (S m c) := by
  funext i
  idx_vars i
  have h : pt3Of (ix2 i0 i1) < cfg0.N := by
    show 1 * (i0.val / 1024 - 0) + 16 * (i1.val / 1024 - 0) < cfg0.N
    rw [show cfg0.N = 64 from N_0]; omega
  unfold G3
  rw [dif_pos h, ← outsAt0_sweep m c _ h]
  have hl : loc3Of (ix2 i0 i1) = ix2 (⟨i0.val % 1024, by omega⟩ : Fin 1024) (⟨i1.val % 1024, by omega⟩ : Fin 1024) := by
    funext a
    match a with
    | ⟨0, _⟩ => rfl
    | ⟨1, _⟩ => rfl
  have e0 : pt3Of (ix2 i0 i1) % 16 * 1024 + i0.val % 1024 = i0.val := by
    show (1 * (i0.val / 1024 - 0) + 16 * (i1.val / 1024 - 0)) % 16 * 1024 + i0.val % 1024 = i0.val
    omega
  have e1 : pt3Of (ix2 i0 i1) / 16 * 1024 + i1.val % 1024 = i1.val := by
    show (1 * (i0.val / 1024 - 0) + 16 * (i1.val / 1024 - 0)) / 16 * 1024 + i1.val % 1024 = i1.val
    omega
  rw [hl, out_eq, ref_apply]
  simp only [e0, e1]

/-! ## The claims -/

/-- The reference ends with its arguments unchanged and every counter at zero. -/
theorem frame_ref : Cert.quiescent_QkRefIdeal := fun m g _ =>
  (θ_run _ _ _).mono (fun r h => ⟨fun c => (h c).2, Idealize.ShloMosaic.sem_eq_zero_of_no_sems (by decide) r.2⟩)
    (Cert.QkRefIdeal.Value.run m g)

/-- Over the extended reals the kernel and the reference leave the same array, from the same arguments. -/
theorem algebraic : Cert.algebraic_QkIdeal_QkRefIdeal := by
  intro m g m' g' _ hargs
  refine ⟨fun c => G3 m c, run m g, (θ_run _ _ _).mono (fun r h c => ⟨?_, (h c).2⟩) (Cert.QkRefIdeal.Value.run m' g')⟩
  obtain ⟨h0, h1, h2⟩ := hargs c
  rw [(h c).1, h0, h1, h2]
  exact (value m c).symm

end Cert.QkEq
end
-- ==== Proof.Gp.Value.lean ====
/- The projection of the gated linear attention: what the kernel's run leaves in its result, index by index, equals the
   reference's term.

   Each grid point `(n, m)` holds one 1024 by 1024 block of the result: row block `m`, column block `n`. The weight block
   is kept in scratch, stored at `m = 0` and read by the sixteen points of the column. -/
module

public import proofs.«01_k».proof.Defs
public import proofs.«01_k».proof.Proof.Gen.GpIdeal.Value
public import proofs.«01_k».proof.Proof.Gen.GpRefIdeal.Run
public import Idealize.ShloMosaic.Lib.Pointwise

@[expose] public section

set_option maxRecDepth 16384

noncomputable section

namespace Cert.GpEq

open Idealize.ShloMosaic Idealize.ShloMosaic.TcCoe Idealize.SL.Sem

section reference
open Cert.GpRefIdeal Cert.GpRefIdeal.Gen

/-- The reference's term: the whole product, its first 6144 columns, scaled. -/
abbrev refTerm (x : FVec Ideal S16384x2048 .bf16) (w : FVec Ideal S2x6160x2048 .f32) (s : FVec Ideal S1x6144 .f32) :
    FVec Ideal S16384x6144 .bf16 :=
  truncf .bf16 (mulf (extractStridedSlice S16384x6144 ![0, 0] (Host.dotGeneral dot_S16384x2048_S2048x6160_S16384x6160_1_0_0_1_n_n none (extf .f32 x bitsLt_bf16_f32) (shapeCast _ (extractStridedSlice S1x2048x6160 ![0, 0, 0] (transpose S2x2048x6160 [0, 2, 1] w transposes_S2x6160x2048_S2x2048x6160_0_2_1) slices_S2x2048x6160_S1x2048x6160_0_0_0) shapeCasts_S1x2048x6160_S2048x6160)) slices_S16384x6160_S16384x6144_0_0) (broadcastInDim S16384x6144 ![0, 1] bcast_S1x6144_S16384x6144_0_1 s)) bitsLt_bf16_f32

/-- The reference at an index: a row of the activations times a row of the first slab, scaled. -/
theorem ref_apply (x : FVec Ideal S16384x2048 .bf16) (w : FVec Ideal S2x6160x2048 .f32) (s : FVec Ideal S1x6144 .f32)
    (r : Fin 16384) (j : Fin 6144) :
    refTerm x w s (ix2 r j)
      = (∑ k : Fin 2048, x (ix2 r k) * w (ix3 0 ⟨j.val, by omega⟩ k)) * s (ix2 0 j) := by
  pointwise [refTerm]

end reference

open Cert.GpIdeal Cert.GpIdeal.Gen Cert.GpIdeal.Value

/-! ## The body's named terms -/

theorem hz : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords)
  (a2 : Memref sig .tc .vmem S1024x2048 .bf16) (h2 : a2.IsWhole)
  (a3 : Memref sig .tc .vmem S1x1024x2048 .f32) (h3 : a3.IsWhole)
  (a4 : Memref sig .tc .vmem S1x1024 .f32) (h4 : a4.IsWhole)
  (a5 : Memref sig .tc .vmem S1024x1024 .bf16) (h5 : a5.IsWhole)
  (a6 : Memref sig .tc .vmem S1024x2048 .bf16) (h6 : a6.IsWhole)
  (x : Vec Ideal S1024x2048 .bf16) (w : Vec Ideal S1x1024x2048 .f32) (s : Vec Ideal S1x1024 .f32)
  (xs : Vec Ideal S1024x2048 .bf16)

/-- The first point of a column stores the weight block it was given in the scratch. -/
theorem scratch_A (hc : cond0_0 i) :
    sout0_A_0 c i a2 h2 a3 h3 a4 h4 a5 h5 a6 h6 hc x w s = k0_pay1 w := by
  unfold sout0_A_0
  rw [View.read_writes_eq_canon _ _ _ (scover0_A_0 c i a2 h2 a3 h3 a4 h4 a5 h5 a6 h6 hc x w s)]
  unfold kernelRun0_A; dsimp only
  sl_unfold_words
  rw [View.canon_unit_zero hz]
  simp only [View.readAt_eq_ld, h3.read_unread, View.ld_unit_zero (S := S1x1024x2048) hz3]

/-- The first point of a column leaves the product of its block of rows with that weight block. -/
theorem out_A (hc : cond0_0 i) :
    out0_A_3 c i a2 h2 a3 h3 a4 h4 a5 h5 a6 h6 hc x w s = k0_pay2 x (k0_pay1 w) s := by
  unfold out0_A_3
  rw [View.read_writes_eq_canon _ _ _ (cover0_A_3 c i a2 h2 a3 h3 a4 h4 a5 h5 a6 h6 hc x w s)]
  unfold kernelRun0_A; dsimp only
  sl_unfold_words
  rw [View.canon_unit_zero hz, View.readCov_unit_zero (S := S1024x2048) _ hz]
  simp only [View.readAt_eq_ld, h2.read_unread, h3.read_unread, h4.read_unread, View.ld_unit_zero (S := S1x1024x2048) hz3,
    View.ld_unit_zero (S := S1024x2048) hz, View.ld_unit_zero (S := S1x1024) hz]

/-- Every other point leaves the product of its block of rows with the scratch it finds. -/
theorem out_B (hc : ¬ cond0_0 i) :
    out0_B_3 c i a2 h2 a3 h3 a4 h4 a5 h5 a6 h6 hc x w s xs = k0_pay2 x xs s := by
  unfold out0_B_3
  rw [View.read_writes_eq_canon _ _ _ (cover0_B_3 c i a2 h2 a3 h3 a4 h4 a5 h5 a6 h6 hc x w s xs)]
  unfold kernelRun0_B; dsimp only
  sl_unfold_words
  rw [View.canon_unit_zero hz]
  simp only [View.readAt_eq_ld, h2.read_unread, h4.read_unread, h6.read_unread, View.ld_unit_zero (S := S1024x2048) hz,
    View.ld_unit_zero (S := S1x1024) hz]

end body

/-! ## The blocks the points read -/

variable (m : (ℓ : Loc nD τ sig) → Buf (Elt Ideal) ℓ)

/-- The activations, the weights and the scales the call reads. -/
abbrev X (c : Dev nD) : Vec Ideal S16384x2048 .bf16 := m ((c.tc : Thread nD τ).loc main_arg0)
abbrev W (c : Dev nD) : Vec Ideal S2x6160x2048 .f32 := m ((c.tc : Thread nD τ).loc main_arg1)
abbrev S (c : Dev nD) : Vec Ideal S1x6144 .f32 := m ((c.tc : Thread nD τ).loc main_arg2)

/-- Which block each window reads, at every grid point. -/
theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 3) = 0 ∧ win0_1.index t (1 : Fin 3) = t.val / 16
    ∧ win0_1.index t (2 : Fin 3) = 0 :=
  (by decide +kernel : ∀ t : Fin grid0.N, _)
theorem idx2 : ∀ t : Fin cfg0.N, win0_2.index t (0 : Fin 2) = 0 ∧ win0_2.index t (1 : Fin 2) = t.val / 16 :=
  (by decide +kernel : ∀ t : Fin grid0.N, _)

/-- A block of activations is 1024 whole rows. -/
theorem x_blk (c : Dev nD) (t : Fin cfg0.N) (r : Fin 1024) (k : Fin 2048) :
    iblk m c 0 t (ix2 r k) = X m c (ix2 ⟨t.val % 16 * 1024 + r.val, by omega⟩ k) := by
  unfold iblk
  rw [View.read_apply]
  show X m c _ = _
  congr 1; funext a; apply Fin.ext
  match a with
  | ⟨0, _⟩ => show win0_0.index t (0 : Fin 2) * 1024 + 1 * r.val = t.val % 16 * 1024 + r.val; rw [(idx0 t).1]; omega
  | ⟨1, _⟩ => show win0_0.index t (1 : Fin 2) * 2048 + 1 * k.val = k.val; rw [(idx0 t).2]; omega

/-- A block of weights is 1024 whole rows of the first slab: no block the grid reaches is cut at the slab's edge. -/
theorem w_blk (c : Dev nD) (t : Fin cfg0.N) (a : Fin 1) (j : Fin 1024) (k : Fin 2048) :
    X0_1 m c t (ix3 a j k)
      = W m c (ix3 0 ⟨t.val / 16 * 1024 + j.val, by have := lt_of_lt_of_eq t.isLt N_0; omega⟩ k) := by
  unfold X0_1 Pipeline.Window.fill
  rw [dif_pos (moved0_1 t _)]
  unfold iblk
  rw [View.read_apply]
  show W m c _ = _
  congr 1; funext b; apply Fin.ext
  match b with
  | ⟨0, _⟩ => show win0_1.index t (0 : Fin 3) * 1 + 1 * a.val = 0; rw [(idx1 t).1]; omega
  | ⟨1, _⟩ => show win0_1.index t (1 : Fin 3) * 1024 + 1 * j.val = t.val / 16 * 1024 + j.val; rw [(idx1 t).2.1]; omega
  | ⟨2, _⟩ => show win0_1.index t (2 : Fin 3) * 2048 + 1 * k.val = k.val; rw [(idx1 t).2.2]; omega

/-- A block of scales is 1024 of them. -/
theorem s_blk (c : Dev nD) (t : Fin cfg0.N) (a : Fin 1) (j : Fin 1024) :
    iblk m c 2 t (ix2 a j)
      = S m c (ix2 0 ⟨t.val / 16 * 1024 + j.val, by have := lt_of_lt_of_eq t.isLt N_0; omega⟩) := by
  unfold iblk
  rw [View.read_apply]
  show S m c _ = _
  congr 1; funext b; apply Fin.ext
  match b with
  | ⟨0, _⟩ => show win0_2.index t (0 : Fin 2) * 1 + 1 * a.val = 0; rw [(idx2 t).1]; omega
  | ⟨1, _⟩ => show win0_2.index t (1 : Fin 2) * 1024 + 1 * j.val = t.val / 16 * 1024 + j.val; rw [(idx2 t).2]; omega

/-! ## What the points leave -/

/-- Before and after every point of column block `n / 16` the scratch holds that block of the weights. -/
theorem scratch_eq (c : Dev nD) : ∀ (n : ℕ) (hn : n < cfg0.N) (j : Fin 1024) (k : Fin 2048),
    (outsAt0 m c n hn).2 (ix2 j k)
      = W m c (ix3 0 ⟨n / 16 * 1024 + j.val, by have := lt_of_lt_of_eq hn N_0; omega⟩ k) := by
  have reset : ∀ (n : ℕ) (hn : n < cfg0.N) (h0 : n % 16 = 0) (j : Fin 1024) (k : Fin 2048),
      (outsAt0 m c n hn).2 (ix2 j k)
        = W m c (ix3 0 ⟨n / 16 * 1024 + j.val, by have := lt_of_lt_of_eq hn N_0; omega⟩ k) := by
    intro n hn h0 j k
    rw [outsAt0_A m c ⟨n, hn⟩ h0]
    dsimp only
    rw [scratch_A]
    pointwise [k0_pay1]
    exact w_blk m c ⟨n, hn⟩ 0 j k
  intro n
  induction n with
  | zero => exact fun hn j k => reset 0 hn rfl j k
  | succ n ih =>
    intro hn j k
    by_cases h0 : (n + 1) % 16 = 0
    · exact reset (n + 1) hn h0 j k
    · rw [outsAt0_B m c ⟨n + 1, hn⟩ h0]
      dsimp only
      unfold sout0_B_0
      rw [show outsAt0 m c (n + 1 - 1) _ = outsAt0 m c n (Nat.lt_of_succ_lt hn) from rfl, ih]
      congr 2
      apply Fin.ext
      show n / 16 * 1024 + j.val = (n + 1) / 16 * 1024 + j.val
      omega

/-- The body's result at an index: a row of its block times a row of the weight block, scaled. -/
theorem pay_apply (x : Vec Ideal S1024x2048 .bf16) (w : Vec Ideal S1024x2048 .bf16) (s : Vec Ideal S1x1024 .f32)
    (r : Fin 1024) (j : Fin 1024) :
    k0_pay2 x w s (ix2 r j) = (∑ k : Fin 2048, x (ix2 r k) * w (ix2 j k)) * s (ix2 0 j) := by
  pointwise [k0_pay2]

/-- What point `n` leaves in its block of the result. -/
theorem out_eq (c : Dev nD) (n : ℕ) (hn : n < cfg0.N) (r j : Fin 1024) :
    (outsAt0 m c n hn).1 (ix2 r j)
      = (∑ k : Fin 2048, X m c (ix2 ⟨n % 16 * 1024 + r.val, by omega⟩ k)
          * W m c (ix3 0 ⟨n / 16 * 1024 + j.val, by have := lt_of_lt_of_eq hn N_0; omega⟩ k))
        * S m c (ix2 0 ⟨n / 16 * 1024 + j.val, by have := lt_of_lt_of_eq hn N_0; omega⟩) := by
  by_cases h0 : n % 16 = 0
  · rw [outsAt0_A m c ⟨n, hn⟩ h0]
    dsimp only
    rw [out_A, pay_apply]
    refine congrArg₂ (· * ·) (Finset.sum_congr rfl fun k _ => congrArg₂ (· * ·) (x_blk m c ⟨n, hn⟩ r k) ?_)
      (s_blk m c ⟨n, hn⟩ 0 j)
    pointwise [k0_pay1]
    exact w_blk m c ⟨n, hn⟩ 0 j k
  · rw [outsAt0_B m c ⟨n, hn⟩ h0]
    dsimp only
    rw [out_B, pay_apply]
    refine congrArg₂ (· * ·) (Finset.sum_congr rfl fun k _ => congrArg₂ (· * ·) (x_blk m c ⟨n, hn⟩ r k) ?_)
      (s_blk m c ⟨n, hn⟩ 0 j)
    rw [scratch_eq]
    congr 2
    apply Fin.ext
    show (n - 1) / 16 * 1024 + j.val = n / 16 * 1024 + j.val
    omega

/-- What the run leaves in the result array is the reference's term of the call's arguments. -/
theorem value (c : Dev nD) : G3 m c = refTerm (X m c) (W m c) (S m c) := by
  funext i
  idx_vars i
  have h : pt3Of (ix2 i0 i1) < cfg0.N := by
    show 1 * (i0.val / 1024 - 0) + 16 * (i1.val / 1024 - 0) < cfg0.N
    rw [show cfg0.N = 96 from N_0]; omega
  unfold G3
  rw [dif_pos h, ← outsAt0_sweep m c _ h]
  have hl : loc3Of (ix2 i0 i1) = ix2 (⟨i0.val % 1024, by omega⟩ : Fin 1024) (⟨i1.val % 1024, by omega⟩ : Fin 1024) := by
    funext a
    match a with
    | ⟨0, _⟩ => rfl
    | ⟨1, _⟩ => rfl
  have e0 : pt3Of (ix2 i0 i1) % 16 * 1024 + i0.val % 1024 = i0.val := by
    show (1 * (i0.val / 1024 - 0) + 16 * (i1.val / 1024 - 0)) % 16 * 1024 + i0.val % 1024 = i0.val
    omega
  have e1 : pt3Of (ix2 i0 i1) / 16 * 1024 + i1.val % 1024 = i1.val := by
    show (1 * (i0.val / 1024 - 0) + 16 * (i1.val / 1024 - 0)) / 16 * 1024 + i1.val % 1024 = i1.val
    omega
  rw [hl, out_eq, ref_apply]
  simp only [e0, e1]

/-! ## The claims -/

/-- The reference ends with its arguments unchanged and every counter at zero. -/
theorem frame_ref : Cert.quiescent_GpRefIdeal := fun m g _ =>
  (θ_run _ _ _).mono (fun r h => ⟨fun c => (h c).2, Idealize.ShloMosaic.sem_eq_zero_of_no_sems (by decide) r.2⟩)
    (Cert.GpRefIdeal.Value.run m g)

/-- Over the extended reals the kernel and the reference leave the same array, from the same arguments. -/
theorem algebraic : Cert.algebraic_GpIdeal_GpRefIdeal := by
  intro m g m' g' _ hargs
  refine ⟨fun c => G3 m c, run m g, (θ_run _ _ _).mono (fun r h c => ⟨?_, (h c).2⟩) (Cert.GpRefIdeal.Value.run m' g')⟩
  obtain ⟨h0, h1, h2⟩ := hargs c
  rw [(h c).1, h0, h1, h2]
  exact (value m c).symm

end Cert.GpEq
end
-- ==== Proof.Vt.Value.lean ====
/- The projection of the values, written transposed: what the kernel's run leaves in its result, index by index, equals
   the reference's term.

   Grid point `t` holds the transpose of 512 rows of the product. The weights are kept in scratch, stored at the first
   point and read by all 32. -/
module

public import proofs.«01_k».proof.Defs
public import proofs.«01_k».proof.Proof.Gen.VtIdeal.Value
public import proofs.«01_k».proof.Proof.Gen.VtRefIdeal.Run
public import Idealize.ShloMosaic.Lib.Pointwise

@[expose] public section

set_option maxRecDepth 16384

noncomputable section

namespace Cert.VtEq

open Idealize.ShloMosaic Idealize.ShloMosaic.TcCoe Idealize.SL.Sem

section reference
open Cert.VtRefIdeal Cert.VtRefIdeal.Gen

/-- The reference's term: the last 2048 columns of the whole product, cut in 32 groups of rows, each transposed. -/
abbrev refTerm (w : FVec Ideal S2x2048x6144 .f32) (x : FVec Ideal S16384x2048 .f32) : FVec Ideal S32x2048x512 .bf16 :=
  truncf .bf16 (transpose S32x2048x512 [0, 2, 1] (shapeCast _ (extractStridedSlice S16384x2048 ![0, 4096] (Host.dotGeneral dot_S16384x2048_S2048x6144_S16384x6144_1_0_0_1_n_n none x (shapeCast _ (extractStridedSlice S1x2048x6144 ![0, 0, 0] w slices_S2x2048x6144_S1x2048x6144_0_0_0) shapeCasts_S1x2048x6144_S2048x6144)) slices_S16384x6144_S16384x2048_0_4096) shapeCasts_S16384x2048_S32x512x2048) transposes_S32x512x2048_S32x2048x512_0_2_1) bitsLt_bf16_f32

/-- The reference at an index: a row times one of the last 2048 columns of the first slab. -/
theorem ref_apply (w : FVec Ideal S2x2048x6144 .f32) (x : FVec Ideal S16384x2048 .f32)
    (b : Fin 32) (j : Fin 2048) (r : Fin 512) :
    refTerm w x (ix3 b j r)
      = ∑ k : Fin 2048, x (ix2 ⟨b.val * 512 + r.val, by omega⟩ k) * w (ix3 0 k ⟨4096 + j.val, by omega⟩) := by
  pointwise [refTerm]

end reference

open Cert.VtIdeal Cert.VtIdeal.Gen Cert.VtIdeal.Value

/-! ## The body's named terms -/

theorem hz : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords)
  (a1 : Memref sig .tc .vmem S1x2048x2048 .f32) (h1 : a1.IsWhole)
  (a2 : Memref sig .tc .vmem S512x2048 .f32) (h2 : a2.IsWhole)
  (a3 : Memref sig .tc .vmem S1x2048x512 .bf16) (h3 : a3.IsWhole)
  (a4 : Memref sig .tc .vmem S2048x2048 .bf16) (h4 : a4.IsWhole)
  (w : Vec Ideal S1x2048x2048 .f32) (x : Vec Ideal S512x2048 .f32)
  (xs : Vec Ideal S2048x2048 .bf16)

/-- The first point stores the weights in the scratch. -/
theorem scratch_A (hc : cond0_0 i) :
    sout0_A_0 c i a1 h1 a2 h2 a3 h3 a4 h4 hc w x = k0_pay1 w := by
  unfold sout0_A_0
  rw [View.read_writes_eq_canon _ _ _ (scover0_A_0 c i a1 h1 a2 h2 a3 h3 a4 h4 hc w x)]
  unfold kernelRun0_A; dsimp only
  sl_unfold_words
  rw [View.canon_unit_zero hz]
  simp only [View.readAt_eq_ld, h1.read_unread, View.ld_unit_zero (S := S1x2048x2048) hz3]

/-- The first point leaves the product of its rows with those weights, transposed. -/
theorem out_A (hc : cond0_0 i) :
    out0_A_2 c i a1 h1 a2 h2 a3 h3 a4 h4 hc w x = k0_pay2 x (k0_pay1 w) := by
  unfold out0_A_2
  rw [View.read_writes_eq_canon _ _ _ (cover0_A_2 c i a1 h1 a2 h2 a3 h3 a4 h4 hc w x)]
  unfold kernelRun0_A; dsimp only
  sl_unfold_words
  rw [View.canon_unit_zero hz3, View.readCov_unit_zero (S := S2048x2048) _ hz]
  simp only [View.readAt_eq_ld, h1.read_unread, h2.read_unread, View.ld_unit_zero (S := S1x2048x2048) hz3,
    View.ld_unit_zero (S := S512x2048) hz]

/-- Every other point leaves the product of its rows with the scratch it finds, transposed. -/
theorem out_B (hc : ¬ cond0_0 i) :
    out0_B_2 c i a1 h1 a2 h2 a3 h3 a4 h4 hc w x xs = k0_pay2 x xs := by
  unfold out0_B_2
  rw [View.read_writes_eq_canon _ _ _ (cover0_B_2 c i a1 h1 a2 h2 a3 h3 a4 h4 hc w x xs)]
  unfold kernelRun0_B; dsimp only
  sl_unfold_words
  rw [View.canon_unit_zero hz3]
  simp only [View.readAt_eq_ld, h2.read_unread, h4.read_unread, View.ld_unit_zero (S := S2048x2048) hz,
    View.ld_unit_zero (S := S512x2048) hz]

end body

/-! ## The blocks the points read -/

variable (m : (ℓ : Loc nD τ sig) → Buf (Elt Ideal) ℓ)

/-- The weights and the activations the call reads. -/
abbrev W (c : Dev nD) : Vec Ideal S2x2048x6144 .f32 := m ((c.tc : Thread nD τ).loc main_arg0)
abbrev X (c : Dev nD) : Vec Ideal S16384x2048 .f32 := m ((c.tc : Thread nD τ).loc main_arg1)

/-- Which block each window reads, at every grid point. -/
theorem idx0 : ∀ t : Fin cfg0.N, win0_0.index t (0 : Fin 3) = 0 ∧ win0_0.index t (1 : Fin 3) = 0
    ∧ win0_0.index t (2 : Fin 3) = 2 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

/-- The weight block is the last 2048 columns of the first slab. -/
theorem w_blk (c : Dev nD) (t : Fin cfg0.N) (a : Fin 1) (k : Fin 2048) (j : Fin 2048) :
    iblk m c 0 t (ix3 a k j) = W m c (ix3 0 k ⟨4096 + j.val, by omega⟩) := by
  unfold iblk
  rw [View.read_apply]
  show W m c _ = _
  congr 1; funext b; apply Fin.ext
  match b with
  | ⟨0, _⟩ => show win0_0.index t (0 : Fin 3) * 1 + 1 * a.val = 0; rw [(idx0 t).1]; omega
  | ⟨1, _⟩ => show win0_0.index t (1 : Fin 3) * 2048 + 1 * k.val = k.val; rw [(idx0 t).2.1]; omega
  | ⟨2, _⟩ => show win0_0.index t (2 : Fin 3) * 2048 + 1 * j.val = 4096 + j.val; rw [(idx0 t).2.2]; omega

/-- A block of activations is 512 whole rows. -/
theorem x_blk (c : Dev nD) (t : Fin cfg0.N) (r : Fin 512) (k : Fin 2048) :
    iblk m c 1 t (ix2 r k)
      = X m c (ix2 ⟨t.val * 512 + r.val, by have := lt_of_lt_of_eq t.isLt N_0; omega⟩ k) := by
  unfold iblk
  rw [View.read_apply]
  show X m c _ = _
  congr 1; funext b; apply Fin.ext
  match b with
  | ⟨0, _⟩ => show win0_1.index t (0 : Fin 2) * 512 + 1 * r.val = t.val * 512 + r.val; rw [(idx1 t).1]; omega
  | ⟨1, _⟩ => show win0_1.index t (1 : Fin 2) * 2048 + 1 * k.val = k.val; rw [(idx1 t).2]; omega

/-! ## What the points leave -/

/-- After every point the scratch holds the weights of the values. -/
theorem scratch_eq (c : Dev nD) : ∀ (n : ℕ) (hn : n < cfg0.N) (k j : Fin 2048),
    (outsAt0 m c n hn).2 (ix2 k j) = W m c (ix3 0 k ⟨4096 + j.val, by omega⟩) := by
  intro n
  induction n with
  | zero =>
    intro hn k j
    rw [outsAt0_A m c ⟨0, hn⟩ rfl]
    dsimp only
    rw [scratch_A]
    pointwise [k0_pay1]
    exact w_blk m c ⟨0, hn⟩ 0 k j
  | succ n ih =>
    intro hn k j
    have h0 : ¬ (n + 1) % 32 = 0 := by have := lt_of_lt_of_eq hn N_0; omega
    rw [outsAt0_B m c ⟨n + 1, hn⟩ h0]
    dsimp only
    unfold sout0_B_0
    exact ih (Nat.lt_of_succ_lt hn) k j

/-- The body's result at an index: a row of its block times a column of the weights, in transposed place. -/
theorem pay_apply (x : Vec Ideal S512x2048 .f32) (w : Vec Ideal S2048x2048 .bf16) (a : Fin 1) (j : Fin 2048) (r : Fin 512) :
    k0_pay2 x w (ix3 a j r) = ∑ k : Fin 2048, x (ix2 r k) * w (ix2 k j) := by
  pointwise [k0_pay2]

/-- What point `n` leaves in its block of the result. -/
theorem out_eq (c : Dev nD) (n : ℕ) (hn : n < cfg0.N) (a : Fin 1) (j : Fin 2048) (r : Fin 512) :
    (outsAt0 m c n hn).1 (ix3 a j r)
      = ∑ k : Fin 2048, X m c (ix2 ⟨n * 512 + r.val, by have := lt_of_lt_of_eq hn N_0; omega⟩ k)
          * W m c (ix3 0 k ⟨4096 + j.val, by omega⟩) := by
  by_cases h0 : n % 32 = 0
  · rw [outsAt0_A m c ⟨n, hn⟩ h0]
    dsimp only
    rw [out_A, pay_apply]
    refine Finset.sum_congr rfl fun k _ => congrArg₂ (· * ·) (x_blk m c ⟨n, hn⟩ r k) ?_
    pointwise [k0_pay1]
    exact w_blk m c ⟨n, hn⟩ 0 k j
  · rw [outsAt0_B m c ⟨n, hn⟩ h0]
    dsimp only
    rw [out_B, pay_apply]
    exact Finset.sum_congr rfl fun k _ => congrArg₂ (· * ·) (x_blk m c ⟨n, hn⟩ r k) (scratch_eq m c _ _ k j)

/-- What the run leaves in the result array is the reference's term of the call's arguments. -/
theorem value (c : Dev nD) : G2 m c = refTerm (W m c) (X m c) := by
  funext i
  idx_vars i
  have e : pt2Of (ix3 i0 i1 i2) = i0.val := by
    show 1 * (i0.val / 1 - 0) + 1 * (i1.val / 2048 - 0) + 1 * (i2.val / 512 - 0) = i0.val
    omega
  have h : pt2Of (ix3 i0 i1 i2) < cfg0.N := by
    rw [e, show cfg0.N = 32 from N_0]; omega
  unfold G2
  rw [dif_pos h, ← outsAt0_sweep m c _ h]
  have hl : loc2Of (ix3 i0 i1 i2) = ix3 (0 : Fin 1) i1 i2 := by
    funext a
    apply Fin.ext
    match a with
    | ⟨0, _⟩ => show i0.val % 1 = 0; omega
    | ⟨1, _⟩ => show i1.val % 2048 = i1.val; omega
    | ⟨2, _⟩ => show i2.val % 512 = i2.val; omega
  rw [hl, out_eq, ref_apply]
  simp only [e]

/-! ## The claims -/

/-- The reference ends with its arguments unchanged and every counter at zero. -/
theorem frame_ref : Cert.quiescent_VtRefIdeal := fun m g _ =>
  (θ_run _ _ _).mono (fun r h => ⟨fun c => (h c).2, Idealize.ShloMosaic.sem_eq_zero_of_no_sems (by decide) r.2⟩)
    (Cert.VtRefIdeal.Value.run m g)

/-- Over the extended reals the kernel and the reference leave the same array, from the same arguments. -/
theorem algebraic : Cert.algebraic_VtIdeal_VtRefIdeal := by
  intro m g m' g' _ hargs
  refine ⟨fun c => G2 m c, run m g, (θ_run _ _ _).mono (fun r h c => ⟨?_, (h c).2⟩) (Cert.VtRefIdeal.Value.run m' g')⟩
  obtain ⟨h0, h1⟩ := hargs c
  rw [(h c).1, h0, h1]
  exact (value m c).symm

end Cert.VtEq
end
-- ==== Proof.lean ====
/- The claims about the calls of one hybrid encoder layer, put together: of each call, that the kernel and its reference
   end with their arguments unchanged, that the kernel keeps its printed operations over the extended reals, and that it
   leaves there what its reference leaves; of the differential attention the last where its second and third argument are real. -/
module

public import proofs.«01_k».proof.Defs
public import proofs.«01_k».proof.Proof.Gen.Kernel.Frame
public import proofs.«01_k».proof.Proof.Gen.KernelIdeal.Frame
public import proofs.«01_k».proof.Proof.Gen.Mlp.Frame
public import proofs.«01_k».proof.Proof.Gen.MlpIdeal.Frame
public import proofs.«01_k».proof.Proof.Gen.Out.Frame
public import proofs.«01_k».proof.Proof.Gen.OutIdeal.Frame
public import proofs.«01_k».proof.Proof.Gen.Qk.Frame
public import proofs.«01_k».proof.Proof.Gen.QkIdeal.Frame
public import proofs.«01_k».proof.Proof.Gen.Gp.Frame
public import proofs.«01_k».proof.Proof.Gen.GpIdeal.Frame
public import proofs.«01_k».proof.Proof.Gen.Vt.Frame
public import proofs.«01_k».proof.Proof.Gen.VtIdeal.Frame
public import proofs.«01_k».proof.Proof.Gen.Attn.Frame
public import proofs.«01_k».proof.Proof.Gen.AttnIdeal.Frame
public import proofs.«01_k».proof.Proof.Diff.Frame
public import proofs.«01_k».proof.Proof.Diff.IdealFrame
public import proofs.«01_k».proof.Proof.Diff.Value
public import proofs.«01_k».proof.Proof.Gla.Value
public import proofs.«01_k».proof.Proof.Mlp.Value
public import proofs.«01_k».proof.Proof.Out.Value
public import proofs.«01_k».proof.Proof.Qk.Value
public import proofs.«01_k».proof.Proof.Gp.Value
public import proofs.«01_k».proof.Proof.Vt.Value

@[expose] public section

noncomputable section

namespace Cert.Proof

open Idealize.ShloMosaic Idealize.SL.Sem

/-- All claims of this certificate. -/
theorem claim : Cert.Claim := ⟨
  Cert.Kernel.Gen.facts, Cert.KernelIdeal.Gen.facts, Cert.ReferenceIdeal.Gen.facts, Cert.Mlp.Gen.facts, Cert.MlpIdeal.Gen.facts, Cert.MlpRefIdeal.Gen.facts, Cert.Out.Gen.facts, Cert.OutIdeal.Gen.facts, Cert.OutRefIdeal.Gen.facts, Cert.Qk.Gen.facts, Cert.QkIdeal.Gen.facts, Cert.QkRefIdeal.Gen.facts, Cert.Gp.Gen.facts, Cert.GpIdeal.Gen.facts, Cert.GpRefIdeal.Gen.facts, Cert.Vt.Gen.facts, Cert.VtIdeal.Gen.facts, Cert.VtRefIdeal.Gen.facts, Cert.Attn.Gen.facts, Cert.AttnIdeal.Gen.facts, Cert.AttnRefIdeal.Gen.facts, AttnEq.pre_facts,
  fun m ρ _ => Cert.Kernel.Gen.frame m ρ, fun m ρ _ => Cert.KernelIdeal.Gen.frame m ρ, GlaEq.frame_ref,
  fun m ρ _ => Cert.Mlp.Gen.frame m ρ, fun m ρ _ => Cert.MlpIdeal.Gen.frame m ρ, MlpEq.frame_ref,
  fun m ρ _ => Cert.Out.Gen.frame m ρ, fun m ρ _ => Cert.OutIdeal.Gen.frame m ρ, OutEq.frame_ref,
  fun m ρ _ => Cert.Qk.Gen.frame m ρ, fun m ρ _ => Cert.QkIdeal.Gen.frame m ρ, QkEq.frame_ref,
  fun m ρ _ => Cert.Gp.Gen.frame m ρ, fun m ρ _ => Cert.GpIdeal.Gen.frame m ρ, GpEq.frame_ref,
  fun m ρ _ => Cert.Vt.Gen.frame m ρ, fun m ρ _ => Cert.VtIdeal.Gen.frame m ρ, VtEq.frame_ref,
  fun m ρ _ => Cert.Attn.Gen.frame m ρ, fun m ρ _ => Cert.AttnIdeal.Gen.frame m ρ, fun m ρ _ => Cert.AttnIdeal.Gen.frame m ρ,
  AttnEq.frame_ref, fun m ρ _ => AttnEq.frame_ref m ρ trivial,
  trivial, GlaEq.algebraic,
  trivial, MlpEq.algebraic,
  trivial, OutEq.algebraic,
  trivial, QkEq.algebraic,
  trivial, GpEq.algebraic,
  trivial, VtEq.algebraic,
  trivial, AttnEq.algebraic (hF := AttnEq.pre_facts)⟩

end Cert.Proof
end
